-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_arg1)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S16x2048x64 : Shape := ⟨3, ![16, 2048, 64]⟩
abbrev S16x1024 : Shape := ⟨2, ![16, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel

variable [Facts]

def fn {F : FTy → Type} [FloatOps F] (main_arg0 : FVec F S16x2048x64 .f32) (main_arg1 : FVec F S16x2048x64 .f32) (main_arg2 : IVec S16x1024 32) : IVec S_ 1 :=
  let main_c : IVec S_ 32 := constantI S_ 32 2048#32
  let main_v0 : IVec S16x1024 32 := broadcastInDim S16x1024 ![] bcast_S_S16x1024 main_c
  let main_v1 : IVec S16x1024 1 := cmpi .slt main_arg2 main_v0
  let main_c_0 : IVec S_ 1 := constantI S_ 1 1#1
  let main_v2 : IVec S_ 1 := (fun x v => Host.reduce IntOp.andi x v reducesTo_S16x1024_S_d0_1 h_S_) main_v1 main_c_0
  main_v2
-- ==== Kernel.lean ====
abbrev S16x2048x64 : Shape := ⟨3, ![16, 2048, 64]⟩
abbrev S16x1024 : Shape := ⟨2, ![16, 1024]⟩
abbrev S16x512 : Shape := ⟨2, ![16, 512]⟩
abbrev S16x1x512 : Shape := ⟨3, ![16, 1, 512]⟩
abbrev S16x64x2048 : Shape := ⟨3, ![16, 64, 2048]⟩
abbrev S16x1x2048 : Shape := ⟨3, ![16, 1, 2048]⟩
abbrev S16x1x64 : Shape := ⟨3, ![16, 1, 64]⟩
abbrev S1x1x512 : Shape := ⟨3, ![1, 1, 512]⟩
abbrev S1x64x2048 : Shape := ⟨3, ![1, 64, 2048]⟩
abbrev S1x1x2048 : Shape := ⟨3, ![1, 1, 2048]⟩
abbrev S1x1x64 : Shape := ⟨3, ![1, 1, 64]⟩
abbrev S2048x64 : Shape := ⟨2, ![2048, 64]⟩
abbrev S64x2048 : Shape := ⟨2, ![64, 2048]⟩
abbrev S1x1x1 : Shape := ⟨3, ![1, 1, 1]⟩
abbrev S1x64 : Shape := ⟨2, ![1, 64]⟩
abbrev S1x8 : Shape := ⟨2, ![1, 8]⟩
abbrev S1x4 : Shape := ⟨2, ![1, 4]⟩
abbrev S1x2 : Shape := ⟨2, ![1, 2]⟩
abbrev S1x1 : Shape := ⟨2, ![1, 1]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩
abbrev S7x64 : Shape := ⟨2, ![7, 64]⟩
abbrev S8x64 : Shape := ⟨2, ![8, 64]⟩
abbrev S16x2048 : Shape := ⟨2, ![16, 2048]⟩
abbrev S16x64 : Shape := ⟨2, ![16, 64]⟩
abbrev S16x256 : Shape := ⟨2, ![16, 256]⟩
abbrev S16x8x256 : Shape := ⟨3, ![16, 8, 256]⟩
abbrev S256x8x16 : Shape := ⟨3, ![256, 8, 16]⟩
abbrev S256x128 : Shape := ⟨2, ![256, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128x128 : Shape := ⟨2, ![128, 128]⟩
abbrev S256x16 : Shape := ⟨2, ![256, 16]⟩
abbrev S16x4x1x64 : Shape := ⟨4, ![16, 4, 1, 64]⟩
abbrev S16x256x2048 : Shape := ⟨3, ![16, 256, 2048]⟩
abbrev S1x1x1x64 : Shape := ⟨4, ![1, 1, 1, 64]⟩
abbrev S64x1 : Shape := ⟨2, ![64, 1]⟩
abbrev S16x64x1 : Shape := ⟨3, ![16, 64, 1]⟩

abbrev nBuf : Space → Nat
  | .hbm => 17
  | .vmem => 18
  | .smem => 2
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x1024, .i32⟩
  | .hbm, ⟨3, _⟩ => ⟨S16x512, .i32⟩
  | .hbm, ⟨4, _⟩ => ⟨S16x1x512, .i32⟩
  | .hbm, ⟨5, _⟩ => ⟨S16x64x2048, .f32⟩
  | .hbm, ⟨6, _⟩ => ⟨S16x64x2048, .f32⟩
  | .hbm, ⟨7, _⟩ => ⟨S16x1x2048, .f32⟩
  | .hbm, ⟨8, _⟩ => ⟨S16x1x64, .f32⟩
  | .hbm, ⟨9, _⟩ => ⟨S16x2048, .f32⟩
  | .hbm, ⟨10, _⟩ => ⟨S16x64, .f32⟩
  | .hbm, ⟨11, _⟩ => ⟨S16x256, .f32⟩
  | .hbm, ⟨12, _⟩ => ⟨S16x256, .i32⟩
  | .hbm, ⟨13, _⟩ => ⟨S16x4x1x64, .i32⟩
  | .hbm, ⟨14, _⟩ => ⟨S16x4x1x64, .f32⟩
  | .hbm, ⟨15, _⟩ => ⟨S16x256x2048, .f32⟩
  | .hbm, ⟨16, _⟩ => ⟨S16x64x1, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x64, .f32⟩
  | .local _ .vmem, ⟨7, _⟩ => ⟨S1x1x64, .f32⟩
  | .local _ .vmem, ⟨8, _⟩ => ⟨S2048x64, .f32⟩
  | .local _ .vmem, ⟨9, _⟩ => ⟨S16x2048, .f32⟩
  | .local _ .vmem, ⟨10, _⟩ => ⟨S16x256, .f32⟩
  | .local _ .vmem, ⟨11, _⟩ => ⟨S16x256, .i32⟩
  | .local _ .vmem, ⟨12, _⟩ => ⟨S1x1x1x64, .i32⟩
  | .local _ .vmem, ⟨13, _⟩ => ⟨S1x1x1x64, .i32⟩
  | .local _ .vmem, ⟨14, _⟩ => ⟨S1x1x1x64, .f32⟩
  | .local _ .vmem, ⟨15, _⟩ => ⟨S1x1x1x64, .f32⟩
  | .local _ .vmem, ⟨16, _⟩ => ⟨S1x64x2048, .f32⟩
  | .local _ .vmem, ⟨17, _⟩ => ⟨S1x64x2048, .f32⟩
  | .local _ .smem, ⟨0, _⟩ => ⟨S1x1x512, .i32⟩
  | .local _ .smem, ⟨1, _⟩ => ⟨S1x1x512, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![16], ![false]⟩

def k0_off1 (v6 : BitVec 32) : Fin 2 → Nat :=
  let c0_i32_7 : BitVec 32 := 0#32
  let v8 : BitVec 32 := Scalar.maxsi v6 c0_i32_7
  let v9 : Index := Scalar.indexCast v8
  let c0_8 : Index := 0#32
  ![v9.toNat, 0]

def k0_chk1 (v6 : BitVec 32) : Prop :=
  (∀ a, (k0_off1 v6) a + S1x64.size a ≤ S2048x64.size a)
theorem k0_off1_inb : ∀ (v6 : BitVec 32) (k0_hw1 : k0_chk1 v6), ∀ a, (k0_off1 v6) a + S1x64.size a ≤ S2048x64.size a := fun v6 k0_hw1 => k0_hw1

def k0_off2 (v16 : BitVec 32) : Fin 2 → Nat :=
  let c0_i32_16 : BitVec 32 := 0#32
  let v18 : BitVec 32 := Scalar.maxsi v16 c0_i32_16
  let v19 : Index := Scalar.indexCast v18
  let c0_17 : Index := 0#32
  ![v19.toNat, 0]

def k0_chk2 (v16 : BitVec 32) : Prop :=
  (∀ a, (k0_off2 v16) a + S1x64.size a ≤ S2048x64.size a)
theorem k0_off2_inb : ∀ (v16 : BitVec 32) (k0_hw2 : k0_chk2 v16), ∀ a, (k0_off2 v16) a + S1x64.size a ≤ S2048x64.size a := fun v16 k0_hw2 => k0_hw2

def k0_off3 (v26 : BitVec 32) : Fin 2 → Nat :=
  let c0_i32_25 : BitVec 32 := 0#32
  let v28 : BitVec 32 := Scalar.maxsi v26 c0_i32_25
  let v29 : Index := Scalar.indexCast v28
  let c0_26 : Index := 0#32
  ![v29.toNat, 0]

def k0_chk3 (v26 : BitVec 32) : Prop :=
  (∀ a, (k0_off3 v26) a + S1x64.size a ≤ S2048x64.size a)
theorem k0_off3_inb : ∀ (v26 : BitVec 32) (k0_hw3 : k0_chk3 v26), ∀ a, (k0_off3 v26) a + S1x64.size a ≤ S2048x64.size a := fun v26 k0_hw3 => k0_hw3

def k0_off4 (v36 : BitVec 32) : Fin 2 → Nat :=
  let c0_i32_34 : BitVec 32 := 0#32
  let v38 : BitVec 32 := Scalar.maxsi v36 c0_i32_34
  let v39 : Index := Scalar.indexCast v38
  let c0_35 : Index := 0#32
  ![v39.toNat, 0]

def k0_chk4 (v36 : BitVec 32) : Prop :=
  (∀ a, (k0_off4 v36) a + S1x64.size a ≤ S2048x64.size a)
theorem k0_off4_inb : ∀ (v36 : BitVec 32) (k0_hw4 : k0_chk4 v36), ∀ a, (k0_off4 v36) a + S1x64.size a ≤ S2048x64.size a := fun v36 k0_hw4 => k0_hw4

def k0_off5 (v46 : BitVec 32) : Fin 2 → Nat :=
  let c0_i32_43 : BitVec 32 := 0#32
  let v48 : BitVec 32 := Scalar.maxsi v46 c0_i32_43
  let v49 : Index := Scalar.indexCast v48
  let c0_44 : Index := 0#32
  ![v49.toNat, 0]

def k0_chk5 (v46 : BitVec 32) : Prop :=
  (∀ a, (k0_off5 v46) a + S1x64.size a ≤ S2048x64.size a)
theorem k0_off5_inb : ∀ (v46 : BitVec 32) (k0_hw5 : k0_chk5 v46), ∀ a, (k0_off5 v46) a + S1x64.size a ≤ S2048x64.size a := fun v46 k0_hw5 => k0_hw5

def k0_off6 (v56 : BitVec 32) : Fin 2 → Nat :=
  let c0_i32_52 : BitVec 32 := 0#32
  let v58 : BitVec 32 := Scalar.maxsi v56 c0_i32_52
  let v59 : Index := Scalar.indexCast v58
  let c0_53 : Index := 0#32
  ![v59.toNat, 0]

def k0_chk6 (v56 : BitVec 32) : Prop :=
  (∀ a, (k0_off6 v56) a + S1x64.size a ≤ S2048x64.size a)
theorem k0_off6_inb : ∀ (v56 : BitVec 32) (k0_hw6 : k0_chk6 v56), ∀ a, (k0_off6 v56) a + S1x64.size a ≤ S2048x64.size a := fun v56 k0_hw6 => k0_hw6

def k0_off7 (v66 : BitVec 32) : Fin 2 → Nat :=
  let c0_i32_61 : BitVec 32 := 0#32
  let v68 : BitVec 32 := Scalar.maxsi v66 c0_i32_61
  let v69 : Index := Scalar.indexCast v68
  let c0_62 : Index := 0#32
  ![v69.toNat, 0]

def k0_chk7 (v66 : BitVec 32) : Prop :=
  (∀ a, (k0_off7 v66) a + S1x64.size a ≤ S2048x64.size a)
theorem k0_off7_inb : ∀ (v66 : BitVec 32) (k0_hw7 : k0_chk7 v66), ∀ a, (k0_off7 v66) a + S1x64.size a ≤ S2048x64.size a := fun v66 k0_hw7 => k0_hw7

def k0_off8 (v76 : BitVec 32) : Fin 2 → Nat :=
  let c0_i32_70 : BitVec 32 := 0#32
  let v78 : BitVec 32 := Scalar.maxsi v76 c0_i32_70
  let v79 : Index := Scalar.indexCast v78
  let c0_71 : Index := 0#32
  ![v79.toNat, 0]

def k0_chk8 (v76 : BitVec 32) : Prop :=
  (∀ a, (k0_off8 v76) a + S1x64.size a ≤ S2048x64.size a)
theorem k0_off8_inb : ∀ (v76 : BitVec 32) (k0_hw8 : k0_chk8 v76), ∀ a, (k0_off8 v76) a + S1x64.size a ≤ S2048x64.size a := fun v76 k0_hw8 => k0_hw8

def k0_off9 (v86 : BitVec 32) : Fin 2 → Nat :=
  let c0_i32_79 : BitVec 32 := 0#32
  let v88 : BitVec 32 := Scalar.maxsi v86 c0_i32_79
  let v89 : Index := Scalar.indexCast v88
  let c0_80 : Index := 0#32
  ![v89.toNat, 0]

def k0_chk9 (v86 : BitVec 32) : Prop :=
  (∀ a, (k0_off9 v86) a + S1x64.size a ≤ S2048x64.size a)
theorem k0_off9_inb : ∀ (v86 : BitVec 32) (k0_hw9 : k0_chk9 v86), ∀ a, (k0_off9 v86) a + S1x64.size a ≤ S2048x64.size a := fun v86 k0_hw9 => k0_hw9

def k0_off10 (v97 : BitVec 32) : Fin 2 → Nat :=
  let c0_i32_88 : BitVec 32 := 0#32
  let v99 : BitVec 32 := Scalar.maxsi v97 c0_i32_88
  let v100 : Index := Scalar.indexCast v99
  let c0_89 : Index := 0#32
  ![v100.toNat, 0]

def k0_chk10 (v97 : BitVec 32) : Prop :=
  (∀ a, (k0_off10 v97) a + S1x64.size a ≤ S2048x64.size a)
theorem k0_off10_inb : ∀ (v97 : BitVec 32) (k0_hw10 : k0_chk10 v97), ∀ a, (k0_off10 v97) a + S1x64.size a ≤ S2048x64.size a := fun v97 k0_hw10 => k0_hw10

def k0_off11 (v108 : BitVec 32) : Fin 2 → Nat :=
  let c0_i32_97 : BitVec 32 := 0#32
  let v110 : BitVec 32 := Scalar.maxsi v108 c0_i32_97
  let v111 : Index := Scalar.indexCast v110
  let c0_98 : Index := 0#32
  ![v111.toNat, 0]

def k0_chk11 (v108 : BitVec 32) : Prop :=
  (∀ a, (k0_off11 v108) a + S1x64.size a ≤ S2048x64.size a)
theorem k0_off11_inb : ∀ (v108 : BitVec 32) (k0_hw11 : k0_chk11 v108), ∀ a, (k0_off11 v108) a + S1x64.size a ≤ S2048x64.size a := fun v108 k0_hw11 => k0_hw11

def k0_off12 (v119 : BitVec 32) : Fin 2 → Nat :=
  let c0_i32_106 : BitVec 32 := 0#32
  let v121 : BitVec 32 := Scalar.maxsi v119 c0_i32_106
  let v122 : Index := Scalar.indexCast v121
  let c0_107 : Index := 0#32
  ![v122.toNat, 0]

def k0_chk12 (v119 : BitVec 32) : Prop :=
  (∀ a, (k0_off12 v119) a + S1x64.size a ≤ S2048x64.size a)
theorem k0_off12_inb : ∀ (v119 : BitVec 32) (k0_hw12 : k0_chk12 v119), ∀ a, (k0_off12 v119) a + S1x64.size a ≤ S2048x64.size a := fun v119 k0_hw12 => k0_hw12

def k0_off13 (v130 : BitVec 32) : Fin 2 → Nat :=
  let c0_i32_115 : BitVec 32 := 0#32
  let v132 : BitVec 32 := Scalar.maxsi v130 c0_i32_115
  let v133 : Index := Scalar.indexCast v132
  let c0_116 : Index := 0#32
  ![v133.toNat, 0]

def k0_chk13 (v130 : BitVec 32) : Prop :=
  (∀ a, (k0_off13 v130) a + S1x64.size a ≤ S2048x64.size a)
theorem k0_off13_inb : ∀ (v130 : BitVec 32) (k0_hw13 : k0_chk13 v130), ∀ a, (k0_off13 v130) a + S1x64.size a ≤ S2048x64.size a := fun v130 k0_hw13 => k0_hw13

def k0_off14 (v141 : BitVec 32) : Fin 2 → Nat :=
  let c0_i32_124 : BitVec 32 := 0#32
  let v143 : BitVec 32 := Scalar.maxsi v141 c0_i32_124
  let v144 : Index := Scalar.indexCast v143
  let c0_125 : Index := 0#32
  ![v144.toNat, 0]

def k0_chk14 (v141 : BitVec 32) : Prop :=
  (∀ a, (k0_off14 v141) a + S1x64.size a ≤ S2048x64.size a)
theorem k0_off14_inb : ∀ (v141 : BitVec 32) (k0_hw14 : k0_chk14 v141), ∀ a, (k0_off14 v141) a + S1x64.size a ≤ S2048x64.size a := fun v141 k0_hw14 => k0_hw14

def k0_off15 (v152 : BitVec 32) : Fin 2 → Nat :=
  let c0_i32_133 : BitVec 32 := 0#32
  let v154 : BitVec 32 := Scalar.maxsi v152 c0_i32_133
  let v155 : Index := Scalar.indexCast v154
  let c0_134 : Index := 0#32
  ![v155.toNat, 0]

def k0_chk15 (v152 : BitVec 32) : Prop :=
  (∀ a, (k0_off15 v152) a + S1x64.size a ≤ S2048x64.size a)
theorem k0_off15_inb : ∀ (v152 : BitVec 32) (k0_hw15 : k0_chk15 v152), ∀ a, (k0_off15 v152) a + S1x64.size a ≤ S2048x64.size a := fun v152 k0_hw15 => k0_hw15

def k0_off16 (v163 : BitVec 32) : Fin 2 → Nat :=
  let c0_i32_142 : BitVec 32 := 0#32
  let v165 : BitVec 32 := Scalar.maxsi v163 c0_i32_142
  let v166 : Index := Scalar.indexCast v165
  let c0_143 : Index := 0#32
  ![v166.toNat, 0]

def k0_chk16 (v163 : BitVec 32) : Prop :=
  (∀ a, (k0_off16 v163) a + S1x64.size a ≤ S2048x64.size a)
theorem k0_off16_inb : ∀ (v163 : BitVec 32) (k0_hw16 : k0_chk16 v163), ∀ a, (k0_off16 v163) a + S1x64.size a ≤ S2048x64.size a := fun v163 k0_hw16 => k0_hw16

def k0_off17 (v174 : BitVec 32) : Fin 2 → Nat :=
  let c0_i32_151 : BitVec 32 := 0#32
  let v176 : BitVec 32 := Scalar.maxsi v174 c0_i32_151
  let v177 : Index := Scalar.indexCast v176
  let c0_152 : Index := 0#32
  ![v177.toNat, 0]

def k0_chk17 (v174 : BitVec 32) : Prop :=
  (∀ a, (k0_off17 v174) a + S1x64.size a ≤ S2048x64.size a)
theorem k0_off17_inb : ∀ (v174 : BitVec 32) (k0_hw17 : k0_chk17 v174), ∀ a, (k0_off17 v174) a + S1x64.size a ≤ S2048x64.size a := fun v174 k0_hw17 => k0_hw17

def k0_off18 (v185 : BitVec 32) : Fin 2 → Nat :=
  let c0_i32_160 : BitVec 32 := 0#32
  let v187 : BitVec 32 := Scalar.maxsi v185 c0_i32_160
  let v188 : Index := Scalar.indexCast v187
  let c0_161 : Index := 0#32
  ![v188.toNat, 0]

def k0_chk18 (v185 : BitVec 32) : Prop :=
  (∀ a, (k0_off18 v185) a + S1x64.size a ≤ S2048x64.size a)
theorem k0_off18_inb : ∀ (v185 : BitVec 32) (k0_hw18 : k0_chk18 v185), ∀ a, (k0_off18 v185) a + S1x64.size a ≤ S2048x64.size a := fun v185 k0_hw18 => k0_hw18

def k0_off19 (v196 : BitVec 32) : Fin 2 → Nat :=
  let c0_i32_169 : BitVec 32 := 0#32
  let v198 : BitVec 32 := Scalar.maxsi v196 c0_i32_169
  let v199 : Index := Scalar.indexCast v198
  let c0_170 : Index := 0#32
  ![v199.toNat, 0]

def k0_chk19 (v196 : BitVec 32) : Prop :=
  (∀ a, (k0_off19 v196) a + S1x64.size a ≤ S2048x64.size a)
theorem k0_off19_inb : ∀ (v196 : BitVec 32) (k0_hw19 : k0_chk19 v196), ∀ a, (k0_off19 v196) a + S1x64.size a ≤ S2048x64.size a := fun v196 k0_hw19 => k0_hw19

def k0_off20 (v207 : BitVec 32) : Fin 2 → Nat :=
  let c0_i32_178 : BitVec 32 := 0#32
  let v209 : BitVec 32 := Scalar.maxsi v207 c0_i32_178
  let v210 : Index := Scalar.indexCast v209
  let c0_179 : Index := 0#32
  ![v210.toNat, 0]

def k0_chk20 (v207 : BitVec 32) : Prop :=
  (∀ a, (k0_off20 v207) a + S1x64.size a ≤ S2048x64.size a)
theorem k0_off20_inb : ∀ (v207 : BitVec 32) (k0_hw20 : k0_chk20 v207), ∀ a, (k0_off20 v207) a + S1x64.size a ≤ S2048x64.size a := fun v207 k0_hw20 => k0_hw20

def k0_off21 (v218 : BitVec 32) : Fin 2 → Nat :=
  let c0_i32_187 : BitVec 32 := 0#32
  let v220 : BitVec 32 := Scalar.maxsi v218 c0_i32_187
  let v221 : Index := Scalar.indexCast v220
  let c0_188 : Index := 0#32
  ![v221.toNat, 0]

def k0_chk21 (v218 : BitVec 32) : Prop :=
  (∀ a, (k0_off21 v218) a + S1x64.size a ≤ S2048x64.size a)
theorem k0_off21_inb : ∀ (v218 : BitVec 32) (k0_hw21 : k0_chk21 v218), ∀ a, (k0_off21 v218) a + S1x64.size a ≤ S2048x64.size a := fun v218 k0_hw21 => k0_hw21

def k0_off22 (v229 : BitVec 32) : Fin 2 → Nat :=
  let c0_i32_196 : BitVec 32 := 0#32
  let v231 : BitVec 32 := Scalar.maxsi v229 c0_i32_196
  let v232 : Index := Scalar.indexCast v231
  let c0_197 : Index := 0#32
  ![v232.toNat, 0]

def k0_chk22 (v229 : BitVec 32) : Prop :=
  (∀ a, (k0_off22 v229) a + S1x64.size a ≤ S2048x64.size a)
theorem k0_off22_inb : ∀ (v229 : BitVec 32) (k0_hw22 : k0_chk22 v229), ∀ a, (k0_off22 v229) a + S1x64.size a ≤ S2048x64.size a := fun v229 k0_hw22 => k0_hw22

def k0_off23 (v240 : BitVec 32) : Fin 2 → Nat :=
  let c0_i32_205 : BitVec 32 := 0#32
  let v242 : BitVec 32 := Scalar.maxsi v240 c0_i32_205
  let v243 : Index := Scalar.indexCast v242
  let c0_206 : Index := 0#32
  ![v243.toNat, 0]

def k0_chk23 (v240 : BitVec 32) : Prop :=
  (∀ a, (k0_off23 v240) a + S1x64.size a ≤ S2048x64.size a)
theorem k0_off23_inb : ∀ (v240 : BitVec 32) (k0_hw23 : k0_chk23 v240), ∀ a, (k0_off23 v240) a + S1x64.size a ≤ S2048x64.size a := fun v240 k0_hw23 => k0_hw23

def k0_off24 (v251 : BitVec 32) : Fin 2 → Nat :=
  let c0_i32_214 : BitVec 32 := 0#32
  let v253 : BitVec 32 := Scalar.maxsi v251 c0_i32_214
  let v254 : Index := Scalar.indexCast v253
  let c0_215 : Index := 0#32
  ![v254.toNat, 0]

def k0_chk24 (v251 : BitVec 32) : Prop :=
  (∀ a, (k0_off24 v251) a + S1x64.size a ≤ S2048x64.size a)
theorem k0_off24_inb : ∀ (v251 : BitVec 32) (k0_hw24 : k0_chk24 v251), ∀ a, (k0_off24 v251) a + S1x64.size a ≤ S2048x64.size a := fun v251 k0_hw24 => k0_hw24

def k0_off25 (v262 : BitVec 32) : Fin 2 → Nat :=
  let c0_i32_223 : BitVec 32 := 0#32
  let v264 : BitVec 32 := Scalar.maxsi v262 c0_i32_223
  let v265 : Index := Scalar.indexCast v264
  let c0_224 : Index := 0#32
  ![v265.toNat, 0]

def k0_chk25 (v262 : BitVec 32) : Prop :=
  (∀ a, (k0_off25 v262) a + S1x64.size a ≤ S2048x64.size a)
theorem k0_off25_inb : ∀ (v262 : BitVec 32) (k0_hw25 : k0_chk25 v262), ∀ a, (k0_off25 v262) a + S1x64.size a ≤ S2048x64.size a := fun v262 k0_hw25 => k0_hw25

def k0_off26 (v273 : BitVec 32) : Fin 2 → Nat :=
  let c0_i32_232 : BitVec 32 := 0#32
  let v275 : BitVec 32 := Scalar.maxsi v273 c0_i32_232
  let v276 : Index := Scalar.indexCast v275
  let c0_233 : Index := 0#32
  ![v276.toNat, 0]

def k0_chk26 (v273 : BitVec 32) : Prop :=
  (∀ a, (k0_off26 v273) a + S1x64.size a ≤ S2048x64.size a)
theorem k0_off26_inb : ∀ (v273 : BitVec 32) (k0_hw26 : k0_chk26 v273), ∀ a, (k0_off26 v273) a + S1x64.size a ≤ S2048x64.size a := fun v273 k0_hw26 => k0_hw26

def k0_off27 (v284 : BitVec 32) : Fin 2 → Nat :=
  let c0_i32_241 : BitVec 32 := 0#32
  let v286 : BitVec 32 := Scalar.maxsi v284 c0_i32_241
  let v287 : Index := Scalar.indexCast v286
  let c0_242 : Index := 0#32
  ![v287.toNat, 0]

def k0_chk27 (v284 : BitVec 32) : Prop :=
  (∀ a, (k0_off27 v284) a + S1x64.size a ≤ S2048x64.size a)
theorem k0_off27_inb : ∀ (v284 : BitVec 32) (k0_hw27 : k0_chk27 v284), ∀ a, (k0_off27 v284) a + S1x64.size a ≤ S2048x64.size a := fun v284 k0_hw27 => k0_hw27

def k0_off28 (v295 : BitVec 32) : Fin 2 → Nat :=
  let c0_i32_250 : BitVec 32 := 0#32
  let v297 : BitVec 32 := Scalar.maxsi v295 c0_i32_250
  let v298 : Index := Scalar.indexCast v297
  let c0_251 : Index := 0#32
  ![v298.toNat, 0]

def k0_chk28 (v295 : BitVec 32) : Prop :=
  (∀ a, (k0_off28 v295) a + S1x64.size a ≤ S2048x64.size a)
theorem k0_off28_inb : ∀ (v295 : BitVec 32) (k0_hw28 : k0_chk28 v295), ∀ a, (k0_off28 v295) a + S1x64.size a ≤ S2048x64.size a := fun v295 k0_hw28 => k0_hw28

def k0_off29 (v306 : BitVec 32) : Fin 2 → Nat :=
  let c0_i32_259 : BitVec 32 := 0#32
  let v308 : BitVec 32 := Scalar.maxsi v306 c0_i32_259
  let v309 : Index := Scalar.indexCast v308
  let c0_260 : Index := 0#32
  ![v309.toNat, 0]

def k0_chk29 (v306 : BitVec 32) : Prop :=
  (∀ a, (k0_off29 v306) a + S1x64.size a ≤ S2048x64.size a)
theorem k0_off29_inb : ∀ (v306 : BitVec 32) (k0_hw29 : k0_chk29 v306), ∀ a, (k0_off29 v306) a + S1x64.size a ≤ S2048x64.size a := fun v306 k0_hw29 => k0_hw29

def k0_off30 (v317 : BitVec 32) : Fin 2 → Nat :=
  let c0_i32_268 : BitVec 32 := 0#32
  let v319 : BitVec 32 := Scalar.maxsi v317 c0_i32_268
  let v320 : Index := Scalar.indexCast v319
  let c0_269 : Index := 0#32
  ![v320.toNat, 0]

def k0_chk30 (v317 : BitVec 32) : Prop :=
  (∀ a, (k0_off30 v317) a + S1x64.size a ≤ S2048x64.size a)
theorem k0_off30_inb : ∀ (v317 : BitVec 32) (k0_hw30 : k0_chk30 v317), ∀ a, (k0_off30 v317) a + S1x64.size a ≤ S2048x64.size a := fun v317 k0_hw30 => k0_hw30

def k0_off31 (v328 : BitVec 32) : Fin 2 → Nat :=
  let c0_i32_277 : BitVec 32 := 0#32
  let v330 : BitVec 32 := Scalar.maxsi v328 c0_i32_277
  let v331 : Index := Scalar.indexCast v330
  let c0_278 : Index := 0#32
  ![v331.toNat, 0]

def k0_chk31 (v328 : BitVec 32) : Prop :=
  (∀ a, (k0_off31 v328) a + S1x64.size a ≤ S2048x64.size a)
theorem k0_off31_inb : ∀ (v328 : BitVec 32) (k0_hw31 : k0_chk31 v328), ∀ a, (k0_off31 v328) a + S1x64.size a ≤ S2048x64.size a := fun v328 k0_hw31 => k0_hw31

def k0_off32 (v339 : BitVec 32) : Fin 2 → Nat :=
  let c0_i32_286 : BitVec 32 := 0#32
  let v341 : BitVec 32 := Scalar.maxsi v339 c0_i32_286
  let v342 : Index := Scalar.indexCast v341
  let c0_287 : Index := 0#32
  ![v342.toNat, 0]

def k0_chk32 (v339 : BitVec 32) : Prop :=
  (∀ a, (k0_off32 v339) a + S1x64.size a ≤ S2048x64.size a)
theorem k0_off32_inb : ∀ (v339 : BitVec 32) (k0_hw32 : k0_chk32 v339), ∀ a, (k0_off32 v339) a + S1x64.size a ≤ S2048x64.size a := fun v339 k0_hw32 => k0_hw32

def k0_off33 (v350 : BitVec 32) : Fin 2 → Nat :=
  let c0_i32_295 : BitVec 32 := 0#32
  let v352 : BitVec 32 := Scalar.maxsi v350 c0_i32_295
  let v353 : Index := Scalar.indexCast v352
  let c0_296 : Index := 0#32
  ![v353.toNat, 0]

def k0_chk33 (v350 : BitVec 32) : Prop :=
  (∀ a, (k0_off33 v350) a + S1x64.size a ≤ S2048x64.size a)
theorem k0_off33_inb : ∀ (v350 : BitVec 32) (k0_hw33 : k0_chk33 v350), ∀ a, (k0_off33 v350) a + S1x64.size a ≤ S2048x64.size a := fun v350 k0_hw33 => k0_hw33

def k0_off34 (v361 : BitVec 32) : Fin 2 → Nat :=
  let c0_i32_304 : BitVec 32 := 0#32
  let v363 : BitVec 32 := Scalar.maxsi v361 c0_i32_304
  let v364 : Index := Scalar.indexCast v363
  let c0_305 : Index := 0#32
  ![v364.toNat, 0]

def k0_chk34 (v361 : BitVec 32) : Prop :=
  (∀ a, (k0_off34 v361) a + S1x64.size a ≤ S2048x64.size a)
theorem k0_off34_inb : ∀ (v361 : BitVec 32) (k0_hw34 : k0_chk34 v361), ∀ a, (k0_off34 v361) a + S1x64.size a ≤ S2048x64.size a := fun v361 k0_hw34 => k0_hw34

def k0_off35 (v372 : BitVec 32) : Fin 2 → Nat :=
  let c0_i32_313 : BitVec 32 := 0#32
  let v374 : BitVec 32 := Scalar.maxsi v372 c0_i32_313
  let v375 : Index := Scalar.indexCast v374
  let c0_314 : Index := 0#32
  ![v375.toNat, 0]

def k0_chk35 (v372 : BitVec 32) : Prop :=
  (∀ a, (k0_off35 v372) a + S1x64.size a ≤ S2048x64.size a)
theorem k0_off35_inb : ∀ (v372 : BitVec 32) (k0_hw35 : k0_chk35 v372), ∀ a, (k0_off35 v372) a + S1x64.size a ≤ S2048x64.size a := fun v372 k0_hw35 => k0_hw35

def k0_off36 (v383 : BitVec 32) : Fin 2 → Nat :=
  let c0_i32_322 : BitVec 32 := 0#32
  let v385 : BitVec 32 := Scalar.maxsi v383 c0_i32_322
  let v386 : Index := Scalar.indexCast v385
  let c0_323 : Index := 0#32
  ![v386.toNat, 0]

def k0_chk36 (v383 : BitVec 32) : Prop :=
  (∀ a, (k0_off36 v383) a + S1x64.size a ≤ S2048x64.size a)
theorem k0_off36_inb : ∀ (v383 : BitVec 32) (k0_hw36 : k0_chk36 v383), ∀ a, (k0_off36 v383) a + S1x64.size a ≤ S2048x64.size a := fun v383 k0_hw36 => k0_hw36

def k0_off37 (v394 : BitVec 32) : Fin 2 → Nat :=
  let c0_i32_331 : BitVec 32 := 0#32
  let v396 : BitVec 32 := Scalar.maxsi v394 c0_i32_331
  let v397 : Index := Scalar.indexCast v396
  let c0_332 : Index := 0#32
  ![v397.toNat, 0]

def k0_chk37 (v394 : BitVec 32) : Prop :=
  (∀ a, (k0_off37 v394) a + S1x64.size a ≤ S2048x64.size a)
theorem k0_off37_inb : ∀ (v394 : BitVec 32) (k0_hw37 : k0_chk37 v394), ∀ a, (k0_off37 v394) a + S1x64.size a ≤ S2048x64.size a := fun v394 k0_hw37 => k0_hw37

def k0_off38 (v405 : BitVec 32) : Fin 2 → Nat :=
  let c0_i32_340 : BitVec 32 := 0#32
  let v407 : BitVec 32 := Scalar.maxsi v405 c0_i32_340
  let v408 : Index := Scalar.indexCast v407
  let c0_341 : Index := 0#32
  ![v408.toNat, 0]

def k0_chk38 (v405 : BitVec 32) : Prop :=
  (∀ a, (k0_off38 v405) a + S1x64.size a ≤ S2048x64.size a)
theorem k0_off38_inb : ∀ (v405 : BitVec 32) (k0_hw38 : k0_chk38 v405), ∀ a, (k0_off38 v405) a + S1x64.size a ≤ S2048x64.size a := fun v405 k0_hw38 => k0_hw38

def k0_off39 (v416 : BitVec 32) : Fin 2 → Nat :=
  let c0_i32_349 : BitVec 32 := 0#32
  let v418 : BitVec 32 := Scalar.maxsi v416 c0_i32_349
  let v419 : Index := Scalar.indexCast v418
  let c0_350 : Index := 0#32
  ![v419.toNat, 0]

def k0_chk39 (v416 : BitVec 32) : Prop :=
  (∀ a, (k0_off39 v416) a + S1x64.size a ≤ S2048x64.size a)
theorem k0_off39_inb : ∀ (v416 : BitVec 32) (k0_hw39 : k0_chk39 v416), ∀ a, (k0_off39 v416) a + S1x64.size a ≤ S2048x64.size a := fun v416 k0_hw39 => k0_hw39

def k0_off40 (v427 : BitVec 32) : Fin 2 → Nat :=
  let c0_i32_358 : BitVec 32 := 0#32
  let v429 : BitVec 32 := Scalar.maxsi v427 c0_i32_358
  let v430 : Index := Scalar.indexCast v429
  let c0_359 : Index := 0#32
  ![v430.toNat, 0]

def k0_chk40 (v427 : BitVec 32) : Prop :=
  (∀ a, (k0_off40 v427) a + S1x64.size a ≤ S2048x64.size a)
theorem k0_off40_inb : ∀ (v427 : BitVec 32) (k0_hw40 : k0_chk40 v427), ∀ a, (k0_off40 v427) a + S1x64.size a ≤ S2048x64.size a := fun v427 k0_hw40 => k0_hw40

def k0_off41 (v438 : BitVec 32) : Fin 2 → Nat :=
  let c0_i32_367 : BitVec 32 := 0#32
  let v440 : BitVec 32 := Scalar.maxsi v438 c0_i32_367
  let v441 : Index := Scalar.indexCast v440
  let c0_368 : Index := 0#32
  ![v441.toNat, 0]

def k0_chk41 (v438 : BitVec 32) : Prop :=
  (∀ a, (k0_off41 v438) a + S1x64.size a ≤ S2048x64.size a)
theorem k0_off41_inb : ∀ (v438 : BitVec 32) (k0_hw41 : k0_chk41 v438), ∀ a, (k0_off41 v438) a + S1x64.size a ≤ S2048x64.size a := fun v438 k0_hw41 => k0_hw41

def k0_off42 (v449 : BitVec 32) : Fin 2 → Nat :=
  let c0_i32_376 : BitVec 32 := 0#32
  let v451 : BitVec 32 := Scalar.maxsi v449 c0_i32_376
  let v452 : Index := Scalar.indexCast v451
  let c0_377 : Index := 0#32
  ![v452.toNat, 0]

def k0_chk42 (v449 : BitVec 32) : Prop :=
  (∀ a, (k0_off42 v449) a + S1x64.size a ≤ S2048x64.size a)
theorem k0_off42_inb : ∀ (v449 : BitVec 32) (k0_hw42 : k0_chk42 v449), ∀ a, (k0_off42 v449) a + S1x64.size a ≤ S2048x64.size a := fun v449 k0_hw42 => k0_hw42

def k0_off43 (v460 : BitVec 32) : Fin 2 → Nat :=
  let c0_i32_385 : BitVec 32 := 0#32
  let v462 : BitVec 32 := Scalar.maxsi v460 c0_i32_385
  let v463 : Index := Scalar.indexCast v462
  let c0_386 : Index := 0#32
  ![v463.toNat, 0]

def k0_chk43 (v460 : BitVec 32) : Prop :=
  (∀ a, (k0_off43 v460) a + S1x64.size a ≤ S2048x64.size a)
theorem k0_off43_inb : ∀ (v460 : BitVec 32) (k0_hw43 : k0_chk43 v460), ∀ a, (k0_off43 v460) a + S1x64.size a ≤ S2048x64.size a := fun v460 k0_hw43 => k0_hw43

def k0_off44 (v471 : BitVec 32) : Fin 2 → Nat :=
  let c0_i32_394 : BitVec 32 := 0#32
  let v473 : BitVec 32 := Scalar.maxsi v471 c0_i32_394
  let v474 : Index := Scalar.indexCast v473
  let c0_395 : Index := 0#32
  ![v474.toNat, 0]

def k0_chk44 (v471 : BitVec 32) : Prop :=
  (∀ a, (k0_off44 v471) a + S1x64.size a ≤ S2048x64.size a)
theorem k0_off44_inb : ∀ (v471 : BitVec 32) (k0_hw44 : k0_chk44 v471), ∀ a, (k0_off44 v471) a + S1x64.size a ≤ S2048x64.size a := fun v471 k0_hw44 => k0_hw44

def k0_off45 (v482 : BitVec 32) : Fin 2 → Nat :=
  let c0_i32_403 : BitVec 32 := 0#32
  let v484 : BitVec 32 := Scalar.maxsi v482 c0_i32_403
  let v485 : Index := Scalar.indexCast v484
  let c0_404 : Index := 0#32
  ![v485.toNat, 0]

def k0_chk45 (v482 : BitVec 32) : Prop :=
  (∀ a, (k0_off45 v482) a + S1x64.size a ≤ S2048x64.size a)
theorem k0_off45_inb : ∀ (v482 : BitVec 32) (k0_hw45 : k0_chk45 v482), ∀ a, (k0_off45 v482) a + S1x64.size a ≤ S2048x64.size a := fun v482 k0_hw45 => k0_hw45

def k0_off46 (v493 : BitVec 32) : Fin 2 → Nat :=
  let c0_i32_412 : BitVec 32 := 0#32
  let v495 : BitVec 32 := Scalar.maxsi v493 c0_i32_412
  let v496 : Index := Scalar.indexCast v495
  let c0_413 : Index := 0#32
  ![v496.toNat, 0]

def k0_chk46 (v493 : BitVec 32) : Prop :=
  (∀ a, (k0_off46 v493) a + S1x64.size a ≤ S2048x64.size a)
theorem k0_off46_inb : ∀ (v493 : BitVec 32) (k0_hw46 : k0_chk46 v493), ∀ a, (k0_off46 v493) a + S1x64.size a ≤ S2048x64.size a := fun v493 k0_hw46 => k0_hw46

def k0_off47 (v504 : BitVec 32) : Fin 2 → Nat :=
  let c0_i32_421 : BitVec 32 := 0#32
  let v506 : BitVec 32 := Scalar.maxsi v504 c0_i32_421
  let v507 : Index := Scalar.indexCast v506
  let c0_422 : Index := 0#32
  ![v507.toNat, 0]

def k0_chk47 (v504 : BitVec 32) : Prop :=
  (∀ a, (k0_off47 v504) a + S1x64.size a ≤ S2048x64.size a)
theorem k0_off47_inb : ∀ (v504 : BitVec 32) (k0_hw47 : k0_chk47 v504), ∀ a, (k0_off47 v504) a + S1x64.size a ≤ S2048x64.size a := fun v504 k0_hw47 => k0_hw47

def k0_off48 (v515 : BitVec 32) : Fin 2 → Nat :=
  let c0_i32_430 : BitVec 32 := 0#32
  let v517 : BitVec 32 := Scalar.maxsi v515 c0_i32_430
  let v518 : Index := Scalar.indexCast v517
  let c0_431 : Index := 0#32
  ![v518.toNat, 0]

def k0_chk48 (v515 : BitVec 32) : Prop :=
  (∀ a, (k0_off48 v515) a + S1x64.size a ≤ S2048x64.size a)
theorem k0_off48_inb : ∀ (v515 : BitVec 32) (k0_hw48 : k0_chk48 v515), ∀ a, (k0_off48 v515) a + S1x64.size a ≤ S2048x64.size a := fun v515 k0_hw48 => k0_hw48

def k0_off49 (v526 : BitVec 32) : Fin 2 → Nat :=
  let c0_i32_439 : BitVec 32 := 0#32
  let v528 : BitVec 32 := Scalar.maxsi v526 c0_i32_439
  let v529 : Index := Scalar.indexCast v528
  let c0_440 : Index := 0#32
  ![v529.toNat, 0]

def k0_chk49 (v526 : BitVec 32) : Prop :=
  (∀ a, (k0_off49 v526) a + S1x64.size a ≤ S2048x64.size a)
theorem k0_off49_inb : ∀ (v526 : BitVec 32) (k0_hw49 : k0_chk49 v526), ∀ a, (k0_off49 v526) a + S1x64.size a ≤ S2048x64.size a := fun v526 k0_hw49 => k0_hw49

def k0_off50 (v537 : BitVec 32) : Fin 2 → Nat :=
  let c0_i32_448 : BitVec 32 := 0#32
  let v539 : BitVec 32 := Scalar.maxsi v537 c0_i32_448
  let v540 : Index := Scalar.indexCast v539
  let c0_449 : Index := 0#32
  ![v540.toNat, 0]

def k0_chk50 (v537 : BitVec 32) : Prop :=
  (∀ a, (k0_off50 v537) a + S1x64.size a ≤ S2048x64.size a)
theorem k0_off50_inb : ∀ (v537 : BitVec 32) (k0_hw50 : k0_chk50 v537), ∀ a, (k0_off50 v537) a + S1x64.size a ≤ S2048x64.size a := fun v537 k0_hw50 => k0_hw50

def k0_off51 (v548 : BitVec 32) : Fin 2 → Nat :=
  let c0_i32_457 : BitVec 32 := 0#32
  let v550 : BitVec 32 := Scalar.maxsi v548 c0_i32_457
  let v551 : Index := Scalar.indexCast v550
  let c0_458 : Index := 0#32
  ![v551.toNat, 0]

def k0_chk51 (v548 : BitVec 32) : Prop :=
  (∀ a, (k0_off51 v548) a + S1x64.size a ≤ S2048x64.size a)
theorem k0_off51_inb : ∀ (v548 : BitVec 32) (k0_hw51 : k0_chk51 v548), ∀ a, (k0_off51 v548) a + S1x64.size a ≤ S2048x64.size a := fun v548 k0_hw51 => k0_hw51

def k0_off52 (v559 : BitVec 32) : Fin 2 → Nat :=
  let c0_i32_466 : BitVec 32 := 0#32
  let v561 : BitVec 32 := Scalar.maxsi v559 c0_i32_466
  let v562 : Index := Scalar.indexCast v561
  let c0_467 : Index := 0#32
  ![v562.toNat, 0]

def k0_chk52 (v559 : BitVec 32) : Prop :=
  (∀ a, (k0_off52 v559) a + S1x64.size a ≤ S2048x64.size a)
theorem k0_off52_inb : ∀ (v559 : BitVec 32) (k0_hw52 : k0_chk52 v559), ∀ a, (k0_off52 v559) a + S1x64.size a ≤ S2048x64.size a := fun v559 k0_hw52 => k0_hw52

def k0_off53 (v570 : BitVec 32) : Fin 2 → Nat :=
  let c0_i32_475 : BitVec 32 := 0#32
  let v572 : BitVec 32 := Scalar.maxsi v570 c0_i32_475
  let v573 : Index := Scalar.indexCast v572
  let c0_476 : Index := 0#32
  ![v573.toNat, 0]

def k0_chk53 (v570 : BitVec 32) : Prop :=
  (∀ a, (k0_off53 v570) a + S1x64.size a ≤ S2048x64.size a)
theorem k0_off53_inb : ∀ (v570 : BitVec 32) (k0_hw53 : k0_chk53 v570), ∀ a, (k0_off53 v570) a + S1x64.size a ≤ S2048x64.size a := fun v570 k0_hw53 => k0_hw53

def k0_off54 (v581 : BitVec 32) : Fin 2 → Nat :=
  let c0_i32_484 : BitVec 32 := 0#32
  let v583 : BitVec 32 := Scalar.maxsi v581 c0_i32_484
  let v584 : Index := Scalar.indexCast v583
  let c0_485 : Index := 0#32
  ![v584.toNat, 0]

def k0_chk54 (v581 : BitVec 32) : Prop :=
  (∀ a, (k0_off54 v581) a + S1x64.size a ≤ S2048x64.size a)
theorem k0_off54_inb : ∀ (v581 : BitVec 32) (k0_hw54 : k0_chk54 v581), ∀ a, (k0_off54 v581) a + S1x64.size a ≤ S2048x64.size a := fun v581 k0_hw54 => k0_hw54

def k0_off55 (v592 : BitVec 32) : Fin 2 → Nat :=
  let c0_i32_493 : BitVec 32 := 0#32
  let v594 : BitVec 32 := Scalar.maxsi v592 c0_i32_493
  let v595 : Index := Scalar.indexCast v594
  let c0_494 : Index := 0#32
  ![v595.toNat, 0]

def k0_chk55 (v592 : BitVec 32) : Prop :=
  (∀ a, (k0_off55 v592) a + S1x64.size a ≤ S2048x64.size a)
theorem k0_off55_inb : ∀ (v592 : BitVec 32) (k0_hw55 : k0_chk55 v592), ∀ a, (k0_off55 v592) a + S1x64.size a ≤ S2048x64.size a := fun v592 k0_hw55 => k0_hw55

def k0_off56 (v603 : BitVec 32) : Fin 2 → Nat :=
  let c0_i32_502 : BitVec 32 := 0#32
  let v605 : BitVec 32 := Scalar.maxsi v603 c0_i32_502
  let v606 : Index := Scalar.indexCast v605
  let c0_503 : Index := 0#32
  ![v606.toNat, 0]

def k0_chk56 (v603 : BitVec 32) : Prop :=
  (∀ a, (k0_off56 v603) a + S1x64.size a ≤ S2048x64.size a)
theorem k0_off56_inb : ∀ (v603 : BitVec 32) (k0_hw56 : k0_chk56 v603), ∀ a, (k0_off56 v603) a + S1x64.size a ≤ S2048x64.size a := fun v603 k0_hw56 => k0_hw56

def k0_off57 (v614 : BitVec 32) : Fin 2 → Nat :=
  let c0_i32_511 : BitVec 32 := 0#32
  let v616 : BitVec 32 := Scalar.maxsi v614 c0_i32_511
  let v617 : Index := Scalar.indexCast v616
  let c0_512 : Index := 0#32
  ![v617.toNat, 0]

def k0_chk57 (v614 : BitVec 32) : Prop :=
  (∀ a, (k0_off57 v614) a + S1x64.size a ≤ S2048x64.size a)
theorem k0_off57_inb : ∀ (v614 : BitVec 32) (k0_hw57 : k0_chk57 v614), ∀ a, (k0_off57 v614) a + S1x64.size a ≤ S2048x64.size a := fun v614 k0_hw57 => k0_hw57

def k0_off58 (v625 : BitVec 32) : Fin 2 → Nat :=
  let c0_i32_520 : BitVec 32 := 0#32
  let v627 : BitVec 32 := Scalar.maxsi v625 c0_i32_520
  let v628 : Index := Scalar.indexCast v627
  let c0_521 : Index := 0#32
  ![v628.toNat, 0]

def k0_chk58 (v625 : BitVec 32) : Prop :=
  (∀ a, (k0_off58 v625) a + S1x64.size a ≤ S2048x64.size a)
theorem k0_off58_inb : ∀ (v625 : BitVec 32) (k0_hw58 : k0_chk58 v625), ∀ a, (k0_off58 v625) a + S1x64.size a ≤ S2048x64.size a := fun v625 k0_hw58 => k0_hw58

def k0_off59 (v636 : BitVec 32) : Fin 2 → Nat :=
  let c0_i32_529 : BitVec 32 := 0#32
  let v638 : BitVec 32 := Scalar.maxsi v636 c0_i32_529
  let v639 : Index := Scalar.indexCast v638
  let c0_530 : Index := 0#32
  ![v639.toNat, 0]

def k0_chk59 (v636 : BitVec 32) : Prop :=
  (∀ a, (k0_off59 v636) a + S1x64.size a ≤ S2048x64.size a)
theorem k0_off59_inb : ∀ (v636 : BitVec 32) (k0_hw59 : k0_chk59 v636), ∀ a, (k0_off59 v636) a + S1x64.size a ≤ S2048x64.size a := fun v636 k0_hw59 => k0_hw59

def k0_off60 (v647 : BitVec 32) : Fin 2 → Nat :=
  let c0_i32_538 : BitVec 32 := 0#32
  let v649 : BitVec 32 := Scalar.maxsi v647 c0_i32_538
  let v650 : Index := Scalar.indexCast v649
  let c0_539 : Index := 0#32
  ![v650.toNat, 0]

def k0_chk60 (v647 : BitVec 32) : Prop :=
  (∀ a, (k0_off60 v647) a + S1x64.size a ≤ S2048x64.size a)
theorem k0_off60_inb : ∀ (v647 : BitVec 32) (k0_hw60 : k0_chk60 v647), ∀ a, (k0_off60 v647) a + S1x64.size a ≤ S2048x64.size a := fun v647 k0_hw60 => k0_hw60

def k0_off61 (v658 : BitVec 32) : Fin 2 → Nat :=
  let c0_i32_547 : BitVec 32 := 0#32
  let v660 : BitVec 32 := Scalar.maxsi v658 c0_i32_547
  let v661 : Index := Scalar.indexCast v660
  let c0_548 : Index := 0#32
  ![v661.toNat, 0]

def k0_chk61 (v658 : BitVec 32) : Prop :=
  (∀ a, (k0_off61 v658) a + S1x64.size a ≤ S2048x64.size a)
theorem k0_off61_inb : ∀ (v658 : BitVec 32) (k0_hw61 : k0_chk61 v658), ∀ a, (k0_off61 v658) a + S1x64.size a ≤ S2048x64.size a := fun v658 k0_hw61 => k0_hw61

def k0_off62 (v669 : BitVec 32) : Fin 2 → Nat :=
  let c0_i32_556 : BitVec 32 := 0#32
  let v671 : BitVec 32 := Scalar.maxsi v669 c0_i32_556
  let v672 : Index := Scalar.indexCast v671
  let c0_557 : Index := 0#32
  ![v672.toNat, 0]

def k0_chk62 (v669 : BitVec 32) : Prop :=
  (∀ a, (k0_off62 v669) a + S1x64.size a ≤ S2048x64.size a)
theorem k0_off62_inb : ∀ (v669 : BitVec 32) (k0_hw62 : k0_chk62 v669), ∀ a, (k0_off62 v669) a + S1x64.size a ≤ S2048x64.size a := fun v669 k0_hw62 => k0_hw62

def k0_off63 (v680 : BitVec 32) : Fin 2 → Nat :=
  let c0_i32_565 : BitVec 32 := 0#32
  let v682 : BitVec 32 := Scalar.maxsi v680 c0_i32_565
  let v683 : Index := Scalar.indexCast v682
  let c0_566 : Index := 0#32
  ![v683.toNat, 0]

def k0_chk63 (v680 : BitVec 32) : Prop :=
  (∀ a, (k0_off63 v680) a + S1x64.size a ≤ S2048x64.size a)
theorem k0_off63_inb : ∀ (v680 : BitVec 32) (k0_hw63 : k0_chk63 v680), ∀ a, (k0_off63 v680) a + S1x64.size a ≤ S2048x64.size a := fun v680 k0_hw63 => k0_hw63

def k0_off64 (v691 : BitVec 32) : Fin 2 → Nat :=
  let c0_i32_574 : BitVec 32 := 0#32
  let v693 : BitVec 32 := Scalar.maxsi v691 c0_i32_574
  let v694 : Index := Scalar.indexCast v693
  let c0_575 : Index := 0#32
  ![v694.toNat, 0]

def k0_chk64 (v691 : BitVec 32) : Prop :=
  (∀ a, (k0_off64 v691) a + S1x64.size a ≤ S2048x64.size a)
theorem k0_off64_inb : ∀ (v691 : BitVec 32) (k0_hw64 : k0_chk64 v691), ∀ a, (k0_off64 v691) a + S1x64.size a ≤ S2048x64.size a := fun v691 k0_hw64 => k0_hw64

def k0_off65 (v702 : BitVec 32) : Fin 2 → Nat :=
  let c0_i32_583 : BitVec 32 := 0#32
  let v704 : BitVec 32 := Scalar.maxsi v702 c0_i32_583
  let v705 : Index := Scalar.indexCast v704
  let c0_584 : Index := 0#32
  ![v705.toNat, 0]

def k0_chk65 (v702 : BitVec 32) : Prop :=
  (∀ a, (k0_off65 v702) a + S1x64.size a ≤ S2048x64.size a)
theorem k0_off65_inb : ∀ (v702 : BitVec 32) (k0_hw65 : k0_chk65 v702), ∀ a, (k0_off65 v702) a + S1x64.size a ≤ S2048x64.size a := fun v702 k0_hw65 => k0_hw65

def k0_off66 (v713 : BitVec 32) : Fin 2 → Nat :=
  let c0_i32_592 : BitVec 32 := 0#32
  let v715 : BitVec 32 := Scalar.maxsi v713 c0_i32_592
  let v716 : Index := Scalar.indexCast v715
  let c0_593 : Index := 0#32
  ![v716.toNat, 0]

def k0_chk66 (v713 : BitVec 32) : Prop :=
  (∀ a, (k0_off66 v713) a + S1x64.size a ≤ S2048x64.size a)
theorem k0_off66_inb : ∀ (v713 : BitVec 32) (k0_hw66 : k0_chk66 v713), ∀ a, (k0_off66 v713) a + S1x64.size a ≤ S2048x64.size a := fun v713 k0_hw66 => k0_hw66

def k0_off67 (v724 : BitVec 32) : Fin 2 → Nat :=
  let c0_i32_601 : BitVec 32 := 0#32
  let v726 : BitVec 32 := Scalar.maxsi v724 c0_i32_601
  let v727 : Index := Scalar.indexCast v726
  let c0_602 : Index := 0#32
  ![v727.toNat, 0]

def k0_chk67 (v724 : BitVec 32) : Prop :=
  (∀ a, (k0_off67 v724) a + S1x64.size a ≤ S2048x64.size a)
theorem k0_off67_inb : ∀ (v724 : BitVec 32) (k0_hw67 : k0_chk67 v724), ∀ a, (k0_off67 v724) a + S1x64.size a ≤ S2048x64.size a := fun v724 k0_hw67 => k0_hw67

def k0_off68 (v735 : BitVec 32) : Fin 2 → Nat :=
  let c0_i32_610 : BitVec 32 := 0#32
  let v737 : BitVec 32 := Scalar.maxsi v735 c0_i32_610
  let v738 : Index := Scalar.indexCast v737
  let c0_611 : Index := 0#32
  ![v738.toNat, 0]

def k0_chk68 (v735 : BitVec 32) : Prop :=
  (∀ a, (k0_off68 v735) a + S1x64.size a ≤ S2048x64.size a)
theorem k0_off68_inb : ∀ (v735 : BitVec 32) (k0_hw68 : k0_chk68 v735), ∀ a, (k0_off68 v735) a + S1x64.size a ≤ S2048x64.size a := fun v735 k0_hw68 => k0_hw68

def k0_off69 (v746 : BitVec 32) : Fin 2 → Nat :=
  let c0_i32_619 : BitVec 32 := 0#32
  let v748 : BitVec 32 := Scalar.maxsi v746 c0_i32_619
  let v749 : Index := Scalar.indexCast v748
  let c0_620 : Index := 0#32
  ![v749.toNat, 0]

def k0_chk69 (v746 : BitVec 32) : Prop :=
  (∀ a, (k0_off69 v746) a + S1x64.size a ≤ S2048x64.size a)
theorem k0_off69_inb : ∀ (v746 : BitVec 32) (k0_hw69 : k0_chk69 v746), ∀ a, (k0_off69 v746) a + S1x64.size a ≤ S2048x64.size a := fun v746 k0_hw69 => k0_hw69

def k0_off70 (v757 : BitVec 32) : Fin 2 → Nat :=
  let c0_i32_628 : BitVec 32 := 0#32
  let v759 : BitVec 32 := Scalar.maxsi v757 c0_i32_628
  let v760 : Index := Scalar.indexCast v759
  let c0_629 : Index := 0#32
  ![v760.toNat, 0]

def k0_chk70 (v757 : BitVec 32) : Prop :=
  (∀ a, (k0_off70 v757) a + S1x64.size a ≤ S2048x64.size a)
theorem k0_off70_inb : ∀ (v757 : BitVec 32) (k0_hw70 : k0_chk70 v757), ∀ a, (k0_off70 v757) a + S1x64.size a ≤ S2048x64.size a := fun v757 k0_hw70 => k0_hw70

def k0_off71 (v768 : BitVec 32) : Fin 2 → Nat :=
  let c0_i32_637 : BitVec 32 := 0#32
  let v770 : BitVec 32 := Scalar.maxsi v768 c0_i32_637
  let v771 : Index := Scalar.indexCast v770
  let c0_638 : Index := 0#32
  ![v771.toNat, 0]

def k0_chk71 (v768 : BitVec 32) : Prop :=
  (∀ a, (k0_off71 v768) a + S1x64.size a ≤ S2048x64.size a)
theorem k0_off71_inb : ∀ (v768 : BitVec 32) (k0_hw71 : k0_chk71 v768), ∀ a, (k0_off71 v768) a + S1x64.size a ≤ S2048x64.size a := fun v768 k0_hw71 => k0_hw71

def k0_off72 (v779 : BitVec 32) : Fin 2 → Nat :=
  let c0_i32_646 : BitVec 32 := 0#32
  let v781 : BitVec 32 := Scalar.maxsi v779 c0_i32_646
  let v782 : Index := Scalar.indexCast v781
  let c0_647 : Index := 0#32
  ![v782.toNat, 0]

def k0_chk72 (v779 : BitVec 32) : Prop :=
  (∀ a, (k0_off72 v779) a + S1x64.size a ≤ S2048x64.size a)
theorem k0_off72_inb : ∀ (v779 : BitVec 32) (k0_hw72 : k0_chk72 v779), ∀ a, (k0_off72 v779) a + S1x64.size a ≤ S2048x64.size a := fun v779 k0_hw72 => k0_hw72

def k0_off73 (v790 : BitVec 32) : Fin 2 → Nat :=
  let c0_i32_655 : BitVec 32 := 0#32
  let v792 : BitVec 32 := Scalar.maxsi v790 c0_i32_655
  let v793 : Index := Scalar.indexCast v792
  let c0_656 : Index := 0#32
  ![v793.toNat, 0]

def k0_chk73 (v790 : BitVec 32) : Prop :=
  (∀ a, (k0_off73 v790) a + S1x64.size a ≤ S2048x64.size a)
theorem k0_off73_inb : ∀ (v790 : BitVec 32) (k0_hw73 : k0_chk73 v790), ∀ a, (k0_off73 v790) a + S1x64.size a ≤ S2048x64.size a := fun v790 k0_hw73 => k0_hw73

def k0_off74 (v801 : BitVec 32) : Fin 2 → Nat :=
  let c0_i32_664 : BitVec 32 := 0#32
  let v803 : BitVec 32 := Scalar.maxsi v801 c0_i32_664
  let v804 : Index := Scalar.indexCast v803
  let c0_665 : Index := 0#32
  ![v804.toNat, 0]

def k0_chk74 (v801 : BitVec 32) : Prop :=
  (∀ a, (k0_off74 v801) a + S1x64.size a ≤ S2048x64.size a)
theorem k0_off74_inb : ∀ (v801 : BitVec 32) (k0_hw74 : k0_chk74 v801), ∀ a, (k0_off74 v801) a + S1x64.size a ≤ S2048x64.size a := fun v801 k0_hw74 => k0_hw74

def k0_off75 (v812 : BitVec 32) : Fin 2 → Nat :=
  let c0_i32_673 : BitVec 32 := 0#32
  let v814 : BitVec 32 := Scalar.maxsi v812 c0_i32_673
  let v815 : Index := Scalar.indexCast v814
  let c0_674 : Index := 0#32
  ![v815.toNat, 0]

def k0_chk75 (v812 : BitVec 32) : Prop :=
  (∀ a, (k0_off75 v812) a + S1x64.size a ≤ S2048x64.size a)
theorem k0_off75_inb : ∀ (v812 : BitVec 32) (k0_hw75 : k0_chk75 v812), ∀ a, (k0_off75 v812) a + S1x64.size a ≤ S2048x64.size a := fun v812 k0_hw75 => k0_hw75

def k0_off76 (v823 : BitVec 32) : Fin 2 → Nat :=
  let c0_i32_682 : BitVec 32 := 0#32
  let v825 : BitVec 32 := Scalar.maxsi v823 c0_i32_682
  let v826 : Index := Scalar.indexCast v825
  let c0_683 : Index := 0#32
  ![v826.toNat, 0]

def k0_chk76 (v823 : BitVec 32) : Prop :=
  (∀ a, (k0_off76 v823) a + S1x64.size a ≤ S2048x64.size a)
theorem k0_off76_inb : ∀ (v823 : BitVec 32) (k0_hw76 : k0_chk76 v823), ∀ a, (k0_off76 v823) a + S1x64.size a ≤ S2048x64.size a := fun v823 k0_hw76 => k0_hw76

def k0_off77 (v834 : BitVec 32) : Fin 2 → Nat :=
  let c0_i32_691 : BitVec 32 := 0#32
  let v836 : BitVec 32 := Scalar.maxsi v834 c0_i32_691
  let v837 : Index := Scalar.indexCast v836
  let c0_692 : Index := 0#32
  ![v837.toNat, 0]

def k0_chk77 (v834 : BitVec 32) : Prop :=
  (∀ a, (k0_off77 v834) a + S1x64.size a ≤ S2048x64.size a)
theorem k0_off77_inb : ∀ (v834 : BitVec 32) (k0_hw77 : k0_chk77 v834), ∀ a, (k0_off77 v834) a + S1x64.size a ≤ S2048x64.size a := fun v834 k0_hw77 => k0_hw77

def k0_off78 (v845 : BitVec 32) : Fin 2 → Nat :=
  let c0_i32_700 : BitVec 32 := 0#32
  let v847 : BitVec 32 := Scalar.maxsi v845 c0_i32_700
  let v848 : Index := Scalar.indexCast v847
  let c0_701 : Index := 0#32
  ![v848.toNat, 0]

def k0_chk78 (v845 : BitVec 32) : Prop :=
  (∀ a, (k0_off78 v845) a + S1x64.size a ≤ S2048x64.size a)
theorem k0_off78_inb : ∀ (v845 : BitVec 32) (k0_hw78 : k0_chk78 v845), ∀ a, (k0_off78 v845) a + S1x64.size a ≤ S2048x64.size a := fun v845 k0_hw78 => k0_hw78

def k0_off79 (v856 : BitVec 32) : Fin 2 → Nat :=
  let c0_i32_709 : BitVec 32 := 0#32
  let v858 : BitVec 32 := Scalar.maxsi v856 c0_i32_709
  let v859 : Index := Scalar.indexCast v858
  let c0_710 : Index := 0#32
  ![v859.toNat, 0]

def k0_chk79 (v856 : BitVec 32) : Prop :=
  (∀ a, (k0_off79 v856) a + S1x64.size a ≤ S2048x64.size a)
theorem k0_off79_inb : ∀ (v856 : BitVec 32) (k0_hw79 : k0_chk79 v856), ∀ a, (k0_off79 v856) a + S1x64.size a ≤ S2048x64.size a := fun v856 k0_hw79 => k0_hw79

def k0_off80 (v867 : BitVec 32) : Fin 2 → Nat :=
  let c0_i32_718 : BitVec 32 := 0#32
  let v869 : BitVec 32 := Scalar.maxsi v867 c0_i32_718
  let v870 : Index := Scalar.indexCast v869
  let c0_719 : Index := 0#32
  ![v870.toNat, 0]

def k0_chk80 (v867 : BitVec 32) : Prop :=
  (∀ a, (k0_off80 v867) a + S1x64.size a ≤ S2048x64.size a)
theorem k0_off80_inb : ∀ (v867 : BitVec 32) (k0_hw80 : k0_chk80 v867), ∀ a, (k0_off80 v867) a + S1x64.size a ≤ S2048x64.size a := fun v867 k0_hw80 => k0_hw80

def k0_off81 (v878 : BitVec 32) : Fin 2 → Nat :=
  let c0_i32_727 : BitVec 32 := 0#32
  let v880 : BitVec 32 := Scalar.maxsi v878 c0_i32_727
  let v881 : Index := Scalar.indexCast v880
  let c0_728 : Index := 0#32
  ![v881.toNat, 0]

def k0_chk81 (v878 : BitVec 32) : Prop :=
  (∀ a, (k0_off81 v878) a + S1x64.size a ≤ S2048x64.size a)
theorem k0_off81_inb : ∀ (v878 : BitVec 32) (k0_hw81 : k0_chk81 v878), ∀ a, (k0_off81 v878) a + S1x64.size a ≤ S2048x64.size a := fun v878 k0_hw81 => k0_hw81

def k0_off82 (v889 : BitVec 32) : Fin 2 → Nat :=
  let c0_i32_736 : BitVec 32 := 0#32
  let v891 : BitVec 32 := Scalar.maxsi v889 c0_i32_736
  let v892 : Index := Scalar.indexCast v891
  let c0_737 : Index := 0#32
  ![v892.toNat, 0]

def k0_chk82 (v889 : BitVec 32) : Prop :=
  (∀ a, (k0_off82 v889) a + S1x64.size a ≤ S2048x64.size a)
theorem k0_off82_inb : ∀ (v889 : BitVec 32) (k0_hw82 : k0_chk82 v889), ∀ a, (k0_off82 v889) a + S1x64.size a ≤ S2048x64.size a := fun v889 k0_hw82 => k0_hw82

def k0_off83 (v900 : BitVec 32) : Fin 2 → Nat :=
  let c0_i32_745 : BitVec 32 := 0#32
  let v902 : BitVec 32 := Scalar.maxsi v900 c0_i32_745
  let v903 : Index := Scalar.indexCast v902
  let c0_746 : Index := 0#32
  ![v903.toNat, 0]

def k0_chk83 (v900 : BitVec 32) : Prop :=
  (∀ a, (k0_off83 v900) a + S1x64.size a ≤ S2048x64.size a)
theorem k0_off83_inb : ∀ (v900 : BitVec 32) (k0_hw83 : k0_chk83 v900), ∀ a, (k0_off83 v900) a + S1x64.size a ≤ S2048x64.size a := fun v900 k0_hw83 => k0_hw83

def k0_off84 (v911 : BitVec 32) : Fin 2 → Nat :=
  let c0_i32_754 : BitVec 32 := 0#32
  let v913 : BitVec 32 := Scalar.maxsi v911 c0_i32_754
  let v914 : Index := Scalar.indexCast v913
  let c0_755 : Index := 0#32
  ![v914.toNat, 0]

def k0_chk84 (v911 : BitVec 32) : Prop :=
  (∀ a, (k0_off84 v911) a + S1x64.size a ≤ S2048x64.size a)
theorem k0_off84_inb : ∀ (v911 : BitVec 32) (k0_hw84 : k0_chk84 v911), ∀ a, (k0_off84 v911) a + S1x64.size a ≤ S2048x64.size a := fun v911 k0_hw84 => k0_hw84

def k0_off85 (v922 : BitVec 32) : Fin 2 → Nat :=
  let c0_i32_763 : BitVec 32 := 0#32
  let v924 : BitVec 32 := Scalar.maxsi v922 c0_i32_763
  let v925 : Index := Scalar.indexCast v924
  let c0_764 : Index := 0#32
  ![v925.toNat, 0]

def k0_chk85 (v922 : BitVec 32) : Prop :=
  (∀ a, (k0_off85 v922) a + S1x64.size a ≤ S2048x64.size a)
theorem k0_off85_inb : ∀ (v922 : BitVec 32) (k0_hw85 : k0_chk85 v922), ∀ a, (k0_off85 v922) a + S1x64.size a ≤ S2048x64.size a := fun v922 k0_hw85 => k0_hw85

def k0_off86 (v933 : BitVec 32) : Fin 2 → Nat :=
  let c0_i32_772 : BitVec 32 := 0#32
  let v935 : BitVec 32 := Scalar.maxsi v933 c0_i32_772
  let v936 : Index := Scalar.indexCast v935
  let c0_773 : Index := 0#32
  ![v936.toNat, 0]

def k0_chk86 (v933 : BitVec 32) : Prop :=
  (∀ a, (k0_off86 v933) a + S1x64.size a ≤ S2048x64.size a)
theorem k0_off86_inb : ∀ (v933 : BitVec 32) (k0_hw86 : k0_chk86 v933), ∀ a, (k0_off86 v933) a + S1x64.size a ≤ S2048x64.size a := fun v933 k0_hw86 => k0_hw86

def k0_off87 (v944 : BitVec 32) : Fin 2 → Nat :=
  let c0_i32_781 : BitVec 32 := 0#32
  let v946 : BitVec 32 := Scalar.maxsi v944 c0_i32_781
  let v947 : Index := Scalar.indexCast v946
  let c0_782 : Index := 0#32
  ![v947.toNat, 0]

def k0_chk87 (v944 : BitVec 32) : Prop :=
  (∀ a, (k0_off87 v944) a + S1x64.size a ≤ S2048x64.size a)
theorem k0_off87_inb : ∀ (v944 : BitVec 32) (k0_hw87 : k0_chk87 v944), ∀ a, (k0_off87 v944) a + S1x64.size a ≤ S2048x64.size a := fun v944 k0_hw87 => k0_hw87

def k0_off88 (v955 : BitVec 32) : Fin 2 → Nat :=
  let c0_i32_790 : BitVec 32 := 0#32
  let v957 : BitVec 32 := Scalar.maxsi v955 c0_i32_790
  let v958 : Index := Scalar.indexCast v957
  let c0_791 : Index := 0#32
  ![v958.toNat, 0]

def k0_chk88 (v955 : BitVec 32) : Prop :=
  (∀ a, (k0_off88 v955) a + S1x64.size a ≤ S2048x64.size a)
theorem k0_off88_inb : ∀ (v955 : BitVec 32) (k0_hw88 : k0_chk88 v955), ∀ a, (k0_off88 v955) a + S1x64.size a ≤ S2048x64.size a := fun v955 k0_hw88 => k0_hw88

def k0_off89 (v966 : BitVec 32) : Fin 2 → Nat :=
  let c0_i32_799 : BitVec 32 := 0#32
  let v968 : BitVec 32 := Scalar.maxsi v966 c0_i32_799
  let v969 : Index := Scalar.indexCast v968
  let c0_800 : Index := 0#32
  ![v969.toNat, 0]

def k0_chk89 (v966 : BitVec 32) : Prop :=
  (∀ a, (k0_off89 v966) a + S1x64.size a ≤ S2048x64.size a)
theorem k0_off89_inb : ∀ (v966 : BitVec 32) (k0_hw89 : k0_chk89 v966), ∀ a, (k0_off89 v966) a + S1x64.size a ≤ S2048x64.size a := fun v966 k0_hw89 => k0_hw89

def k0_off90 (v977 : BitVec 32) : Fin 2 → Nat :=
  let c0_i32_808 : BitVec 32 := 0#32
  let v979 : BitVec 32 := Scalar.maxsi v977 c0_i32_808
  let v980 : Index := Scalar.indexCast v979
  let c0_809 : Index := 0#32
  ![v980.toNat, 0]

def k0_chk90 (v977 : BitVec 32) : Prop :=
  (∀ a, (k0_off90 v977) a + S1x64.size a ≤ S2048x64.size a)
theorem k0_off90_inb : ∀ (v977 : BitVec 32) (k0_hw90 : k0_chk90 v977), ∀ a, (k0_off90 v977) a + S1x64.size a ≤ S2048x64.size a := fun v977 k0_hw90 => k0_hw90

def k0_off91 (v988 : BitVec 32) : Fin 2 → Nat :=
  let c0_i32_817 : BitVec 32 := 0#32
  let v990 : BitVec 32 := Scalar.maxsi v988 c0_i32_817
  let v991 : Index := Scalar.indexCast v990
  let c0_818 : Index := 0#32
  ![v991.toNat, 0]

def k0_chk91 (v988 : BitVec 32) : Prop :=
  (∀ a, (k0_off91 v988) a + S1x64.size a ≤ S2048x64.size a)
theorem k0_off91_inb : ∀ (v988 : BitVec 32) (k0_hw91 : k0_chk91 v988), ∀ a, (k0_off91 v988) a + S1x64.size a ≤ S2048x64.size a := fun v988 k0_hw91 => k0_hw91

def k0_off92 (v999 : BitVec 32) : Fin 2 → Nat :=
  let c0_i32_826 : BitVec 32 := 0#32
  let v1001 : BitVec 32 := Scalar.maxsi v999 c0_i32_826
  let v1002 : Index := Scalar.indexCast v1001
  let c0_827 : Index := 0#32
  ![v1002.toNat, 0]

def k0_chk92 (v999 : BitVec 32) : Prop :=
  (∀ a, (k0_off92 v999) a + S1x64.size a ≤ S2048x64.size a)
theorem k0_off92_inb : ∀ (v999 : BitVec 32) (k0_hw92 : k0_chk92 v999), ∀ a, (k0_off92 v999) a + S1x64.size a ≤ S2048x64.size a := fun v999 k0_hw92 => k0_hw92

def k0_off93 (v1010 : BitVec 32) : Fin 2 → Nat :=
  let c0_i32_835 : BitVec 32 := 0#32
  let v1012 : BitVec 32 := Scalar.maxsi v1010 c0_i32_835
  let v1013 : Index := Scalar.indexCast v1012
  let c0_836 : Index := 0#32
  ![v1013.toNat, 0]

def k0_chk93 (v1010 : BitVec 32) : Prop :=
  (∀ a, (k0_off93 v1010) a + S1x64.size a ≤ S2048x64.size a)
theorem k0_off93_inb : ∀ (v1010 : BitVec 32) (k0_hw93 : k0_chk93 v1010), ∀ a, (k0_off93 v1010) a + S1x64.size a ≤ S2048x64.size a := fun v1010 k0_hw93 => k0_hw93

def k0_off94 (v1021 : BitVec 32) : Fin 2 → Nat :=
  let c0_i32_844 : BitVec 32 := 0#32
  let v1023 : BitVec 32 := Scalar.maxsi v1021 c0_i32_844
  let v1024 : Index := Scalar.indexCast v1023
  let c0_845 : Index := 0#32
  ![v1024.toNat, 0]

def k0_chk94 (v1021 : BitVec 32) : Prop :=
  (∀ a, (k0_off94 v1021) a + S1x64.size a ≤ S2048x64.size a)
theorem k0_off94_inb : ∀ (v1021 : BitVec 32) (k0_hw94 : k0_chk94 v1021), ∀ a, (k0_off94 v1021) a + S1x64.size a ≤ S2048x64.size a := fun v1021 k0_hw94 => k0_hw94

def k0_off95 (v1032 : BitVec 32) : Fin 2 → Nat :=
  let c0_i32_853 : BitVec 32 := 0#32
  let v1034 : BitVec 32 := Scalar.maxsi v1032 c0_i32_853
  let v1035 : Index := Scalar.indexCast v1034
  let c0_854 : Index := 0#32
  ![v1035.toNat, 0]

def k0_chk95 (v1032 : BitVec 32) : Prop :=
  (∀ a, (k0_off95 v1032) a + S1x64.size a ≤ S2048x64.size a)
theorem k0_off95_inb : ∀ (v1032 : BitVec 32) (k0_hw95 : k0_chk95 v1032), ∀ a, (k0_off95 v1032) a + S1x64.size a ≤ S2048x64.size a := fun v1032 k0_hw95 => k0_hw95

def k0_off96 (v1043 : BitVec 32) : Fin 2 → Nat :=
  let c0_i32_862 : BitVec 32 := 0#32
  let v1045 : BitVec 32 := Scalar.maxsi v1043 c0_i32_862
  let v1046 : Index := Scalar.indexCast v1045
  let c0_863 : Index := 0#32
  ![v1046.toNat, 0]

def k0_chk96 (v1043 : BitVec 32) : Prop :=
  (∀ a, (k0_off96 v1043) a + S1x64.size a ≤ S2048x64.size a)
theorem k0_off96_inb : ∀ (v1043 : BitVec 32) (k0_hw96 : k0_chk96 v1043), ∀ a, (k0_off96 v1043) a + S1x64.size a ≤ S2048x64.size a := fun v1043 k0_hw96 => k0_hw96

def k0_off97 (v1054 : BitVec 32) : Fin 2 → Nat :=
  let c0_i32_871 : BitVec 32 := 0#32
  let v1056 : BitVec 32 := Scalar.maxsi v1054 c0_i32_871
  let v1057 : Index := Scalar.indexCast v1056
  let c0_872 : Index := 0#32
  ![v1057.toNat, 0]

def k0_chk97 (v1054 : BitVec 32) : Prop :=
  (∀ a, (k0_off97 v1054) a + S1x64.size a ≤ S2048x64.size a)
theorem k0_off97_inb : ∀ (v1054 : BitVec 32) (k0_hw97 : k0_chk97 v1054), ∀ a, (k0_off97 v1054) a + S1x64.size a ≤ S2048x64.size a := fun v1054 k0_hw97 => k0_hw97

def k0_off98 (v1065 : BitVec 32) : Fin 2 → Nat :=
  let c0_i32_880 : BitVec 32 := 0#32
  let v1067 : BitVec 32 := Scalar.maxsi v1065 c0_i32_880
  let v1068 : Index := Scalar.indexCast v1067
  let c0_881 : Index := 0#32
  ![v1068.toNat, 0]

def k0_chk98 (v1065 : BitVec 32) : Prop :=
  (∀ a, (k0_off98 v1065) a + S1x64.size a ≤ S2048x64.size a)
theorem k0_off98_inb : ∀ (v1065 : BitVec 32) (k0_hw98 : k0_chk98 v1065), ∀ a, (k0_off98 v1065) a + S1x64.size a ≤ S2048x64.size a := fun v1065 k0_hw98 => k0_hw98

def k0_off99 (v1076 : BitVec 32) : Fin 2 → Nat :=
  let c0_i32_889 : BitVec 32 := 0#32
  let v1078 : BitVec 32 := Scalar.maxsi v1076 c0_i32_889
  let v1079 : Index := Scalar.indexCast v1078
  let c0_890 : Index := 0#32
  ![v1079.toNat, 0]

def k0_chk99 (v1076 : BitVec 32) : Prop :=
  (∀ a, (k0_off99 v1076) a + S1x64.size a ≤ S2048x64.size a)
theorem k0_off99_inb : ∀ (v1076 : BitVec 32) (k0_hw99 : k0_chk99 v1076), ∀ a, (k0_off99 v1076) a + S1x64.size a ≤ S2048x64.size a := fun v1076 k0_hw99 => k0_hw99

def k0_off100 (v1087 : BitVec 32) : Fin 2 → Nat :=
  let c0_i32_898 : BitVec 32 := 0#32
  let v1089 : BitVec 32 := Scalar.maxsi v1087 c0_i32_898
  let v1090 : Index := Scalar.indexCast v1089
  let c0_899 : Index := 0#32
  ![v1090.toNat, 0]

def k0_chk100 (v1087 : BitVec 32) : Prop :=
  (∀ a, (k0_off100 v1087) a + S1x64.size a ≤ S2048x64.size a)
theorem k0_off100_inb : ∀ (v1087 : BitVec 32) (k0_hw100 : k0_chk100 v1087), ∀ a, (k0_off100 v1087) a + S1x64.size a ≤ S2048x64.size a := fun v1087 k0_hw100 => k0_hw100

def k0_off101 (v1098 : BitVec 32) : Fin 2 → Nat :=
  let c0_i32_907 : BitVec 32 := 0#32
  let v1100 : BitVec 32 := Scalar.maxsi v1098 c0_i32_907
  let v1101 : Index := Scalar.indexCast v1100
  let c0_908 : Index := 0#32
  ![v1101.toNat, 0]

def k0_chk101 (v1098 : BitVec 32) : Prop :=
  (∀ a, (k0_off101 v1098) a + S1x64.size a ≤ S2048x64.size a)
theorem k0_off101_inb : ∀ (v1098 : BitVec 32) (k0_hw101 : k0_chk101 v1098), ∀ a, (k0_off101 v1098) a + S1x64.size a ≤ S2048x64.size a := fun v1098 k0_hw101 => k0_hw101

def k0_off102 (v1109 : BitVec 32) : Fin 2 → Nat :=
  let c0_i32_916 : BitVec 32 := 0#32
  let v1111 : BitVec 32 := Scalar.maxsi v1109 c0_i32_916
  let v1112 : Index := Scalar.indexCast v1111
  let c0_917 : Index := 0#32
  ![v1112.toNat, 0]

def k0_chk102 (v1109 : BitVec 32) : Prop :=
  (∀ a, (k0_off102 v1109) a + S1x64.size a ≤ S2048x64.size a)
theorem k0_off102_inb : ∀ (v1109 : BitVec 32) (k0_hw102 : k0_chk102 v1109), ∀ a, (k0_off102 v1109) a + S1x64.size a ≤ S2048x64.size a := fun v1109 k0_hw102 => k0_hw102

def k0_off103 (v1120 : BitVec 32) : Fin 2 → Nat :=
  let c0_i32_925 : BitVec 32 := 0#32
  let v1122 : BitVec 32 := Scalar.maxsi v1120 c0_i32_925
  let v1123 : Index := Scalar.indexCast v1122
  let c0_926 : Index := 0#32
  ![v1123.toNat, 0]

def k0_chk103 (v1120 : BitVec 32) : Prop :=
  (∀ a, (k0_off103 v1120) a + S1x64.size a ≤ S2048x64.size a)
theorem k0_off103_inb : ∀ (v1120 : BitVec 32) (k0_hw103 : k0_chk103 v1120), ∀ a, (k0_off103 v1120) a + S1x64.size a ≤ S2048x64.size a := fun v1120 k0_hw103 => k0_hw103

def k0_off104 (v1131 : BitVec 32) : Fin 2 → Nat :=
  let c0_i32_934 : BitVec 32 := 0#32
  let v1133 : BitVec 32 := Scalar.maxsi v1131 c0_i32_934
  let v1134 : Index := Scalar.indexCast v1133
  let c0_935 : Index := 0#32
  ![v1134.toNat, 0]

def k0_chk104 (v1131 : BitVec 32) : Prop :=
  (∀ a, (k0_off104 v1131) a + S1x64.size a ≤ S2048x64.size a)
theorem k0_off104_inb : ∀ (v1131 : BitVec 32) (k0_hw104 : k0_chk104 v1131), ∀ a, (k0_off104 v1131) a + S1x64.size a ≤ S2048x64.size a := fun v1131 k0_hw104 => k0_hw104

def k0_off105 (v1142 : BitVec 32) : Fin 2 → Nat :=
  let c0_i32_943 : BitVec 32 := 0#32
  let v1144 : BitVec 32 := Scalar.maxsi v1142 c0_i32_943
  let v1145 : Index := Scalar.indexCast v1144
  let c0_944 : Index := 0#32
  ![v1145.toNat, 0]

def k0_chk105 (v1142 : BitVec 32) : Prop :=
  (∀ a, (k0_off105 v1142) a + S1x64.size a ≤ S2048x64.size a)
theorem k0_off105_inb : ∀ (v1142 : BitVec 32) (k0_hw105 : k0_chk105 v1142), ∀ a, (k0_off105 v1142) a + S1x64.size a ≤ S2048x64.size a := fun v1142 k0_hw105 => k0_hw105

def k0_off106 (v1153 : BitVec 32) : Fin 2 → Nat :=
  let c0_i32_952 : BitVec 32 := 0#32
  let v1155 : BitVec 32 := Scalar.maxsi v1153 c0_i32_952
  let v1156 : Index := Scalar.indexCast v1155
  let c0_953 : Index := 0#32
  ![v1156.toNat, 0]

def k0_chk106 (v1153 : BitVec 32) : Prop :=
  (∀ a, (k0_off106 v1153) a + S1x64.size a ≤ S2048x64.size a)
theorem k0_off106_inb : ∀ (v1153 : BitVec 32) (k0_hw106 : k0_chk106 v1153), ∀ a, (k0_off106 v1153) a + S1x64.size a ≤ S2048x64.size a := fun v1153 k0_hw106 => k0_hw106

def k0_off107 (v1164 : BitVec 32) : Fin 2 → Nat :=
  let c0_i32_961 : BitVec 32 := 0#32
  let v1166 : BitVec 32 := Scalar.maxsi v1164 c0_i32_961
  let v1167 : Index := Scalar.indexCast v1166
  let c0_962 : Index := 0#32
  ![v1167.toNat, 0]

def k0_chk107 (v1164 : BitVec 32) : Prop :=
  (∀ a, (k0_off107 v1164) a + S1x64.size a ≤ S2048x64.size a)
theorem k0_off107_inb : ∀ (v1164 : BitVec 32) (k0_hw107 : k0_chk107 v1164), ∀ a, (k0_off107 v1164) a + S1x64.size a ≤ S2048x64.size a := fun v1164 k0_hw107 => k0_hw107

def k0_off108 (v1175 : BitVec 32) : Fin 2 → Nat :=
  let c0_i32_970 : BitVec 32 := 0#32
  let v1177 : BitVec 32 := Scalar.maxsi v1175 c0_i32_970
  let v1178 : Index := Scalar.indexCast v1177
  let c0_971 : Index := 0#32
  ![v1178.toNat, 0]

def k0_chk108 (v1175 : BitVec 32) : Prop :=
  (∀ a, (k0_off108 v1175) a + S1x64.size a ≤ S2048x64.size a)
theorem k0_off108_inb : ∀ (v1175 : BitVec 32) (k0_hw108 : k0_chk108 v1175), ∀ a, (k0_off108 v1175) a + S1x64.size a ≤ S2048x64.size a := fun v1175 k0_hw108 => k0_hw108

def k0_off109 (v1186 : BitVec 32) : Fin 2 → Nat :=
  let c0_i32_979 : BitVec 32 := 0#32
  let v1188 : BitVec 32 := Scalar.maxsi v1186 c0_i32_979
  let v1189 : Index := Scalar.indexCast v1188
  let c0_980 : Index := 0#32
  ![v1189.toNat, 0]

def k0_chk109 (v1186 : BitVec 32) : Prop :=
  (∀ a, (k0_off109 v1186) a + S1x64.size a ≤ S2048x64.size a)
theorem k0_off109_inb : ∀ (v1186 : BitVec 32) (k0_hw109 : k0_chk109 v1186), ∀ a, (k0_off109 v1186) a + S1x64.size a ≤ S2048x64.size a := fun v1186 k0_hw109 => k0_hw109

def k0_off110 (v1197 : BitVec 32) : Fin 2 → Nat :=
  let c0_i32_988 : BitVec 32 := 0#32
  let v1199 : BitVec 32 := Scalar.maxsi v1197 c0_i32_988
  let v1200 : Index := Scalar.indexCast v1199
  let c0_989 : Index := 0#32
  ![v1200.toNat, 0]

def k0_chk110 (v1197 : BitVec 32) : Prop :=
  (∀ a, (k0_off110 v1197) a + S1x64.size a ≤ S2048x64.size a)
theorem k0_off110_inb : ∀ (v1197 : BitVec 32) (k0_hw110 : k0_chk110 v1197), ∀ a, (k0_off110 v1197) a + S1x64.size a ≤ S2048x64.size a := fun v1197 k0_hw110 => k0_hw110

def k0_off111 (v1208 : BitVec 32) : Fin 2 → Nat :=
  let c0_i32_997 : BitVec 32 := 0#32
  let v1210 : BitVec 32 := Scalar.maxsi v1208 c0_i32_997
  let v1211 : Index := Scalar.indexCast v1210
  let c0_998 : Index := 0#32
  ![v1211.toNat, 0]

def k0_chk111 (v1208 : BitVec 32) : Prop :=
  (∀ a, (k0_off111 v1208) a + S1x64.size a ≤ S2048x64.size a)
theorem k0_off111_inb : ∀ (v1208 : BitVec 32) (k0_hw111 : k0_chk111 v1208), ∀ a, (k0_off111 v1208) a + S1x64.size a ≤ S2048x64.size a := fun v1208 k0_hw111 => k0_hw111

def k0_off112 (v1219 : BitVec 32) : Fin 2 → Nat :=
  let c0_i32_1006 : BitVec 32 := 0#32
  let v1221 : BitVec 32 := Scalar.maxsi v1219 c0_i32_1006
  let v1222 : Index := Scalar.indexCast v1221
  let c0_1007 : Index := 0#32
  ![v1222.toNat, 0]

def k0_chk112 (v1219 : BitVec 32) : Prop :=
  (∀ a, (k0_off112 v1219) a + S1x64.size a ≤ S2048x64.size a)
theorem k0_off112_inb : ∀ (v1219 : BitVec 32) (k0_hw112 : k0_chk112 v1219), ∀ a, (k0_off112 v1219) a + S1x64.size a ≤ S2048x64.size a := fun v1219 k0_hw112 => k0_hw112

def k0_off113 (v1230 : BitVec 32) : Fin 2 → Nat :=
  let c0_i32_1015 : BitVec 32 := 0#32
  let v1232 : BitVec 32 := Scalar.maxsi v1230 c0_i32_1015
  let v1233 : Index := Scalar.indexCast v1232
  let c0_1016 : Index := 0#32
  ![v1233.toNat, 0]

def k0_chk113 (v1230 : BitVec 32) : Prop :=
  (∀ a, (k0_off113 v1230) a + S1x64.size a ≤ S2048x64.size a)
theorem k0_off113_inb : ∀ (v1230 : BitVec 32) (k0_hw113 : k0_chk113 v1230), ∀ a, (k0_off113 v1230) a + S1x64.size a ≤ S2048x64.size a := fun v1230 k0_hw113 => k0_hw113

def k0_off114 (v1241 : BitVec 32) : Fin 2 → Nat :=
  let c0_i32_1024 : BitVec 32 := 0#32
  let v1243 : BitVec 32 := Scalar.maxsi v1241 c0_i32_1024
  let v1244 : Index := Scalar.indexCast v1243
  let c0_1025 : Index := 0#32
  ![v1244.toNat, 0]

def k0_chk114 (v1241 : BitVec 32) : Prop :=
  (∀ a, (k0_off114 v1241) a + S1x64.size a ≤ S2048x64.size a)
theorem k0_off114_inb : ∀ (v1241 : BitVec 32) (k0_hw114 : k0_chk114 v1241), ∀ a, (k0_off114 v1241) a + S1x64.size a ≤ S2048x64.size a := fun v1241 k0_hw114 => k0_hw114

def k0_off115 (v1252 : BitVec 32) : Fin 2 → Nat :=
  let c0_i32_1033 : BitVec 32 := 0#32
  let v1254 : BitVec 32 := Scalar.maxsi v1252 c0_i32_1033
  let v1255 : Index := Scalar.indexCast v1254
  let c0_1034 : Index := 0#32
  ![v1255.toNat, 0]

def k0_chk115 (v1252 : BitVec 32) : Prop :=
  (∀ a, (k0_off115 v1252) a + S1x64.size a ≤ S2048x64.size a)
theorem k0_off115_inb : ∀ (v1252 : BitVec 32) (k0_hw115 : k0_chk115 v1252), ∀ a, (k0_off115 v1252) a + S1x64.size a ≤ S2048x64.size a := fun v1252 k0_hw115 => k0_hw115

def k0_off116 (v1263 : BitVec 32) : Fin 2 → Nat :=
  let c0_i32_1042 : BitVec 32 := 0#32
  let v1265 : BitVec 32 := Scalar.maxsi v1263 c0_i32_1042
  let v1266 : Index := Scalar.indexCast v1265
  let c0_1043 : Index := 0#32
  ![v1266.toNat, 0]

def k0_chk116 (v1263 : BitVec 32) : Prop :=
  (∀ a, (k0_off116 v1263) a + S1x64.size a ≤ S2048x64.size a)
theorem k0_off116_inb : ∀ (v1263 : BitVec 32) (k0_hw116 : k0_chk116 v1263), ∀ a, (k0_off116 v1263) a + S1x64.size a ≤ S2048x64.size a := fun v1263 k0_hw116 => k0_hw116

def k0_off117 (v1274 : BitVec 32) : Fin 2 → Nat :=
  let c0_i32_1051 : BitVec 32 := 0#32
  let v1276 : BitVec 32 := Scalar.maxsi v1274 c0_i32_1051
  let v1277 : Index := Scalar.indexCast v1276
  let c0_1052 : Index := 0#32
  ![v1277.toNat, 0]

def k0_chk117 (v1274 : BitVec 32) : Prop :=
  (∀ a, (k0_off117 v1274) a + S1x64.size a ≤ S2048x64.size a)
theorem k0_off117_inb : ∀ (v1274 : BitVec 32) (k0_hw117 : k0_chk117 v1274), ∀ a, (k0_off117 v1274) a + S1x64.size a ≤ S2048x64.size a := fun v1274 k0_hw117 => k0_hw117

def k0_off118 (v1285 : BitVec 32) : Fin 2 → Nat :=
  let c0_i32_1060 : BitVec 32 := 0#32
  let v1287 : BitVec 32 := Scalar.maxsi v1285 c0_i32_1060
  let v1288 : Index := Scalar.indexCast v1287
  let c0_1061 : Index := 0#32
  ![v1288.toNat, 0]

def k0_chk118 (v1285 : BitVec 32) : Prop :=
  (∀ a, (k0_off118 v1285) a + S1x64.size a ≤ S2048x64.size a)
theorem k0_off118_inb : ∀ (v1285 : BitVec 32) (k0_hw118 : k0_chk118 v1285), ∀ a, (k0_off118 v1285) a + S1x64.size a ≤ S2048x64.size a := fun v1285 k0_hw118 => k0_hw118

def k0_off119 (v1296 : BitVec 32) : Fin 2 → Nat :=
  let c0_i32_1069 : BitVec 32 := 0#32
  let v1298 : BitVec 32 := Scalar.maxsi v1296 c0_i32_1069
  let v1299 : Index := Scalar.indexCast v1298
  let c0_1070 : Index := 0#32
  ![v1299.toNat, 0]

def k0_chk119 (v1296 : BitVec 32) : Prop :=
  (∀ a, (k0_off119 v1296) a + S1x64.size a ≤ S2048x64.size a)
theorem k0_off119_inb : ∀ (v1296 : BitVec 32) (k0_hw119 : k0_chk119 v1296), ∀ a, (k0_off119 v1296) a + S1x64.size a ≤ S2048x64.size a := fun v1296 k0_hw119 => k0_hw119

def k0_off120 (v1307 : BitVec 32) : Fin 2 → Nat :=
  let c0_i32_1078 : BitVec 32 := 0#32
  let v1309 : BitVec 32 := Scalar.maxsi v1307 c0_i32_1078
  let v1310 : Index := Scalar.indexCast v1309
  let c0_1079 : Index := 0#32
  ![v1310.toNat, 0]

def k0_chk120 (v1307 : BitVec 32) : Prop :=
  (∀ a, (k0_off120 v1307) a + S1x64.size a ≤ S2048x64.size a)
theorem k0_off120_inb : ∀ (v1307 : BitVec 32) (k0_hw120 : k0_chk120 v1307), ∀ a, (k0_off120 v1307) a + S1x64.size a ≤ S2048x64.size a := fun v1307 k0_hw120 => k0_hw120

def k0_off121 (v1318 : BitVec 32) : Fin 2 → Nat :=
  let c0_i32_1087 : BitVec 32 := 0#32
  let v1320 : BitVec 32 := Scalar.maxsi v1318 c0_i32_1087
  let v1321 : Index := Scalar.indexCast v1320
  let c0_1088 : Index := 0#32
  ![v1321.toNat, 0]

def k0_chk121 (v1318 : BitVec 32) : Prop :=
  (∀ a, (k0_off121 v1318) a + S1x64.size a ≤ S2048x64.size a)
theorem k0_off121_inb : ∀ (v1318 : BitVec 32) (k0_hw121 : k0_chk121 v1318), ∀ a, (k0_off121 v1318) a + S1x64.size a ≤ S2048x64.size a := fun v1318 k0_hw121 => k0_hw121

def k0_off122 (v1329 : BitVec 32) : Fin 2 → Nat :=
  let c0_i32_1096 : BitVec 32 := 0#32
  let v1331 : BitVec 32 := Scalar.maxsi v1329 c0_i32_1096
  let v1332 : Index := Scalar.indexCast v1331
  let c0_1097 : Index := 0#32
  ![v1332.toNat, 0]

def k0_chk122 (v1329 : BitVec 32) : Prop :=
  (∀ a, (k0_off122 v1329) a + S1x64.size a ≤ S2048x64.size a)
theorem k0_off122_inb : ∀ (v1329 : BitVec 32) (k0_hw122 : k0_chk122 v1329), ∀ a, (k0_off122 v1329) a + S1x64.size a ≤ S2048x64.size a := fun v1329 k0_hw122 => k0_hw122

def k0_off123 (v1340 : BitVec 32) : Fin 2 → Nat :=
  let c0_i32_1105 : BitVec 32 := 0#32
  let v1342 : BitVec 32 := Scalar.maxsi v1340 c0_i32_1105
  let v1343 : Index := Scalar.indexCast v1342
  let c0_1106 : Index := 0#32
  ![v1343.toNat, 0]

def k0_chk123 (v1340 : BitVec 32) : Prop :=
  (∀ a, (k0_off123 v1340) a + S1x64.size a ≤ S2048x64.size a)
theorem k0_off123_inb : ∀ (v1340 : BitVec 32) (k0_hw123 : k0_chk123 v1340), ∀ a, (k0_off123 v1340) a + S1x64.size a ≤ S2048x64.size a := fun v1340 k0_hw123 => k0_hw123

def k0_off124 (v1351 : BitVec 32) : Fin 2 → Nat :=
  let c0_i32_1114 : BitVec 32 := 0#32
  let v1353 : BitVec 32 := Scalar.maxsi v1351 c0_i32_1114
  let v1354 : Index := Scalar.indexCast v1353
  let c0_1115 : Index := 0#32
  ![v1354.toNat, 0]

def k0_chk124 (v1351 : BitVec 32) : Prop :=
  (∀ a, (k0_off124 v1351) a + S1x64.size a ≤ S2048x64.size a)
theorem k0_off124_inb : ∀ (v1351 : BitVec 32) (k0_hw124 : k0_chk124 v1351), ∀ a, (k0_off124 v1351) a + S1x64.size a ≤ S2048x64.size a := fun v1351 k0_hw124 => k0_hw124

def k0_off125 (v1362 : BitVec 32) : Fin 2 → Nat :=
  let c0_i32_1123 : BitVec 32 := 0#32
  let v1364 : BitVec 32 := Scalar.maxsi v1362 c0_i32_1123
  let v1365 : Index := Scalar.indexCast v1364
  let c0_1124 : Index := 0#32
  ![v1365.toNat, 0]

def k0_chk125 (v1362 : BitVec 32) : Prop :=
  (∀ a, (k0_off125 v1362) a + S1x64.size a ≤ S2048x64.size a)
theorem k0_off125_inb : ∀ (v1362 : BitVec 32) (k0_hw125 : k0_chk125 v1362), ∀ a, (k0_off125 v1362) a + S1x64.size a ≤ S2048x64.size a := fun v1362 k0_hw125 => k0_hw125

def k0_off126 (v1373 : BitVec 32) : Fin 2 → Nat :=
  let c0_i32_1132 : BitVec 32 := 0#32
  let v1375 : BitVec 32 := Scalar.maxsi v1373 c0_i32_1132
  let v1376 : Index := Scalar.indexCast v1375
  let c0_1133 : Index := 0#32
  ![v1376.toNat, 0]

def k0_chk126 (v1373 : BitVec 32) : Prop :=
  (∀ a, (k0_off126 v1373) a + S1x64.size a ≤ S2048x64.size a)
theorem k0_off126_inb : ∀ (v1373 : BitVec 32) (k0_hw126 : k0_chk126 v1373), ∀ a, (k0_off126 v1373) a + S1x64.size a ≤ S2048x64.size a := fun v1373 k0_hw126 => k0_hw126

def k0_off127 (v1384 : BitVec 32) : Fin 2 → Nat :=
  let c0_i32_1141 : BitVec 32 := 0#32
  let v1386 : BitVec 32 := Scalar.maxsi v1384 c0_i32_1141
  let v1387 : Index := Scalar.indexCast v1386
  let c0_1142 : Index := 0#32
  ![v1387.toNat, 0]

def k0_chk127 (v1384 : BitVec 32) : Prop :=
  (∀ a, (k0_off127 v1384) a + S1x64.size a ≤ S2048x64.size a)
theorem k0_off127_inb : ∀ (v1384 : BitVec 32) (k0_hw127 : k0_chk127 v1384), ∀ a, (k0_off127 v1384) a + S1x64.size a ≤ S2048x64.size a := fun v1384 k0_hw127 => k0_hw127

def k0_off128 (v1395 : BitVec 32) : Fin 2 → Nat :=
  let c0_i32_1150 : BitVec 32 := 0#32
  let v1397 : BitVec 32 := Scalar.maxsi v1395 c0_i32_1150
  let v1398 : Index := Scalar.indexCast v1397
  let c0_1151 : Index := 0#32
  ![v1398.toNat, 0]

def k0_chk128 (v1395 : BitVec 32) : Prop :=
  (∀ a, (k0_off128 v1395) a + S1x64.size a ≤ S2048x64.size a)
theorem k0_off128_inb : ∀ (v1395 : BitVec 32) (k0_hw128 : k0_chk128 v1395), ∀ a, (k0_off128 v1395) a + S1x64.size a ≤ S2048x64.size a := fun v1395 k0_hw128 => k0_hw128

def k0_off129 (v1413 : BitVec 32) : Fin 2 → Nat :=
  let c0_i32_1159 : BitVec 32 := 0#32
  let v1415 : BitVec 32 := Scalar.maxsi v1413 c0_i32_1159
  let v1416 : Index := Scalar.indexCast v1415
  let c0_1160 : Index := 0#32
  ![v1416.toNat, 0]

def k0_chk129 (v1413 : BitVec 32) : Prop :=
  (∀ a, (k0_off129 v1413) a + S1x64.size a ≤ S2048x64.size a)
theorem k0_off129_inb : ∀ (v1413 : BitVec 32) (k0_hw129 : k0_chk129 v1413), ∀ a, (k0_off129 v1413) a + S1x64.size a ≤ S2048x64.size a := fun v1413 k0_hw129 => k0_hw129

def k0_off130 (v1423 : BitVec 32) : Fin 2 → Nat :=
  let c0_i32_1168 : BitVec 32 := 0#32
  let v1425 : BitVec 32 := Scalar.maxsi v1423 c0_i32_1168
  let v1426 : Index := Scalar.indexCast v1425
  let c0_1169 : Index := 0#32
  ![v1426.toNat, 0]

def k0_chk130 (v1423 : BitVec 32) : Prop :=
  (∀ a, (k0_off130 v1423) a + S1x64.size a ≤ S2048x64.size a)
theorem k0_off130_inb : ∀ (v1423 : BitVec 32) (k0_hw130 : k0_chk130 v1423), ∀ a, (k0_off130 v1423) a + S1x64.size a ≤ S2048x64.size a := fun v1423 k0_hw130 => k0_hw130

def k0_off131 (v1433 : BitVec 32) : Fin 2 → Nat :=
  let c0_i32_1177 : BitVec 32 := 0#32
  let v1435 : BitVec 32 := Scalar.maxsi v1433 c0_i32_1177
  let v1436 : Index := Scalar.indexCast v1435
  let c0_1178 : Index := 0#32
  ![v1436.toNat, 0]

def k0_chk131 (v1433 : BitVec 32) : Prop :=
  (∀ a, (k0_off131 v1433) a + S1x64.size a ≤ S2048x64.size a)
theorem k0_off131_inb : ∀ (v1433 : BitVec 32) (k0_hw131 : k0_chk131 v1433), ∀ a, (k0_off131 v1433) a + S1x64.size a ≤ S2048x64.size a := fun v1433 k0_hw131 => k0_hw131

def k0_off132 (v1443 : BitVec 32) : Fin 2 → Nat :=
  let c0_i32_1186 : BitVec 32 := 0#32
  let v1445 : BitVec 32 := Scalar.maxsi v1443 c0_i32_1186
  let v1446 : Index := Scalar.indexCast v1445
  let c0_1187 : Index := 0#32
  ![v1446.toNat, 0]

def k0_chk132 (v1443 : BitVec 32) : Prop :=
  (∀ a, (k0_off132 v1443) a + S1x64.size a ≤ S2048x64.size a)
theorem k0_off132_inb : ∀ (v1443 : BitVec 32) (k0_hw132 : k0_chk132 v1443), ∀ a, (k0_off132 v1443) a + S1x64.size a ≤ S2048x64.size a := fun v1443 k0_hw132 => k0_hw132

def k0_off133 (v1453 : BitVec 32) : Fin 2 → Nat :=
  let c0_i32_1195 : BitVec 32 := 0#32
  let v1455 : BitVec 32 := Scalar.maxsi v1453 c0_i32_1195
  let v1456 : Index := Scalar.indexCast v1455
  let c0_1196 : Index := 0#32
  ![v1456.toNat, 0]

def k0_chk133 (v1453 : BitVec 32) : Prop :=
  (∀ a, (k0_off133 v1453) a + S1x64.size a ≤ S2048x64.size a)
theorem k0_off133_inb : ∀ (v1453 : BitVec 32) (k0_hw133 : k0_chk133 v1453), ∀ a, (k0_off133 v1453) a + S1x64.size a ≤ S2048x64.size a := fun v1453 k0_hw133 => k0_hw133

def k0_off134 (v1463 : BitVec 32) : Fin 2 → Nat :=
  let c0_i32_1204 : BitVec 32 := 0#32
  let v1465 : BitVec 32 := Scalar.maxsi v1463 c0_i32_1204
  let v1466 : Index := Scalar.indexCast v1465
  let c0_1205 : Index := 0#32
  ![v1466.toNat, 0]

def k0_chk134 (v1463 : BitVec 32) : Prop :=
  (∀ a, (k0_off134 v1463) a + S1x64.size a ≤ S2048x64.size a)
theorem k0_off134_inb : ∀ (v1463 : BitVec 32) (k0_hw134 : k0_chk134 v1463), ∀ a, (k0_off134 v1463) a + S1x64.size a ≤ S2048x64.size a := fun v1463 k0_hw134 => k0_hw134

def k0_off135 (v1473 : BitVec 32) : Fin 2 → Nat :=
  let c0_i32_1213 : BitVec 32 := 0#32
  let v1475 : BitVec 32 := Scalar.maxsi v1473 c0_i32_1213
  let v1476 : Index := Scalar.indexCast v1475
  let c0_1214 : Index := 0#32
  ![v1476.toNat, 0]

def k0_chk135 (v1473 : BitVec 32) : Prop :=
  (∀ a, (k0_off135 v1473) a + S1x64.size a ≤ S2048x64.size a)
theorem k0_off135_inb : ∀ (v1473 : BitVec 32) (k0_hw135 : k0_chk135 v1473), ∀ a, (k0_off135 v1473) a + S1x64.size a ≤ S2048x64.size a := fun v1473 k0_hw135 => k0_hw135

def k0_off136 (v1483 : BitVec 32) : Fin 2 → Nat :=
  let c0_i32_1222 : BitVec 32 := 0#32
  let v1485 : BitVec 32 := Scalar.maxsi v1483 c0_i32_1222
  let v1486 : Index := Scalar.indexCast v1485
  let c0_1223 : Index := 0#32
  ![v1486.toNat, 0]

def k0_chk136 (v1483 : BitVec 32) : Prop :=
  (∀ a, (k0_off136 v1483) a + S1x64.size a ≤ S2048x64.size a)
theorem k0_off136_inb : ∀ (v1483 : BitVec 32) (k0_hw136 : k0_chk136 v1483), ∀ a, (k0_off136 v1483) a + S1x64.size a ≤ S2048x64.size a := fun v1483 k0_hw136 => k0_hw136

def k0_off137 (v1493 : BitVec 32) : Fin 2 → Nat :=
  let c0_i32_1231 : BitVec 32 := 0#32
  let v1495 : BitVec 32 := Scalar.maxsi v1493 c0_i32_1231
  let v1496 : Index := Scalar.indexCast v1495
  let c0_1232 : Index := 0#32
  ![v1496.toNat, 0]

def k0_chk137 (v1493 : BitVec 32) : Prop :=
  (∀ a, (k0_off137 v1493) a + S1x64.size a ≤ S2048x64.size a)
theorem k0_off137_inb : ∀ (v1493 : BitVec 32) (k0_hw137 : k0_chk137 v1493), ∀ a, (k0_off137 v1493) a + S1x64.size a ≤ S2048x64.size a := fun v1493 k0_hw137 => k0_hw137

def k0_off138 (v1504 : BitVec 32) : Fin 2 → Nat :=
  let c0_i32_1240 : BitVec 32 := 0#32
  let v1506 : BitVec 32 := Scalar.maxsi v1504 c0_i32_1240
  let v1507 : Index := Scalar.indexCast v1506
  let c0_1241 : Index := 0#32
  ![v1507.toNat, 0]

def k0_chk138 (v1504 : BitVec 32) : Prop :=
  (∀ a, (k0_off138 v1504) a + S1x64.size a ≤ S2048x64.size a)
theorem k0_off138_inb : ∀ (v1504 : BitVec 32) (k0_hw138 : k0_chk138 v1504), ∀ a, (k0_off138 v1504) a + S1x64.size a ≤ S2048x64.size a := fun v1504 k0_hw138 => k0_hw138

def k0_off139 (v1515 : BitVec 32) : Fin 2 → Nat :=
  let c0_i32_1249 : BitVec 32 := 0#32
  let v1517 : BitVec 32 := Scalar.maxsi v1515 c0_i32_1249
  let v1518 : Index := Scalar.indexCast v1517
  let c0_1250 : Index := 0#32
  ![v1518.toNat, 0]

def k0_chk139 (v1515 : BitVec 32) : Prop :=
  (∀ a, (k0_off139 v1515) a + S1x64.size a ≤ S2048x64.size a)
theorem k0_off139_inb : ∀ (v1515 : BitVec 32) (k0_hw139 : k0_chk139 v1515), ∀ a, (k0_off139 v1515) a + S1x64.size a ≤ S2048x64.size a := fun v1515 k0_hw139 => k0_hw139

def k0_off140 (v1526 : BitVec 32) : Fin 2 → Nat :=
  let c0_i32_1258 : BitVec 32 := 0#32
  let v1528 : BitVec 32 := Scalar.maxsi v1526 c0_i32_1258
  let v1529 : Index := Scalar.indexCast v1528
  let c0_1259 : Index := 0#32
  ![v1529.toNat, 0]

def k0_chk140 (v1526 : BitVec 32) : Prop :=
  (∀ a, (k0_off140 v1526) a + S1x64.size a ≤ S2048x64.size a)
theorem k0_off140_inb : ∀ (v1526 : BitVec 32) (k0_hw140 : k0_chk140 v1526), ∀ a, (k0_off140 v1526) a + S1x64.size a ≤ S2048x64.size a := fun v1526 k0_hw140 => k0_hw140

def k0_off141 (v1537 : BitVec 32) : Fin 2 → Nat :=
  let c0_i32_1267 : BitVec 32 := 0#32
  let v1539 : BitVec 32 := Scalar.maxsi v1537 c0_i32_1267
  let v1540 : Index := Scalar.indexCast v1539
  let c0_1268 : Index := 0#32
  ![v1540.toNat, 0]

def k0_chk141 (v1537 : BitVec 32) : Prop :=
  (∀ a, (k0_off141 v1537) a + S1x64.size a ≤ S2048x64.size a)
theorem k0_off141_inb : ∀ (v1537 : BitVec 32) (k0_hw141 : k0_chk141 v1537), ∀ a, (k0_off141 v1537) a + S1x64.size a ≤ S2048x64.size a := fun v1537 k0_hw141 => k0_hw141

def k0_off142 (v1548 : BitVec 32) : Fin 2 → Nat :=
  let c0_i32_1276 : BitVec 32 := 0#32
  let v1550 : BitVec 32 := Scalar.maxsi v1548 c0_i32_1276
  let v1551 : Index := Scalar.indexCast v1550
  let c0_1277 : Index := 0#32
  ![v1551.toNat, 0]

def k0_chk142 (v1548 : BitVec 32) : Prop :=
  (∀ a, (k0_off142 v1548) a + S1x64.size a ≤ S2048x64.size a)
theorem k0_off142_inb : ∀ (v1548 : BitVec 32) (k0_hw142 : k0_chk142 v1548), ∀ a, (k0_off142 v1548) a + S1x64.size a ≤ S2048x64.size a := fun v1548 k0_hw142 => k0_hw142

def k0_off143 (v1559 : BitVec 32) : Fin 2 → Nat :=
  let c0_i32_1285 : BitVec 32 := 0#32
  let v1561 : BitVec 32 := Scalar.maxsi v1559 c0_i32_1285
  let v1562 : Index := Scalar.indexCast v1561
  let c0_1286 : Index := 0#32
  ![v1562.toNat, 0]

def k0_chk143 (v1559 : BitVec 32) : Prop :=
  (∀ a, (k0_off143 v1559) a + S1x64.size a ≤ S2048x64.size a)
theorem k0_off143_inb : ∀ (v1559 : BitVec 32) (k0_hw143 : k0_chk143 v1559), ∀ a, (k0_off143 v1559) a + S1x64.size a ≤ S2048x64.size a := fun v1559 k0_hw143 => k0_hw143

def k0_off144 (v1570 : BitVec 32) : Fin 2 → Nat :=
  let c0_i32_1294 : BitVec 32 := 0#32
  let v1572 : BitVec 32 := Scalar.maxsi v1570 c0_i32_1294
  let v1573 : Index := Scalar.indexCast v1572
  let c0_1295 : Index := 0#32
  ![v1573.toNat, 0]

def k0_chk144 (v1570 : BitVec 32) : Prop :=
  (∀ a, (k0_off144 v1570) a + S1x64.size a ≤ S2048x64.size a)
theorem k0_off144_inb : ∀ (v1570 : BitVec 32) (k0_hw144 : k0_chk144 v1570), ∀ a, (k0_off144 v1570) a + S1x64.size a ≤ S2048x64.size a := fun v1570 k0_hw144 => k0_hw144

def k0_off145 (v1581 : BitVec 32) : Fin 2 → Nat :=
  let c0_i32_1303 : BitVec 32 := 0#32
  let v1583 : BitVec 32 := Scalar.maxsi v1581 c0_i32_1303
  let v1584 : Index := Scalar.indexCast v1583
  let c0_1304 : Index := 0#32
  ![v1584.toNat, 0]

def k0_chk145 (v1581 : BitVec 32) : Prop :=
  (∀ a, (k0_off145 v1581) a + S1x64.size a ≤ S2048x64.size a)
theorem k0_off145_inb : ∀ (v1581 : BitVec 32) (k0_hw145 : k0_chk145 v1581), ∀ a, (k0_off145 v1581) a + S1x64.size a ≤ S2048x64.size a := fun v1581 k0_hw145 => k0_hw145

def k0_off146 (v1592 : BitVec 32) : Fin 2 → Nat :=
  let c0_i32_1312 : BitVec 32 := 0#32
  let v1594 : BitVec 32 := Scalar.maxsi v1592 c0_i32_1312
  let v1595 : Index := Scalar.indexCast v1594
  let c0_1313 : Index := 0#32
  ![v1595.toNat, 0]

def k0_chk146 (v1592 : BitVec 32) : Prop :=
  (∀ a, (k0_off146 v1592) a + S1x64.size a ≤ S2048x64.size a)
theorem k0_off146_inb : ∀ (v1592 : BitVec 32) (k0_hw146 : k0_chk146 v1592), ∀ a, (k0_off146 v1592) a + S1x64.size a ≤ S2048x64.size a := fun v1592 k0_hw146 => k0_hw146

def k0_off147 (v1603 : BitVec 32) : Fin 2 → Nat :=
  let c0_i32_1321 : BitVec 32 := 0#32
  let v1605 : BitVec 32 := Scalar.maxsi v1603 c0_i32_1321
  let v1606 : Index := Scalar.indexCast v1605
  let c0_1322 : Index := 0#32
  ![v1606.toNat, 0]

def k0_chk147 (v1603 : BitVec 32) : Prop :=
  (∀ a, (k0_off147 v1603) a + S1x64.size a ≤ S2048x64.size a)
theorem k0_off147_inb : ∀ (v1603 : BitVec 32) (k0_hw147 : k0_chk147 v1603), ∀ a, (k0_off147 v1603) a + S1x64.size a ≤ S2048x64.size a := fun v1603 k0_hw147 => k0_hw147

def k0_off148 (v1614 : BitVec 32) : Fin 2 → Nat :=
  let c0_i32_1330 : BitVec 32 := 0#32
  let v1616 : BitVec 32 := Scalar.maxsi v1614 c0_i32_1330
  let v1617 : Index := Scalar.indexCast v1616
  let c0_1331 : Index := 0#32
  ![v1617.toNat, 0]

def k0_chk148 (v1614 : BitVec 32) : Prop :=
  (∀ a, (k0_off148 v1614) a + S1x64.size a ≤ S2048x64.size a)
theorem k0_off148_inb : ∀ (v1614 : BitVec 32) (k0_hw148 : k0_chk148 v1614), ∀ a, (k0_off148 v1614) a + S1x64.size a ≤ S2048x64.size a := fun v1614 k0_hw148 => k0_hw148

def k0_off149 (v1625 : BitVec 32) : Fin 2 → Nat :=
  let c0_i32_1339 : BitVec 32 := 0#32
  let v1627 : BitVec 32 := Scalar.maxsi v1625 c0_i32_1339
  let v1628 : Index := Scalar.indexCast v1627
  let c0_1340 : Index := 0#32
  ![v1628.toNat, 0]

def k0_chk149 (v1625 : BitVec 32) : Prop :=
  (∀ a, (k0_off149 v1625) a + S1x64.size a ≤ S2048x64.size a)
theorem k0_off149_inb : ∀ (v1625 : BitVec 32) (k0_hw149 : k0_chk149 v1625), ∀ a, (k0_off149 v1625) a + S1x64.size a ≤ S2048x64.size a := fun v1625 k0_hw149 => k0_hw149

def k0_off150 (v1636 : BitVec 32) : Fin 2 → Nat :=
  let c0_i32_1348 : BitVec 32 := 0#32
  let v1638 : BitVec 32 := Scalar.maxsi v1636 c0_i32_1348
  let v1639 : Index := Scalar.indexCast v1638
  let c0_1349 : Index := 0#32
  ![v1639.toNat, 0]

def k0_chk150 (v1636 : BitVec 32) : Prop :=
  (∀ a, (k0_off150 v1636) a + S1x64.size a ≤ S2048x64.size a)
theorem k0_off150_inb : ∀ (v1636 : BitVec 32) (k0_hw150 : k0_chk150 v1636), ∀ a, (k0_off150 v1636) a + S1x64.size a ≤ S2048x64.size a := fun v1636 k0_hw150 => k0_hw150

def k0_off151 (v1647 : BitVec 32) : Fin 2 → Nat :=
  let c0_i32_1357 : BitVec 32 := 0#32
  let v1649 : BitVec 32 := Scalar.maxsi v1647 c0_i32_1357
  let v1650 : Index := Scalar.indexCast v1649
  let c0_1358 : Index := 0#32
  ![v1650.toNat, 0]

def k0_chk151 (v1647 : BitVec 32) : Prop :=
  (∀ a, (k0_off151 v1647) a + S1x64.size a ≤ S2048x64.size a)
theorem k0_off151_inb : ∀ (v1647 : BitVec 32) (k0_hw151 : k0_chk151 v1647), ∀ a, (k0_off151 v1647) a + S1x64.size a ≤ S2048x64.size a := fun v1647 k0_hw151 => k0_hw151

def k0_off152 (v1658 : BitVec 32) : Fin 2 → Nat :=
  let c0_i32_1366 : BitVec 32 := 0#32
  let v1660 : BitVec 32 := Scalar.maxsi v1658 c0_i32_1366
  let v1661 : Index := Scalar.indexCast v1660
  let c0_1367 : Index := 0#32
  ![v1661.toNat, 0]

def k0_chk152 (v1658 : BitVec 32) : Prop :=
  (∀ a, (k0_off152 v1658) a + S1x64.size a ≤ S2048x64.size a)
theorem k0_off152_inb : ∀ (v1658 : BitVec 32) (k0_hw152 : k0_chk152 v1658), ∀ a, (k0_off152 v1658) a + S1x64.size a ≤ S2048x64.size a := fun v1658 k0_hw152 => k0_hw152

def k0_off153 (v1669 : BitVec 32) : Fin 2 → Nat :=
  let c0_i32_1375 : BitVec 32 := 0#32
  let v1671 : BitVec 32 := Scalar.maxsi v1669 c0_i32_1375
  let v1672 : Index := Scalar.indexCast v1671
  let c0_1376 : Index := 0#32
  ![v1672.toNat, 0]

def k0_chk153 (v1669 : BitVec 32) : Prop :=
  (∀ a, (k0_off153 v1669) a + S1x64.size a ≤ S2048x64.size a)
theorem k0_off153_inb : ∀ (v1669 : BitVec 32) (k0_hw153 : k0_chk153 v1669), ∀ a, (k0_off153 v1669) a + S1x64.size a ≤ S2048x64.size a := fun v1669 k0_hw153 => k0_hw153

def k0_off154 (v1680 : BitVec 32) : Fin 2 → Nat :=
  let c0_i32_1384 : BitVec 32 := 0#32
  let v1682 : BitVec 32 := Scalar.maxsi v1680 c0_i32_1384
  let v1683 : Index := Scalar.indexCast v1682
  let c0_1385 : Index := 0#32
  ![v1683.toNat, 0]

def k0_chk154 (v1680 : BitVec 32) : Prop :=
  (∀ a, (k0_off154 v1680) a + S1x64.size a ≤ S2048x64.size a)
theorem k0_off154_inb : ∀ (v1680 : BitVec 32) (k0_hw154 : k0_chk154 v1680), ∀ a, (k0_off154 v1680) a + S1x64.size a ≤ S2048x64.size a := fun v1680 k0_hw154 => k0_hw154

def k0_off155 (v1691 : BitVec 32) : Fin 2 → Nat :=
  let c0_i32_1393 : BitVec 32 := 0#32
  let v1693 : BitVec 32 := Scalar.maxsi v1691 c0_i32_1393
  let v1694 : Index := Scalar.indexCast v1693
  let c0_1394 : Index := 0#32
  ![v1694.toNat, 0]

def k0_chk155 (v1691 : BitVec 32) : Prop :=
  (∀ a, (k0_off155 v1691) a + S1x64.size a ≤ S2048x64.size a)
theorem k0_off155_inb : ∀ (v1691 : BitVec 32) (k0_hw155 : k0_chk155 v1691), ∀ a, (k0_off155 v1691) a + S1x64.size a ≤ S2048x64.size a := fun v1691 k0_hw155 => k0_hw155

def k0_off156 (v1702 : BitVec 32) : Fin 2 → Nat :=
  let c0_i32_1402 : BitVec 32 := 0#32
  let v1704 : BitVec 32 := Scalar.maxsi v1702 c0_i32_1402
  let v1705 : Index := Scalar.indexCast v1704
  let c0_1403 : Index := 0#32
  ![v1705.toNat, 0]

def k0_chk156 (v1702 : BitVec 32) : Prop :=
  (∀ a, (k0_off156 v1702) a + S1x64.size a ≤ S2048x64.size a)
theorem k0_off156_inb : ∀ (v1702 : BitVec 32) (k0_hw156 : k0_chk156 v1702), ∀ a, (k0_off156 v1702) a + S1x64.size a ≤ S2048x64.size a := fun v1702 k0_hw156 => k0_hw156

def k0_off157 (v1713 : BitVec 32) : Fin 2 → Nat :=
  let c0_i32_1411 : BitVec 32 := 0#32
  let v1715 : BitVec 32 := Scalar.maxsi v1713 c0_i32_1411
  let v1716 : Index := Scalar.indexCast v1715
  let c0_1412 : Index := 0#32
  ![v1716.toNat, 0]

def k0_chk157 (v1713 : BitVec 32) : Prop :=
  (∀ a, (k0_off157 v1713) a + S1x64.size a ≤ S2048x64.size a)
theorem k0_off157_inb : ∀ (v1713 : BitVec 32) (k0_hw157 : k0_chk157 v1713), ∀ a, (k0_off157 v1713) a + S1x64.size a ≤ S2048x64.size a := fun v1713 k0_hw157 => k0_hw157

def k0_off158 (v1724 : BitVec 32) : Fin 2 → Nat :=
  let c0_i32_1420 : BitVec 32 := 0#32
  let v1726 : BitVec 32 := Scalar.maxsi v1724 c0_i32_1420
  let v1727 : Index := Scalar.indexCast v1726
  let c0_1421 : Index := 0#32
  ![v1727.toNat, 0]

def k0_chk158 (v1724 : BitVec 32) : Prop :=
  (∀ a, (k0_off158 v1724) a + S1x64.size a ≤ S2048x64.size a)
theorem k0_off158_inb : ∀ (v1724 : BitVec 32) (k0_hw158 : k0_chk158 v1724), ∀ a, (k0_off158 v1724) a + S1x64.size a ≤ S2048x64.size a := fun v1724 k0_hw158 => k0_hw158

def k0_off159 (v1735 : BitVec 32) : Fin 2 → Nat :=
  let c0_i32_1429 : BitVec 32 := 0#32
  let v1737 : BitVec 32 := Scalar.maxsi v1735 c0_i32_1429
  let v1738 : Index := Scalar.indexCast v1737
  let c0_1430 : Index := 0#32
  ![v1738.toNat, 0]

def k0_chk159 (v1735 : BitVec 32) : Prop :=
  (∀ a, (k0_off159 v1735) a + S1x64.size a ≤ S2048x64.size a)
theorem k0_off159_inb : ∀ (v1735 : BitVec 32) (k0_hw159 : k0_chk159 v1735), ∀ a, (k0_off159 v1735) a + S1x64.size a ≤ S2048x64.size a := fun v1735 k0_hw159 => k0_hw159

def k0_off160 (v1746 : BitVec 32) : Fin 2 → Nat :=
  let c0_i32_1438 : BitVec 32 := 0#32
  let v1748 : BitVec 32 := Scalar.maxsi v1746 c0_i32_1438
  let v1749 : Index := Scalar.indexCast v1748
  let c0_1439 : Index := 0#32
  ![v1749.toNat, 0]

def k0_chk160 (v1746 : BitVec 32) : Prop :=
  (∀ a, (k0_off160 v1746) a + S1x64.size a ≤ S2048x64.size a)
theorem k0_off160_inb : ∀ (v1746 : BitVec 32) (k0_hw160 : k0_chk160 v1746), ∀ a, (k0_off160 v1746) a + S1x64.size a ≤ S2048x64.size a := fun v1746 k0_hw160 => k0_hw160

def k0_off161 (v1757 : BitVec 32) : Fin 2 → Nat :=
  let c0_i32_1447 : BitVec 32 := 0#32
  let v1759 : BitVec 32 := Scalar.maxsi v1757 c0_i32_1447
  let v1760 : Index := Scalar.indexCast v1759
  let c0_1448 : Index := 0#32
  ![v1760.toNat, 0]

def k0_chk161 (v1757 : BitVec 32) : Prop :=
  (∀ a, (k0_off161 v1757) a + S1x64.size a ≤ S2048x64.size a)
theorem k0_off161_inb : ∀ (v1757 : BitVec 32) (k0_hw161 : k0_chk161 v1757), ∀ a, (k0_off161 v1757) a + S1x64.size a ≤ S2048x64.size a := fun v1757 k0_hw161 => k0_hw161

def k0_off162 (v1768 : BitVec 32) : Fin 2 → Nat :=
  let c0_i32_1456 : BitVec 32 := 0#32
  let v1770 : BitVec 32 := Scalar.maxsi v1768 c0_i32_1456
  let v1771 : Index := Scalar.indexCast v1770
  let c0_1457 : Index := 0#32
  ![v1771.toNat, 0]

def k0_chk162 (v1768 : BitVec 32) : Prop :=
  (∀ a, (k0_off162 v1768) a + S1x64.size a ≤ S2048x64.size a)
theorem k0_off162_inb : ∀ (v1768 : BitVec 32) (k0_hw162 : k0_chk162 v1768), ∀ a, (k0_off162 v1768) a + S1x64.size a ≤ S2048x64.size a := fun v1768 k0_hw162 => k0_hw162

def k0_off163 (v1779 : BitVec 32) : Fin 2 → Nat :=
  let c0_i32_1465 : BitVec 32 := 0#32
  let v1781 : BitVec 32 := Scalar.maxsi v1779 c0_i32_1465
  let v1782 : Index := Scalar.indexCast v1781
  let c0_1466 : Index := 0#32
  ![v1782.toNat, 0]

def k0_chk163 (v1779 : BitVec 32) : Prop :=
  (∀ a, (k0_off163 v1779) a + S1x64.size a ≤ S2048x64.size a)
theorem k0_off163_inb : ∀ (v1779 : BitVec 32) (k0_hw163 : k0_chk163 v1779), ∀ a, (k0_off163 v1779) a + S1x64.size a ≤ S2048x64.size a := fun v1779 k0_hw163 => k0_hw163

def k0_off164 (v1790 : BitVec 32) : Fin 2 → Nat :=
  let c0_i32_1474 : BitVec 32 := 0#32
  let v1792 : BitVec 32 := Scalar.maxsi v1790 c0_i32_1474
  let v1793 : Index := Scalar.indexCast v1792
  let c0_1475 : Index := 0#32
  ![v1793.toNat, 0]

def k0_chk164 (v1790 : BitVec 32) : Prop :=
  (∀ a, (k0_off164 v1790) a + S1x64.size a ≤ S2048x64.size a)
theorem k0_off164_inb : ∀ (v1790 : BitVec 32) (k0_hw164 : k0_chk164 v1790), ∀ a, (k0_off164 v1790) a + S1x64.size a ≤ S2048x64.size a := fun v1790 k0_hw164 => k0_hw164

def k0_off165 (v1801 : BitVec 32) : Fin 2 → Nat :=
  let c0_i32_1483 : BitVec 32 := 0#32
  let v1803 : BitVec 32 := Scalar.maxsi v1801 c0_i32_1483
  let v1804 : Index := Scalar.indexCast v1803
  let c0_1484 : Index := 0#32
  ![v1804.toNat, 0]

def k0_chk165 (v1801 : BitVec 32) : Prop :=
  (∀ a, (k0_off165 v1801) a + S1x64.size a ≤ S2048x64.size a)
theorem k0_off165_inb : ∀ (v1801 : BitVec 32) (k0_hw165 : k0_chk165 v1801), ∀ a, (k0_off165 v1801) a + S1x64.size a ≤ S2048x64.size a := fun v1801 k0_hw165 => k0_hw165

def k0_off166 (v1812 : BitVec 32) : Fin 2 → Nat :=
  let c0_i32_1492 : BitVec 32 := 0#32
  let v1814 : BitVec 32 := Scalar.maxsi v1812 c0_i32_1492
  let v1815 : Index := Scalar.indexCast v1814
  let c0_1493 : Index := 0#32
  ![v1815.toNat, 0]

def k0_chk166 (v1812 : BitVec 32) : Prop :=
  (∀ a, (k0_off166 v1812) a + S1x64.size a ≤ S2048x64.size a)
theorem k0_off166_inb : ∀ (v1812 : BitVec 32) (k0_hw166 : k0_chk166 v1812), ∀ a, (k0_off166 v1812) a + S1x64.size a ≤ S2048x64.size a := fun v1812 k0_hw166 => k0_hw166

def k0_off167 (v1823 : BitVec 32) : Fin 2 → Nat :=
  let c0_i32_1501 : BitVec 32 := 0#32
  let v1825 : BitVec 32 := Scalar.maxsi v1823 c0_i32_1501
  let v1826 : Index := Scalar.indexCast v1825
  let c0_1502 : Index := 0#32
  ![v1826.toNat, 0]

def k0_chk167 (v1823 : BitVec 32) : Prop :=
  (∀ a, (k0_off167 v1823) a + S1x64.size a ≤ S2048x64.size a)
theorem k0_off167_inb : ∀ (v1823 : BitVec 32) (k0_hw167 : k0_chk167 v1823), ∀ a, (k0_off167 v1823) a + S1x64.size a ≤ S2048x64.size a := fun v1823 k0_hw167 => k0_hw167

def k0_off168 (v1834 : BitVec 32) : Fin 2 → Nat :=
  let c0_i32_1510 : BitVec 32 := 0#32
  let v1836 : BitVec 32 := Scalar.maxsi v1834 c0_i32_1510
  let v1837 : Index := Scalar.indexCast v1836
  let c0_1511 : Index := 0#32
  ![v1837.toNat, 0]

def k0_chk168 (v1834 : BitVec 32) : Prop :=
  (∀ a, (k0_off168 v1834) a + S1x64.size a ≤ S2048x64.size a)
theorem k0_off168_inb : ∀ (v1834 : BitVec 32) (k0_hw168 : k0_chk168 v1834), ∀ a, (k0_off168 v1834) a + S1x64.size a ≤ S2048x64.size a := fun v1834 k0_hw168 => k0_hw168

def k0_off169 (v1845 : BitVec 32) : Fin 2 → Nat :=
  let c0_i32_1519 : BitVec 32 := 0#32
  let v1847 : BitVec 32 := Scalar.maxsi v1845 c0_i32_1519
  let v1848 : Index := Scalar.indexCast v1847
  let c0_1520 : Index := 0#32
  ![v1848.toNat, 0]

def k0_chk169 (v1845 : BitVec 32) : Prop :=
  (∀ a, (k0_off169 v1845) a + S1x64.size a ≤ S2048x64.size a)
theorem k0_off169_inb : ∀ (v1845 : BitVec 32) (k0_hw169 : k0_chk169 v1845), ∀ a, (k0_off169 v1845) a + S1x64.size a ≤ S2048x64.size a := fun v1845 k0_hw169 => k0_hw169

def k0_off170 (v1856 : BitVec 32) : Fin 2 → Nat :=
  let c0_i32_1528 : BitVec 32 := 0#32
  let v1858 : BitVec 32 := Scalar.maxsi v1856 c0_i32_1528
  let v1859 : Index := Scalar.indexCast v1858
  let c0_1529 : Index := 0#32
  ![v1859.toNat, 0]

def k0_chk170 (v1856 : BitVec 32) : Prop :=
  (∀ a, (k0_off170 v1856) a + S1x64.size a ≤ S2048x64.size a)
theorem k0_off170_inb : ∀ (v1856 : BitVec 32) (k0_hw170 : k0_chk170 v1856), ∀ a, (k0_off170 v1856) a + S1x64.size a ≤ S2048x64.size a := fun v1856 k0_hw170 => k0_hw170

def k0_off171 (v1867 : BitVec 32) : Fin 2 → Nat :=
  let c0_i32_1537 : BitVec 32 := 0#32
  let v1869 : BitVec 32 := Scalar.maxsi v1867 c0_i32_1537
  let v1870 : Index := Scalar.indexCast v1869
  let c0_1538 : Index := 0#32
  ![v1870.toNat, 0]

def k0_chk171 (v1867 : BitVec 32) : Prop :=
  (∀ a, (k0_off171 v1867) a + S1x64.size a ≤ S2048x64.size a)
theorem k0_off171_inb : ∀ (v1867 : BitVec 32) (k0_hw171 : k0_chk171 v1867), ∀ a, (k0_off171 v1867) a + S1x64.size a ≤ S2048x64.size a := fun v1867 k0_hw171 => k0_hw171

def k0_off172 (v1878 : BitVec 32) : Fin 2 → Nat :=
  let c0_i32_1546 : BitVec 32 := 0#32
  let v1880 : BitVec 32 := Scalar.maxsi v1878 c0_i32_1546
  let v1881 : Index := Scalar.indexCast v1880
  let c0_1547 : Index := 0#32
  ![v1881.toNat, 0]

def k0_chk172 (v1878 : BitVec 32) : Prop :=
  (∀ a, (k0_off172 v1878) a + S1x64.size a ≤ S2048x64.size a)
theorem k0_off172_inb : ∀ (v1878 : BitVec 32) (k0_hw172 : k0_chk172 v1878), ∀ a, (k0_off172 v1878) a + S1x64.size a ≤ S2048x64.size a := fun v1878 k0_hw172 => k0_hw172

def k0_off173 (v1889 : BitVec 32) : Fin 2 → Nat :=
  let c0_i32_1555 : BitVec 32 := 0#32
  let v1891 : BitVec 32 := Scalar.maxsi v1889 c0_i32_1555
  let v1892 : Index := Scalar.indexCast v1891
  let c0_1556 : Index := 0#32
  ![v1892.toNat, 0]

def k0_chk173 (v1889 : BitVec 32) : Prop :=
  (∀ a, (k0_off173 v1889) a + S1x64.size a ≤ S2048x64.size a)
theorem k0_off173_inb : ∀ (v1889 : BitVec 32) (k0_hw173 : k0_chk173 v1889), ∀ a, (k0_off173 v1889) a + S1x64.size a ≤ S2048x64.size a := fun v1889 k0_hw173 => k0_hw173

def k0_off174 (v1900 : BitVec 32) : Fin 2 → Nat :=
  let c0_i32_1564 : BitVec 32 := 0#32
  let v1902 : BitVec 32 := Scalar.maxsi v1900 c0_i32_1564
  let v1903 : Index := Scalar.indexCast v1902
  let c0_1565 : Index := 0#32
  ![v1903.toNat, 0]

def k0_chk174 (v1900 : BitVec 32) : Prop :=
  (∀ a, (k0_off174 v1900) a + S1x64.size a ≤ S2048x64.size a)
theorem k0_off174_inb : ∀ (v1900 : BitVec 32) (k0_hw174 : k0_chk174 v1900), ∀ a, (k0_off174 v1900) a + S1x64.size a ≤ S2048x64.size a := fun v1900 k0_hw174 => k0_hw174

def k0_off175 (v1911 : BitVec 32) : Fin 2 → Nat :=
  let c0_i32_1573 : BitVec 32 := 0#32
  let v1913 : BitVec 32 := Scalar.maxsi v1911 c0_i32_1573
  let v1914 : Index := Scalar.indexCast v1913
  let c0_1574 : Index := 0#32
  ![v1914.toNat, 0]

def k0_chk175 (v1911 : BitVec 32) : Prop :=
  (∀ a, (k0_off175 v1911) a + S1x64.size a ≤ S2048x64.size a)
theorem k0_off175_inb : ∀ (v1911 : BitVec 32) (k0_hw175 : k0_chk175 v1911), ∀ a, (k0_off175 v1911) a + S1x64.size a ≤ S2048x64.size a := fun v1911 k0_hw175 => k0_hw175

def k0_off176 (v1922 : BitVec 32) : Fin 2 → Nat :=
  let c0_i32_1582 : BitVec 32 := 0#32
  let v1924 : BitVec 32 := Scalar.maxsi v1922 c0_i32_1582
  let v1925 : Index := Scalar.indexCast v1924
  let c0_1583 : Index := 0#32
  ![v1925.toNat, 0]

def k0_chk176 (v1922 : BitVec 32) : Prop :=
  (∀ a, (k0_off176 v1922) a + S1x64.size a ≤ S2048x64.size a)
theorem k0_off176_inb : ∀ (v1922 : BitVec 32) (k0_hw176 : k0_chk176 v1922), ∀ a, (k0_off176 v1922) a + S1x64.size a ≤ S2048x64.size a := fun v1922 k0_hw176 => k0_hw176

def k0_off177 (v1933 : BitVec 32) : Fin 2 → Nat :=
  let c0_i32_1591 : BitVec 32 := 0#32
  let v1935 : BitVec 32 := Scalar.maxsi v1933 c0_i32_1591
  let v1936 : Index := Scalar.indexCast v1935
  let c0_1592 : Index := 0#32
  ![v1936.toNat, 0]

def k0_chk177 (v1933 : BitVec 32) : Prop :=
  (∀ a, (k0_off177 v1933) a + S1x64.size a ≤ S2048x64.size a)
theorem k0_off177_inb : ∀ (v1933 : BitVec 32) (k0_hw177 : k0_chk177 v1933), ∀ a, (k0_off177 v1933) a + S1x64.size a ≤ S2048x64.size a := fun v1933 k0_hw177 => k0_hw177

def k0_off178 (v1944 : BitVec 32) : Fin 2 → Nat :=
  let c0_i32_1600 : BitVec 32 := 0#32
  let v1946 : BitVec 32 := Scalar.maxsi v1944 c0_i32_1600
  let v1947 : Index := Scalar.indexCast v1946
  let c0_1601 : Index := 0#32
  ![v1947.toNat, 0]

def k0_chk178 (v1944 : BitVec 32) : Prop :=
  (∀ a, (k0_off178 v1944) a + S1x64.size a ≤ S2048x64.size a)
theorem k0_off178_inb : ∀ (v1944 : BitVec 32) (k0_hw178 : k0_chk178 v1944), ∀ a, (k0_off178 v1944) a + S1x64.size a ≤ S2048x64.size a := fun v1944 k0_hw178 => k0_hw178

def k0_off179 (v1955 : BitVec 32) : Fin 2 → Nat :=
  let c0_i32_1609 : BitVec 32 := 0#32
  let v1957 : BitVec 32 := Scalar.maxsi v1955 c0_i32_1609
  let v1958 : Index := Scalar.indexCast v1957
  let c0_1610 : Index := 0#32
  ![v1958.toNat, 0]

def k0_chk179 (v1955 : BitVec 32) : Prop :=
  (∀ a, (k0_off179 v1955) a + S1x64.size a ≤ S2048x64.size a)
theorem k0_off179_inb : ∀ (v1955 : BitVec 32) (k0_hw179 : k0_chk179 v1955), ∀ a, (k0_off179 v1955) a + S1x64.size a ≤ S2048x64.size a := fun v1955 k0_hw179 => k0_hw179

def k0_off180 (v1966 : BitVec 32) : Fin 2 → Nat :=
  let c0_i32_1618 : BitVec 32 := 0#32
  let v1968 : BitVec 32 := Scalar.maxsi v1966 c0_i32_1618
  let v1969 : Index := Scalar.indexCast v1968
  let c0_1619 : Index := 0#32
  ![v1969.toNat, 0]

def k0_chk180 (v1966 : BitVec 32) : Prop :=
  (∀ a, (k0_off180 v1966) a + S1x64.size a ≤ S2048x64.size a)
theorem k0_off180_inb : ∀ (v1966 : BitVec 32) (k0_hw180 : k0_chk180 v1966), ∀ a, (k0_off180 v1966) a + S1x64.size a ≤ S2048x64.size a := fun v1966 k0_hw180 => k0_hw180

def k0_off181 (v1977 : BitVec 32) : Fin 2 → Nat :=
  let c0_i32_1627 : BitVec 32 := 0#32
  let v1979 : BitVec 32 := Scalar.maxsi v1977 c0_i32_1627
  let v1980 : Index := Scalar.indexCast v1979
  let c0_1628 : Index := 0#32
  ![v1980.toNat, 0]

def k0_chk181 (v1977 : BitVec 32) : Prop :=
  (∀ a, (k0_off181 v1977) a + S1x64.size a ≤ S2048x64.size a)
theorem k0_off181_inb : ∀ (v1977 : BitVec 32) (k0_hw181 : k0_chk181 v1977), ∀ a, (k0_off181 v1977) a + S1x64.size a ≤ S2048x64.size a := fun v1977 k0_hw181 => k0_hw181

def k0_off182 (v1988 : BitVec 32) : Fin 2 → Nat :=
  let c0_i32_1636 : BitVec 32 := 0#32
  let v1990 : BitVec 32 := Scalar.maxsi v1988 c0_i32_1636
  let v1991 : Index := Scalar.indexCast v1990
  let c0_1637 : Index := 0#32
  ![v1991.toNat, 0]

def k0_chk182 (v1988 : BitVec 32) : Prop :=
  (∀ a, (k0_off182 v1988) a + S1x64.size a ≤ S2048x64.size a)
theorem k0_off182_inb : ∀ (v1988 : BitVec 32) (k0_hw182 : k0_chk182 v1988), ∀ a, (k0_off182 v1988) a + S1x64.size a ≤ S2048x64.size a := fun v1988 k0_hw182 => k0_hw182

def k0_off183 (v1999 : BitVec 32) : Fin 2 → Nat :=
  let c0_i32_1645 : BitVec 32 := 0#32
  let v2001 : BitVec 32 := Scalar.maxsi v1999 c0_i32_1645
  let v2002 : Index := Scalar.indexCast v2001
  let c0_1646 : Index := 0#32
  ![v2002.toNat, 0]

def k0_chk183 (v1999 : BitVec 32) : Prop :=
  (∀ a, (k0_off183 v1999) a + S1x64.size a ≤ S2048x64.size a)
theorem k0_off183_inb : ∀ (v1999 : BitVec 32) (k0_hw183 : k0_chk183 v1999), ∀ a, (k0_off183 v1999) a + S1x64.size a ≤ S2048x64.size a := fun v1999 k0_hw183 => k0_hw183

def k0_off184 (v2010 : BitVec 32) : Fin 2 → Nat :=
  let c0_i32_1654 : BitVec 32 := 0#32
  let v2012 : BitVec 32 := Scalar.maxsi v2010 c0_i32_1654
  let v2013 : Index := Scalar.indexCast v2012
  let c0_1655 : Index := 0#32
  ![v2013.toNat, 0]

def k0_chk184 (v2010 : BitVec 32) : Prop :=
  (∀ a, (k0_off184 v2010) a + S1x64.size a ≤ S2048x64.size a)
theorem k0_off184_inb : ∀ (v2010 : BitVec 32) (k0_hw184 : k0_chk184 v2010), ∀ a, (k0_off184 v2010) a + S1x64.size a ≤ S2048x64.size a := fun v2010 k0_hw184 => k0_hw184

def k0_off185 (v2021 : BitVec 32) : Fin 2 → Nat :=
  let c0_i32_1663 : BitVec 32 := 0#32
  let v2023 : BitVec 32 := Scalar.maxsi v2021 c0_i32_1663
  let v2024 : Index := Scalar.indexCast v2023
  let c0_1664 : Index := 0#32
  ![v2024.toNat, 0]

def k0_chk185 (v2021 : BitVec 32) : Prop :=
  (∀ a, (k0_off185 v2021) a + S1x64.size a ≤ S2048x64.size a)
theorem k0_off185_inb : ∀ (v2021 : BitVec 32) (k0_hw185 : k0_chk185 v2021), ∀ a, (k0_off185 v2021) a + S1x64.size a ≤ S2048x64.size a := fun v2021 k0_hw185 => k0_hw185

def k0_off186 (v2032 : BitVec 32) : Fin 2 → Nat :=
  let c0_i32_1672 : BitVec 32 := 0#32
  let v2034 : BitVec 32 := Scalar.maxsi v2032 c0_i32_1672
  let v2035 : Index := Scalar.indexCast v2034
  let c0_1673 : Index := 0#32
  ![v2035.toNat, 0]

def k0_chk186 (v2032 : BitVec 32) : Prop :=
  (∀ a, (k0_off186 v2032) a + S1x64.size a ≤ S2048x64.size a)
theorem k0_off186_inb : ∀ (v2032 : BitVec 32) (k0_hw186 : k0_chk186 v2032), ∀ a, (k0_off186 v2032) a + S1x64.size a ≤ S2048x64.size a := fun v2032 k0_hw186 => k0_hw186

def k0_off187 (v2043 : BitVec 32) : Fin 2 → Nat :=
  let c0_i32_1681 : BitVec 32 := 0#32
  let v2045 : BitVec 32 := Scalar.maxsi v2043 c0_i32_1681
  let v2046 : Index := Scalar.indexCast v2045
  let c0_1682 : Index := 0#32
  ![v2046.toNat, 0]

def k0_chk187 (v2043 : BitVec 32) : Prop :=
  (∀ a, (k0_off187 v2043) a + S1x64.size a ≤ S2048x64.size a)
theorem k0_off187_inb : ∀ (v2043 : BitVec 32) (k0_hw187 : k0_chk187 v2043), ∀ a, (k0_off187 v2043) a + S1x64.size a ≤ S2048x64.size a := fun v2043 k0_hw187 => k0_hw187

def k0_off188 (v2054 : BitVec 32) : Fin 2 → Nat :=
  let c0_i32_1690 : BitVec 32 := 0#32
  let v2056 : BitVec 32 := Scalar.maxsi v2054 c0_i32_1690
  let v2057 : Index := Scalar.indexCast v2056
  let c0_1691 : Index := 0#32
  ![v2057.toNat, 0]

def k0_chk188 (v2054 : BitVec 32) : Prop :=
  (∀ a, (k0_off188 v2054) a + S1x64.size a ≤ S2048x64.size a)
theorem k0_off188_inb : ∀ (v2054 : BitVec 32) (k0_hw188 : k0_chk188 v2054), ∀ a, (k0_off188 v2054) a + S1x64.size a ≤ S2048x64.size a := fun v2054 k0_hw188 => k0_hw188

def k0_off189 (v2065 : BitVec 32) : Fin 2 → Nat :=
  let c0_i32_1699 : BitVec 32 := 0#32
  let v2067 : BitVec 32 := Scalar.maxsi v2065 c0_i32_1699
  let v2068 : Index := Scalar.indexCast v2067
  let c0_1700 : Index := 0#32
  ![v2068.toNat, 0]

def k0_chk189 (v2065 : BitVec 32) : Prop :=
  (∀ a, (k0_off189 v2065) a + S1x64.size a ≤ S2048x64.size a)
theorem k0_off189_inb : ∀ (v2065 : BitVec 32) (k0_hw189 : k0_chk189 v2065), ∀ a, (k0_off189 v2065) a + S1x64.size a ≤ S2048x64.size a := fun v2065 k0_hw189 => k0_hw189

def k0_off190 (v2076 : BitVec 32) : Fin 2 → Nat :=
  let c0_i32_1708 : BitVec 32 := 0#32
  let v2078 : BitVec 32 := Scalar.maxsi v2076 c0_i32_1708
  let v2079 : Index := Scalar.indexCast v2078
  let c0_1709 : Index := 0#32
  ![v2079.toNat, 0]

def k0_chk190 (v2076 : BitVec 32) : Prop :=
  (∀ a, (k0_off190 v2076) a + S1x64.size a ≤ S2048x64.size a)
theorem k0_off190_inb : ∀ (v2076 : BitVec 32) (k0_hw190 : k0_chk190 v2076), ∀ a, (k0_off190 v2076) a + S1x64.size a ≤ S2048x64.size a := fun v2076 k0_hw190 => k0_hw190

def k0_off191 (v2087 : BitVec 32) : Fin 2 → Nat :=
  let c0_i32_1717 : BitVec 32 := 0#32
  let v2089 : BitVec 32 := Scalar.maxsi v2087 c0_i32_1717
  let v2090 : Index := Scalar.indexCast v2089
  let c0_1718 : Index := 0#32
  ![v2090.toNat, 0]

def k0_chk191 (v2087 : BitVec 32) : Prop :=
  (∀ a, (k0_off191 v2087) a + S1x64.size a ≤ S2048x64.size a)
theorem k0_off191_inb : ∀ (v2087 : BitVec 32) (k0_hw191 : k0_chk191 v2087), ∀ a, (k0_off191 v2087) a + S1x64.size a ≤ S2048x64.size a := fun v2087 k0_hw191 => k0_hw191

def k0_off192 (v2098 : BitVec 32) : Fin 2 → Nat :=
  let c0_i32_1726 : BitVec 32 := 0#32
  let v2100 : BitVec 32 := Scalar.maxsi v2098 c0_i32_1726
  let v2101 : Index := Scalar.indexCast v2100
  let c0_1727 : Index := 0#32
  ![v2101.toNat, 0]

def k0_chk192 (v2098 : BitVec 32) : Prop :=
  (∀ a, (k0_off192 v2098) a + S1x64.size a ≤ S2048x64.size a)
theorem k0_off192_inb : ∀ (v2098 : BitVec 32) (k0_hw192 : k0_chk192 v2098), ∀ a, (k0_off192 v2098) a + S1x64.size a ≤ S2048x64.size a := fun v2098 k0_hw192 => k0_hw192

def k0_off193 (v2109 : BitVec 32) : Fin 2 → Nat :=
  let c0_i32_1735 : BitVec 32 := 0#32
  let v2111 : BitVec 32 := Scalar.maxsi v2109 c0_i32_1735
  let v2112 : Index := Scalar.indexCast v2111
  let c0_1736 : Index := 0#32
  ![v2112.toNat, 0]

def k0_chk193 (v2109 : BitVec 32) : Prop :=
  (∀ a, (k0_off193 v2109) a + S1x64.size a ≤ S2048x64.size a)
theorem k0_off193_inb : ∀ (v2109 : BitVec 32) (k0_hw193 : k0_chk193 v2109), ∀ a, (k0_off193 v2109) a + S1x64.size a ≤ S2048x64.size a := fun v2109 k0_hw193 => k0_hw193

def k0_off194 (v2120 : BitVec 32) : Fin 2 → Nat :=
  let c0_i32_1744 : BitVec 32 := 0#32
  let v2122 : BitVec 32 := Scalar.maxsi v2120 c0_i32_1744
  let v2123 : Index := Scalar.indexCast v2122
  let c0_1745 : Index := 0#32
  ![v2123.toNat, 0]

def k0_chk194 (v2120 : BitVec 32) : Prop :=
  (∀ a, (k0_off194 v2120) a + S1x64.size a ≤ S2048x64.size a)
theorem k0_off194_inb : ∀ (v2120 : BitVec 32) (k0_hw194 : k0_chk194 v2120), ∀ a, (k0_off194 v2120) a + S1x64.size a ≤ S2048x64.size a := fun v2120 k0_hw194 => k0_hw194

def k0_off195 (v2131 : BitVec 32) : Fin 2 → Nat :=
  let c0_i32_1753 : BitVec 32 := 0#32
  let v2133 : BitVec 32 := Scalar.maxsi v2131 c0_i32_1753
  let v2134 : Index := Scalar.indexCast v2133
  let c0_1754 : Index := 0#32
  ![v2134.toNat, 0]

def k0_chk195 (v2131 : BitVec 32) : Prop :=
  (∀ a, (k0_off195 v2131) a + S1x64.size a ≤ S2048x64.size a)
theorem k0_off195_inb : ∀ (v2131 : BitVec 32) (k0_hw195 : k0_chk195 v2131), ∀ a, (k0_off195 v2131) a + S1x64.size a ≤ S2048x64.size a := fun v2131 k0_hw195 => k0_hw195

def k0_off196 (v2142 : BitVec 32) : Fin 2 → Nat :=
  let c0_i32_1762 : BitVec 32 := 0#32
  let v2144 : BitVec 32 := Scalar.maxsi v2142 c0_i32_1762
  let v2145 : Index := Scalar.indexCast v2144
  let c0_1763 : Index := 0#32
  ![v2145.toNat, 0]

def k0_chk196 (v2142 : BitVec 32) : Prop :=
  (∀ a, (k0_off196 v2142) a + S1x64.size a ≤ S2048x64.size a)
theorem k0_off196_inb : ∀ (v2142 : BitVec 32) (k0_hw196 : k0_chk196 v2142), ∀ a, (k0_off196 v2142) a + S1x64.size a ≤ S2048x64.size a := fun v2142 k0_hw196 => k0_hw196

def k0_off197 (v2153 : BitVec 32) : Fin 2 → Nat :=
  let c0_i32_1771 : BitVec 32 := 0#32
  let v2155 : BitVec 32 := Scalar.maxsi v2153 c0_i32_1771
  let v2156 : Index := Scalar.indexCast v2155
  let c0_1772 : Index := 0#32
  ![v2156.toNat, 0]

def k0_chk197 (v2153 : BitVec 32) : Prop :=
  (∀ a, (k0_off197 v2153) a + S1x64.size a ≤ S2048x64.size a)
theorem k0_off197_inb : ∀ (v2153 : BitVec 32) (k0_hw197 : k0_chk197 v2153), ∀ a, (k0_off197 v2153) a + S1x64.size a ≤ S2048x64.size a := fun v2153 k0_hw197 => k0_hw197

def k0_off198 (v2164 : BitVec 32) : Fin 2 → Nat :=
  let c0_i32_1780 : BitVec 32 := 0#32
  let v2166 : BitVec 32 := Scalar.maxsi v2164 c0_i32_1780
  let v2167 : Index := Scalar.indexCast v2166
  let c0_1781 : Index := 0#32
  ![v2167.toNat, 0]

def k0_chk198 (v2164 : BitVec 32) : Prop :=
  (∀ a, (k0_off198 v2164) a + S1x64.size a ≤ S2048x64.size a)
theorem k0_off198_inb : ∀ (v2164 : BitVec 32) (k0_hw198 : k0_chk198 v2164), ∀ a, (k0_off198 v2164) a + S1x64.size a ≤ S2048x64.size a := fun v2164 k0_hw198 => k0_hw198

def k0_off199 (v2175 : BitVec 32) : Fin 2 → Nat :=
  let c0_i32_1789 : BitVec 32 := 0#32
  let v2177 : BitVec 32 := Scalar.maxsi v2175 c0_i32_1789
  let v2178 : Index := Scalar.indexCast v2177
  let c0_1790 : Index := 0#32
  ![v2178.toNat, 0]

def k0_chk199 (v2175 : BitVec 32) : Prop :=
  (∀ a, (k0_off199 v2175) a + S1x64.size a ≤ S2048x64.size a)
theorem k0_off199_inb : ∀ (v2175 : BitVec 32) (k0_hw199 : k0_chk199 v2175), ∀ a, (k0_off199 v2175) a + S1x64.size a ≤ S2048x64.size a := fun v2175 k0_hw199 => k0_hw199

def k0_off200 (v2186 : BitVec 32) : Fin 2 → Nat :=
  let c0_i32_1798 : BitVec 32 := 0#32
  let v2188 : BitVec 32 := Scalar.maxsi v2186 c0_i32_1798
  let v2189 : Index := Scalar.indexCast v2188
  let c0_1799 : Index := 0#32
  ![v2189.toNat, 0]

def k0_chk200 (v2186 : BitVec 32) : Prop :=
  (∀ a, (k0_off200 v2186) a + S1x64.size a ≤ S2048x64.size a)
theorem k0_off200_inb : ∀ (v2186 : BitVec 32) (k0_hw200 : k0_chk200 v2186), ∀ a, (k0_off200 v2186) a + S1x64.size a ≤ S2048x64.size a := fun v2186 k0_hw200 => k0_hw200

def k0_off201 (v2197 : BitVec 32) : Fin 2 → Nat :=
  let c0_i32_1807 : BitVec 32 := 0#32
  let v2199 : BitVec 32 := Scalar.maxsi v2197 c0_i32_1807
  let v2200 : Index := Scalar.indexCast v2199
  let c0_1808 : Index := 0#32
  ![v2200.toNat, 0]

def k0_chk201 (v2197 : BitVec 32) : Prop :=
  (∀ a, (k0_off201 v2197) a + S1x64.size a ≤ S2048x64.size a)
theorem k0_off201_inb : ∀ (v2197 : BitVec 32) (k0_hw201 : k0_chk201 v2197), ∀ a, (k0_off201 v2197) a + S1x64.size a ≤ S2048x64.size a := fun v2197 k0_hw201 => k0_hw201

def k0_off202 (v2208 : BitVec 32) : Fin 2 → Nat :=
  let c0_i32_1816 : BitVec 32 := 0#32
  let v2210 : BitVec 32 := Scalar.maxsi v2208 c0_i32_1816
  let v2211 : Index := Scalar.indexCast v2210
  let c0_1817 : Index := 0#32
  ![v2211.toNat, 0]

def k0_chk202 (v2208 : BitVec 32) : Prop :=
  (∀ a, (k0_off202 v2208) a + S1x64.size a ≤ S2048x64.size a)
theorem k0_off202_inb : ∀ (v2208 : BitVec 32) (k0_hw202 : k0_chk202 v2208), ∀ a, (k0_off202 v2208) a + S1x64.size a ≤ S2048x64.size a := fun v2208 k0_hw202 => k0_hw202

def k0_off203 (v2219 : BitVec 32) : Fin 2 → Nat :=
  let c0_i32_1825 : BitVec 32 := 0#32
  let v2221 : BitVec 32 := Scalar.maxsi v2219 c0_i32_1825
  let v2222 : Index := Scalar.indexCast v2221
  let c0_1826 : Index := 0#32
  ![v2222.toNat, 0]

def k0_chk203 (v2219 : BitVec 32) : Prop :=
  (∀ a, (k0_off203 v2219) a + S1x64.size a ≤ S2048x64.size a)
theorem k0_off203_inb : ∀ (v2219 : BitVec 32) (k0_hw203 : k0_chk203 v2219), ∀ a, (k0_off203 v2219) a + S1x64.size a ≤ S2048x64.size a := fun v2219 k0_hw203 => k0_hw203

def k0_off204 (v2230 : BitVec 32) : Fin 2 → Nat :=
  let c0_i32_1834 : BitVec 32 := 0#32
  let v2232 : BitVec 32 := Scalar.maxsi v2230 c0_i32_1834
  let v2233 : Index := Scalar.indexCast v2232
  let c0_1835 : Index := 0#32
  ![v2233.toNat, 0]

def k0_chk204 (v2230 : BitVec 32) : Prop :=
  (∀ a, (k0_off204 v2230) a + S1x64.size a ≤ S2048x64.size a)
theorem k0_off204_inb : ∀ (v2230 : BitVec 32) (k0_hw204 : k0_chk204 v2230), ∀ a, (k0_off204 v2230) a + S1x64.size a ≤ S2048x64.size a := fun v2230 k0_hw204 => k0_hw204

def k0_off205 (v2241 : BitVec 32) : Fin 2 → Nat :=
  let c0_i32_1843 : BitVec 32 := 0#32
  let v2243 : BitVec 32 := Scalar.maxsi v2241 c0_i32_1843
  let v2244 : Index := Scalar.indexCast v2243
  let c0_1844 : Index := 0#32
  ![v2244.toNat, 0]

def k0_chk205 (v2241 : BitVec 32) : Prop :=
  (∀ a, (k0_off205 v2241) a + S1x64.size a ≤ S2048x64.size a)
theorem k0_off205_inb : ∀ (v2241 : BitVec 32) (k0_hw205 : k0_chk205 v2241), ∀ a, (k0_off205 v2241) a + S1x64.size a ≤ S2048x64.size a := fun v2241 k0_hw205 => k0_hw205

def k0_off206 (v2252 : BitVec 32) : Fin 2 → Nat :=
  let c0_i32_1852 : BitVec 32 := 0#32
  let v2254 : BitVec 32 := Scalar.maxsi v2252 c0_i32_1852
  let v2255 : Index := Scalar.indexCast v2254
  let c0_1853 : Index := 0#32
  ![v2255.toNat, 0]

def k0_chk206 (v2252 : BitVec 32) : Prop :=
  (∀ a, (k0_off206 v2252) a + S1x64.size a ≤ S2048x64.size a)
theorem k0_off206_inb : ∀ (v2252 : BitVec 32) (k0_hw206 : k0_chk206 v2252), ∀ a, (k0_off206 v2252) a + S1x64.size a ≤ S2048x64.size a := fun v2252 k0_hw206 => k0_hw206

def k0_off207 (v2263 : BitVec 32) : Fin 2 → Nat :=
  let c0_i32_1861 : BitVec 32 := 0#32
  let v2265 : BitVec 32 := Scalar.maxsi v2263 c0_i32_1861
  let v2266 : Index := Scalar.indexCast v2265
  let c0_1862 : Index := 0#32
  ![v2266.toNat, 0]

def k0_chk207 (v2263 : BitVec 32) : Prop :=
  (∀ a, (k0_off207 v2263) a + S1x64.size a ≤ S2048x64.size a)
theorem k0_off207_inb : ∀ (v2263 : BitVec 32) (k0_hw207 : k0_chk207 v2263), ∀ a, (k0_off207 v2263) a + S1x64.size a ≤ S2048x64.size a := fun v2263 k0_hw207 => k0_hw207

def k0_off208 (v2274 : BitVec 32) : Fin 2 → Nat :=
  let c0_i32_1870 : BitVec 32 := 0#32
  let v2276 : BitVec 32 := Scalar.maxsi v2274 c0_i32_1870
  let v2277 : Index := Scalar.indexCast v2276
  let c0_1871 : Index := 0#32
  ![v2277.toNat, 0]

def k0_chk208 (v2274 : BitVec 32) : Prop :=
  (∀ a, (k0_off208 v2274) a + S1x64.size a ≤ S2048x64.size a)
theorem k0_off208_inb : ∀ (v2274 : BitVec 32) (k0_hw208 : k0_chk208 v2274), ∀ a, (k0_off208 v2274) a + S1x64.size a ≤ S2048x64.size a := fun v2274 k0_hw208 => k0_hw208

def k0_off209 (v2285 : BitVec 32) : Fin 2 → Nat :=
  let c0_i32_1879 : BitVec 32 := 0#32
  let v2287 : BitVec 32 := Scalar.maxsi v2285 c0_i32_1879
  let v2288 : Index := Scalar.indexCast v2287
  let c0_1880 : Index := 0#32
  ![v2288.toNat, 0]

def k0_chk209 (v2285 : BitVec 32) : Prop :=
  (∀ a, (k0_off209 v2285) a + S1x64.size a ≤ S2048x64.size a)
theorem k0_off209_inb : ∀ (v2285 : BitVec 32) (k0_hw209 : k0_chk209 v2285), ∀ a, (k0_off209 v2285) a + S1x64.size a ≤ S2048x64.size a := fun v2285 k0_hw209 => k0_hw209

def k0_off210 (v2296 : BitVec 32) : Fin 2 → Nat :=
  let c0_i32_1888 : BitVec 32 := 0#32
  let v2298 : BitVec 32 := Scalar.maxsi v2296 c0_i32_1888
  let v2299 : Index := Scalar.indexCast v2298
  let c0_1889 : Index := 0#32
  ![v2299.toNat, 0]

def k0_chk210 (v2296 : BitVec 32) : Prop :=
  (∀ a, (k0_off210 v2296) a + S1x64.size a ≤ S2048x64.size a)
theorem k0_off210_inb : ∀ (v2296 : BitVec 32) (k0_hw210 : k0_chk210 v2296), ∀ a, (k0_off210 v2296) a + S1x64.size a ≤ S2048x64.size a := fun v2296 k0_hw210 => k0_hw210

def k0_off211 (v2307 : BitVec 32) : Fin 2 → Nat :=
  let c0_i32_1897 : BitVec 32 := 0#32
  let v2309 : BitVec 32 := Scalar.maxsi v2307 c0_i32_1897
  let v2310 : Index := Scalar.indexCast v2309
  let c0_1898 : Index := 0#32
  ![v2310.toNat, 0]

def k0_chk211 (v2307 : BitVec 32) : Prop :=
  (∀ a, (k0_off211 v2307) a + S1x64.size a ≤ S2048x64.size a)
theorem k0_off211_inb : ∀ (v2307 : BitVec 32) (k0_hw211 : k0_chk211 v2307), ∀ a, (k0_off211 v2307) a + S1x64.size a ≤ S2048x64.size a := fun v2307 k0_hw211 => k0_hw211

def k0_off212 (v2318 : BitVec 32) : Fin 2 → Nat :=
  let c0_i32_1906 : BitVec 32 := 0#32
  let v2320 : BitVec 32 := Scalar.maxsi v2318 c0_i32_1906
  let v2321 : Index := Scalar.indexCast v2320
  let c0_1907 : Index := 0#32
  ![v2321.toNat, 0]

def k0_chk212 (v2318 : BitVec 32) : Prop :=
  (∀ a, (k0_off212 v2318) a + S1x64.size a ≤ S2048x64.size a)
theorem k0_off212_inb : ∀ (v2318 : BitVec 32) (k0_hw212 : k0_chk212 v2318), ∀ a, (k0_off212 v2318) a + S1x64.size a ≤ S2048x64.size a := fun v2318 k0_hw212 => k0_hw212

def k0_off213 (v2329 : BitVec 32) : Fin 2 → Nat :=
  let c0_i32_1915 : BitVec 32 := 0#32
  let v2331 : BitVec 32 := Scalar.maxsi v2329 c0_i32_1915
  let v2332 : Index := Scalar.indexCast v2331
  let c0_1916 : Index := 0#32
  ![v2332.toNat, 0]

def k0_chk213 (v2329 : BitVec 32) : Prop :=
  (∀ a, (k0_off213 v2329) a + S1x64.size a ≤ S2048x64.size a)
theorem k0_off213_inb : ∀ (v2329 : BitVec 32) (k0_hw213 : k0_chk213 v2329), ∀ a, (k0_off213 v2329) a + S1x64.size a ≤ S2048x64.size a := fun v2329 k0_hw213 => k0_hw213

def k0_off214 (v2340 : BitVec 32) : Fin 2 → Nat :=
  let c0_i32_1924 : BitVec 32 := 0#32
  let v2342 : BitVec 32 := Scalar.maxsi v2340 c0_i32_1924
  let v2343 : Index := Scalar.indexCast v2342
  let c0_1925 : Index := 0#32
  ![v2343.toNat, 0]

def k0_chk214 (v2340 : BitVec 32) : Prop :=
  (∀ a, (k0_off214 v2340) a + S1x64.size a ≤ S2048x64.size a)
theorem k0_off214_inb : ∀ (v2340 : BitVec 32) (k0_hw214 : k0_chk214 v2340), ∀ a, (k0_off214 v2340) a + S1x64.size a ≤ S2048x64.size a := fun v2340 k0_hw214 => k0_hw214

def k0_off215 (v2351 : BitVec 32) : Fin 2 → Nat :=
  let c0_i32_1933 : BitVec 32 := 0#32
  let v2353 : BitVec 32 := Scalar.maxsi v2351 c0_i32_1933
  let v2354 : Index := Scalar.indexCast v2353
  let c0_1934 : Index := 0#32
  ![v2354.toNat, 0]

def k0_chk215 (v2351 : BitVec 32) : Prop :=
  (∀ a, (k0_off215 v2351) a + S1x64.size a ≤ S2048x64.size a)
theorem k0_off215_inb : ∀ (v2351 : BitVec 32) (k0_hw215 : k0_chk215 v2351), ∀ a, (k0_off215 v2351) a + S1x64.size a ≤ S2048x64.size a := fun v2351 k0_hw215 => k0_hw215

def k0_off216 (v2362 : BitVec 32) : Fin 2 → Nat :=
  let c0_i32_1942 : BitVec 32 := 0#32
  let v2364 : BitVec 32 := Scalar.maxsi v2362 c0_i32_1942
  let v2365 : Index := Scalar.indexCast v2364
  let c0_1943 : Index := 0#32
  ![v2365.toNat, 0]

def k0_chk216 (v2362 : BitVec 32) : Prop :=
  (∀ a, (k0_off216 v2362) a + S1x64.size a ≤ S2048x64.size a)
theorem k0_off216_inb : ∀ (v2362 : BitVec 32) (k0_hw216 : k0_chk216 v2362), ∀ a, (k0_off216 v2362) a + S1x64.size a ≤ S2048x64.size a := fun v2362 k0_hw216 => k0_hw216

def k0_off217 (v2373 : BitVec 32) : Fin 2 → Nat :=
  let c0_i32_1951 : BitVec 32 := 0#32
  let v2375 : BitVec 32 := Scalar.maxsi v2373 c0_i32_1951
  let v2376 : Index := Scalar.indexCast v2375
  let c0_1952 : Index := 0#32
  ![v2376.toNat, 0]

def k0_chk217 (v2373 : BitVec 32) : Prop :=
  (∀ a, (k0_off217 v2373) a + S1x64.size a ≤ S2048x64.size a)
theorem k0_off217_inb : ∀ (v2373 : BitVec 32) (k0_hw217 : k0_chk217 v2373), ∀ a, (k0_off217 v2373) a + S1x64.size a ≤ S2048x64.size a := fun v2373 k0_hw217 => k0_hw217

def k0_off218 (v2384 : BitVec 32) : Fin 2 → Nat :=
  let c0_i32_1960 : BitVec 32 := 0#32
  let v2386 : BitVec 32 := Scalar.maxsi v2384 c0_i32_1960
  let v2387 : Index := Scalar.indexCast v2386
  let c0_1961 : Index := 0#32
  ![v2387.toNat, 0]

def k0_chk218 (v2384 : BitVec 32) : Prop :=
  (∀ a, (k0_off218 v2384) a + S1x64.size a ≤ S2048x64.size a)
theorem k0_off218_inb : ∀ (v2384 : BitVec 32) (k0_hw218 : k0_chk218 v2384), ∀ a, (k0_off218 v2384) a + S1x64.size a ≤ S2048x64.size a := fun v2384 k0_hw218 => k0_hw218

def k0_off219 (v2395 : BitVec 32) : Fin 2 → Nat :=
  let c0_i32_1969 : BitVec 32 := 0#32
  let v2397 : BitVec 32 := Scalar.maxsi v2395 c0_i32_1969
  let v2398 : Index := Scalar.indexCast v2397
  let c0_1970 : Index := 0#32
  ![v2398.toNat, 0]

def k0_chk219 (v2395 : BitVec 32) : Prop :=
  (∀ a, (k0_off219 v2395) a + S1x64.size a ≤ S2048x64.size a)
theorem k0_off219_inb : ∀ (v2395 : BitVec 32) (k0_hw219 : k0_chk219 v2395), ∀ a, (k0_off219 v2395) a + S1x64.size a ≤ S2048x64.size a := fun v2395 k0_hw219 => k0_hw219

def k0_off220 (v2406 : BitVec 32) : Fin 2 → Nat :=
  let c0_i32_1978 : BitVec 32 := 0#32
  let v2408 : BitVec 32 := Scalar.maxsi v2406 c0_i32_1978
  let v2409 : Index := Scalar.indexCast v2408
  let c0_1979 : Index := 0#32
  ![v2409.toNat, 0]

def k0_chk220 (v2406 : BitVec 32) : Prop :=
  (∀ a, (k0_off220 v2406) a + S1x64.size a ≤ S2048x64.size a)
theorem k0_off220_inb : ∀ (v2406 : BitVec 32) (k0_hw220 : k0_chk220 v2406), ∀ a, (k0_off220 v2406) a + S1x64.size a ≤ S2048x64.size a := fun v2406 k0_hw220 => k0_hw220

def k0_off221 (v2417 : BitVec 32) : Fin 2 → Nat :=
  let c0_i32_1987 : BitVec 32 := 0#32
  let v2419 : BitVec 32 := Scalar.maxsi v2417 c0_i32_1987
  let v2420 : Index := Scalar.indexCast v2419
  let c0_1988 : Index := 0#32
  ![v2420.toNat, 0]

def k0_chk221 (v2417 : BitVec 32) : Prop :=
  (∀ a, (k0_off221 v2417) a + S1x64.size a ≤ S2048x64.size a)
theorem k0_off221_inb : ∀ (v2417 : BitVec 32) (k0_hw221 : k0_chk221 v2417), ∀ a, (k0_off221 v2417) a + S1x64.size a ≤ S2048x64.size a := fun v2417 k0_hw221 => k0_hw221

def k0_off222 (v2428 : BitVec 32) : Fin 2 → Nat :=
  let c0_i32_1996 : BitVec 32 := 0#32
  let v2430 : BitVec 32 := Scalar.maxsi v2428 c0_i32_1996
  let v2431 : Index := Scalar.indexCast v2430
  let c0_1997 : Index := 0#32
  ![v2431.toNat, 0]

def k0_chk222 (v2428 : BitVec 32) : Prop :=
  (∀ a, (k0_off222 v2428) a + S1x64.size a ≤ S2048x64.size a)
theorem k0_off222_inb : ∀ (v2428 : BitVec 32) (k0_hw222 : k0_chk222 v2428), ∀ a, (k0_off222 v2428) a + S1x64.size a ≤ S2048x64.size a := fun v2428 k0_hw222 => k0_hw222

def k0_off223 (v2439 : BitVec 32) : Fin 2 → Nat :=
  let c0_i32_2005 : BitVec 32 := 0#32
  let v2441 : BitVec 32 := Scalar.maxsi v2439 c0_i32_2005
  let v2442 : Index := Scalar.indexCast v2441
  let c0_2006 : Index := 0#32
  ![v2442.toNat, 0]

def k0_chk223 (v2439 : BitVec 32) : Prop :=
  (∀ a, (k0_off223 v2439) a + S1x64.size a ≤ S2048x64.size a)
theorem k0_off223_inb : ∀ (v2439 : BitVec 32) (k0_hw223 : k0_chk223 v2439), ∀ a, (k0_off223 v2439) a + S1x64.size a ≤ S2048x64.size a := fun v2439 k0_hw223 => k0_hw223

def k0_off224 (v2450 : BitVec 32) : Fin 2 → Nat :=
  let c0_i32_2014 : BitVec 32 := 0#32
  let v2452 : BitVec 32 := Scalar.maxsi v2450 c0_i32_2014
  let v2453 : Index := Scalar.indexCast v2452
  let c0_2015 : Index := 0#32
  ![v2453.toNat, 0]

def k0_chk224 (v2450 : BitVec 32) : Prop :=
  (∀ a, (k0_off224 v2450) a + S1x64.size a ≤ S2048x64.size a)
theorem k0_off224_inb : ∀ (v2450 : BitVec 32) (k0_hw224 : k0_chk224 v2450), ∀ a, (k0_off224 v2450) a + S1x64.size a ≤ S2048x64.size a := fun v2450 k0_hw224 => k0_hw224

def k0_off225 (v2461 : BitVec 32) : Fin 2 → Nat :=
  let c0_i32_2023 : BitVec 32 := 0#32
  let v2463 : BitVec 32 := Scalar.maxsi v2461 c0_i32_2023
  let v2464 : Index := Scalar.indexCast v2463
  let c0_2024 : Index := 0#32
  ![v2464.toNat, 0]

def k0_chk225 (v2461 : BitVec 32) : Prop :=
  (∀ a, (k0_off225 v2461) a + S1x64.size a ≤ S2048x64.size a)
theorem k0_off225_inb : ∀ (v2461 : BitVec 32) (k0_hw225 : k0_chk225 v2461), ∀ a, (k0_off225 v2461) a + S1x64.size a ≤ S2048x64.size a := fun v2461 k0_hw225 => k0_hw225

def k0_off226 (v2472 : BitVec 32) : Fin 2 → Nat :=
  let c0_i32_2032 : BitVec 32 := 0#32
  let v2474 : BitVec 32 := Scalar.maxsi v2472 c0_i32_2032
  let v2475 : Index := Scalar.indexCast v2474
  let c0_2033 : Index := 0#32
  ![v2475.toNat, 0]

def k0_chk226 (v2472 : BitVec 32) : Prop :=
  (∀ a, (k0_off226 v2472) a + S1x64.size a ≤ S2048x64.size a)
theorem k0_off226_inb : ∀ (v2472 : BitVec 32) (k0_hw226 : k0_chk226 v2472), ∀ a, (k0_off226 v2472) a + S1x64.size a ≤ S2048x64.size a := fun v2472 k0_hw226 => k0_hw226

def k0_off227 (v2483 : BitVec 32) : Fin 2 → Nat :=
  let c0_i32_2041 : BitVec 32 := 0#32
  let v2485 : BitVec 32 := Scalar.maxsi v2483 c0_i32_2041
  let v2486 : Index := Scalar.indexCast v2485
  let c0_2042 : Index := 0#32
  ![v2486.toNat, 0]

def k0_chk227 (v2483 : BitVec 32) : Prop :=
  (∀ a, (k0_off227 v2483) a + S1x64.size a ≤ S2048x64.size a)
theorem k0_off227_inb : ∀ (v2483 : BitVec 32) (k0_hw227 : k0_chk227 v2483), ∀ a, (k0_off227 v2483) a + S1x64.size a ≤ S2048x64.size a := fun v2483 k0_hw227 => k0_hw227

def k0_off228 (v2494 : BitVec 32) : Fin 2 → Nat :=
  let c0_i32_2050 : BitVec 32 := 0#32
  let v2496 : BitVec 32 := Scalar.maxsi v2494 c0_i32_2050
  let v2497 : Index := Scalar.indexCast v2496
  let c0_2051 : Index := 0#32
  ![v2497.toNat, 0]

def k0_chk228 (v2494 : BitVec 32) : Prop :=
  (∀ a, (k0_off228 v2494) a + S1x64.size a ≤ S2048x64.size a)
theorem k0_off228_inb : ∀ (v2494 : BitVec 32) (k0_hw228 : k0_chk228 v2494), ∀ a, (k0_off228 v2494) a + S1x64.size a ≤ S2048x64.size a := fun v2494 k0_hw228 => k0_hw228

def k0_off229 (v2505 : BitVec 32) : Fin 2 → Nat :=
  let c0_i32_2059 : BitVec 32 := 0#32
  let v2507 : BitVec 32 := Scalar.maxsi v2505 c0_i32_2059
  let v2508 : Index := Scalar.indexCast v2507
  let c0_2060 : Index := 0#32
  ![v2508.toNat, 0]

def k0_chk229 (v2505 : BitVec 32) : Prop :=
  (∀ a, (k0_off229 v2505) a + S1x64.size a ≤ S2048x64.size a)
theorem k0_off229_inb : ∀ (v2505 : BitVec 32) (k0_hw229 : k0_chk229 v2505), ∀ a, (k0_off229 v2505) a + S1x64.size a ≤ S2048x64.size a := fun v2505 k0_hw229 => k0_hw229

def k0_off230 (v2516 : BitVec 32) : Fin 2 → Nat :=
  let c0_i32_2068 : BitVec 32 := 0#32
  let v2518 : BitVec 32 := Scalar.maxsi v2516 c0_i32_2068
  let v2519 : Index := Scalar.indexCast v2518
  let c0_2069 : Index := 0#32
  ![v2519.toNat, 0]

def k0_chk230 (v2516 : BitVec 32) : Prop :=
  (∀ a, (k0_off230 v2516) a + S1x64.size a ≤ S2048x64.size a)
theorem k0_off230_inb : ∀ (v2516 : BitVec 32) (k0_hw230 : k0_chk230 v2516), ∀ a, (k0_off230 v2516) a + S1x64.size a ≤ S2048x64.size a := fun v2516 k0_hw230 => k0_hw230

def k0_off231 (v2527 : BitVec 32) : Fin 2 → Nat :=
  let c0_i32_2077 : BitVec 32 := 0#32
  let v2529 : BitVec 32 := Scalar.maxsi v2527 c0_i32_2077
  let v2530 : Index := Scalar.indexCast v2529
  let c0_2078 : Index := 0#32
  ![v2530.toNat, 0]

def k0_chk231 (v2527 : BitVec 32) : Prop :=
  (∀ a, (k0_off231 v2527) a + S1x64.size a ≤ S2048x64.size a)
theorem k0_off231_inb : ∀ (v2527 : BitVec 32) (k0_hw231 : k0_chk231 v2527), ∀ a, (k0_off231 v2527) a + S1x64.size a ≤ S2048x64.size a := fun v2527 k0_hw231 => k0_hw231

def k0_off232 (v2538 : BitVec 32) : Fin 2 → Nat :=
  let c0_i32_2086 : BitVec 32 := 0#32
  let v2540 : BitVec 32 := Scalar.maxsi v2538 c0_i32_2086
  let v2541 : Index := Scalar.indexCast v2540
  let c0_2087 : Index := 0#32
  ![v2541.toNat, 0]

def k0_chk232 (v2538 : BitVec 32) : Prop :=
  (∀ a, (k0_off232 v2538) a + S1x64.size a ≤ S2048x64.size a)
theorem k0_off232_inb : ∀ (v2538 : BitVec 32) (k0_hw232 : k0_chk232 v2538), ∀ a, (k0_off232 v2538) a + S1x64.size a ≤ S2048x64.size a := fun v2538 k0_hw232 => k0_hw232

def k0_off233 (v2549 : BitVec 32) : Fin 2 → Nat :=
  let c0_i32_2095 : BitVec 32 := 0#32
  let v2551 : BitVec 32 := Scalar.maxsi v2549 c0_i32_2095
  let v2552 : Index := Scalar.indexCast v2551
  let c0_2096 : Index := 0#32
  ![v2552.toNat, 0]

def k0_chk233 (v2549 : BitVec 32) : Prop :=
  (∀ a, (k0_off233 v2549) a + S1x64.size a ≤ S2048x64.size a)
theorem k0_off233_inb : ∀ (v2549 : BitVec 32) (k0_hw233 : k0_chk233 v2549), ∀ a, (k0_off233 v2549) a + S1x64.size a ≤ S2048x64.size a := fun v2549 k0_hw233 => k0_hw233

def k0_off234 (v2560 : BitVec 32) : Fin 2 → Nat :=
  let c0_i32_2104 : BitVec 32 := 0#32
  let v2562 : BitVec 32 := Scalar.maxsi v2560 c0_i32_2104
  let v2563 : Index := Scalar.indexCast v2562
  let c0_2105 : Index := 0#32
  ![v2563.toNat, 0]

def k0_chk234 (v2560 : BitVec 32) : Prop :=
  (∀ a, (k0_off234 v2560) a + S1x64.size a ≤ S2048x64.size a)
theorem k0_off234_inb : ∀ (v2560 : BitVec 32) (k0_hw234 : k0_chk234 v2560), ∀ a, (k0_off234 v2560) a + S1x64.size a ≤ S2048x64.size a := fun v2560 k0_hw234 => k0_hw234

def k0_off235 (v2571 : BitVec 32) : Fin 2 → Nat :=
  let c0_i32_2113 : BitVec 32 := 0#32
  let v2573 : BitVec 32 := Scalar.maxsi v2571 c0_i32_2113
  let v2574 : Index := Scalar.indexCast v2573
  let c0_2114 : Index := 0#32
  ![v2574.toNat, 0]

def k0_chk235 (v2571 : BitVec 32) : Prop :=
  (∀ a, (k0_off235 v2571) a + S1x64.size a ≤ S2048x64.size a)
theorem k0_off235_inb : ∀ (v2571 : BitVec 32) (k0_hw235 : k0_chk235 v2571), ∀ a, (k0_off235 v2571) a + S1x64.size a ≤ S2048x64.size a := fun v2571 k0_hw235 => k0_hw235

def k0_off236 (v2582 : BitVec 32) : Fin 2 → Nat :=
  let c0_i32_2122 : BitVec 32 := 0#32
  let v2584 : BitVec 32 := Scalar.maxsi v2582 c0_i32_2122
  let v2585 : Index := Scalar.indexCast v2584
  let c0_2123 : Index := 0#32
  ![v2585.toNat, 0]

def k0_chk236 (v2582 : BitVec 32) : Prop :=
  (∀ a, (k0_off236 v2582) a + S1x64.size a ≤ S2048x64.size a)
theorem k0_off236_inb : ∀ (v2582 : BitVec 32) (k0_hw236 : k0_chk236 v2582), ∀ a, (k0_off236 v2582) a + S1x64.size a ≤ S2048x64.size a := fun v2582 k0_hw236 => k0_hw236

def k0_off237 (v2593 : BitVec 32) : Fin 2 → Nat :=
  let c0_i32_2131 : BitVec 32 := 0#32
  let v2595 : BitVec 32 := Scalar.maxsi v2593 c0_i32_2131
  let v2596 : Index := Scalar.indexCast v2595
  let c0_2132 : Index := 0#32
  ![v2596.toNat, 0]

def k0_chk237 (v2593 : BitVec 32) : Prop :=
  (∀ a, (k0_off237 v2593) a + S1x64.size a ≤ S2048x64.size a)
theorem k0_off237_inb : ∀ (v2593 : BitVec 32) (k0_hw237 : k0_chk237 v2593), ∀ a, (k0_off237 v2593) a + S1x64.size a ≤ S2048x64.size a := fun v2593 k0_hw237 => k0_hw237

def k0_off238 (v2604 : BitVec 32) : Fin 2 → Nat :=
  let c0_i32_2140 : BitVec 32 := 0#32
  let v2606 : BitVec 32 := Scalar.maxsi v2604 c0_i32_2140
  let v2607 : Index := Scalar.indexCast v2606
  let c0_2141 : Index := 0#32
  ![v2607.toNat, 0]

def k0_chk238 (v2604 : BitVec 32) : Prop :=
  (∀ a, (k0_off238 v2604) a + S1x64.size a ≤ S2048x64.size a)
theorem k0_off238_inb : ∀ (v2604 : BitVec 32) (k0_hw238 : k0_chk238 v2604), ∀ a, (k0_off238 v2604) a + S1x64.size a ≤ S2048x64.size a := fun v2604 k0_hw238 => k0_hw238

def k0_off239 (v2615 : BitVec 32) : Fin 2 → Nat :=
  let c0_i32_2149 : BitVec 32 := 0#32
  let v2617 : BitVec 32 := Scalar.maxsi v2615 c0_i32_2149
  let v2618 : Index := Scalar.indexCast v2617
  let c0_2150 : Index := 0#32
  ![v2618.toNat, 0]

def k0_chk239 (v2615 : BitVec 32) : Prop :=
  (∀ a, (k0_off239 v2615) a + S1x64.size a ≤ S2048x64.size a)
theorem k0_off239_inb : ∀ (v2615 : BitVec 32) (k0_hw239 : k0_chk239 v2615), ∀ a, (k0_off239 v2615) a + S1x64.size a ≤ S2048x64.size a := fun v2615 k0_hw239 => k0_hw239

def k0_off240 (v2626 : BitVec 32) : Fin 2 → Nat :=
  let c0_i32_2158 : BitVec 32 := 0#32
  let v2628 : BitVec 32 := Scalar.maxsi v2626 c0_i32_2158
  let v2629 : Index := Scalar.indexCast v2628
  let c0_2159 : Index := 0#32
  ![v2629.toNat, 0]

def k0_chk240 (v2626 : BitVec 32) : Prop :=
  (∀ a, (k0_off240 v2626) a + S1x64.size a ≤ S2048x64.size a)
theorem k0_off240_inb : ∀ (v2626 : BitVec 32) (k0_hw240 : k0_chk240 v2626), ∀ a, (k0_off240 v2626) a + S1x64.size a ≤ S2048x64.size a := fun v2626 k0_hw240 => k0_hw240

def k0_off241 (v2637 : BitVec 32) : Fin 2 → Nat :=
  let c0_i32_2167 : BitVec 32 := 0#32
  let v2639 : BitVec 32 := Scalar.maxsi v2637 c0_i32_2167
  let v2640 : Index := Scalar.indexCast v2639
  let c0_2168 : Index := 0#32
  ![v2640.toNat, 0]

def k0_chk241 (v2637 : BitVec 32) : Prop :=
  (∀ a, (k0_off241 v2637) a + S1x64.size a ≤ S2048x64.size a)
theorem k0_off241_inb : ∀ (v2637 : BitVec 32) (k0_hw241 : k0_chk241 v2637), ∀ a, (k0_off241 v2637) a + S1x64.size a ≤ S2048x64.size a := fun v2637 k0_hw241 => k0_hw241

def k0_off242 (v2648 : BitVec 32) : Fin 2 → Nat :=
  let c0_i32_2176 : BitVec 32 := 0#32
  let v2650 : BitVec 32 := Scalar.maxsi v2648 c0_i32_2176
  let v2651 : Index := Scalar.indexCast v2650
  let c0_2177 : Index := 0#32
  ![v2651.toNat, 0]

def k0_chk242 (v2648 : BitVec 32) : Prop :=
  (∀ a, (k0_off242 v2648) a + S1x64.size a ≤ S2048x64.size a)
theorem k0_off242_inb : ∀ (v2648 : BitVec 32) (k0_hw242 : k0_chk242 v2648), ∀ a, (k0_off242 v2648) a + S1x64.size a ≤ S2048x64.size a := fun v2648 k0_hw242 => k0_hw242

def k0_off243 (v2659 : BitVec 32) : Fin 2 → Nat :=
  let c0_i32_2185 : BitVec 32 := 0#32
  let v2661 : BitVec 32 := Scalar.maxsi v2659 c0_i32_2185
  let v2662 : Index := Scalar.indexCast v2661
  let c0_2186 : Index := 0#32
  ![v2662.toNat, 0]

def k0_chk243 (v2659 : BitVec 32) : Prop :=
  (∀ a, (k0_off243 v2659) a + S1x64.size a ≤ S2048x64.size a)
theorem k0_off243_inb : ∀ (v2659 : BitVec 32) (k0_hw243 : k0_chk243 v2659), ∀ a, (k0_off243 v2659) a + S1x64.size a ≤ S2048x64.size a := fun v2659 k0_hw243 => k0_hw243

def k0_off244 (v2670 : BitVec 32) : Fin 2 → Nat :=
  let c0_i32_2194 : BitVec 32 := 0#32
  let v2672 : BitVec 32 := Scalar.maxsi v2670 c0_i32_2194
  let v2673 : Index := Scalar.indexCast v2672
  let c0_2195 : Index := 0#32
  ![v2673.toNat, 0]

def k0_chk244 (v2670 : BitVec 32) : Prop :=
  (∀ a, (k0_off244 v2670) a + S1x64.size a ≤ S2048x64.size a)
theorem k0_off244_inb : ∀ (v2670 : BitVec 32) (k0_hw244 : k0_chk244 v2670), ∀ a, (k0_off244 v2670) a + S1x64.size a ≤ S2048x64.size a := fun v2670 k0_hw244 => k0_hw244

def k0_off245 (v2681 : BitVec 32) : Fin 2 → Nat :=
  let c0_i32_2203 : BitVec 32 := 0#32
  let v2683 : BitVec 32 := Scalar.maxsi v2681 c0_i32_2203
  let v2684 : Index := Scalar.indexCast v2683
  let c0_2204 : Index := 0#32
  ![v2684.toNat, 0]

def k0_chk245 (v2681 : BitVec 32) : Prop :=
  (∀ a, (k0_off245 v2681) a + S1x64.size a ≤ S2048x64.size a)
theorem k0_off245_inb : ∀ (v2681 : BitVec 32) (k0_hw245 : k0_chk245 v2681), ∀ a, (k0_off245 v2681) a + S1x64.size a ≤ S2048x64.size a := fun v2681 k0_hw245 => k0_hw245

def k0_off246 (v2692 : BitVec 32) : Fin 2 → Nat :=
  let c0_i32_2212 : BitVec 32 := 0#32
  let v2694 : BitVec 32 := Scalar.maxsi v2692 c0_i32_2212
  let v2695 : Index := Scalar.indexCast v2694
  let c0_2213 : Index := 0#32
  ![v2695.toNat, 0]

def k0_chk246 (v2692 : BitVec 32) : Prop :=
  (∀ a, (k0_off246 v2692) a + S1x64.size a ≤ S2048x64.size a)
theorem k0_off246_inb : ∀ (v2692 : BitVec 32) (k0_hw246 : k0_chk246 v2692), ∀ a, (k0_off246 v2692) a + S1x64.size a ≤ S2048x64.size a := fun v2692 k0_hw246 => k0_hw246

def k0_off247 (v2703 : BitVec 32) : Fin 2 → Nat :=
  let c0_i32_2221 : BitVec 32 := 0#32
  let v2705 : BitVec 32 := Scalar.maxsi v2703 c0_i32_2221
  let v2706 : Index := Scalar.indexCast v2705
  let c0_2222 : Index := 0#32
  ![v2706.toNat, 0]

def k0_chk247 (v2703 : BitVec 32) : Prop :=
  (∀ a, (k0_off247 v2703) a + S1x64.size a ≤ S2048x64.size a)
theorem k0_off247_inb : ∀ (v2703 : BitVec 32) (k0_hw247 : k0_chk247 v2703), ∀ a, (k0_off247 v2703) a + S1x64.size a ≤ S2048x64.size a := fun v2703 k0_hw247 => k0_hw247

def k0_off248 (v2714 : BitVec 32) : Fin 2 → Nat :=
  let c0_i32_2230 : BitVec 32 := 0#32
  let v2716 : BitVec 32 := Scalar.maxsi v2714 c0_i32_2230
  let v2717 : Index := Scalar.indexCast v2716
  let c0_2231 : Index := 0#32
  ![v2717.toNat, 0]

def k0_chk248 (v2714 : BitVec 32) : Prop :=
  (∀ a, (k0_off248 v2714) a + S1x64.size a ≤ S2048x64.size a)
theorem k0_off248_inb : ∀ (v2714 : BitVec 32) (k0_hw248 : k0_chk248 v2714), ∀ a, (k0_off248 v2714) a + S1x64.size a ≤ S2048x64.size a := fun v2714 k0_hw248 => k0_hw248

def k0_off249 (v2725 : BitVec 32) : Fin 2 → Nat :=
  let c0_i32_2239 : BitVec 32 := 0#32
  let v2727 : BitVec 32 := Scalar.maxsi v2725 c0_i32_2239
  let v2728 : Index := Scalar.indexCast v2727
  let c0_2240 : Index := 0#32
  ![v2728.toNat, 0]

def k0_chk249 (v2725 : BitVec 32) : Prop :=
  (∀ a, (k0_off249 v2725) a + S1x64.size a ≤ S2048x64.size a)
theorem k0_off249_inb : ∀ (v2725 : BitVec 32) (k0_hw249 : k0_chk249 v2725), ∀ a, (k0_off249 v2725) a + S1x64.size a ≤ S2048x64.size a := fun v2725 k0_hw249 => k0_hw249

def k0_off250 (v2736 : BitVec 32) : Fin 2 → Nat :=
  let c0_i32_2248 : BitVec 32 := 0#32
  let v2738 : BitVec 32 := Scalar.maxsi v2736 c0_i32_2248
  let v2739 : Index := Scalar.indexCast v2738
  let c0_2249 : Index := 0#32
  ![v2739.toNat, 0]

def k0_chk250 (v2736 : BitVec 32) : Prop :=
  (∀ a, (k0_off250 v2736) a + S1x64.size a ≤ S2048x64.size a)
theorem k0_off250_inb : ∀ (v2736 : BitVec 32) (k0_hw250 : k0_chk250 v2736), ∀ a, (k0_off250 v2736) a + S1x64.size a ≤ S2048x64.size a := fun v2736 k0_hw250 => k0_hw250

def k0_off251 (v2747 : BitVec 32) : Fin 2 → Nat :=
  let c0_i32_2257 : BitVec 32 := 0#32
  let v2749 : BitVec 32 := Scalar.maxsi v2747 c0_i32_2257
  let v2750 : Index := Scalar.indexCast v2749
  let c0_2258 : Index := 0#32
  ![v2750.toNat, 0]

def k0_chk251 (v2747 : BitVec 32) : Prop :=
  (∀ a, (k0_off251 v2747) a + S1x64.size a ≤ S2048x64.size a)
theorem k0_off251_inb : ∀ (v2747 : BitVec 32) (k0_hw251 : k0_chk251 v2747), ∀ a, (k0_off251 v2747) a + S1x64.size a ≤ S2048x64.size a := fun v2747 k0_hw251 => k0_hw251

def k0_off252 (v2758 : BitVec 32) : Fin 2 → Nat :=
  let c0_i32_2266 : BitVec 32 := 0#32
  let v2760 : BitVec 32 := Scalar.maxsi v2758 c0_i32_2266
  let v2761 : Index := Scalar.indexCast v2760
  let c0_2267 : Index := 0#32
  ![v2761.toNat, 0]

def k0_chk252 (v2758 : BitVec 32) : Prop :=
  (∀ a, (k0_off252 v2758) a + S1x64.size a ≤ S2048x64.size a)
theorem k0_off252_inb : ∀ (v2758 : BitVec 32) (k0_hw252 : k0_chk252 v2758), ∀ a, (k0_off252 v2758) a + S1x64.size a ≤ S2048x64.size a := fun v2758 k0_hw252 => k0_hw252

def k0_off253 (v2769 : BitVec 32) : Fin 2 → Nat :=
  let c0_i32_2275 : BitVec 32 := 0#32
  let v2771 : BitVec 32 := Scalar.maxsi v2769 c0_i32_2275
  let v2772 : Index := Scalar.indexCast v2771
  let c0_2276 : Index := 0#32
  ![v2772.toNat, 0]

def k0_chk253 (v2769 : BitVec 32) : Prop :=
  (∀ a, (k0_off253 v2769) a + S1x64.size a ≤ S2048x64.size a)
theorem k0_off253_inb : ∀ (v2769 : BitVec 32) (k0_hw253 : k0_chk253 v2769), ∀ a, (k0_off253 v2769) a + S1x64.size a ≤ S2048x64.size a := fun v2769 k0_hw253 => k0_hw253

def k0_off254 (v2780 : BitVec 32) : Fin 2 → Nat :=
  let c0_i32_2284 : BitVec 32 := 0#32
  let v2782 : BitVec 32 := Scalar.maxsi v2780 c0_i32_2284
  let v2783 : Index := Scalar.indexCast v2782
  let c0_2285 : Index := 0#32
  ![v2783.toNat, 0]

def k0_chk254 (v2780 : BitVec 32) : Prop :=
  (∀ a, (k0_off254 v2780) a + S1x64.size a ≤ S2048x64.size a)
theorem k0_off254_inb : ∀ (v2780 : BitVec 32) (k0_hw254 : k0_chk254 v2780), ∀ a, (k0_off254 v2780) a + S1x64.size a ≤ S2048x64.size a := fun v2780 k0_hw254 => k0_hw254

def k0_off255 (v2791 : BitVec 32) : Fin 2 → Nat :=
  let c0_i32_2293 : BitVec 32 := 0#32
  let v2793 : BitVec 32 := Scalar.maxsi v2791 c0_i32_2293
  let v2794 : Index := Scalar.indexCast v2793
  let c0_2294 : Index := 0#32
  ![v2794.toNat, 0]

def k0_chk255 (v2791 : BitVec 32) : Prop :=
  (∀ a, (k0_off255 v2791) a + S1x64.size a ≤ S2048x64.size a)
theorem k0_off255_inb : ∀ (v2791 : BitVec 32) (k0_hw255 : k0_chk255 v2791), ∀ a, (k0_off255 v2791) a + S1x64.size a ≤ S2048x64.size a := fun v2791 k0_hw255 => k0_hw255

def k0_off256 (v2802 : BitVec 32) : Fin 2 → Nat :=
  let c0_i32_2302 : BitVec 32 := 0#32
  let v2804 : BitVec 32 := Scalar.maxsi v2802 c0_i32_2302
  let v2805 : Index := Scalar.indexCast v2804
  let c0_2303 : Index := 0#32
  ![v2805.toNat, 0]

def k0_chk256 (v2802 : BitVec 32) : Prop :=
  (∀ a, (k0_off256 v2802) a + S1x64.size a ≤ S2048x64.size a)
theorem k0_off256_inb : ∀ (v2802 : BitVec 32) (k0_hw256 : k0_chk256 v2802), ∀ a, (k0_off256 v2802) a + S1x64.size a ≤ S2048x64.size a := fun v2802 k0_hw256 => k0_hw256

def k0_off257 (v2820 : BitVec 32) : Fin 2 → Nat :=
  let c0_i32_2311 : BitVec 32 := 0#32
  let v2822 : BitVec 32 := Scalar.maxsi v2820 c0_i32_2311
  let v2823 : Index := Scalar.indexCast v2822
  let c0_2312 : Index := 0#32
  ![v2823.toNat, 0]

def k0_chk257 (v2820 : BitVec 32) : Prop :=
  (∀ a, (k0_off257 v2820) a + S1x64.size a ≤ S2048x64.size a)
theorem k0_off257_inb : ∀ (v2820 : BitVec 32) (k0_hw257 : k0_chk257 v2820), ∀ a, (k0_off257 v2820) a + S1x64.size a ≤ S2048x64.size a := fun v2820 k0_hw257 => k0_hw257

def k0_off258 (v2830 : BitVec 32) : Fin 2 → Nat :=
  let c0_i32_2320 : BitVec 32 := 0#32
  let v2832 : BitVec 32 := Scalar.maxsi v2830 c0_i32_2320
  let v2833 : Index := Scalar.indexCast v2832
  let c0_2321 : Index := 0#32
  ![v2833.toNat, 0]

def k0_chk258 (v2830 : BitVec 32) : Prop :=
  (∀ a, (k0_off258 v2830) a + S1x64.size a ≤ S2048x64.size a)
theorem k0_off258_inb : ∀ (v2830 : BitVec 32) (k0_hw258 : k0_chk258 v2830), ∀ a, (k0_off258 v2830) a + S1x64.size a ≤ S2048x64.size a := fun v2830 k0_hw258 => k0_hw258

def k0_off259 (v2840 : BitVec 32) : Fin 2 → Nat :=
  let c0_i32_2329 : BitVec 32 := 0#32
  let v2842 : BitVec 32 := Scalar.maxsi v2840 c0_i32_2329
  let v2843 : Index := Scalar.indexCast v2842
  let c0_2330 : Index := 0#32
  ![v2843.toNat, 0]

def k0_chk259 (v2840 : BitVec 32) : Prop :=
  (∀ a, (k0_off259 v2840) a + S1x64.size a ≤ S2048x64.size a)
theorem k0_off259_inb : ∀ (v2840 : BitVec 32) (k0_hw259 : k0_chk259 v2840), ∀ a, (k0_off259 v2840) a + S1x64.size a ≤ S2048x64.size a := fun v2840 k0_hw259 => k0_hw259

def k0_off260 (v2850 : BitVec 32) : Fin 2 → Nat :=
  let c0_i32_2338 : BitVec 32 := 0#32
  let v2852 : BitVec 32 := Scalar.maxsi v2850 c0_i32_2338
  let v2853 : Index := Scalar.indexCast v2852
  let c0_2339 : Index := 0#32
  ![v2853.toNat, 0]

def k0_chk260 (v2850 : BitVec 32) : Prop :=
  (∀ a, (k0_off260 v2850) a + S1x64.size a ≤ S2048x64.size a)
theorem k0_off260_inb : ∀ (v2850 : BitVec 32) (k0_hw260 : k0_chk260 v2850), ∀ a, (k0_off260 v2850) a + S1x64.size a ≤ S2048x64.size a := fun v2850 k0_hw260 => k0_hw260

def k0_off261 (v2860 : BitVec 32) : Fin 2 → Nat :=
  let c0_i32_2347 : BitVec 32 := 0#32
  let v2862 : BitVec 32 := Scalar.maxsi v2860 c0_i32_2347
  let v2863 : Index := Scalar.indexCast v2862
  let c0_2348 : Index := 0#32
  ![v2863.toNat, 0]

def k0_chk261 (v2860 : BitVec 32) : Prop :=
  (∀ a, (k0_off261 v2860) a + S1x64.size a ≤ S2048x64.size a)
theorem k0_off261_inb : ∀ (v2860 : BitVec 32) (k0_hw261 : k0_chk261 v2860), ∀ a, (k0_off261 v2860) a + S1x64.size a ≤ S2048x64.size a := fun v2860 k0_hw261 => k0_hw261

def k0_off262 (v2870 : BitVec 32) : Fin 2 → Nat :=
  let c0_i32_2356 : BitVec 32 := 0#32
  let v2872 : BitVec 32 := Scalar.maxsi v2870 c0_i32_2356
  let v2873 : Index := Scalar.indexCast v2872
  let c0_2357 : Index := 0#32
  ![v2873.toNat, 0]

def k0_chk262 (v2870 : BitVec 32) : Prop :=
  (∀ a, (k0_off262 v2870) a + S1x64.size a ≤ S2048x64.size a)
theorem k0_off262_inb : ∀ (v2870 : BitVec 32) (k0_hw262 : k0_chk262 v2870), ∀ a, (k0_off262 v2870) a + S1x64.size a ≤ S2048x64.size a := fun v2870 k0_hw262 => k0_hw262

def k0_off263 (v2880 : BitVec 32) : Fin 2 → Nat :=
  let c0_i32_2365 : BitVec 32 := 0#32
  let v2882 : BitVec 32 := Scalar.maxsi v2880 c0_i32_2365
  let v2883 : Index := Scalar.indexCast v2882
  let c0_2366 : Index := 0#32
  ![v2883.toNat, 0]

def k0_chk263 (v2880 : BitVec 32) : Prop :=
  (∀ a, (k0_off263 v2880) a + S1x64.size a ≤ S2048x64.size a)
theorem k0_off263_inb : ∀ (v2880 : BitVec 32) (k0_hw263 : k0_chk263 v2880), ∀ a, (k0_off263 v2880) a + S1x64.size a ≤ S2048x64.size a := fun v2880 k0_hw263 => k0_hw263

def k0_off264 (v2890 : BitVec 32) : Fin 2 → Nat :=
  let c0_i32_2374 : BitVec 32 := 0#32
  let v2892 : BitVec 32 := Scalar.maxsi v2890 c0_i32_2374
  let v2893 : Index := Scalar.indexCast v2892
  let c0_2375 : Index := 0#32
  ![v2893.toNat, 0]

def k0_chk264 (v2890 : BitVec 32) : Prop :=
  (∀ a, (k0_off264 v2890) a + S1x64.size a ≤ S2048x64.size a)
theorem k0_off264_inb : ∀ (v2890 : BitVec 32) (k0_hw264 : k0_chk264 v2890), ∀ a, (k0_off264 v2890) a + S1x64.size a ≤ S2048x64.size a := fun v2890 k0_hw264 => k0_hw264

def k0_off265 (v2900 : BitVec 32) : Fin 2 → Nat :=
  let c0_i32_2383 : BitVec 32 := 0#32
  let v2902 : BitVec 32 := Scalar.maxsi v2900 c0_i32_2383
  let v2903 : Index := Scalar.indexCast v2902
  let c0_2384 : Index := 0#32
  ![v2903.toNat, 0]

def k0_chk265 (v2900 : BitVec 32) : Prop :=
  (∀ a, (k0_off265 v2900) a + S1x64.size a ≤ S2048x64.size a)
theorem k0_off265_inb : ∀ (v2900 : BitVec 32) (k0_hw265 : k0_chk265 v2900), ∀ a, (k0_off265 v2900) a + S1x64.size a ≤ S2048x64.size a := fun v2900 k0_hw265 => k0_hw265

def k0_off266 (v2911 : BitVec 32) : Fin 2 → Nat :=
  let c0_i32_2392 : BitVec 32 := 0#32
  let v2913 : BitVec 32 := Scalar.maxsi v2911 c0_i32_2392
  let v2914 : Index := Scalar.indexCast v2913
  let c0_2393 : Index := 0#32
  ![v2914.toNat, 0]

def k0_chk266 (v2911 : BitVec 32) : Prop :=
  (∀ a, (k0_off266 v2911) a + S1x64.size a ≤ S2048x64.size a)
theorem k0_off266_inb : ∀ (v2911 : BitVec 32) (k0_hw266 : k0_chk266 v2911), ∀ a, (k0_off266 v2911) a + S1x64.size a ≤ S2048x64.size a := fun v2911 k0_hw266 => k0_hw266

def k0_off267 (v2922 : BitVec 32) : Fin 2 → Nat :=
  let c0_i32_2401 : BitVec 32 := 0#32
  let v2924 : BitVec 32 := Scalar.maxsi v2922 c0_i32_2401
  let v2925 : Index := Scalar.indexCast v2924
  let c0_2402 : Index := 0#32
  ![v2925.toNat, 0]

def k0_chk267 (v2922 : BitVec 32) : Prop :=
  (∀ a, (k0_off267 v2922) a + S1x64.size a ≤ S2048x64.size a)
theorem k0_off267_inb : ∀ (v2922 : BitVec 32) (k0_hw267 : k0_chk267 v2922), ∀ a, (k0_off267 v2922) a + S1x64.size a ≤ S2048x64.size a := fun v2922 k0_hw267 => k0_hw267

def k0_off268 (v2933 : BitVec 32) : Fin 2 → Nat :=
  let c0_i32_2410 : BitVec 32 := 0#32
  let v2935 : BitVec 32 := Scalar.maxsi v2933 c0_i32_2410
  let v2936 : Index := Scalar.indexCast v2935
  let c0_2411 : Index := 0#32
  ![v2936.toNat, 0]

def k0_chk268 (v2933 : BitVec 32) : Prop :=
  (∀ a, (k0_off268 v2933) a + S1x64.size a ≤ S2048x64.size a)
theorem k0_off268_inb : ∀ (v2933 : BitVec 32) (k0_hw268 : k0_chk268 v2933), ∀ a, (k0_off268 v2933) a + S1x64.size a ≤ S2048x64.size a := fun v2933 k0_hw268 => k0_hw268

def k0_off269 (v2944 : BitVec 32) : Fin 2 → Nat :=
  let c0_i32_2419 : BitVec 32 := 0#32
  let v2946 : BitVec 32 := Scalar.maxsi v2944 c0_i32_2419
  let v2947 : Index := Scalar.indexCast v2946
  let c0_2420 : Index := 0#32
  ![v2947.toNat, 0]

def k0_chk269 (v2944 : BitVec 32) : Prop :=
  (∀ a, (k0_off269 v2944) a + S1x64.size a ≤ S2048x64.size a)
theorem k0_off269_inb : ∀ (v2944 : BitVec 32) (k0_hw269 : k0_chk269 v2944), ∀ a, (k0_off269 v2944) a + S1x64.size a ≤ S2048x64.size a := fun v2944 k0_hw269 => k0_hw269

def k0_off270 (v2955 : BitVec 32) : Fin 2 → Nat :=
  let c0_i32_2428 : BitVec 32 := 0#32
  let v2957 : BitVec 32 := Scalar.maxsi v2955 c0_i32_2428
  let v2958 : Index := Scalar.indexCast v2957
  let c0_2429 : Index := 0#32
  ![v2958.toNat, 0]

def k0_chk270 (v2955 : BitVec 32) : Prop :=
  (∀ a, (k0_off270 v2955) a + S1x64.size a ≤ S2048x64.size a)
theorem k0_off270_inb : ∀ (v2955 : BitVec 32) (k0_hw270 : k0_chk270 v2955), ∀ a, (k0_off270 v2955) a + S1x64.size a ≤ S2048x64.size a := fun v2955 k0_hw270 => k0_hw270

def k0_off271 (v2966 : BitVec 32) : Fin 2 → Nat :=
  let c0_i32_2437 : BitVec 32 := 0#32
  let v2968 : BitVec 32 := Scalar.maxsi v2966 c0_i32_2437
  let v2969 : Index := Scalar.indexCast v2968
  let c0_2438 : Index := 0#32
  ![v2969.toNat, 0]

def k0_chk271 (v2966 : BitVec 32) : Prop :=
  (∀ a, (k0_off271 v2966) a + S1x64.size a ≤ S2048x64.size a)
theorem k0_off271_inb : ∀ (v2966 : BitVec 32) (k0_hw271 : k0_chk271 v2966), ∀ a, (k0_off271 v2966) a + S1x64.size a ≤ S2048x64.size a := fun v2966 k0_hw271 => k0_hw271

def k0_off272 (v2977 : BitVec 32) : Fin 2 → Nat :=
  let c0_i32_2446 : BitVec 32 := 0#32
  let v2979 : BitVec 32 := Scalar.maxsi v2977 c0_i32_2446
  let v2980 : Index := Scalar.indexCast v2979
  let c0_2447 : Index := 0#32
  ![v2980.toNat, 0]

def k0_chk272 (v2977 : BitVec 32) : Prop :=
  (∀ a, (k0_off272 v2977) a + S1x64.size a ≤ S2048x64.size a)
theorem k0_off272_inb : ∀ (v2977 : BitVec 32) (k0_hw272 : k0_chk272 v2977), ∀ a, (k0_off272 v2977) a + S1x64.size a ≤ S2048x64.size a := fun v2977 k0_hw272 => k0_hw272

def k0_off273 (v2988 : BitVec 32) : Fin 2 → Nat :=
  let c0_i32_2455 : BitVec 32 := 0#32
  let v2990 : BitVec 32 := Scalar.maxsi v2988 c0_i32_2455
  let v2991 : Index := Scalar.indexCast v2990
  let c0_2456 : Index := 0#32
  ![v2991.toNat, 0]

def k0_chk273 (v2988 : BitVec 32) : Prop :=
  (∀ a, (k0_off273 v2988) a + S1x64.size a ≤ S2048x64.size a)
theorem k0_off273_inb : ∀ (v2988 : BitVec 32) (k0_hw273 : k0_chk273 v2988), ∀ a, (k0_off273 v2988) a + S1x64.size a ≤ S2048x64.size a := fun v2988 k0_hw273 => k0_hw273

def k0_off274 (v2999 : BitVec 32) : Fin 2 → Nat :=
  let c0_i32_2464 : BitVec 32 := 0#32
  let v3001 : BitVec 32 := Scalar.maxsi v2999 c0_i32_2464
  let v3002 : Index := Scalar.indexCast v3001
  let c0_2465 : Index := 0#32
  ![v3002.toNat, 0]

def k0_chk274 (v2999 : BitVec 32) : Prop :=
  (∀ a, (k0_off274 v2999) a + S1x64.size a ≤ S2048x64.size a)
theorem k0_off274_inb : ∀ (v2999 : BitVec 32) (k0_hw274 : k0_chk274 v2999), ∀ a, (k0_off274 v2999) a + S1x64.size a ≤ S2048x64.size a := fun v2999 k0_hw274 => k0_hw274

def k0_off275 (v3010 : BitVec 32) : Fin 2 → Nat :=
  let c0_i32_2473 : BitVec 32 := 0#32
  let v3012 : BitVec 32 := Scalar.maxsi v3010 c0_i32_2473
  let v3013 : Index := Scalar.indexCast v3012
  let c0_2474 : Index := 0#32
  ![v3013.toNat, 0]

def k0_chk275 (v3010 : BitVec 32) : Prop :=
  (∀ a, (k0_off275 v3010) a + S1x64.size a ≤ S2048x64.size a)
theorem k0_off275_inb : ∀ (v3010 : BitVec 32) (k0_hw275 : k0_chk275 v3010), ∀ a, (k0_off275 v3010) a + S1x64.size a ≤ S2048x64.size a := fun v3010 k0_hw275 => k0_hw275

def k0_off276 (v3021 : BitVec 32) : Fin 2 → Nat :=
  let c0_i32_2482 : BitVec 32 := 0#32
  let v3023 : BitVec 32 := Scalar.maxsi v3021 c0_i32_2482
  let v3024 : Index := Scalar.indexCast v3023
  let c0_2483 : Index := 0#32
  ![v3024.toNat, 0]

def k0_chk276 (v3021 : BitVec 32) : Prop :=
  (∀ a, (k0_off276 v3021) a + S1x64.size a ≤ S2048x64.size a)
theorem k0_off276_inb : ∀ (v3021 : BitVec 32) (k0_hw276 : k0_chk276 v3021), ∀ a, (k0_off276 v3021) a + S1x64.size a ≤ S2048x64.size a := fun v3021 k0_hw276 => k0_hw276

def k0_off277 (v3032 : BitVec 32) : Fin 2 → Nat :=
  let c0_i32_2491 : BitVec 32 := 0#32
  let v3034 : BitVec 32 := Scalar.maxsi v3032 c0_i32_2491
  let v3035 : Index := Scalar.indexCast v3034
  let c0_2492 : Index := 0#32
  ![v3035.toNat, 0]

def k0_chk277 (v3032 : BitVec 32) : Prop :=
  (∀ a, (k0_off277 v3032) a + S1x64.size a ≤ S2048x64.size a)
theorem k0_off277_inb : ∀ (v3032 : BitVec 32) (k0_hw277 : k0_chk277 v3032), ∀ a, (k0_off277 v3032) a + S1x64.size a ≤ S2048x64.size a := fun v3032 k0_hw277 => k0_hw277

def k0_off278 (v3043 : BitVec 32) : Fin 2 → Nat :=
  let c0_i32_2500 : BitVec 32 := 0#32
  let v3045 : BitVec 32 := Scalar.maxsi v3043 c0_i32_2500
  let v3046 : Index := Scalar.indexCast v3045
  let c0_2501 : Index := 0#32
  ![v3046.toNat, 0]

def k0_chk278 (v3043 : BitVec 32) : Prop :=
  (∀ a, (k0_off278 v3043) a + S1x64.size a ≤ S2048x64.size a)
theorem k0_off278_inb : ∀ (v3043 : BitVec 32) (k0_hw278 : k0_chk278 v3043), ∀ a, (k0_off278 v3043) a + S1x64.size a ≤ S2048x64.size a := fun v3043 k0_hw278 => k0_hw278

def k0_off279 (v3054 : BitVec 32) : Fin 2 → Nat :=
  let c0_i32_2509 : BitVec 32 := 0#32
  let v3056 : BitVec 32 := Scalar.maxsi v3054 c0_i32_2509
  let v3057 : Index := Scalar.indexCast v3056
  let c0_2510 : Index := 0#32
  ![v3057.toNat, 0]

def k0_chk279 (v3054 : BitVec 32) : Prop :=
  (∀ a, (k0_off279 v3054) a + S1x64.size a ≤ S2048x64.size a)
theorem k0_off279_inb : ∀ (v3054 : BitVec 32) (k0_hw279 : k0_chk279 v3054), ∀ a, (k0_off279 v3054) a + S1x64.size a ≤ S2048x64.size a := fun v3054 k0_hw279 => k0_hw279

def k0_off280 (v3065 : BitVec 32) : Fin 2 → Nat :=
  let c0_i32_2518 : BitVec 32 := 0#32
  let v3067 : BitVec 32 := Scalar.maxsi v3065 c0_i32_2518
  let v3068 : Index := Scalar.indexCast v3067
  let c0_2519 : Index := 0#32
  ![v3068.toNat, 0]

def k0_chk280 (v3065 : BitVec 32) : Prop :=
  (∀ a, (k0_off280 v3065) a + S1x64.size a ≤ S2048x64.size a)
theorem k0_off280_inb : ∀ (v3065 : BitVec 32) (k0_hw280 : k0_chk280 v3065), ∀ a, (k0_off280 v3065) a + S1x64.size a ≤ S2048x64.size a := fun v3065 k0_hw280 => k0_hw280

def k0_off281 (v3076 : BitVec 32) : Fin 2 → Nat :=
  let c0_i32_2527 : BitVec 32 := 0#32
  let v3078 : BitVec 32 := Scalar.maxsi v3076 c0_i32_2527
  let v3079 : Index := Scalar.indexCast v3078
  let c0_2528 : Index := 0#32
  ![v3079.toNat, 0]

def k0_chk281 (v3076 : BitVec 32) : Prop :=
  (∀ a, (k0_off281 v3076) a + S1x64.size a ≤ S2048x64.size a)
theorem k0_off281_inb : ∀ (v3076 : BitVec 32) (k0_hw281 : k0_chk281 v3076), ∀ a, (k0_off281 v3076) a + S1x64.size a ≤ S2048x64.size a := fun v3076 k0_hw281 => k0_hw281

def k0_off282 (v3087 : BitVec 32) : Fin 2 → Nat :=
  let c0_i32_2536 : BitVec 32 := 0#32
  let v3089 : BitVec 32 := Scalar.maxsi v3087 c0_i32_2536
  let v3090 : Index := Scalar.indexCast v3089
  let c0_2537 : Index := 0#32
  ![v3090.toNat, 0]

def k0_chk282 (v3087 : BitVec 32) : Prop :=
  (∀ a, (k0_off282 v3087) a + S1x64.size a ≤ S2048x64.size a)
theorem k0_off282_inb : ∀ (v3087 : BitVec 32) (k0_hw282 : k0_chk282 v3087), ∀ a, (k0_off282 v3087) a + S1x64.size a ≤ S2048x64.size a := fun v3087 k0_hw282 => k0_hw282

def k0_off283 (v3098 : BitVec 32) : Fin 2 → Nat :=
  let c0_i32_2545 : BitVec 32 := 0#32
  let v3100 : BitVec 32 := Scalar.maxsi v3098 c0_i32_2545
  let v3101 : Index := Scalar.indexCast v3100
  let c0_2546 : Index := 0#32
  ![v3101.toNat, 0]

def k0_chk283 (v3098 : BitVec 32) : Prop :=
  (∀ a, (k0_off283 v3098) a + S1x64.size a ≤ S2048x64.size a)
theorem k0_off283_inb : ∀ (v3098 : BitVec 32) (k0_hw283 : k0_chk283 v3098), ∀ a, (k0_off283 v3098) a + S1x64.size a ≤ S2048x64.size a := fun v3098 k0_hw283 => k0_hw283

def k0_off284 (v3109 : BitVec 32) : Fin 2 → Nat :=
  let c0_i32_2554 : BitVec 32 := 0#32
  let v3111 : BitVec 32 := Scalar.maxsi v3109 c0_i32_2554
  let v3112 : Index := Scalar.indexCast v3111
  let c0_2555 : Index := 0#32
  ![v3112.toNat, 0]

def k0_chk284 (v3109 : BitVec 32) : Prop :=
  (∀ a, (k0_off284 v3109) a + S1x64.size a ≤ S2048x64.size a)
theorem k0_off284_inb : ∀ (v3109 : BitVec 32) (k0_hw284 : k0_chk284 v3109), ∀ a, (k0_off284 v3109) a + S1x64.size a ≤ S2048x64.size a := fun v3109 k0_hw284 => k0_hw284

def k0_off285 (v3120 : BitVec 32) : Fin 2 → Nat :=
  let c0_i32_2563 : BitVec 32 := 0#32
  let v3122 : BitVec 32 := Scalar.maxsi v3120 c0_i32_2563
  let v3123 : Index := Scalar.indexCast v3122
  let c0_2564 : Index := 0#32
  ![v3123.toNat, 0]

def k0_chk285 (v3120 : BitVec 32) : Prop :=
  (∀ a, (k0_off285 v3120) a + S1x64.size a ≤ S2048x64.size a)
theorem k0_off285_inb : ∀ (v3120 : BitVec 32) (k0_hw285 : k0_chk285 v3120), ∀ a, (k0_off285 v3120) a + S1x64.size a ≤ S2048x64.size a := fun v3120 k0_hw285 => k0_hw285

def k0_off286 (v3131 : BitVec 32) : Fin 2 → Nat :=
  let c0_i32_2572 : BitVec 32 := 0#32
  let v3133 : BitVec 32 := Scalar.maxsi v3131 c0_i32_2572
  let v3134 : Index := Scalar.indexCast v3133
  let c0_2573 : Index := 0#32
  ![v3134.toNat, 0]

def k0_chk286 (v3131 : BitVec 32) : Prop :=
  (∀ a, (k0_off286 v3131) a + S1x64.size a ≤ S2048x64.size a)
theorem k0_off286_inb : ∀ (v3131 : BitVec 32) (k0_hw286 : k0_chk286 v3131), ∀ a, (k0_off286 v3131) a + S1x64.size a ≤ S2048x64.size a := fun v3131 k0_hw286 => k0_hw286

def k0_off287 (v3142 : BitVec 32) : Fin 2 → Nat :=
  let c0_i32_2581 : BitVec 32 := 0#32
  let v3144 : BitVec 32 := Scalar.maxsi v3142 c0_i32_2581
  let v3145 : Index := Scalar.indexCast v3144
  let c0_2582 : Index := 0#32
  ![v3145.toNat, 0]

def k0_chk287 (v3142 : BitVec 32) : Prop :=
  (∀ a, (k0_off287 v3142) a + S1x64.size a ≤ S2048x64.size a)
theorem k0_off287_inb : ∀ (v3142 : BitVec 32) (k0_hw287 : k0_chk287 v3142), ∀ a, (k0_off287 v3142) a + S1x64.size a ≤ S2048x64.size a := fun v3142 k0_hw287 => k0_hw287

def k0_off288 (v3153 : BitVec 32) : Fin 2 → Nat :=
  let c0_i32_2590 : BitVec 32 := 0#32
  let v3155 : BitVec 32 := Scalar.maxsi v3153 c0_i32_2590
  let v3156 : Index := Scalar.indexCast v3155
  let c0_2591 : Index := 0#32
  ![v3156.toNat, 0]

def k0_chk288 (v3153 : BitVec 32) : Prop :=
  (∀ a, (k0_off288 v3153) a + S1x64.size a ≤ S2048x64.size a)
theorem k0_off288_inb : ∀ (v3153 : BitVec 32) (k0_hw288 : k0_chk288 v3153), ∀ a, (k0_off288 v3153) a + S1x64.size a ≤ S2048x64.size a := fun v3153 k0_hw288 => k0_hw288

def k0_off289 (v3164 : BitVec 32) : Fin 2 → Nat :=
  let c0_i32_2599 : BitVec 32 := 0#32
  let v3166 : BitVec 32 := Scalar.maxsi v3164 c0_i32_2599
  let v3167 : Index := Scalar.indexCast v3166
  let c0_2600 : Index := 0#32
  ![v3167.toNat, 0]

def k0_chk289 (v3164 : BitVec 32) : Prop :=
  (∀ a, (k0_off289 v3164) a + S1x64.size a ≤ S2048x64.size a)
theorem k0_off289_inb : ∀ (v3164 : BitVec 32) (k0_hw289 : k0_chk289 v3164), ∀ a, (k0_off289 v3164) a + S1x64.size a ≤ S2048x64.size a := fun v3164 k0_hw289 => k0_hw289

def k0_off290 (v3175 : BitVec 32) : Fin 2 → Nat :=
  let c0_i32_2608 : BitVec 32 := 0#32
  let v3177 : BitVec 32 := Scalar.maxsi v3175 c0_i32_2608
  let v3178 : Index := Scalar.indexCast v3177
  let c0_2609 : Index := 0#32
  ![v3178.toNat, 0]

def k0_chk290 (v3175 : BitVec 32) : Prop :=
  (∀ a, (k0_off290 v3175) a + S1x64.size a ≤ S2048x64.size a)
theorem k0_off290_inb : ∀ (v3175 : BitVec 32) (k0_hw290 : k0_chk290 v3175), ∀ a, (k0_off290 v3175) a + S1x64.size a ≤ S2048x64.size a := fun v3175 k0_hw290 => k0_hw290

def k0_off291 (v3186 : BitVec 32) : Fin 2 → Nat :=
  let c0_i32_2617 : BitVec 32 := 0#32
  let v3188 : BitVec 32 := Scalar.maxsi v3186 c0_i32_2617
  let v3189 : Index := Scalar.indexCast v3188
  let c0_2618 : Index := 0#32
  ![v3189.toNat, 0]

def k0_chk291 (v3186 : BitVec 32) : Prop :=
  (∀ a, (k0_off291 v3186) a + S1x64.size a ≤ S2048x64.size a)
theorem k0_off291_inb : ∀ (v3186 : BitVec 32) (k0_hw291 : k0_chk291 v3186), ∀ a, (k0_off291 v3186) a + S1x64.size a ≤ S2048x64.size a := fun v3186 k0_hw291 => k0_hw291

def k0_off292 (v3197 : BitVec 32) : Fin 2 → Nat :=
  let c0_i32_2626 : BitVec 32 := 0#32
  let v3199 : BitVec 32 := Scalar.maxsi v3197 c0_i32_2626
  let v3200 : Index := Scalar.indexCast v3199
  let c0_2627 : Index := 0#32
  ![v3200.toNat, 0]

def k0_chk292 (v3197 : BitVec 32) : Prop :=
  (∀ a, (k0_off292 v3197) a + S1x64.size a ≤ S2048x64.size a)
theorem k0_off292_inb : ∀ (v3197 : BitVec 32) (k0_hw292 : k0_chk292 v3197), ∀ a, (k0_off292 v3197) a + S1x64.size a ≤ S2048x64.size a := fun v3197 k0_hw292 => k0_hw292

def k0_off293 (v3208 : BitVec 32) : Fin 2 → Nat :=
  let c0_i32_2635 : BitVec 32 := 0#32
  let v3210 : BitVec 32 := Scalar.maxsi v3208 c0_i32_2635
  let v3211 : Index := Scalar.indexCast v3210
  let c0_2636 : Index := 0#32
  ![v3211.toNat, 0]

def k0_chk293 (v3208 : BitVec 32) : Prop :=
  (∀ a, (k0_off293 v3208) a + S1x64.size a ≤ S2048x64.size a)
theorem k0_off293_inb : ∀ (v3208 : BitVec 32) (k0_hw293 : k0_chk293 v3208), ∀ a, (k0_off293 v3208) a + S1x64.size a ≤ S2048x64.size a := fun v3208 k0_hw293 => k0_hw293

def k0_off294 (v3219 : BitVec 32) : Fin 2 → Nat :=
  let c0_i32_2644 : BitVec 32 := 0#32
  let v3221 : BitVec 32 := Scalar.maxsi v3219 c0_i32_2644
  let v3222 : Index := Scalar.indexCast v3221
  let c0_2645 : Index := 0#32
  ![v3222.toNat, 0]

def k0_chk294 (v3219 : BitVec 32) : Prop :=
  (∀ a, (k0_off294 v3219) a + S1x64.size a ≤ S2048x64.size a)
theorem k0_off294_inb : ∀ (v3219 : BitVec 32) (k0_hw294 : k0_chk294 v3219), ∀ a, (k0_off294 v3219) a + S1x64.size a ≤ S2048x64.size a := fun v3219 k0_hw294 => k0_hw294

def k0_off295 (v3230 : BitVec 32) : Fin 2 → Nat :=
  let c0_i32_2653 : BitVec 32 := 0#32
  let v3232 : BitVec 32 := Scalar.maxsi v3230 c0_i32_2653
  let v3233 : Index := Scalar.indexCast v3232
  let c0_2654 : Index := 0#32
  ![v3233.toNat, 0]

def k0_chk295 (v3230 : BitVec 32) : Prop :=
  (∀ a, (k0_off295 v3230) a + S1x64.size a ≤ S2048x64.size a)
theorem k0_off295_inb : ∀ (v3230 : BitVec 32) (k0_hw295 : k0_chk295 v3230), ∀ a, (k0_off295 v3230) a + S1x64.size a ≤ S2048x64.size a := fun v3230 k0_hw295 => k0_hw295

def k0_off296 (v3241 : BitVec 32) : Fin 2 → Nat :=
  let c0_i32_2662 : BitVec 32 := 0#32
  let v3243 : BitVec 32 := Scalar.maxsi v3241 c0_i32_2662
  let v3244 : Index := Scalar.indexCast v3243
  let c0_2663 : Index := 0#32
  ![v3244.toNat, 0]

def k0_chk296 (v3241 : BitVec 32) : Prop :=
  (∀ a, (k0_off296 v3241) a + S1x64.size a ≤ S2048x64.size a)
theorem k0_off296_inb : ∀ (v3241 : BitVec 32) (k0_hw296 : k0_chk296 v3241), ∀ a, (k0_off296 v3241) a + S1x64.size a ≤ S2048x64.size a := fun v3241 k0_hw296 => k0_hw296

def k0_off297 (v3252 : BitVec 32) : Fin 2 → Nat :=
  let c0_i32_2671 : BitVec 32 := 0#32
  let v3254 : BitVec 32 := Scalar.maxsi v3252 c0_i32_2671
  let v3255 : Index := Scalar.indexCast v3254
  let c0_2672 : Index := 0#32
  ![v3255.toNat, 0]

def k0_chk297 (v3252 : BitVec 32) : Prop :=
  (∀ a, (k0_off297 v3252) a + S1x64.size a ≤ S2048x64.size a)
theorem k0_off297_inb : ∀ (v3252 : BitVec 32) (k0_hw297 : k0_chk297 v3252), ∀ a, (k0_off297 v3252) a + S1x64.size a ≤ S2048x64.size a := fun v3252 k0_hw297 => k0_hw297

def k0_off298 (v3263 : BitVec 32) : Fin 2 → Nat :=
  let c0_i32_2680 : BitVec 32 := 0#32
  let v3265 : BitVec 32 := Scalar.maxsi v3263 c0_i32_2680
  let v3266 : Index := Scalar.indexCast v3265
  let c0_2681 : Index := 0#32
  ![v3266.toNat, 0]

def k0_chk298 (v3263 : BitVec 32) : Prop :=
  (∀ a, (k0_off298 v3263) a + S1x64.size a ≤ S2048x64.size a)
theorem k0_off298_inb : ∀ (v3263 : BitVec 32) (k0_hw298 : k0_chk298 v3263), ∀ a, (k0_off298 v3263) a + S1x64.size a ≤ S2048x64.size a := fun v3263 k0_hw298 => k0_hw298

def k0_off299 (v3274 : BitVec 32) : Fin 2 → Nat :=
  let c0_i32_2689 : BitVec 32 := 0#32
  let v3276 : BitVec 32 := Scalar.maxsi v3274 c0_i32_2689
  let v3277 : Index := Scalar.indexCast v3276
  let c0_2690 : Index := 0#32
  ![v3277.toNat, 0]

def k0_chk299 (v3274 : BitVec 32) : Prop :=
  (∀ a, (k0_off299 v3274) a + S1x64.size a ≤ S2048x64.size a)
theorem k0_off299_inb : ∀ (v3274 : BitVec 32) (k0_hw299 : k0_chk299 v3274), ∀ a, (k0_off299 v3274) a + S1x64.size a ≤ S2048x64.size a := fun v3274 k0_hw299 => k0_hw299

def k0_off300 (v3285 : BitVec 32) : Fin 2 → Nat :=
  let c0_i32_2698 : BitVec 32 := 0#32
  let v3287 : BitVec 32 := Scalar.maxsi v3285 c0_i32_2698
  let v3288 : Index := Scalar.indexCast v3287
  let c0_2699 : Index := 0#32
  ![v3288.toNat, 0]

def k0_chk300 (v3285 : BitVec 32) : Prop :=
  (∀ a, (k0_off300 v3285) a + S1x64.size a ≤ S2048x64.size a)
theorem k0_off300_inb : ∀ (v3285 : BitVec 32) (k0_hw300 : k0_chk300 v3285), ∀ a, (k0_off300 v3285) a + S1x64.size a ≤ S2048x64.size a := fun v3285 k0_hw300 => k0_hw300

def k0_off301 (v3296 : BitVec 32) : Fin 2 → Nat :=
  let c0_i32_2707 : BitVec 32 := 0#32
  let v3298 : BitVec 32 := Scalar.maxsi v3296 c0_i32_2707
  let v3299 : Index := Scalar.indexCast v3298
  let c0_2708 : Index := 0#32
  ![v3299.toNat, 0]

def k0_chk301 (v3296 : BitVec 32) : Prop :=
  (∀ a, (k0_off301 v3296) a + S1x64.size a ≤ S2048x64.size a)
theorem k0_off301_inb : ∀ (v3296 : BitVec 32) (k0_hw301 : k0_chk301 v3296), ∀ a, (k0_off301 v3296) a + S1x64.size a ≤ S2048x64.size a := fun v3296 k0_hw301 => k0_hw301

def k0_off302 (v3307 : BitVec 32) : Fin 2 → Nat :=
  let c0_i32_2716 : BitVec 32 := 0#32
  let v3309 : BitVec 32 := Scalar.maxsi v3307 c0_i32_2716
  let v3310 : Index := Scalar.indexCast v3309
  let c0_2717 : Index := 0#32
  ![v3310.toNat, 0]

def k0_chk302 (v3307 : BitVec 32) : Prop :=
  (∀ a, (k0_off302 v3307) a + S1x64.size a ≤ S2048x64.size a)
theorem k0_off302_inb : ∀ (v3307 : BitVec 32) (k0_hw302 : k0_chk302 v3307), ∀ a, (k0_off302 v3307) a + S1x64.size a ≤ S2048x64.size a := fun v3307 k0_hw302 => k0_hw302

def k0_off303 (v3318 : BitVec 32) : Fin 2 → Nat :=
  let c0_i32_2725 : BitVec 32 := 0#32
  let v3320 : BitVec 32 := Scalar.maxsi v3318 c0_i32_2725
  let v3321 : Index := Scalar.indexCast v3320
  let c0_2726 : Index := 0#32
  ![v3321.toNat, 0]

def k0_chk303 (v3318 : BitVec 32) : Prop :=
  (∀ a, (k0_off303 v3318) a + S1x64.size a ≤ S2048x64.size a)
theorem k0_off303_inb : ∀ (v3318 : BitVec 32) (k0_hw303 : k0_chk303 v3318), ∀ a, (k0_off303 v3318) a + S1x64.size a ≤ S2048x64.size a := fun v3318 k0_hw303 => k0_hw303

def k0_off304 (v3329 : BitVec 32) : Fin 2 → Nat :=
  let c0_i32_2734 : BitVec 32 := 0#32
  let v3331 : BitVec 32 := Scalar.maxsi v3329 c0_i32_2734
  let v3332 : Index := Scalar.indexCast v3331
  let c0_2735 : Index := 0#32
  ![v3332.toNat, 0]

def k0_chk304 (v3329 : BitVec 32) : Prop :=
  (∀ a, (k0_off304 v3329) a + S1x64.size a ≤ S2048x64.size a)
theorem k0_off304_inb : ∀ (v3329 : BitVec 32) (k0_hw304 : k0_chk304 v3329), ∀ a, (k0_off304 v3329) a + S1x64.size a ≤ S2048x64.size a := fun v3329 k0_hw304 => k0_hw304

def k0_off305 (v3340 : BitVec 32) : Fin 2 → Nat :=
  let c0_i32_2743 : BitVec 32 := 0#32
  let v3342 : BitVec 32 := Scalar.maxsi v3340 c0_i32_2743
  let v3343 : Index := Scalar.indexCast v3342
  let c0_2744 : Index := 0#32
  ![v3343.toNat, 0]

def k0_chk305 (v3340 : BitVec 32) : Prop :=
  (∀ a, (k0_off305 v3340) a + S1x64.size a ≤ S2048x64.size a)
theorem k0_off305_inb : ∀ (v3340 : BitVec 32) (k0_hw305 : k0_chk305 v3340), ∀ a, (k0_off305 v3340) a + S1x64.size a ≤ S2048x64.size a := fun v3340 k0_hw305 => k0_hw305

def k0_off306 (v3351 : BitVec 32) : Fin 2 → Nat :=
  let c0_i32_2752 : BitVec 32 := 0#32
  let v3353 : BitVec 32 := Scalar.maxsi v3351 c0_i32_2752
  let v3354 : Index := Scalar.indexCast v3353
  let c0_2753 : Index := 0#32
  ![v3354.toNat, 0]

def k0_chk306 (v3351 : BitVec 32) : Prop :=
  (∀ a, (k0_off306 v3351) a + S1x64.size a ≤ S2048x64.size a)
theorem k0_off306_inb : ∀ (v3351 : BitVec 32) (k0_hw306 : k0_chk306 v3351), ∀ a, (k0_off306 v3351) a + S1x64.size a ≤ S2048x64.size a := fun v3351 k0_hw306 => k0_hw306

def k0_off307 (v3362 : BitVec 32) : Fin 2 → Nat :=
  let c0_i32_2761 : BitVec 32 := 0#32
  let v3364 : BitVec 32 := Scalar.maxsi v3362 c0_i32_2761
  let v3365 : Index := Scalar.indexCast v3364
  let c0_2762 : Index := 0#32
  ![v3365.toNat, 0]

def k0_chk307 (v3362 : BitVec 32) : Prop :=
  (∀ a, (k0_off307 v3362) a + S1x64.size a ≤ S2048x64.size a)
theorem k0_off307_inb : ∀ (v3362 : BitVec 32) (k0_hw307 : k0_chk307 v3362), ∀ a, (k0_off307 v3362) a + S1x64.size a ≤ S2048x64.size a := fun v3362 k0_hw307 => k0_hw307

def k0_off308 (v3373 : BitVec 32) : Fin 2 → Nat :=
  let c0_i32_2770 : BitVec 32 := 0#32
  let v3375 : BitVec 32 := Scalar.maxsi v3373 c0_i32_2770
  let v3376 : Index := Scalar.indexCast v3375
  let c0_2771 : Index := 0#32
  ![v3376.toNat, 0]

def k0_chk308 (v3373 : BitVec 32) : Prop :=
  (∀ a, (k0_off308 v3373) a + S1x64.size a ≤ S2048x64.size a)
theorem k0_off308_inb : ∀ (v3373 : BitVec 32) (k0_hw308 : k0_chk308 v3373), ∀ a, (k0_off308 v3373) a + S1x64.size a ≤ S2048x64.size a := fun v3373 k0_hw308 => k0_hw308

def k0_off309 (v3384 : BitVec 32) : Fin 2 → Nat :=
  let c0_i32_2779 : BitVec 32 := 0#32
  let v3386 : BitVec 32 := Scalar.maxsi v3384 c0_i32_2779
  let v3387 : Index := Scalar.indexCast v3386
  let c0_2780 : Index := 0#32
  ![v3387.toNat, 0]

def k0_chk309 (v3384 : BitVec 32) : Prop :=
  (∀ a, (k0_off309 v3384) a + S1x64.size a ≤ S2048x64.size a)
theorem k0_off309_inb : ∀ (v3384 : BitVec 32) (k0_hw309 : k0_chk309 v3384), ∀ a, (k0_off309 v3384) a + S1x64.size a ≤ S2048x64.size a := fun v3384 k0_hw309 => k0_hw309

def k0_off310 (v3395 : BitVec 32) : Fin 2 → Nat :=
  let c0_i32_2788 : BitVec 32 := 0#32
  let v3397 : BitVec 32 := Scalar.maxsi v3395 c0_i32_2788
  let v3398 : Index := Scalar.indexCast v3397
  let c0_2789 : Index := 0#32
  ![v3398.toNat, 0]

def k0_chk310 (v3395 : BitVec 32) : Prop :=
  (∀ a, (k0_off310 v3395) a + S1x64.size a ≤ S2048x64.size a)
theorem k0_off310_inb : ∀ (v3395 : BitVec 32) (k0_hw310 : k0_chk310 v3395), ∀ a, (k0_off310 v3395) a + S1x64.size a ≤ S2048x64.size a := fun v3395 k0_hw310 => k0_hw310

def k0_off311 (v3406 : BitVec 32) : Fin 2 → Nat :=
  let c0_i32_2797 : BitVec 32 := 0#32
  let v3408 : BitVec 32 := Scalar.maxsi v3406 c0_i32_2797
  let v3409 : Index := Scalar.indexCast v3408
  let c0_2798 : Index := 0#32
  ![v3409.toNat, 0]

def k0_chk311 (v3406 : BitVec 32) : Prop :=
  (∀ a, (k0_off311 v3406) a + S1x64.size a ≤ S2048x64.size a)
theorem k0_off311_inb : ∀ (v3406 : BitVec 32) (k0_hw311 : k0_chk311 v3406), ∀ a, (k0_off311 v3406) a + S1x64.size a ≤ S2048x64.size a := fun v3406 k0_hw311 => k0_hw311

def k0_off312 (v3417 : BitVec 32) : Fin 2 → Nat :=
  let c0_i32_2806 : BitVec 32 := 0#32
  let v3419 : BitVec 32 := Scalar.maxsi v3417 c0_i32_2806
  let v3420 : Index := Scalar.indexCast v3419
  let c0_2807 : Index := 0#32
  ![v3420.toNat, 0]

def k0_chk312 (v3417 : BitVec 32) : Prop :=
  (∀ a, (k0_off312 v3417) a + S1x64.size a ≤ S2048x64.size a)
theorem k0_off312_inb : ∀ (v3417 : BitVec 32) (k0_hw312 : k0_chk312 v3417), ∀ a, (k0_off312 v3417) a + S1x64.size a ≤ S2048x64.size a := fun v3417 k0_hw312 => k0_hw312

def k0_off313 (v3428 : BitVec 32) : Fin 2 → Nat :=
  let c0_i32_2815 : BitVec 32 := 0#32
  let v3430 : BitVec 32 := Scalar.maxsi v3428 c0_i32_2815
  let v3431 : Index := Scalar.indexCast v3430
  let c0_2816 : Index := 0#32
  ![v3431.toNat, 0]

def k0_chk313 (v3428 : BitVec 32) : Prop :=
  (∀ a, (k0_off313 v3428) a + S1x64.size a ≤ S2048x64.size a)
theorem k0_off313_inb : ∀ (v3428 : BitVec 32) (k0_hw313 : k0_chk313 v3428), ∀ a, (k0_off313 v3428) a + S1x64.size a ≤ S2048x64.size a := fun v3428 k0_hw313 => k0_hw313

def k0_off314 (v3439 : BitVec 32) : Fin 2 → Nat :=
  let c0_i32_2824 : BitVec 32 := 0#32
  let v3441 : BitVec 32 := Scalar.maxsi v3439 c0_i32_2824
  let v3442 : Index := Scalar.indexCast v3441
  let c0_2825 : Index := 0#32
  ![v3442.toNat, 0]

def k0_chk314 (v3439 : BitVec 32) : Prop :=
  (∀ a, (k0_off314 v3439) a + S1x64.size a ≤ S2048x64.size a)
theorem k0_off314_inb : ∀ (v3439 : BitVec 32) (k0_hw314 : k0_chk314 v3439), ∀ a, (k0_off314 v3439) a + S1x64.size a ≤ S2048x64.size a := fun v3439 k0_hw314 => k0_hw314

def k0_off315 (v3450 : BitVec 32) : Fin 2 → Nat :=
  let c0_i32_2833 : BitVec 32 := 0#32
  let v3452 : BitVec 32 := Scalar.maxsi v3450 c0_i32_2833
  let v3453 : Index := Scalar.indexCast v3452
  let c0_2834 : Index := 0#32
  ![v3453.toNat, 0]

def k0_chk315 (v3450 : BitVec 32) : Prop :=
  (∀ a, (k0_off315 v3450) a + S1x64.size a ≤ S2048x64.size a)
theorem k0_off315_inb : ∀ (v3450 : BitVec 32) (k0_hw315 : k0_chk315 v3450), ∀ a, (k0_off315 v3450) a + S1x64.size a ≤ S2048x64.size a := fun v3450 k0_hw315 => k0_hw315

def k0_off316 (v3461 : BitVec 32) : Fin 2 → Nat :=
  let c0_i32_2842 : BitVec 32 := 0#32
  let v3463 : BitVec 32 := Scalar.maxsi v3461 c0_i32_2842
  let v3464 : Index := Scalar.indexCast v3463
  let c0_2843 : Index := 0#32
  ![v3464.toNat, 0]

def k0_chk316 (v3461 : BitVec 32) : Prop :=
  (∀ a, (k0_off316 v3461) a + S1x64.size a ≤ S2048x64.size a)
theorem k0_off316_inb : ∀ (v3461 : BitVec 32) (k0_hw316 : k0_chk316 v3461), ∀ a, (k0_off316 v3461) a + S1x64.size a ≤ S2048x64.size a := fun v3461 k0_hw316 => k0_hw316

def k0_off317 (v3472 : BitVec 32) : Fin 2 → Nat :=
  let c0_i32_2851 : BitVec 32 := 0#32
  let v3474 : BitVec 32 := Scalar.maxsi v3472 c0_i32_2851
  let v3475 : Index := Scalar.indexCast v3474
  let c0_2852 : Index := 0#32
  ![v3475.toNat, 0]

def k0_chk317 (v3472 : BitVec 32) : Prop :=
  (∀ a, (k0_off317 v3472) a + S1x64.size a ≤ S2048x64.size a)
theorem k0_off317_inb : ∀ (v3472 : BitVec 32) (k0_hw317 : k0_chk317 v3472), ∀ a, (k0_off317 v3472) a + S1x64.size a ≤ S2048x64.size a := fun v3472 k0_hw317 => k0_hw317

def k0_off318 (v3483 : BitVec 32) : Fin 2 → Nat :=
  let c0_i32_2860 : BitVec 32 := 0#32
  let v3485 : BitVec 32 := Scalar.maxsi v3483 c0_i32_2860
  let v3486 : Index := Scalar.indexCast v3485
  let c0_2861 : Index := 0#32
  ![v3486.toNat, 0]

def k0_chk318 (v3483 : BitVec 32) : Prop :=
  (∀ a, (k0_off318 v3483) a + S1x64.size a ≤ S2048x64.size a)
theorem k0_off318_inb : ∀ (v3483 : BitVec 32) (k0_hw318 : k0_chk318 v3483), ∀ a, (k0_off318 v3483) a + S1x64.size a ≤ S2048x64.size a := fun v3483 k0_hw318 => k0_hw318

def k0_off319 (v3494 : BitVec 32) : Fin 2 → Nat :=
  let c0_i32_2869 : BitVec 32 := 0#32
  let v3496 : BitVec 32 := Scalar.maxsi v3494 c0_i32_2869
  let v3497 : Index := Scalar.indexCast v3496
  let c0_2870 : Index := 0#32
  ![v3497.toNat, 0]

def k0_chk319 (v3494 : BitVec 32) : Prop :=
  (∀ a, (k0_off319 v3494) a + S1x64.size a ≤ S2048x64.size a)
theorem k0_off319_inb : ∀ (v3494 : BitVec 32) (k0_hw319 : k0_chk319 v3494), ∀ a, (k0_off319 v3494) a + S1x64.size a ≤ S2048x64.size a := fun v3494 k0_hw319 => k0_hw319

def k0_off320 (v3505 : BitVec 32) : Fin 2 → Nat :=
  let c0_i32_2878 : BitVec 32 := 0#32
  let v3507 : BitVec 32 := Scalar.maxsi v3505 c0_i32_2878
  let v3508 : Index := Scalar.indexCast v3507
  let c0_2879 : Index := 0#32
  ![v3508.toNat, 0]

def k0_chk320 (v3505 : BitVec 32) : Prop :=
  (∀ a, (k0_off320 v3505) a + S1x64.size a ≤ S2048x64.size a)
theorem k0_off320_inb : ∀ (v3505 : BitVec 32) (k0_hw320 : k0_chk320 v3505), ∀ a, (k0_off320 v3505) a + S1x64.size a ≤ S2048x64.size a := fun v3505 k0_hw320 => k0_hw320

def k0_off321 (v3516 : BitVec 32) : Fin 2 → Nat :=
  let c0_i32_2887 : BitVec 32 := 0#32
  let v3518 : BitVec 32 := Scalar.maxsi v3516 c0_i32_2887
  let v3519 : Index := Scalar.indexCast v3518
  let c0_2888 : Index := 0#32
  ![v3519.toNat, 0]

def k0_chk321 (v3516 : BitVec 32) : Prop :=
  (∀ a, (k0_off321 v3516) a + S1x64.size a ≤ S2048x64.size a)
theorem k0_off321_inb : ∀ (v3516 : BitVec 32) (k0_hw321 : k0_chk321 v3516), ∀ a, (k0_off321 v3516) a + S1x64.size a ≤ S2048x64.size a := fun v3516 k0_hw321 => k0_hw321

def k0_off322 (v3527 : BitVec 32) : Fin 2 → Nat :=
  let c0_i32_2896 : BitVec 32 := 0#32
  let v3529 : BitVec 32 := Scalar.maxsi v3527 c0_i32_2896
  let v3530 : Index := Scalar.indexCast v3529
  let c0_2897 : Index := 0#32
  ![v3530.toNat, 0]

def k0_chk322 (v3527 : BitVec 32) : Prop :=
  (∀ a, (k0_off322 v3527) a + S1x64.size a ≤ S2048x64.size a)
theorem k0_off322_inb : ∀ (v3527 : BitVec 32) (k0_hw322 : k0_chk322 v3527), ∀ a, (k0_off322 v3527) a + S1x64.size a ≤ S2048x64.size a := fun v3527 k0_hw322 => k0_hw322

def k0_off323 (v3538 : BitVec 32) : Fin 2 → Nat :=
  let c0_i32_2905 : BitVec 32 := 0#32
  let v3540 : BitVec 32 := Scalar.maxsi v3538 c0_i32_2905
  let v3541 : Index := Scalar.indexCast v3540
  let c0_2906 : Index := 0#32
  ![v3541.toNat, 0]

def k0_chk323 (v3538 : BitVec 32) : Prop :=
  (∀ a, (k0_off323 v3538) a + S1x64.size a ≤ S2048x64.size a)
theorem k0_off323_inb : ∀ (v3538 : BitVec 32) (k0_hw323 : k0_chk323 v3538), ∀ a, (k0_off323 v3538) a + S1x64.size a ≤ S2048x64.size a := fun v3538 k0_hw323 => k0_hw323

def k0_off324 (v3549 : BitVec 32) : Fin 2 → Nat :=
  let c0_i32_2914 : BitVec 32 := 0#32
  let v3551 : BitVec 32 := Scalar.maxsi v3549 c0_i32_2914
  let v3552 : Index := Scalar.indexCast v3551
  let c0_2915 : Index := 0#32
  ![v3552.toNat, 0]

def k0_chk324 (v3549 : BitVec 32) : Prop :=
  (∀ a, (k0_off324 v3549) a + S1x64.size a ≤ S2048x64.size a)
theorem k0_off324_inb : ∀ (v3549 : BitVec 32) (k0_hw324 : k0_chk324 v3549), ∀ a, (k0_off324 v3549) a + S1x64.size a ≤ S2048x64.size a := fun v3549 k0_hw324 => k0_hw324

def k0_off325 (v3560 : BitVec 32) : Fin 2 → Nat :=
  let c0_i32_2923 : BitVec 32 := 0#32
  let v3562 : BitVec 32 := Scalar.maxsi v3560 c0_i32_2923
  let v3563 : Index := Scalar.indexCast v3562
  let c0_2924 : Index := 0#32
  ![v3563.toNat, 0]

def k0_chk325 (v3560 : BitVec 32) : Prop :=
  (∀ a, (k0_off325 v3560) a + S1x64.size a ≤ S2048x64.size a)
theorem k0_off325_inb : ∀ (v3560 : BitVec 32) (k0_hw325 : k0_chk325 v3560), ∀ a, (k0_off325 v3560) a + S1x64.size a ≤ S2048x64.size a := fun v3560 k0_hw325 => k0_hw325

def k0_off326 (v3571 : BitVec 32) : Fin 2 → Nat :=
  let c0_i32_2932 : BitVec 32 := 0#32
  let v3573 : BitVec 32 := Scalar.maxsi v3571 c0_i32_2932
  let v3574 : Index := Scalar.indexCast v3573
  let c0_2933 : Index := 0#32
  ![v3574.toNat, 0]

def k0_chk326 (v3571 : BitVec 32) : Prop :=
  (∀ a, (k0_off326 v3571) a + S1x64.size a ≤ S2048x64.size a)
theorem k0_off326_inb : ∀ (v3571 : BitVec 32) (k0_hw326 : k0_chk326 v3571), ∀ a, (k0_off326 v3571) a + S1x64.size a ≤ S2048x64.size a := fun v3571 k0_hw326 => k0_hw326

def k0_off327 (v3582 : BitVec 32) : Fin 2 → Nat :=
  let c0_i32_2941 : BitVec 32 := 0#32
  let v3584 : BitVec 32 := Scalar.maxsi v3582 c0_i32_2941
  let v3585 : Index := Scalar.indexCast v3584
  let c0_2942 : Index := 0#32
  ![v3585.toNat, 0]

def k0_chk327 (v3582 : BitVec 32) : Prop :=
  (∀ a, (k0_off327 v3582) a + S1x64.size a ≤ S2048x64.size a)
theorem k0_off327_inb : ∀ (v3582 : BitVec 32) (k0_hw327 : k0_chk327 v3582), ∀ a, (k0_off327 v3582) a + S1x64.size a ≤ S2048x64.size a := fun v3582 k0_hw327 => k0_hw327

def k0_off328 (v3593 : BitVec 32) : Fin 2 → Nat :=
  let c0_i32_2950 : BitVec 32 := 0#32
  let v3595 : BitVec 32 := Scalar.maxsi v3593 c0_i32_2950
  let v3596 : Index := Scalar.indexCast v3595
  let c0_2951 : Index := 0#32
  ![v3596.toNat, 0]

def k0_chk328 (v3593 : BitVec 32) : Prop :=
  (∀ a, (k0_off328 v3593) a + S1x64.size a ≤ S2048x64.size a)
theorem k0_off328_inb : ∀ (v3593 : BitVec 32) (k0_hw328 : k0_chk328 v3593), ∀ a, (k0_off328 v3593) a + S1x64.size a ≤ S2048x64.size a := fun v3593 k0_hw328 => k0_hw328

def k0_off329 (v3604 : BitVec 32) : Fin 2 → Nat :=
  let c0_i32_2959 : BitVec 32 := 0#32
  let v3606 : BitVec 32 := Scalar.maxsi v3604 c0_i32_2959
  let v3607 : Index := Scalar.indexCast v3606
  let c0_2960 : Index := 0#32
  ![v3607.toNat, 0]

def k0_chk329 (v3604 : BitVec 32) : Prop :=
  (∀ a, (k0_off329 v3604) a + S1x64.size a ≤ S2048x64.size a)
theorem k0_off329_inb : ∀ (v3604 : BitVec 32) (k0_hw329 : k0_chk329 v3604), ∀ a, (k0_off329 v3604) a + S1x64.size a ≤ S2048x64.size a := fun v3604 k0_hw329 => k0_hw329

def k0_off330 (v3615 : BitVec 32) : Fin 2 → Nat :=
  let c0_i32_2968 : BitVec 32 := 0#32
  let v3617 : BitVec 32 := Scalar.maxsi v3615 c0_i32_2968
  let v3618 : Index := Scalar.indexCast v3617
  let c0_2969 : Index := 0#32
  ![v3618.toNat, 0]

def k0_chk330 (v3615 : BitVec 32) : Prop :=
  (∀ a, (k0_off330 v3615) a + S1x64.size a ≤ S2048x64.size a)
theorem k0_off330_inb : ∀ (v3615 : BitVec 32) (k0_hw330 : k0_chk330 v3615), ∀ a, (k0_off330 v3615) a + S1x64.size a ≤ S2048x64.size a := fun v3615 k0_hw330 => k0_hw330

def k0_off331 (v3626 : BitVec 32) : Fin 2 → Nat :=
  let c0_i32_2977 : BitVec 32 := 0#32
  let v3628 : BitVec 32 := Scalar.maxsi v3626 c0_i32_2977
  let v3629 : Index := Scalar.indexCast v3628
  let c0_2978 : Index := 0#32
  ![v3629.toNat, 0]

def k0_chk331 (v3626 : BitVec 32) : Prop :=
  (∀ a, (k0_off331 v3626) a + S1x64.size a ≤ S2048x64.size a)
theorem k0_off331_inb : ∀ (v3626 : BitVec 32) (k0_hw331 : k0_chk331 v3626), ∀ a, (k0_off331 v3626) a + S1x64.size a ≤ S2048x64.size a := fun v3626 k0_hw331 => k0_hw331

def k0_off332 (v3637 : BitVec 32) : Fin 2 → Nat :=
  let c0_i32_2986 : BitVec 32 := 0#32
  let v3639 : BitVec 32 := Scalar.maxsi v3637 c0_i32_2986
  let v3640 : Index := Scalar.indexCast v3639
  let c0_2987 : Index := 0#32
  ![v3640.toNat, 0]

def k0_chk332 (v3637 : BitVec 32) : Prop :=
  (∀ a, (k0_off332 v3637) a + S1x64.size a ≤ S2048x64.size a)
theorem k0_off332_inb : ∀ (v3637 : BitVec 32) (k0_hw332 : k0_chk332 v3637), ∀ a, (k0_off332 v3637) a + S1x64.size a ≤ S2048x64.size a := fun v3637 k0_hw332 => k0_hw332

def k0_off333 (v3648 : BitVec 32) : Fin 2 → Nat :=
  let c0_i32_2995 : BitVec 32 := 0#32
  let v3650 : BitVec 32 := Scalar.maxsi v3648 c0_i32_2995
  let v3651 : Index := Scalar.indexCast v3650
  let c0_2996 : Index := 0#32
  ![v3651.toNat, 0]

def k0_chk333 (v3648 : BitVec 32) : Prop :=
  (∀ a, (k0_off333 v3648) a + S1x64.size a ≤ S2048x64.size a)
theorem k0_off333_inb : ∀ (v3648 : BitVec 32) (k0_hw333 : k0_chk333 v3648), ∀ a, (k0_off333 v3648) a + S1x64.size a ≤ S2048x64.size a := fun v3648 k0_hw333 => k0_hw333

def k0_off334 (v3659 : BitVec 32) : Fin 2 → Nat :=
  let c0_i32_3004 : BitVec 32 := 0#32
  let v3661 : BitVec 32 := Scalar.maxsi v3659 c0_i32_3004
  let v3662 : Index := Scalar.indexCast v3661
  let c0_3005 : Index := 0#32
  ![v3662.toNat, 0]

def k0_chk334 (v3659 : BitVec 32) : Prop :=
  (∀ a, (k0_off334 v3659) a + S1x64.size a ≤ S2048x64.size a)
theorem k0_off334_inb : ∀ (v3659 : BitVec 32) (k0_hw334 : k0_chk334 v3659), ∀ a, (k0_off334 v3659) a + S1x64.size a ≤ S2048x64.size a := fun v3659 k0_hw334 => k0_hw334

def k0_off335 (v3670 : BitVec 32) : Fin 2 → Nat :=
  let c0_i32_3013 : BitVec 32 := 0#32
  let v3672 : BitVec 32 := Scalar.maxsi v3670 c0_i32_3013
  let v3673 : Index := Scalar.indexCast v3672
  let c0_3014 : Index := 0#32
  ![v3673.toNat, 0]

def k0_chk335 (v3670 : BitVec 32) : Prop :=
  (∀ a, (k0_off335 v3670) a + S1x64.size a ≤ S2048x64.size a)
theorem k0_off335_inb : ∀ (v3670 : BitVec 32) (k0_hw335 : k0_chk335 v3670), ∀ a, (k0_off335 v3670) a + S1x64.size a ≤ S2048x64.size a := fun v3670 k0_hw335 => k0_hw335

def k0_off336 (v3681 : BitVec 32) : Fin 2 → Nat :=
  let c0_i32_3022 : BitVec 32 := 0#32
  let v3683 : BitVec 32 := Scalar.maxsi v3681 c0_i32_3022
  let v3684 : Index := Scalar.indexCast v3683
  let c0_3023 : Index := 0#32
  ![v3684.toNat, 0]

def k0_chk336 (v3681 : BitVec 32) : Prop :=
  (∀ a, (k0_off336 v3681) a + S1x64.size a ≤ S2048x64.size a)
theorem k0_off336_inb : ∀ (v3681 : BitVec 32) (k0_hw336 : k0_chk336 v3681), ∀ a, (k0_off336 v3681) a + S1x64.size a ≤ S2048x64.size a := fun v3681 k0_hw336 => k0_hw336

def k0_off337 (v3692 : BitVec 32) : Fin 2 → Nat :=
  let c0_i32_3031 : BitVec 32 := 0#32
  let v3694 : BitVec 32 := Scalar.maxsi v3692 c0_i32_3031
  let v3695 : Index := Scalar.indexCast v3694
  let c0_3032 : Index := 0#32
  ![v3695.toNat, 0]

def k0_chk337 (v3692 : BitVec 32) : Prop :=
  (∀ a, (k0_off337 v3692) a + S1x64.size a ≤ S2048x64.size a)
theorem k0_off337_inb : ∀ (v3692 : BitVec 32) (k0_hw337 : k0_chk337 v3692), ∀ a, (k0_off337 v3692) a + S1x64.size a ≤ S2048x64.size a := fun v3692 k0_hw337 => k0_hw337

def k0_off338 (v3703 : BitVec 32) : Fin 2 → Nat :=
  let c0_i32_3040 : BitVec 32 := 0#32
  let v3705 : BitVec 32 := Scalar.maxsi v3703 c0_i32_3040
  let v3706 : Index := Scalar.indexCast v3705
  let c0_3041 : Index := 0#32
  ![v3706.toNat, 0]

def k0_chk338 (v3703 : BitVec 32) : Prop :=
  (∀ a, (k0_off338 v3703) a + S1x64.size a ≤ S2048x64.size a)
theorem k0_off338_inb : ∀ (v3703 : BitVec 32) (k0_hw338 : k0_chk338 v3703), ∀ a, (k0_off338 v3703) a + S1x64.size a ≤ S2048x64.size a := fun v3703 k0_hw338 => k0_hw338

def k0_off339 (v3714 : BitVec 32) : Fin 2 → Nat :=
  let c0_i32_3049 : BitVec 32 := 0#32
  let v3716 : BitVec 32 := Scalar.maxsi v3714 c0_i32_3049
  let v3717 : Index := Scalar.indexCast v3716
  let c0_3050 : Index := 0#32
  ![v3717.toNat, 0]

def k0_chk339 (v3714 : BitVec 32) : Prop :=
  (∀ a, (k0_off339 v3714) a + S1x64.size a ≤ S2048x64.size a)
theorem k0_off339_inb : ∀ (v3714 : BitVec 32) (k0_hw339 : k0_chk339 v3714), ∀ a, (k0_off339 v3714) a + S1x64.size a ≤ S2048x64.size a := fun v3714 k0_hw339 => k0_hw339

def k0_off340 (v3725 : BitVec 32) : Fin 2 → Nat :=
  let c0_i32_3058 : BitVec 32 := 0#32
  let v3727 : BitVec 32 := Scalar.maxsi v3725 c0_i32_3058
  let v3728 : Index := Scalar.indexCast v3727
  let c0_3059 : Index := 0#32
  ![v3728.toNat, 0]

def k0_chk340 (v3725 : BitVec 32) : Prop :=
  (∀ a, (k0_off340 v3725) a + S1x64.size a ≤ S2048x64.size a)
theorem k0_off340_inb : ∀ (v3725 : BitVec 32) (k0_hw340 : k0_chk340 v3725), ∀ a, (k0_off340 v3725) a + S1x64.size a ≤ S2048x64.size a := fun v3725 k0_hw340 => k0_hw340

def k0_off341 (v3736 : BitVec 32) : Fin 2 → Nat :=
  let c0_i32_3067 : BitVec 32 := 0#32
  let v3738 : BitVec 32 := Scalar.maxsi v3736 c0_i32_3067
  let v3739 : Index := Scalar.indexCast v3738
  let c0_3068 : Index := 0#32
  ![v3739.toNat, 0]

def k0_chk341 (v3736 : BitVec 32) : Prop :=
  (∀ a, (k0_off341 v3736) a + S1x64.size a ≤ S2048x64.size a)
theorem k0_off341_inb : ∀ (v3736 : BitVec 32) (k0_hw341 : k0_chk341 v3736), ∀ a, (k0_off341 v3736) a + S1x64.size a ≤ S2048x64.size a := fun v3736 k0_hw341 => k0_hw341

def k0_off342 (v3747 : BitVec 32) : Fin 2 → Nat :=
  let c0_i32_3076 : BitVec 32 := 0#32
  let v3749 : BitVec 32 := Scalar.maxsi v3747 c0_i32_3076
  let v3750 : Index := Scalar.indexCast v3749
  let c0_3077 : Index := 0#32
  ![v3750.toNat, 0]

def k0_chk342 (v3747 : BitVec 32) : Prop :=
  (∀ a, (k0_off342 v3747) a + S1x64.size a ≤ S2048x64.size a)
theorem k0_off342_inb : ∀ (v3747 : BitVec 32) (k0_hw342 : k0_chk342 v3747), ∀ a, (k0_off342 v3747) a + S1x64.size a ≤ S2048x64.size a := fun v3747 k0_hw342 => k0_hw342

def k0_off343 (v3758 : BitVec 32) : Fin 2 → Nat :=
  let c0_i32_3085 : BitVec 32 := 0#32
  let v3760 : BitVec 32 := Scalar.maxsi v3758 c0_i32_3085
  let v3761 : Index := Scalar.indexCast v3760
  let c0_3086 : Index := 0#32
  ![v3761.toNat, 0]

def k0_chk343 (v3758 : BitVec 32) : Prop :=
  (∀ a, (k0_off343 v3758) a + S1x64.size a ≤ S2048x64.size a)
theorem k0_off343_inb : ∀ (v3758 : BitVec 32) (k0_hw343 : k0_chk343 v3758), ∀ a, (k0_off343 v3758) a + S1x64.size a ≤ S2048x64.size a := fun v3758 k0_hw343 => k0_hw343

def k0_off344 (v3769 : BitVec 32) : Fin 2 → Nat :=
  let c0_i32_3094 : BitVec 32 := 0#32
  let v3771 : BitVec 32 := Scalar.maxsi v3769 c0_i32_3094
  let v3772 : Index := Scalar.indexCast v3771
  let c0_3095 : Index := 0#32
  ![v3772.toNat, 0]

def k0_chk344 (v3769 : BitVec 32) : Prop :=
  (∀ a, (k0_off344 v3769) a + S1x64.size a ≤ S2048x64.size a)
theorem k0_off344_inb : ∀ (v3769 : BitVec 32) (k0_hw344 : k0_chk344 v3769), ∀ a, (k0_off344 v3769) a + S1x64.size a ≤ S2048x64.size a := fun v3769 k0_hw344 => k0_hw344

def k0_off345 (v3780 : BitVec 32) : Fin 2 → Nat :=
  let c0_i32_3103 : BitVec 32 := 0#32
  let v3782 : BitVec 32 := Scalar.maxsi v3780 c0_i32_3103
  let v3783 : Index := Scalar.indexCast v3782
  let c0_3104 : Index := 0#32
  ![v3783.toNat, 0]

def k0_chk345 (v3780 : BitVec 32) : Prop :=
  (∀ a, (k0_off345 v3780) a + S1x64.size a ≤ S2048x64.size a)
theorem k0_off345_inb : ∀ (v3780 : BitVec 32) (k0_hw345 : k0_chk345 v3780), ∀ a, (k0_off345 v3780) a + S1x64.size a ≤ S2048x64.size a := fun v3780 k0_hw345 => k0_hw345

def k0_off346 (v3791 : BitVec 32) : Fin 2 → Nat :=
  let c0_i32_3112 : BitVec 32 := 0#32
  let v3793 : BitVec 32 := Scalar.maxsi v3791 c0_i32_3112
  let v3794 : Index := Scalar.indexCast v3793
  let c0_3113 : Index := 0#32
  ![v3794.toNat, 0]

def k0_chk346 (v3791 : BitVec 32) : Prop :=
  (∀ a, (k0_off346 v3791) a + S1x64.size a ≤ S2048x64.size a)
theorem k0_off346_inb : ∀ (v3791 : BitVec 32) (k0_hw346 : k0_chk346 v3791), ∀ a, (k0_off346 v3791) a + S1x64.size a ≤ S2048x64.size a := fun v3791 k0_hw346 => k0_hw346

def k0_off347 (v3802 : BitVec 32) : Fin 2 → Nat :=
  let c0_i32_3121 : BitVec 32 := 0#32
  let v3804 : BitVec 32 := Scalar.maxsi v3802 c0_i32_3121
  let v3805 : Index := Scalar.indexCast v3804
  let c0_3122 : Index := 0#32
  ![v3805.toNat, 0]

def k0_chk347 (v3802 : BitVec 32) : Prop :=
  (∀ a, (k0_off347 v3802) a + S1x64.size a ≤ S2048x64.size a)
theorem k0_off347_inb : ∀ (v3802 : BitVec 32) (k0_hw347 : k0_chk347 v3802), ∀ a, (k0_off347 v3802) a + S1x64.size a ≤ S2048x64.size a := fun v3802 k0_hw347 => k0_hw347

def k0_off348 (v3813 : BitVec 32) : Fin 2 → Nat :=
  let c0_i32_3130 : BitVec 32 := 0#32
  let v3815 : BitVec 32 := Scalar.maxsi v3813 c0_i32_3130
  let v3816 : Index := Scalar.indexCast v3815
  let c0_3131 : Index := 0#32
  ![v3816.toNat, 0]

def k0_chk348 (v3813 : BitVec 32) : Prop :=
  (∀ a, (k0_off348 v3813) a + S1x64.size a ≤ S2048x64.size a)
theorem k0_off348_inb : ∀ (v3813 : BitVec 32) (k0_hw348 : k0_chk348 v3813), ∀ a, (k0_off348 v3813) a + S1x64.size a ≤ S2048x64.size a := fun v3813 k0_hw348 => k0_hw348

def k0_off349 (v3824 : BitVec 32) : Fin 2 → Nat :=
  let c0_i32_3139 : BitVec 32 := 0#32
  let v3826 : BitVec 32 := Scalar.maxsi v3824 c0_i32_3139
  let v3827 : Index := Scalar.indexCast v3826
  let c0_3140 : Index := 0#32
  ![v3827.toNat, 0]

def k0_chk349 (v3824 : BitVec 32) : Prop :=
  (∀ a, (k0_off349 v3824) a + S1x64.size a ≤ S2048x64.size a)
theorem k0_off349_inb : ∀ (v3824 : BitVec 32) (k0_hw349 : k0_chk349 v3824), ∀ a, (k0_off349 v3824) a + S1x64.size a ≤ S2048x64.size a := fun v3824 k0_hw349 => k0_hw349

def k0_off350 (v3835 : BitVec 32) : Fin 2 → Nat :=
  let c0_i32_3148 : BitVec 32 := 0#32
  let v3837 : BitVec 32 := Scalar.maxsi v3835 c0_i32_3148
  let v3838 : Index := Scalar.indexCast v3837
  let c0_3149 : Index := 0#32
  ![v3838.toNat, 0]

def k0_chk350 (v3835 : BitVec 32) : Prop :=
  (∀ a, (k0_off350 v3835) a + S1x64.size a ≤ S2048x64.size a)
theorem k0_off350_inb : ∀ (v3835 : BitVec 32) (k0_hw350 : k0_chk350 v3835), ∀ a, (k0_off350 v3835) a + S1x64.size a ≤ S2048x64.size a := fun v3835 k0_hw350 => k0_hw350

def k0_off351 (v3846 : BitVec 32) : Fin 2 → Nat :=
  let c0_i32_3157 : BitVec 32 := 0#32
  let v3848 : BitVec 32 := Scalar.maxsi v3846 c0_i32_3157
  let v3849 : Index := Scalar.indexCast v3848
  let c0_3158 : Index := 0#32
  ![v3849.toNat, 0]

def k0_chk351 (v3846 : BitVec 32) : Prop :=
  (∀ a, (k0_off351 v3846) a + S1x64.size a ≤ S2048x64.size a)
theorem k0_off351_inb : ∀ (v3846 : BitVec 32) (k0_hw351 : k0_chk351 v3846), ∀ a, (k0_off351 v3846) a + S1x64.size a ≤ S2048x64.size a := fun v3846 k0_hw351 => k0_hw351

def k0_off352 (v3857 : BitVec 32) : Fin 2 → Nat :=
  let c0_i32_3166 : BitVec 32 := 0#32
  let v3859 : BitVec 32 := Scalar.maxsi v3857 c0_i32_3166
  let v3860 : Index := Scalar.indexCast v3859
  let c0_3167 : Index := 0#32
  ![v3860.toNat, 0]

def k0_chk352 (v3857 : BitVec 32) : Prop :=
  (∀ a, (k0_off352 v3857) a + S1x64.size a ≤ S2048x64.size a)
theorem k0_off352_inb : ∀ (v3857 : BitVec 32) (k0_hw352 : k0_chk352 v3857), ∀ a, (k0_off352 v3857) a + S1x64.size a ≤ S2048x64.size a := fun v3857 k0_hw352 => k0_hw352

def k0_off353 (v3868 : BitVec 32) : Fin 2 → Nat :=
  let c0_i32_3175 : BitVec 32 := 0#32
  let v3870 : BitVec 32 := Scalar.maxsi v3868 c0_i32_3175
  let v3871 : Index := Scalar.indexCast v3870
  let c0_3176 : Index := 0#32
  ![v3871.toNat, 0]

def k0_chk353 (v3868 : BitVec 32) : Prop :=
  (∀ a, (k0_off353 v3868) a + S1x64.size a ≤ S2048x64.size a)
theorem k0_off353_inb : ∀ (v3868 : BitVec 32) (k0_hw353 : k0_chk353 v3868), ∀ a, (k0_off353 v3868) a + S1x64.size a ≤ S2048x64.size a := fun v3868 k0_hw353 => k0_hw353

def k0_off354 (v3879 : BitVec 32) : Fin 2 → Nat :=
  let c0_i32_3184 : BitVec 32 := 0#32
  let v3881 : BitVec 32 := Scalar.maxsi v3879 c0_i32_3184
  let v3882 : Index := Scalar.indexCast v3881
  let c0_3185 : Index := 0#32
  ![v3882.toNat, 0]

def k0_chk354 (v3879 : BitVec 32) : Prop :=
  (∀ a, (k0_off354 v3879) a + S1x64.size a ≤ S2048x64.size a)
theorem k0_off354_inb : ∀ (v3879 : BitVec 32) (k0_hw354 : k0_chk354 v3879), ∀ a, (k0_off354 v3879) a + S1x64.size a ≤ S2048x64.size a := fun v3879 k0_hw354 => k0_hw354

def k0_off355 (v3890 : BitVec 32) : Fin 2 → Nat :=
  let c0_i32_3193 : BitVec 32 := 0#32
  let v3892 : BitVec 32 := Scalar.maxsi v3890 c0_i32_3193
  let v3893 : Index := Scalar.indexCast v3892
  let c0_3194 : Index := 0#32
  ![v3893.toNat, 0]

def k0_chk355 (v3890 : BitVec 32) : Prop :=
  (∀ a, (k0_off355 v3890) a + S1x64.size a ≤ S2048x64.size a)
theorem k0_off355_inb : ∀ (v3890 : BitVec 32) (k0_hw355 : k0_chk355 v3890), ∀ a, (k0_off355 v3890) a + S1x64.size a ≤ S2048x64.size a := fun v3890 k0_hw355 => k0_hw355

def k0_off356 (v3901 : BitVec 32) : Fin 2 → Nat :=
  let c0_i32_3202 : BitVec 32 := 0#32
  let v3903 : BitVec 32 := Scalar.maxsi v3901 c0_i32_3202
  let v3904 : Index := Scalar.indexCast v3903
  let c0_3203 : Index := 0#32
  ![v3904.toNat, 0]

def k0_chk356 (v3901 : BitVec 32) : Prop :=
  (∀ a, (k0_off356 v3901) a + S1x64.size a ≤ S2048x64.size a)
theorem k0_off356_inb : ∀ (v3901 : BitVec 32) (k0_hw356 : k0_chk356 v3901), ∀ a, (k0_off356 v3901) a + S1x64.size a ≤ S2048x64.size a := fun v3901 k0_hw356 => k0_hw356

def k0_off357 (v3912 : BitVec 32) : Fin 2 → Nat :=
  let c0_i32_3211 : BitVec 32 := 0#32
  let v3914 : BitVec 32 := Scalar.maxsi v3912 c0_i32_3211
  let v3915 : Index := Scalar.indexCast v3914
  let c0_3212 : Index := 0#32
  ![v3915.toNat, 0]

def k0_chk357 (v3912 : BitVec 32) : Prop :=
  (∀ a, (k0_off357 v3912) a + S1x64.size a ≤ S2048x64.size a)
theorem k0_off357_inb : ∀ (v3912 : BitVec 32) (k0_hw357 : k0_chk357 v3912), ∀ a, (k0_off357 v3912) a + S1x64.size a ≤ S2048x64.size a := fun v3912 k0_hw357 => k0_hw357

def k0_off358 (v3923 : BitVec 32) : Fin 2 → Nat :=
  let c0_i32_3220 : BitVec 32 := 0#32
  let v3925 : BitVec 32 := Scalar.maxsi v3923 c0_i32_3220
  let v3926 : Index := Scalar.indexCast v3925
  let c0_3221 : Index := 0#32
  ![v3926.toNat, 0]

def k0_chk358 (v3923 : BitVec 32) : Prop :=
  (∀ a, (k0_off358 v3923) a + S1x64.size a ≤ S2048x64.size a)
theorem k0_off358_inb : ∀ (v3923 : BitVec 32) (k0_hw358 : k0_chk358 v3923), ∀ a, (k0_off358 v3923) a + S1x64.size a ≤ S2048x64.size a := fun v3923 k0_hw358 => k0_hw358

def k0_off359 (v3934 : BitVec 32) : Fin 2 → Nat :=
  let c0_i32_3229 : BitVec 32 := 0#32
  let v3936 : BitVec 32 := Scalar.maxsi v3934 c0_i32_3229
  let v3937 : Index := Scalar.indexCast v3936
  let c0_3230 : Index := 0#32
  ![v3937.toNat, 0]

def k0_chk359 (v3934 : BitVec 32) : Prop :=
  (∀ a, (k0_off359 v3934) a + S1x64.size a ≤ S2048x64.size a)
theorem k0_off359_inb : ∀ (v3934 : BitVec 32) (k0_hw359 : k0_chk359 v3934), ∀ a, (k0_off359 v3934) a + S1x64.size a ≤ S2048x64.size a := fun v3934 k0_hw359 => k0_hw359

def k0_off360 (v3945 : BitVec 32) : Fin 2 → Nat :=
  let c0_i32_3238 : BitVec 32 := 0#32
  let v3947 : BitVec 32 := Scalar.maxsi v3945 c0_i32_3238
  let v3948 : Index := Scalar.indexCast v3947
  let c0_3239 : Index := 0#32
  ![v3948.toNat, 0]

def k0_chk360 (v3945 : BitVec 32) : Prop :=
  (∀ a, (k0_off360 v3945) a + S1x64.size a ≤ S2048x64.size a)
theorem k0_off360_inb : ∀ (v3945 : BitVec 32) (k0_hw360 : k0_chk360 v3945), ∀ a, (k0_off360 v3945) a + S1x64.size a ≤ S2048x64.size a := fun v3945 k0_hw360 => k0_hw360

def k0_off361 (v3956 : BitVec 32) : Fin 2 → Nat :=
  let c0_i32_3247 : BitVec 32 := 0#32
  let v3958 : BitVec 32 := Scalar.maxsi v3956 c0_i32_3247
  let v3959 : Index := Scalar.indexCast v3958
  let c0_3248 : Index := 0#32
  ![v3959.toNat, 0]

def k0_chk361 (v3956 : BitVec 32) : Prop :=
  (∀ a, (k0_off361 v3956) a + S1x64.size a ≤ S2048x64.size a)
theorem k0_off361_inb : ∀ (v3956 : BitVec 32) (k0_hw361 : k0_chk361 v3956), ∀ a, (k0_off361 v3956) a + S1x64.size a ≤ S2048x64.size a := fun v3956 k0_hw361 => k0_hw361

def k0_off362 (v3967 : BitVec 32) : Fin 2 → Nat :=
  let c0_i32_3256 : BitVec 32 := 0#32
  let v3969 : BitVec 32 := Scalar.maxsi v3967 c0_i32_3256
  let v3970 : Index := Scalar.indexCast v3969
  let c0_3257 : Index := 0#32
  ![v3970.toNat, 0]

def k0_chk362 (v3967 : BitVec 32) : Prop :=
  (∀ a, (k0_off362 v3967) a + S1x64.size a ≤ S2048x64.size a)
theorem k0_off362_inb : ∀ (v3967 : BitVec 32) (k0_hw362 : k0_chk362 v3967), ∀ a, (k0_off362 v3967) a + S1x64.size a ≤ S2048x64.size a := fun v3967 k0_hw362 => k0_hw362

def k0_off363 (v3978 : BitVec 32) : Fin 2 → Nat :=
  let c0_i32_3265 : BitVec 32 := 0#32
  let v3980 : BitVec 32 := Scalar.maxsi v3978 c0_i32_3265
  let v3981 : Index := Scalar.indexCast v3980
  let c0_3266 : Index := 0#32
  ![v3981.toNat, 0]

def k0_chk363 (v3978 : BitVec 32) : Prop :=
  (∀ a, (k0_off363 v3978) a + S1x64.size a ≤ S2048x64.size a)
theorem k0_off363_inb : ∀ (v3978 : BitVec 32) (k0_hw363 : k0_chk363 v3978), ∀ a, (k0_off363 v3978) a + S1x64.size a ≤ S2048x64.size a := fun v3978 k0_hw363 => k0_hw363

def k0_off364 (v3989 : BitVec 32) : Fin 2 → Nat :=
  let c0_i32_3274 : BitVec 32 := 0#32
  let v3991 : BitVec 32 := Scalar.maxsi v3989 c0_i32_3274
  let v3992 : Index := Scalar.indexCast v3991
  let c0_3275 : Index := 0#32
  ![v3992.toNat, 0]

def k0_chk364 (v3989 : BitVec 32) : Prop :=
  (∀ a, (k0_off364 v3989) a + S1x64.size a ≤ S2048x64.size a)
theorem k0_off364_inb : ∀ (v3989 : BitVec 32) (k0_hw364 : k0_chk364 v3989), ∀ a, (k0_off364 v3989) a + S1x64.size a ≤ S2048x64.size a := fun v3989 k0_hw364 => k0_hw364

def k0_off365 (v4000 : BitVec 32) : Fin 2 → Nat :=
  let c0_i32_3283 : BitVec 32 := 0#32
  let v4002 : BitVec 32 := Scalar.maxsi v4000 c0_i32_3283
  let v4003 : Index := Scalar.indexCast v4002
  let c0_3284 : Index := 0#32
  ![v4003.toNat, 0]

def k0_chk365 (v4000 : BitVec 32) : Prop :=
  (∀ a, (k0_off365 v4000) a + S1x64.size a ≤ S2048x64.size a)
theorem k0_off365_inb : ∀ (v4000 : BitVec 32) (k0_hw365 : k0_chk365 v4000), ∀ a, (k0_off365 v4000) a + S1x64.size a ≤ S2048x64.size a := fun v4000 k0_hw365 => k0_hw365

def k0_off366 (v4011 : BitVec 32) : Fin 2 → Nat :=
  let c0_i32_3292 : BitVec 32 := 0#32
  let v4013 : BitVec 32 := Scalar.maxsi v4011 c0_i32_3292
  let v4014 : Index := Scalar.indexCast v4013
  let c0_3293 : Index := 0#32
  ![v4014.toNat, 0]

def k0_chk366 (v4011 : BitVec 32) : Prop :=
  (∀ a, (k0_off366 v4011) a + S1x64.size a ≤ S2048x64.size a)
theorem k0_off366_inb : ∀ (v4011 : BitVec 32) (k0_hw366 : k0_chk366 v4011), ∀ a, (k0_off366 v4011) a + S1x64.size a ≤ S2048x64.size a := fun v4011 k0_hw366 => k0_hw366

def k0_off367 (v4022 : BitVec 32) : Fin 2 → Nat :=
  let c0_i32_3301 : BitVec 32 := 0#32
  let v4024 : BitVec 32 := Scalar.maxsi v4022 c0_i32_3301
  let v4025 : Index := Scalar.indexCast v4024
  let c0_3302 : Index := 0#32
  ![v4025.toNat, 0]

def k0_chk367 (v4022 : BitVec 32) : Prop :=
  (∀ a, (k0_off367 v4022) a + S1x64.size a ≤ S2048x64.size a)
theorem k0_off367_inb : ∀ (v4022 : BitVec 32) (k0_hw367 : k0_chk367 v4022), ∀ a, (k0_off367 v4022) a + S1x64.size a ≤ S2048x64.size a := fun v4022 k0_hw367 => k0_hw367

def k0_off368 (v4033 : BitVec 32) : Fin 2 → Nat :=
  let c0_i32_3310 : BitVec 32 := 0#32
  let v4035 : BitVec 32 := Scalar.maxsi v4033 c0_i32_3310
  let v4036 : Index := Scalar.indexCast v4035
  let c0_3311 : Index := 0#32
  ![v4036.toNat, 0]

def k0_chk368 (v4033 : BitVec 32) : Prop :=
  (∀ a, (k0_off368 v4033) a + S1x64.size a ≤ S2048x64.size a)
theorem k0_off368_inb : ∀ (v4033 : BitVec 32) (k0_hw368 : k0_chk368 v4033), ∀ a, (k0_off368 v4033) a + S1x64.size a ≤ S2048x64.size a := fun v4033 k0_hw368 => k0_hw368

def k0_off369 (v4044 : BitVec 32) : Fin 2 → Nat :=
  let c0_i32_3319 : BitVec 32 := 0#32
  let v4046 : BitVec 32 := Scalar.maxsi v4044 c0_i32_3319
  let v4047 : Index := Scalar.indexCast v4046
  let c0_3320 : Index := 0#32
  ![v4047.toNat, 0]

def k0_chk369 (v4044 : BitVec 32) : Prop :=
  (∀ a, (k0_off369 v4044) a + S1x64.size a ≤ S2048x64.size a)
theorem k0_off369_inb : ∀ (v4044 : BitVec 32) (k0_hw369 : k0_chk369 v4044), ∀ a, (k0_off369 v4044) a + S1x64.size a ≤ S2048x64.size a := fun v4044 k0_hw369 => k0_hw369

def k0_off370 (v4055 : BitVec 32) : Fin 2 → Nat :=
  let c0_i32_3328 : BitVec 32 := 0#32
  let v4057 : BitVec 32 := Scalar.maxsi v4055 c0_i32_3328
  let v4058 : Index := Scalar.indexCast v4057
  let c0_3329 : Index := 0#32
  ![v4058.toNat, 0]

def k0_chk370 (v4055 : BitVec 32) : Prop :=
  (∀ a, (k0_off370 v4055) a + S1x64.size a ≤ S2048x64.size a)
theorem k0_off370_inb : ∀ (v4055 : BitVec 32) (k0_hw370 : k0_chk370 v4055), ∀ a, (k0_off370 v4055) a + S1x64.size a ≤ S2048x64.size a := fun v4055 k0_hw370 => k0_hw370

def k0_off371 (v4066 : BitVec 32) : Fin 2 → Nat :=
  let c0_i32_3337 : BitVec 32 := 0#32
  let v4068 : BitVec 32 := Scalar.maxsi v4066 c0_i32_3337
  let v4069 : Index := Scalar.indexCast v4068
  let c0_3338 : Index := 0#32
  ![v4069.toNat, 0]

def k0_chk371 (v4066 : BitVec 32) : Prop :=
  (∀ a, (k0_off371 v4066) a + S1x64.size a ≤ S2048x64.size a)
theorem k0_off371_inb : ∀ (v4066 : BitVec 32) (k0_hw371 : k0_chk371 v4066), ∀ a, (k0_off371 v4066) a + S1x64.size a ≤ S2048x64.size a := fun v4066 k0_hw371 => k0_hw371

def k0_off372 (v4077 : BitVec 32) : Fin 2 → Nat :=
  let c0_i32_3346 : BitVec 32 := 0#32
  let v4079 : BitVec 32 := Scalar.maxsi v4077 c0_i32_3346
  let v4080 : Index := Scalar.indexCast v4079
  let c0_3347 : Index := 0#32
  ![v4080.toNat, 0]

def k0_chk372 (v4077 : BitVec 32) : Prop :=
  (∀ a, (k0_off372 v4077) a + S1x64.size a ≤ S2048x64.size a)
theorem k0_off372_inb : ∀ (v4077 : BitVec 32) (k0_hw372 : k0_chk372 v4077), ∀ a, (k0_off372 v4077) a + S1x64.size a ≤ S2048x64.size a := fun v4077 k0_hw372 => k0_hw372

def k0_off373 (v4088 : BitVec 32) : Fin 2 → Nat :=
  let c0_i32_3355 : BitVec 32 := 0#32
  let v4090 : BitVec 32 := Scalar.maxsi v4088 c0_i32_3355
  let v4091 : Index := Scalar.indexCast v4090
  let c0_3356 : Index := 0#32
  ![v4091.toNat, 0]

def k0_chk373 (v4088 : BitVec 32) : Prop :=
  (∀ a, (k0_off373 v4088) a + S1x64.size a ≤ S2048x64.size a)
theorem k0_off373_inb : ∀ (v4088 : BitVec 32) (k0_hw373 : k0_chk373 v4088), ∀ a, (k0_off373 v4088) a + S1x64.size a ≤ S2048x64.size a := fun v4088 k0_hw373 => k0_hw373

def k0_off374 (v4099 : BitVec 32) : Fin 2 → Nat :=
  let c0_i32_3364 : BitVec 32 := 0#32
  let v4101 : BitVec 32 := Scalar.maxsi v4099 c0_i32_3364
  let v4102 : Index := Scalar.indexCast v4101
  let c0_3365 : Index := 0#32
  ![v4102.toNat, 0]

def k0_chk374 (v4099 : BitVec 32) : Prop :=
  (∀ a, (k0_off374 v4099) a + S1x64.size a ≤ S2048x64.size a)
theorem k0_off374_inb : ∀ (v4099 : BitVec 32) (k0_hw374 : k0_chk374 v4099), ∀ a, (k0_off374 v4099) a + S1x64.size a ≤ S2048x64.size a := fun v4099 k0_hw374 => k0_hw374

def k0_off375 (v4110 : BitVec 32) : Fin 2 → Nat :=
  let c0_i32_3373 : BitVec 32 := 0#32
  let v4112 : BitVec 32 := Scalar.maxsi v4110 c0_i32_3373
  let v4113 : Index := Scalar.indexCast v4112
  let c0_3374 : Index := 0#32
  ![v4113.toNat, 0]

def k0_chk375 (v4110 : BitVec 32) : Prop :=
  (∀ a, (k0_off375 v4110) a + S1x64.size a ≤ S2048x64.size a)
theorem k0_off375_inb : ∀ (v4110 : BitVec 32) (k0_hw375 : k0_chk375 v4110), ∀ a, (k0_off375 v4110) a + S1x64.size a ≤ S2048x64.size a := fun v4110 k0_hw375 => k0_hw375

def k0_off376 (v4121 : BitVec 32) : Fin 2 → Nat :=
  let c0_i32_3382 : BitVec 32 := 0#32
  let v4123 : BitVec 32 := Scalar.maxsi v4121 c0_i32_3382
  let v4124 : Index := Scalar.indexCast v4123
  let c0_3383 : Index := 0#32
  ![v4124.toNat, 0]

def k0_chk376 (v4121 : BitVec 32) : Prop :=
  (∀ a, (k0_off376 v4121) a + S1x64.size a ≤ S2048x64.size a)
theorem k0_off376_inb : ∀ (v4121 : BitVec 32) (k0_hw376 : k0_chk376 v4121), ∀ a, (k0_off376 v4121) a + S1x64.size a ≤ S2048x64.size a := fun v4121 k0_hw376 => k0_hw376

def k0_off377 (v4132 : BitVec 32) : Fin 2 → Nat :=
  let c0_i32_3391 : BitVec 32 := 0#32
  let v4134 : BitVec 32 := Scalar.maxsi v4132 c0_i32_3391
  let v4135 : Index := Scalar.indexCast v4134
  let c0_3392 : Index := 0#32
  ![v4135.toNat, 0]

def k0_chk377 (v4132 : BitVec 32) : Prop :=
  (∀ a, (k0_off377 v4132) a + S1x64.size a ≤ S2048x64.size a)
theorem k0_off377_inb : ∀ (v4132 : BitVec 32) (k0_hw377 : k0_chk377 v4132), ∀ a, (k0_off377 v4132) a + S1x64.size a ≤ S2048x64.size a := fun v4132 k0_hw377 => k0_hw377

def k0_off378 (v4143 : BitVec 32) : Fin 2 → Nat :=
  let c0_i32_3400 : BitVec 32 := 0#32
  let v4145 : BitVec 32 := Scalar.maxsi v4143 c0_i32_3400
  let v4146 : Index := Scalar.indexCast v4145
  let c0_3401 : Index := 0#32
  ![v4146.toNat, 0]

def k0_chk378 (v4143 : BitVec 32) : Prop :=
  (∀ a, (k0_off378 v4143) a + S1x64.size a ≤ S2048x64.size a)
theorem k0_off378_inb : ∀ (v4143 : BitVec 32) (k0_hw378 : k0_chk378 v4143), ∀ a, (k0_off378 v4143) a + S1x64.size a ≤ S2048x64.size a := fun v4143 k0_hw378 => k0_hw378

def k0_off379 (v4154 : BitVec 32) : Fin 2 → Nat :=
  let c0_i32_3409 : BitVec 32 := 0#32
  let v4156 : BitVec 32 := Scalar.maxsi v4154 c0_i32_3409
  let v4157 : Index := Scalar.indexCast v4156
  let c0_3410 : Index := 0#32
  ![v4157.toNat, 0]

def k0_chk379 (v4154 : BitVec 32) : Prop :=
  (∀ a, (k0_off379 v4154) a + S1x64.size a ≤ S2048x64.size a)
theorem k0_off379_inb : ∀ (v4154 : BitVec 32) (k0_hw379 : k0_chk379 v4154), ∀ a, (k0_off379 v4154) a + S1x64.size a ≤ S2048x64.size a := fun v4154 k0_hw379 => k0_hw379

def k0_off380 (v4165 : BitVec 32) : Fin 2 → Nat :=
  let c0_i32_3418 : BitVec 32 := 0#32
  let v4167 : BitVec 32 := Scalar.maxsi v4165 c0_i32_3418
  let v4168 : Index := Scalar.indexCast v4167
  let c0_3419 : Index := 0#32
  ![v4168.toNat, 0]

def k0_chk380 (v4165 : BitVec 32) : Prop :=
  (∀ a, (k0_off380 v4165) a + S1x64.size a ≤ S2048x64.size a)
theorem k0_off380_inb : ∀ (v4165 : BitVec 32) (k0_hw380 : k0_chk380 v4165), ∀ a, (k0_off380 v4165) a + S1x64.size a ≤ S2048x64.size a := fun v4165 k0_hw380 => k0_hw380

def k0_off381 (v4176 : BitVec 32) : Fin 2 → Nat :=
  let c0_i32_3427 : BitVec 32 := 0#32
  let v4178 : BitVec 32 := Scalar.maxsi v4176 c0_i32_3427
  let v4179 : Index := Scalar.indexCast v4178
  let c0_3428 : Index := 0#32
  ![v4179.toNat, 0]

def k0_chk381 (v4176 : BitVec 32) : Prop :=
  (∀ a, (k0_off381 v4176) a + S1x64.size a ≤ S2048x64.size a)
theorem k0_off381_inb : ∀ (v4176 : BitVec 32) (k0_hw381 : k0_chk381 v4176), ∀ a, (k0_off381 v4176) a + S1x64.size a ≤ S2048x64.size a := fun v4176 k0_hw381 => k0_hw381

def k0_off382 (v4187 : BitVec 32) : Fin 2 → Nat :=
  let c0_i32_3436 : BitVec 32 := 0#32
  let v4189 : BitVec 32 := Scalar.maxsi v4187 c0_i32_3436
  let v4190 : Index := Scalar.indexCast v4189
  let c0_3437 : Index := 0#32
  ![v4190.toNat, 0]

def k0_chk382 (v4187 : BitVec 32) : Prop :=
  (∀ a, (k0_off382 v4187) a + S1x64.size a ≤ S2048x64.size a)
theorem k0_off382_inb : ∀ (v4187 : BitVec 32) (k0_hw382 : k0_chk382 v4187), ∀ a, (k0_off382 v4187) a + S1x64.size a ≤ S2048x64.size a := fun v4187 k0_hw382 => k0_hw382

def k0_off383 (v4198 : BitVec 32) : Fin 2 → Nat :=
  let c0_i32_3445 : BitVec 32 := 0#32
  let v4200 : BitVec 32 := Scalar.maxsi v4198 c0_i32_3445
  let v4201 : Index := Scalar.indexCast v4200
  let c0_3446 : Index := 0#32
  ![v4201.toNat, 0]

def k0_chk383 (v4198 : BitVec 32) : Prop :=
  (∀ a, (k0_off383 v4198) a + S1x64.size a ≤ S2048x64.size a)
theorem k0_off383_inb : ∀ (v4198 : BitVec 32) (k0_hw383 : k0_chk383 v4198), ∀ a, (k0_off383 v4198) a + S1x64.size a ≤ S2048x64.size a := fun v4198 k0_hw383 => k0_hw383

def k0_off384 (v4209 : BitVec 32) : Fin 2 → Nat :=
  let c0_i32_3454 : BitVec 32 := 0#32
  let v4211 : BitVec 32 := Scalar.maxsi v4209 c0_i32_3454
  let v4212 : Index := Scalar.indexCast v4211
  let c0_3455 : Index := 0#32
  ![v4212.toNat, 0]

def k0_chk384 (v4209 : BitVec 32) : Prop :=
  (∀ a, (k0_off384 v4209) a + S1x64.size a ≤ S2048x64.size a)
theorem k0_off384_inb : ∀ (v4209 : BitVec 32) (k0_hw384 : k0_chk384 v4209), ∀ a, (k0_off384 v4209) a + S1x64.size a ≤ S2048x64.size a := fun v4209 k0_hw384 => k0_hw384

def k0_off385 (v4227 : BitVec 32) : Fin 2 → Nat :=
  let c0_i32_3463 : BitVec 32 := 0#32
  let v4229 : BitVec 32 := Scalar.maxsi v4227 c0_i32_3463
  let v4230 : Index := Scalar.indexCast v4229
  let c0_3464 : Index := 0#32
  ![v4230.toNat, 0]

def k0_chk385 (v4227 : BitVec 32) : Prop :=
  (∀ a, (k0_off385 v4227) a + S1x64.size a ≤ S2048x64.size a)
theorem k0_off385_inb : ∀ (v4227 : BitVec 32) (k0_hw385 : k0_chk385 v4227), ∀ a, (k0_off385 v4227) a + S1x64.size a ≤ S2048x64.size a := fun v4227 k0_hw385 => k0_hw385

def k0_off386 (v4237 : BitVec 32) : Fin 2 → Nat :=
  let c0_i32_3472 : BitVec 32 := 0#32
  let v4239 : BitVec 32 := Scalar.maxsi v4237 c0_i32_3472
  let v4240 : Index := Scalar.indexCast v4239
  let c0_3473 : Index := 0#32
  ![v4240.toNat, 0]

def k0_chk386 (v4237 : BitVec 32) : Prop :=
  (∀ a, (k0_off386 v4237) a + S1x64.size a ≤ S2048x64.size a)
theorem k0_off386_inb : ∀ (v4237 : BitVec 32) (k0_hw386 : k0_chk386 v4237), ∀ a, (k0_off386 v4237) a + S1x64.size a ≤ S2048x64.size a := fun v4237 k0_hw386 => k0_hw386

def k0_off387 (v4247 : BitVec 32) : Fin 2 → Nat :=
  let c0_i32_3481 : BitVec 32 := 0#32
  let v4249 : BitVec 32 := Scalar.maxsi v4247 c0_i32_3481
  let v4250 : Index := Scalar.indexCast v4249
  let c0_3482 : Index := 0#32
  ![v4250.toNat, 0]

def k0_chk387 (v4247 : BitVec 32) : Prop :=
  (∀ a, (k0_off387 v4247) a + S1x64.size a ≤ S2048x64.size a)
theorem k0_off387_inb : ∀ (v4247 : BitVec 32) (k0_hw387 : k0_chk387 v4247), ∀ a, (k0_off387 v4247) a + S1x64.size a ≤ S2048x64.size a := fun v4247 k0_hw387 => k0_hw387

def k0_off388 (v4257 : BitVec 32) : Fin 2 → Nat :=
  let c0_i32_3490 : BitVec 32 := 0#32
  let v4259 : BitVec 32 := Scalar.maxsi v4257 c0_i32_3490
  let v4260 : Index := Scalar.indexCast v4259
  let c0_3491 : Index := 0#32
  ![v4260.toNat, 0]

def k0_chk388 (v4257 : BitVec 32) : Prop :=
  (∀ a, (k0_off388 v4257) a + S1x64.size a ≤ S2048x64.size a)
theorem k0_off388_inb : ∀ (v4257 : BitVec 32) (k0_hw388 : k0_chk388 v4257), ∀ a, (k0_off388 v4257) a + S1x64.size a ≤ S2048x64.size a := fun v4257 k0_hw388 => k0_hw388

def k0_off389 (v4267 : BitVec 32) : Fin 2 → Nat :=
  let c0_i32_3499 : BitVec 32 := 0#32
  let v4269 : BitVec 32 := Scalar.maxsi v4267 c0_i32_3499
  let v4270 : Index := Scalar.indexCast v4269
  let c0_3500 : Index := 0#32
  ![v4270.toNat, 0]

def k0_chk389 (v4267 : BitVec 32) : Prop :=
  (∀ a, (k0_off389 v4267) a + S1x64.size a ≤ S2048x64.size a)
theorem k0_off389_inb : ∀ (v4267 : BitVec 32) (k0_hw389 : k0_chk389 v4267), ∀ a, (k0_off389 v4267) a + S1x64.size a ≤ S2048x64.size a := fun v4267 k0_hw389 => k0_hw389

def k0_off390 (v4277 : BitVec 32) : Fin 2 → Nat :=
  let c0_i32_3508 : BitVec 32 := 0#32
  let v4279 : BitVec 32 := Scalar.maxsi v4277 c0_i32_3508
  let v4280 : Index := Scalar.indexCast v4279
  let c0_3509 : Index := 0#32
  ![v4280.toNat, 0]

def k0_chk390 (v4277 : BitVec 32) : Prop :=
  (∀ a, (k0_off390 v4277) a + S1x64.size a ≤ S2048x64.size a)
theorem k0_off390_inb : ∀ (v4277 : BitVec 32) (k0_hw390 : k0_chk390 v4277), ∀ a, (k0_off390 v4277) a + S1x64.size a ≤ S2048x64.size a := fun v4277 k0_hw390 => k0_hw390

def k0_off391 (v4287 : BitVec 32) : Fin 2 → Nat :=
  let c0_i32_3517 : BitVec 32 := 0#32
  let v4289 : BitVec 32 := Scalar.maxsi v4287 c0_i32_3517
  let v4290 : Index := Scalar.indexCast v4289
  let c0_3518 : Index := 0#32
  ![v4290.toNat, 0]

def k0_chk391 (v4287 : BitVec 32) : Prop :=
  (∀ a, (k0_off391 v4287) a + S1x64.size a ≤ S2048x64.size a)
theorem k0_off391_inb : ∀ (v4287 : BitVec 32) (k0_hw391 : k0_chk391 v4287), ∀ a, (k0_off391 v4287) a + S1x64.size a ≤ S2048x64.size a := fun v4287 k0_hw391 => k0_hw391

def k0_off392 (v4297 : BitVec 32) : Fin 2 → Nat :=
  let c0_i32_3526 : BitVec 32 := 0#32
  let v4299 : BitVec 32 := Scalar.maxsi v4297 c0_i32_3526
  let v4300 : Index := Scalar.indexCast v4299
  let c0_3527 : Index := 0#32
  ![v4300.toNat, 0]

def k0_chk392 (v4297 : BitVec 32) : Prop :=
  (∀ a, (k0_off392 v4297) a + S1x64.size a ≤ S2048x64.size a)
theorem k0_off392_inb : ∀ (v4297 : BitVec 32) (k0_hw392 : k0_chk392 v4297), ∀ a, (k0_off392 v4297) a + S1x64.size a ≤ S2048x64.size a := fun v4297 k0_hw392 => k0_hw392

def k0_off393 (v4307 : BitVec 32) : Fin 2 → Nat :=
  let c0_i32_3535 : BitVec 32 := 0#32
  let v4309 : BitVec 32 := Scalar.maxsi v4307 c0_i32_3535
  let v4310 : Index := Scalar.indexCast v4309
  let c0_3536 : Index := 0#32
  ![v4310.toNat, 0]

def k0_chk393 (v4307 : BitVec 32) : Prop :=
  (∀ a, (k0_off393 v4307) a + S1x64.size a ≤ S2048x64.size a)
theorem k0_off393_inb : ∀ (v4307 : BitVec 32) (k0_hw393 : k0_chk393 v4307), ∀ a, (k0_off393 v4307) a + S1x64.size a ≤ S2048x64.size a := fun v4307 k0_hw393 => k0_hw393

def k0_off394 (v4318 : BitVec 32) : Fin 2 → Nat :=
  let c0_i32_3544 : BitVec 32 := 0#32
  let v4320 : BitVec 32 := Scalar.maxsi v4318 c0_i32_3544
  let v4321 : Index := Scalar.indexCast v4320
  let c0_3545 : Index := 0#32
  ![v4321.toNat, 0]

def k0_chk394 (v4318 : BitVec 32) : Prop :=
  (∀ a, (k0_off394 v4318) a + S1x64.size a ≤ S2048x64.size a)
theorem k0_off394_inb : ∀ (v4318 : BitVec 32) (k0_hw394 : k0_chk394 v4318), ∀ a, (k0_off394 v4318) a + S1x64.size a ≤ S2048x64.size a := fun v4318 k0_hw394 => k0_hw394

def k0_off395 (v4329 : BitVec 32) : Fin 2 → Nat :=
  let c0_i32_3553 : BitVec 32 := 0#32
  let v4331 : BitVec 32 := Scalar.maxsi v4329 c0_i32_3553
  let v4332 : Index := Scalar.indexCast v4331
  let c0_3554 : Index := 0#32
  ![v4332.toNat, 0]

def k0_chk395 (v4329 : BitVec 32) : Prop :=
  (∀ a, (k0_off395 v4329) a + S1x64.size a ≤ S2048x64.size a)
theorem k0_off395_inb : ∀ (v4329 : BitVec 32) (k0_hw395 : k0_chk395 v4329), ∀ a, (k0_off395 v4329) a + S1x64.size a ≤ S2048x64.size a := fun v4329 k0_hw395 => k0_hw395

def k0_off396 (v4340 : BitVec 32) : Fin 2 → Nat :=
  let c0_i32_3562 : BitVec 32 := 0#32
  let v4342 : BitVec 32 := Scalar.maxsi v4340 c0_i32_3562
  let v4343 : Index := Scalar.indexCast v4342
  let c0_3563 : Index := 0#32
  ![v4343.toNat, 0]

def k0_chk396 (v4340 : BitVec 32) : Prop :=
  (∀ a, (k0_off396 v4340) a + S1x64.size a ≤ S2048x64.size a)
theorem k0_off396_inb : ∀ (v4340 : BitVec 32) (k0_hw396 : k0_chk396 v4340), ∀ a, (k0_off396 v4340) a + S1x64.size a ≤ S2048x64.size a := fun v4340 k0_hw396 => k0_hw396

def k0_off397 (v4351 : BitVec 32) : Fin 2 → Nat :=
  let c0_i32_3571 : BitVec 32 := 0#32
  let v4353 : BitVec 32 := Scalar.maxsi v4351 c0_i32_3571
  let v4354 : Index := Scalar.indexCast v4353
  let c0_3572 : Index := 0#32
  ![v4354.toNat, 0]

def k0_chk397 (v4351 : BitVec 32) : Prop :=
  (∀ a, (k0_off397 v4351) a + S1x64.size a ≤ S2048x64.size a)
theorem k0_off397_inb : ∀ (v4351 : BitVec 32) (k0_hw397 : k0_chk397 v4351), ∀ a, (k0_off397 v4351) a + S1x64.size a ≤ S2048x64.size a := fun v4351 k0_hw397 => k0_hw397

def k0_off398 (v4362 : BitVec 32) : Fin 2 → Nat :=
  let c0_i32_3580 : BitVec 32 := 0#32
  let v4364 : BitVec 32 := Scalar.maxsi v4362 c0_i32_3580
  let v4365 : Index := Scalar.indexCast v4364
  let c0_3581 : Index := 0#32
  ![v4365.toNat, 0]

def k0_chk398 (v4362 : BitVec 32) : Prop :=
  (∀ a, (k0_off398 v4362) a + S1x64.size a ≤ S2048x64.size a)
theorem k0_off398_inb : ∀ (v4362 : BitVec 32) (k0_hw398 : k0_chk398 v4362), ∀ a, (k0_off398 v4362) a + S1x64.size a ≤ S2048x64.size a := fun v4362 k0_hw398 => k0_hw398

def k0_off399 (v4373 : BitVec 32) : Fin 2 → Nat :=
  let c0_i32_3589 : BitVec 32 := 0#32
  let v4375 : BitVec 32 := Scalar.maxsi v4373 c0_i32_3589
  let v4376 : Index := Scalar.indexCast v4375
  let c0_3590 : Index := 0#32
  ![v4376.toNat, 0]

def k0_chk399 (v4373 : BitVec 32) : Prop :=
  (∀ a, (k0_off399 v4373) a + S1x64.size a ≤ S2048x64.size a)
theorem k0_off399_inb : ∀ (v4373 : BitVec 32) (k0_hw399 : k0_chk399 v4373), ∀ a, (k0_off399 v4373) a + S1x64.size a ≤ S2048x64.size a := fun v4373 k0_hw399 => k0_hw399

def k0_off400 (v4384 : BitVec 32) : Fin 2 → Nat :=
  let c0_i32_3598 : BitVec 32 := 0#32
  let v4386 : BitVec 32 := Scalar.maxsi v4384 c0_i32_3598
  let v4387 : Index := Scalar.indexCast v4386
  let c0_3599 : Index := 0#32
  ![v4387.toNat, 0]

def k0_chk400 (v4384 : BitVec 32) : Prop :=
  (∀ a, (k0_off400 v4384) a + S1x64.size a ≤ S2048x64.size a)
theorem k0_off400_inb : ∀ (v4384 : BitVec 32) (k0_hw400 : k0_chk400 v4384), ∀ a, (k0_off400 v4384) a + S1x64.size a ≤ S2048x64.size a := fun v4384 k0_hw400 => k0_hw400

def k0_off401 (v4395 : BitVec 32) : Fin 2 → Nat :=
  let c0_i32_3607 : BitVec 32 := 0#32
  let v4397 : BitVec 32 := Scalar.maxsi v4395 c0_i32_3607
  let v4398 : Index := Scalar.indexCast v4397
  let c0_3608 : Index := 0#32
  ![v4398.toNat, 0]

def k0_chk401 (v4395 : BitVec 32) : Prop :=
  (∀ a, (k0_off401 v4395) a + S1x64.size a ≤ S2048x64.size a)
theorem k0_off401_inb : ∀ (v4395 : BitVec 32) (k0_hw401 : k0_chk401 v4395), ∀ a, (k0_off401 v4395) a + S1x64.size a ≤ S2048x64.size a := fun v4395 k0_hw401 => k0_hw401

def k0_off402 (v4406 : BitVec 32) : Fin 2 → Nat :=
  let c0_i32_3616 : BitVec 32 := 0#32
  let v4408 : BitVec 32 := Scalar.maxsi v4406 c0_i32_3616
  let v4409 : Index := Scalar.indexCast v4408
  let c0_3617 : Index := 0#32
  ![v4409.toNat, 0]

def k0_chk402 (v4406 : BitVec 32) : Prop :=
  (∀ a, (k0_off402 v4406) a + S1x64.size a ≤ S2048x64.size a)
theorem k0_off402_inb : ∀ (v4406 : BitVec 32) (k0_hw402 : k0_chk402 v4406), ∀ a, (k0_off402 v4406) a + S1x64.size a ≤ S2048x64.size a := fun v4406 k0_hw402 => k0_hw402

def k0_off403 (v4417 : BitVec 32) : Fin 2 → Nat :=
  let c0_i32_3625 : BitVec 32 := 0#32
  let v4419 : BitVec 32 := Scalar.maxsi v4417 c0_i32_3625
  let v4420 : Index := Scalar.indexCast v4419
  let c0_3626 : Index := 0#32
  ![v4420.toNat, 0]

def k0_chk403 (v4417 : BitVec 32) : Prop :=
  (∀ a, (k0_off403 v4417) a + S1x64.size a ≤ S2048x64.size a)
theorem k0_off403_inb : ∀ (v4417 : BitVec 32) (k0_hw403 : k0_chk403 v4417), ∀ a, (k0_off403 v4417) a + S1x64.size a ≤ S2048x64.size a := fun v4417 k0_hw403 => k0_hw403

def k0_off404 (v4428 : BitVec 32) : Fin 2 → Nat :=
  let c0_i32_3634 : BitVec 32 := 0#32
  let v4430 : BitVec 32 := Scalar.maxsi v4428 c0_i32_3634
  let v4431 : Index := Scalar.indexCast v4430
  let c0_3635 : Index := 0#32
  ![v4431.toNat, 0]

def k0_chk404 (v4428 : BitVec 32) : Prop :=
  (∀ a, (k0_off404 v4428) a + S1x64.size a ≤ S2048x64.size a)
theorem k0_off404_inb : ∀ (v4428 : BitVec 32) (k0_hw404 : k0_chk404 v4428), ∀ a, (k0_off404 v4428) a + S1x64.size a ≤ S2048x64.size a := fun v4428 k0_hw404 => k0_hw404

def k0_off405 (v4439 : BitVec 32) : Fin 2 → Nat :=
  let c0_i32_3643 : BitVec 32 := 0#32
  let v4441 : BitVec 32 := Scalar.maxsi v4439 c0_i32_3643
  let v4442 : Index := Scalar.indexCast v4441
  let c0_3644 : Index := 0#32
  ![v4442.toNat, 0]

def k0_chk405 (v4439 : BitVec 32) : Prop :=
  (∀ a, (k0_off405 v4439) a + S1x64.size a ≤ S2048x64.size a)
theorem k0_off405_inb : ∀ (v4439 : BitVec 32) (k0_hw405 : k0_chk405 v4439), ∀ a, (k0_off405 v4439) a + S1x64.size a ≤ S2048x64.size a := fun v4439 k0_hw405 => k0_hw405

def k0_off406 (v4450 : BitVec 32) : Fin 2 → Nat :=
  let c0_i32_3652 : BitVec 32 := 0#32
  let v4452 : BitVec 32 := Scalar.maxsi v4450 c0_i32_3652
  let v4453 : Index := Scalar.indexCast v4452
  let c0_3653 : Index := 0#32
  ![v4453.toNat, 0]

def k0_chk406 (v4450 : BitVec 32) : Prop :=
  (∀ a, (k0_off406 v4450) a + S1x64.size a ≤ S2048x64.size a)
theorem k0_off406_inb : ∀ (v4450 : BitVec 32) (k0_hw406 : k0_chk406 v4450), ∀ a, (k0_off406 v4450) a + S1x64.size a ≤ S2048x64.size a := fun v4450 k0_hw406 => k0_hw406

def k0_off407 (v4461 : BitVec 32) : Fin 2 → Nat :=
  let c0_i32_3661 : BitVec 32 := 0#32
  let v4463 : BitVec 32 := Scalar.maxsi v4461 c0_i32_3661
  let v4464 : Index := Scalar.indexCast v4463
  let c0_3662 : Index := 0#32
  ![v4464.toNat, 0]

def k0_chk407 (v4461 : BitVec 32) : Prop :=
  (∀ a, (k0_off407 v4461) a + S1x64.size a ≤ S2048x64.size a)
theorem k0_off407_inb : ∀ (v4461 : BitVec 32) (k0_hw407 : k0_chk407 v4461), ∀ a, (k0_off407 v4461) a + S1x64.size a ≤ S2048x64.size a := fun v4461 k0_hw407 => k0_hw407

def k0_off408 (v4472 : BitVec 32) : Fin 2 → Nat :=
  let c0_i32_3670 : BitVec 32 := 0#32
  let v4474 : BitVec 32 := Scalar.maxsi v4472 c0_i32_3670
  let v4475 : Index := Scalar.indexCast v4474
  let c0_3671 : Index := 0#32
  ![v4475.toNat, 0]

def k0_chk408 (v4472 : BitVec 32) : Prop :=
  (∀ a, (k0_off408 v4472) a + S1x64.size a ≤ S2048x64.size a)
theorem k0_off408_inb : ∀ (v4472 : BitVec 32) (k0_hw408 : k0_chk408 v4472), ∀ a, (k0_off408 v4472) a + S1x64.size a ≤ S2048x64.size a := fun v4472 k0_hw408 => k0_hw408

def k0_off409 (v4483 : BitVec 32) : Fin 2 → Nat :=
  let c0_i32_3679 : BitVec 32 := 0#32
  let v4485 : BitVec 32 := Scalar.maxsi v4483 c0_i32_3679
  let v4486 : Index := Scalar.indexCast v4485
  let c0_3680 : Index := 0#32
  ![v4486.toNat, 0]

def k0_chk409 (v4483 : BitVec 32) : Prop :=
  (∀ a, (k0_off409 v4483) a + S1x64.size a ≤ S2048x64.size a)
theorem k0_off409_inb : ∀ (v4483 : BitVec 32) (k0_hw409 : k0_chk409 v4483), ∀ a, (k0_off409 v4483) a + S1x64.size a ≤ S2048x64.size a := fun v4483 k0_hw409 => k0_hw409

def k0_off410 (v4494 : BitVec 32) : Fin 2 → Nat :=
  let c0_i32_3688 : BitVec 32 := 0#32
  let v4496 : BitVec 32 := Scalar.maxsi v4494 c0_i32_3688
  let v4497 : Index := Scalar.indexCast v4496
  let c0_3689 : Index := 0#32
  ![v4497.toNat, 0]

def k0_chk410 (v4494 : BitVec 32) : Prop :=
  (∀ a, (k0_off410 v4494) a + S1x64.size a ≤ S2048x64.size a)
theorem k0_off410_inb : ∀ (v4494 : BitVec 32) (k0_hw410 : k0_chk410 v4494), ∀ a, (k0_off410 v4494) a + S1x64.size a ≤ S2048x64.size a := fun v4494 k0_hw410 => k0_hw410

def k0_off411 (v4505 : BitVec 32) : Fin 2 → Nat :=
  let c0_i32_3697 : BitVec 32 := 0#32
  let v4507 : BitVec 32 := Scalar.maxsi v4505 c0_i32_3697
  let v4508 : Index := Scalar.indexCast v4507
  let c0_3698 : Index := 0#32
  ![v4508.toNat, 0]

def k0_chk411 (v4505 : BitVec 32) : Prop :=
  (∀ a, (k0_off411 v4505) a + S1x64.size a ≤ S2048x64.size a)
theorem k0_off411_inb : ∀ (v4505 : BitVec 32) (k0_hw411 : k0_chk411 v4505), ∀ a, (k0_off411 v4505) a + S1x64.size a ≤ S2048x64.size a := fun v4505 k0_hw411 => k0_hw411

def k0_off412 (v4516 : BitVec 32) : Fin 2 → Nat :=
  let c0_i32_3706 : BitVec 32 := 0#32
  let v4518 : BitVec 32 := Scalar.maxsi v4516 c0_i32_3706
  let v4519 : Index := Scalar.indexCast v4518
  let c0_3707 : Index := 0#32
  ![v4519.toNat, 0]

def k0_chk412 (v4516 : BitVec 32) : Prop :=
  (∀ a, (k0_off412 v4516) a + S1x64.size a ≤ S2048x64.size a)
theorem k0_off412_inb : ∀ (v4516 : BitVec 32) (k0_hw412 : k0_chk412 v4516), ∀ a, (k0_off412 v4516) a + S1x64.size a ≤ S2048x64.size a := fun v4516 k0_hw412 => k0_hw412

def k0_off413 (v4527 : BitVec 32) : Fin 2 → Nat :=
  let c0_i32_3715 : BitVec 32 := 0#32
  let v4529 : BitVec 32 := Scalar.maxsi v4527 c0_i32_3715
  let v4530 : Index := Scalar.indexCast v4529
  let c0_3716 : Index := 0#32
  ![v4530.toNat, 0]

def k0_chk413 (v4527 : BitVec 32) : Prop :=
  (∀ a, (k0_off413 v4527) a + S1x64.size a ≤ S2048x64.size a)
theorem k0_off413_inb : ∀ (v4527 : BitVec 32) (k0_hw413 : k0_chk413 v4527), ∀ a, (k0_off413 v4527) a + S1x64.size a ≤ S2048x64.size a := fun v4527 k0_hw413 => k0_hw413

def k0_off414 (v4538 : BitVec 32) : Fin 2 → Nat :=
  let c0_i32_3724 : BitVec 32 := 0#32
  let v4540 : BitVec 32 := Scalar.maxsi v4538 c0_i32_3724
  let v4541 : Index := Scalar.indexCast v4540
  let c0_3725 : Index := 0#32
  ![v4541.toNat, 0]

def k0_chk414 (v4538 : BitVec 32) : Prop :=
  (∀ a, (k0_off414 v4538) a + S1x64.size a ≤ S2048x64.size a)
theorem k0_off414_inb : ∀ (v4538 : BitVec 32) (k0_hw414 : k0_chk414 v4538), ∀ a, (k0_off414 v4538) a + S1x64.size a ≤ S2048x64.size a := fun v4538 k0_hw414 => k0_hw414

def k0_off415 (v4549 : BitVec 32) : Fin 2 → Nat :=
  let c0_i32_3733 : BitVec 32 := 0#32
  let v4551 : BitVec 32 := Scalar.maxsi v4549 c0_i32_3733
  let v4552 : Index := Scalar.indexCast v4551
  let c0_3734 : Index := 0#32
  ![v4552.toNat, 0]

def k0_chk415 (v4549 : BitVec 32) : Prop :=
  (∀ a, (k0_off415 v4549) a + S1x64.size a ≤ S2048x64.size a)
theorem k0_off415_inb : ∀ (v4549 : BitVec 32) (k0_hw415 : k0_chk415 v4549), ∀ a, (k0_off415 v4549) a + S1x64.size a ≤ S2048x64.size a := fun v4549 k0_hw415 => k0_hw415

def k0_off416 (v4560 : BitVec 32) : Fin 2 → Nat :=
  let c0_i32_3742 : BitVec 32 := 0#32
  let v4562 : BitVec 32 := Scalar.maxsi v4560 c0_i32_3742
  let v4563 : Index := Scalar.indexCast v4562
  let c0_3743 : Index := 0#32
  ![v4563.toNat, 0]

def k0_chk416 (v4560 : BitVec 32) : Prop :=
  (∀ a, (k0_off416 v4560) a + S1x64.size a ≤ S2048x64.size a)
theorem k0_off416_inb : ∀ (v4560 : BitVec 32) (k0_hw416 : k0_chk416 v4560), ∀ a, (k0_off416 v4560) a + S1x64.size a ≤ S2048x64.size a := fun v4560 k0_hw416 => k0_hw416

def k0_off417 (v4571 : BitVec 32) : Fin 2 → Nat :=
  let c0_i32_3751 : BitVec 32 := 0#32
  let v4573 : BitVec 32 := Scalar.maxsi v4571 c0_i32_3751
  let v4574 : Index := Scalar.indexCast v4573
  let c0_3752 : Index := 0#32
  ![v4574.toNat, 0]

def k0_chk417 (v4571 : BitVec 32) : Prop :=
  (∀ a, (k0_off417 v4571) a + S1x64.size a ≤ S2048x64.size a)
theorem k0_off417_inb : ∀ (v4571 : BitVec 32) (k0_hw417 : k0_chk417 v4571), ∀ a, (k0_off417 v4571) a + S1x64.size a ≤ S2048x64.size a := fun v4571 k0_hw417 => k0_hw417

def k0_off418 (v4582 : BitVec 32) : Fin 2 → Nat :=
  let c0_i32_3760 : BitVec 32 := 0#32
  let v4584 : BitVec 32 := Scalar.maxsi v4582 c0_i32_3760
  let v4585 : Index := Scalar.indexCast v4584
  let c0_3761 : Index := 0#32
  ![v4585.toNat, 0]

def k0_chk418 (v4582 : BitVec 32) : Prop :=
  (∀ a, (k0_off418 v4582) a + S1x64.size a ≤ S2048x64.size a)
theorem k0_off418_inb : ∀ (v4582 : BitVec 32) (k0_hw418 : k0_chk418 v4582), ∀ a, (k0_off418 v4582) a + S1x64.size a ≤ S2048x64.size a := fun v4582 k0_hw418 => k0_hw418

def k0_off419 (v4593 : BitVec 32) : Fin 2 → Nat :=
  let c0_i32_3769 : BitVec 32 := 0#32
  let v4595 : BitVec 32 := Scalar.maxsi v4593 c0_i32_3769
  let v4596 : Index := Scalar.indexCast v4595
  let c0_3770 : Index := 0#32
  ![v4596.toNat, 0]

def k0_chk419 (v4593 : BitVec 32) : Prop :=
  (∀ a, (k0_off419 v4593) a + S1x64.size a ≤ S2048x64.size a)
theorem k0_off419_inb : ∀ (v4593 : BitVec 32) (k0_hw419 : k0_chk419 v4593), ∀ a, (k0_off419 v4593) a + S1x64.size a ≤ S2048x64.size a := fun v4593 k0_hw419 => k0_hw419

def k0_off420 (v4604 : BitVec 32) : Fin 2 → Nat :=
  let c0_i32_3778 : BitVec 32 := 0#32
  let v4606 : BitVec 32 := Scalar.maxsi v4604 c0_i32_3778
  let v4607 : Index := Scalar.indexCast v4606
  let c0_3779 : Index := 0#32
  ![v4607.toNat, 0]

def k0_chk420 (v4604 : BitVec 32) : Prop :=
  (∀ a, (k0_off420 v4604) a + S1x64.size a ≤ S2048x64.size a)
theorem k0_off420_inb : ∀ (v4604 : BitVec 32) (k0_hw420 : k0_chk420 v4604), ∀ a, (k0_off420 v4604) a + S1x64.size a ≤ S2048x64.size a := fun v4604 k0_hw420 => k0_hw420

def k0_off421 (v4615 : BitVec 32) : Fin 2 → Nat :=
  let c0_i32_3787 : BitVec 32 := 0#32
  let v4617 : BitVec 32 := Scalar.maxsi v4615 c0_i32_3787
  let v4618 : Index := Scalar.indexCast v4617
  let c0_3788 : Index := 0#32
  ![v4618.toNat, 0]

def k0_chk421 (v4615 : BitVec 32) : Prop :=
  (∀ a, (k0_off421 v4615) a + S1x64.size a ≤ S2048x64.size a)
theorem k0_off421_inb : ∀ (v4615 : BitVec 32) (k0_hw421 : k0_chk421 v4615), ∀ a, (k0_off421 v4615) a + S1x64.size a ≤ S2048x64.size a := fun v4615 k0_hw421 => k0_hw421

def k0_off422 (v4626 : BitVec 32) : Fin 2 → Nat :=
  let c0_i32_3796 : BitVec 32 := 0#32
  let v4628 : BitVec 32 := Scalar.maxsi v4626 c0_i32_3796
  let v4629 : Index := Scalar.indexCast v4628
  let c0_3797 : Index := 0#32
  ![v4629.toNat, 0]

def k0_chk422 (v4626 : BitVec 32) : Prop :=
  (∀ a, (k0_off422 v4626) a + S1x64.size a ≤ S2048x64.size a)
theorem k0_off422_inb : ∀ (v4626 : BitVec 32) (k0_hw422 : k0_chk422 v4626), ∀ a, (k0_off422 v4626) a + S1x64.size a ≤ S2048x64.size a := fun v4626 k0_hw422 => k0_hw422

def k0_off423 (v4637 : BitVec 32) : Fin 2 → Nat :=
  let c0_i32_3805 : BitVec 32 := 0#32
  let v4639 : BitVec 32 := Scalar.maxsi v4637 c0_i32_3805
  let v4640 : Index := Scalar.indexCast v4639
  let c0_3806 : Index := 0#32
  ![v4640.toNat, 0]

def k0_chk423 (v4637 : BitVec 32) : Prop :=
  (∀ a, (k0_off423 v4637) a + S1x64.size a ≤ S2048x64.size a)
theorem k0_off423_inb : ∀ (v4637 : BitVec 32) (k0_hw423 : k0_chk423 v4637), ∀ a, (k0_off423 v4637) a + S1x64.size a ≤ S2048x64.size a := fun v4637 k0_hw423 => k0_hw423

def k0_off424 (v4648 : BitVec 32) : Fin 2 → Nat :=
  let c0_i32_3814 : BitVec 32 := 0#32
  let v4650 : BitVec 32 := Scalar.maxsi v4648 c0_i32_3814
  let v4651 : Index := Scalar.indexCast v4650
  let c0_3815 : Index := 0#32
  ![v4651.toNat, 0]

def k0_chk424 (v4648 : BitVec 32) : Prop :=
  (∀ a, (k0_off424 v4648) a + S1x64.size a ≤ S2048x64.size a)
theorem k0_off424_inb : ∀ (v4648 : BitVec 32) (k0_hw424 : k0_chk424 v4648), ∀ a, (k0_off424 v4648) a + S1x64.size a ≤ S2048x64.size a := fun v4648 k0_hw424 => k0_hw424

def k0_off425 (v4659 : BitVec 32) : Fin 2 → Nat :=
  let c0_i32_3823 : BitVec 32 := 0#32
  let v4661 : BitVec 32 := Scalar.maxsi v4659 c0_i32_3823
  let v4662 : Index := Scalar.indexCast v4661
  let c0_3824 : Index := 0#32
  ![v4662.toNat, 0]

def k0_chk425 (v4659 : BitVec 32) : Prop :=
  (∀ a, (k0_off425 v4659) a + S1x64.size a ≤ S2048x64.size a)
theorem k0_off425_inb : ∀ (v4659 : BitVec 32) (k0_hw425 : k0_chk425 v4659), ∀ a, (k0_off425 v4659) a + S1x64.size a ≤ S2048x64.size a := fun v4659 k0_hw425 => k0_hw425

def k0_off426 (v4670 : BitVec 32) : Fin 2 → Nat :=
  let c0_i32_3832 : BitVec 32 := 0#32
  let v4672 : BitVec 32 := Scalar.maxsi v4670 c0_i32_3832
  let v4673 : Index := Scalar.indexCast v4672
  let c0_3833 : Index := 0#32
  ![v4673.toNat, 0]

def k0_chk426 (v4670 : BitVec 32) : Prop :=
  (∀ a, (k0_off426 v4670) a + S1x64.size a ≤ S2048x64.size a)
theorem k0_off426_inb : ∀ (v4670 : BitVec 32) (k0_hw426 : k0_chk426 v4670), ∀ a, (k0_off426 v4670) a + S1x64.size a ≤ S2048x64.size a := fun v4670 k0_hw426 => k0_hw426

def k0_off427 (v4681 : BitVec 32) : Fin 2 → Nat :=
  let c0_i32_3841 : BitVec 32 := 0#32
  let v4683 : BitVec 32 := Scalar.maxsi v4681 c0_i32_3841
  let v4684 : Index := Scalar.indexCast v4683
  let c0_3842 : Index := 0#32
  ![v4684.toNat, 0]

def k0_chk427 (v4681 : BitVec 32) : Prop :=
  (∀ a, (k0_off427 v4681) a + S1x64.size a ≤ S2048x64.size a)
theorem k0_off427_inb : ∀ (v4681 : BitVec 32) (k0_hw427 : k0_chk427 v4681), ∀ a, (k0_off427 v4681) a + S1x64.size a ≤ S2048x64.size a := fun v4681 k0_hw427 => k0_hw427

def k0_off428 (v4692 : BitVec 32) : Fin 2 → Nat :=
  let c0_i32_3850 : BitVec 32 := 0#32
  let v4694 : BitVec 32 := Scalar.maxsi v4692 c0_i32_3850
  let v4695 : Index := Scalar.indexCast v4694
  let c0_3851 : Index := 0#32
  ![v4695.toNat, 0]

def k0_chk428 (v4692 : BitVec 32) : Prop :=
  (∀ a, (k0_off428 v4692) a + S1x64.size a ≤ S2048x64.size a)
theorem k0_off428_inb : ∀ (v4692 : BitVec 32) (k0_hw428 : k0_chk428 v4692), ∀ a, (k0_off428 v4692) a + S1x64.size a ≤ S2048x64.size a := fun v4692 k0_hw428 => k0_hw428

def k0_off429 (v4703 : BitVec 32) : Fin 2 → Nat :=
  let c0_i32_3859 : BitVec 32 := 0#32
  let v4705 : BitVec 32 := Scalar.maxsi v4703 c0_i32_3859
  let v4706 : Index := Scalar.indexCast v4705
  let c0_3860 : Index := 0#32
  ![v4706.toNat, 0]

def k0_chk429 (v4703 : BitVec 32) : Prop :=
  (∀ a, (k0_off429 v4703) a + S1x64.size a ≤ S2048x64.size a)
theorem k0_off429_inb : ∀ (v4703 : BitVec 32) (k0_hw429 : k0_chk429 v4703), ∀ a, (k0_off429 v4703) a + S1x64.size a ≤ S2048x64.size a := fun v4703 k0_hw429 => k0_hw429

def k0_off430 (v4714 : BitVec 32) : Fin 2 → Nat :=
  let c0_i32_3868 : BitVec 32 := 0#32
  let v4716 : BitVec 32 := Scalar.maxsi v4714 c0_i32_3868
  let v4717 : Index := Scalar.indexCast v4716
  let c0_3869 : Index := 0#32
  ![v4717.toNat, 0]

def k0_chk430 (v4714 : BitVec 32) : Prop :=
  (∀ a, (k0_off430 v4714) a + S1x64.size a ≤ S2048x64.size a)
theorem k0_off430_inb : ∀ (v4714 : BitVec 32) (k0_hw430 : k0_chk430 v4714), ∀ a, (k0_off430 v4714) a + S1x64.size a ≤ S2048x64.size a := fun v4714 k0_hw430 => k0_hw430

def k0_off431 (v4725 : BitVec 32) : Fin 2 → Nat :=
  let c0_i32_3877 : BitVec 32 := 0#32
  let v4727 : BitVec 32 := Scalar.maxsi v4725 c0_i32_3877
  let v4728 : Index := Scalar.indexCast v4727
  let c0_3878 : Index := 0#32
  ![v4728.toNat, 0]

def k0_chk431 (v4725 : BitVec 32) : Prop :=
  (∀ a, (k0_off431 v4725) a + S1x64.size a ≤ S2048x64.size a)
theorem k0_off431_inb : ∀ (v4725 : BitVec 32) (k0_hw431 : k0_chk431 v4725), ∀ a, (k0_off431 v4725) a + S1x64.size a ≤ S2048x64.size a := fun v4725 k0_hw431 => k0_hw431

def k0_off432 (v4736 : BitVec 32) : Fin 2 → Nat :=
  let c0_i32_3886 : BitVec 32 := 0#32
  let v4738 : BitVec 32 := Scalar.maxsi v4736 c0_i32_3886
  let v4739 : Index := Scalar.indexCast v4738
  let c0_3887 : Index := 0#32
  ![v4739.toNat, 0]

def k0_chk432 (v4736 : BitVec 32) : Prop :=
  (∀ a, (k0_off432 v4736) a + S1x64.size a ≤ S2048x64.size a)
theorem k0_off432_inb : ∀ (v4736 : BitVec 32) (k0_hw432 : k0_chk432 v4736), ∀ a, (k0_off432 v4736) a + S1x64.size a ≤ S2048x64.size a := fun v4736 k0_hw432 => k0_hw432

def k0_off433 (v4747 : BitVec 32) : Fin 2 → Nat :=
  let c0_i32_3895 : BitVec 32 := 0#32
  let v4749 : BitVec 32 := Scalar.maxsi v4747 c0_i32_3895
  let v4750 : Index := Scalar.indexCast v4749
  let c0_3896 : Index := 0#32
  ![v4750.toNat, 0]

def k0_chk433 (v4747 : BitVec 32) : Prop :=
  (∀ a, (k0_off433 v4747) a + S1x64.size a ≤ S2048x64.size a)
theorem k0_off433_inb : ∀ (v4747 : BitVec 32) (k0_hw433 : k0_chk433 v4747), ∀ a, (k0_off433 v4747) a + S1x64.size a ≤ S2048x64.size a := fun v4747 k0_hw433 => k0_hw433

def k0_off434 (v4758 : BitVec 32) : Fin 2 → Nat :=
  let c0_i32_3904 : BitVec 32 := 0#32
  let v4760 : BitVec 32 := Scalar.maxsi v4758 c0_i32_3904
  let v4761 : Index := Scalar.indexCast v4760
  let c0_3905 : Index := 0#32
  ![v4761.toNat, 0]

def k0_chk434 (v4758 : BitVec 32) : Prop :=
  (∀ a, (k0_off434 v4758) a + S1x64.size a ≤ S2048x64.size a)
theorem k0_off434_inb : ∀ (v4758 : BitVec 32) (k0_hw434 : k0_chk434 v4758), ∀ a, (k0_off434 v4758) a + S1x64.size a ≤ S2048x64.size a := fun v4758 k0_hw434 => k0_hw434

def k0_off435 (v4769 : BitVec 32) : Fin 2 → Nat :=
  let c0_i32_3913 : BitVec 32 := 0#32
  let v4771 : BitVec 32 := Scalar.maxsi v4769 c0_i32_3913
  let v4772 : Index := Scalar.indexCast v4771
  let c0_3914 : Index := 0#32
  ![v4772.toNat, 0]

def k0_chk435 (v4769 : BitVec 32) : Prop :=
  (∀ a, (k0_off435 v4769) a + S1x64.size a ≤ S2048x64.size a)
theorem k0_off435_inb : ∀ (v4769 : BitVec 32) (k0_hw435 : k0_chk435 v4769), ∀ a, (k0_off435 v4769) a + S1x64.size a ≤ S2048x64.size a := fun v4769 k0_hw435 => k0_hw435

def k0_off436 (v4780 : BitVec 32) : Fin 2 → Nat :=
  let c0_i32_3922 : BitVec 32 := 0#32
  let v4782 : BitVec 32 := Scalar.maxsi v4780 c0_i32_3922
  let v4783 : Index := Scalar.indexCast v4782
  let c0_3923 : Index := 0#32
  ![v4783.toNat, 0]

def k0_chk436 (v4780 : BitVec 32) : Prop :=
  (∀ a, (k0_off436 v4780) a + S1x64.size a ≤ S2048x64.size a)
theorem k0_off436_inb : ∀ (v4780 : BitVec 32) (k0_hw436 : k0_chk436 v4780), ∀ a, (k0_off436 v4780) a + S1x64.size a ≤ S2048x64.size a := fun v4780 k0_hw436 => k0_hw436

def k0_off437 (v4791 : BitVec 32) : Fin 2 → Nat :=
  let c0_i32_3931 : BitVec 32 := 0#32
  let v4793 : BitVec 32 := Scalar.maxsi v4791 c0_i32_3931
  let v4794 : Index := Scalar.indexCast v4793
  let c0_3932 : Index := 0#32
  ![v4794.toNat, 0]

def k0_chk437 (v4791 : BitVec 32) : Prop :=
  (∀ a, (k0_off437 v4791) a + S1x64.size a ≤ S2048x64.size a)
theorem k0_off437_inb : ∀ (v4791 : BitVec 32) (k0_hw437 : k0_chk437 v4791), ∀ a, (k0_off437 v4791) a + S1x64.size a ≤ S2048x64.size a := fun v4791 k0_hw437 => k0_hw437

def k0_off438 (v4802 : BitVec 32) : Fin 2 → Nat :=
  let c0_i32_3940 : BitVec 32 := 0#32
  let v4804 : BitVec 32 := Scalar.maxsi v4802 c0_i32_3940
  let v4805 : Index := Scalar.indexCast v4804
  let c0_3941 : Index := 0#32
  ![v4805.toNat, 0]

def k0_chk438 (v4802 : BitVec 32) : Prop :=
  (∀ a, (k0_off438 v4802) a + S1x64.size a ≤ S2048x64.size a)
theorem k0_off438_inb : ∀ (v4802 : BitVec 32) (k0_hw438 : k0_chk438 v4802), ∀ a, (k0_off438 v4802) a + S1x64.size a ≤ S2048x64.size a := fun v4802 k0_hw438 => k0_hw438

def k0_off439 (v4813 : BitVec 32) : Fin 2 → Nat :=
  let c0_i32_3949 : BitVec 32 := 0#32
  let v4815 : BitVec 32 := Scalar.maxsi v4813 c0_i32_3949
  let v4816 : Index := Scalar.indexCast v4815
  let c0_3950 : Index := 0#32
  ![v4816.toNat, 0]

def k0_chk439 (v4813 : BitVec 32) : Prop :=
  (∀ a, (k0_off439 v4813) a + S1x64.size a ≤ S2048x64.size a)
theorem k0_off439_inb : ∀ (v4813 : BitVec 32) (k0_hw439 : k0_chk439 v4813), ∀ a, (k0_off439 v4813) a + S1x64.size a ≤ S2048x64.size a := fun v4813 k0_hw439 => k0_hw439

def k0_off440 (v4824 : BitVec 32) : Fin 2 → Nat :=
  let c0_i32_3958 : BitVec 32 := 0#32
  let v4826 : BitVec 32 := Scalar.maxsi v4824 c0_i32_3958
  let v4827 : Index := Scalar.indexCast v4826
  let c0_3959 : Index := 0#32
  ![v4827.toNat, 0]

def k0_chk440 (v4824 : BitVec 32) : Prop :=
  (∀ a, (k0_off440 v4824) a + S1x64.size a ≤ S2048x64.size a)
theorem k0_off440_inb : ∀ (v4824 : BitVec 32) (k0_hw440 : k0_chk440 v4824), ∀ a, (k0_off440 v4824) a + S1x64.size a ≤ S2048x64.size a := fun v4824 k0_hw440 => k0_hw440

def k0_off441 (v4835 : BitVec 32) : Fin 2 → Nat :=
  let c0_i32_3967 : BitVec 32 := 0#32
  let v4837 : BitVec 32 := Scalar.maxsi v4835 c0_i32_3967
  let v4838 : Index := Scalar.indexCast v4837
  let c0_3968 : Index := 0#32
  ![v4838.toNat, 0]

def k0_chk441 (v4835 : BitVec 32) : Prop :=
  (∀ a, (k0_off441 v4835) a + S1x64.size a ≤ S2048x64.size a)
theorem k0_off441_inb : ∀ (v4835 : BitVec 32) (k0_hw441 : k0_chk441 v4835), ∀ a, (k0_off441 v4835) a + S1x64.size a ≤ S2048x64.size a := fun v4835 k0_hw441 => k0_hw441

def k0_off442 (v4846 : BitVec 32) : Fin 2 → Nat :=
  let c0_i32_3976 : BitVec 32 := 0#32
  let v4848 : BitVec 32 := Scalar.maxsi v4846 c0_i32_3976
  let v4849 : Index := Scalar.indexCast v4848
  let c0_3977 : Index := 0#32
  ![v4849.toNat, 0]

def k0_chk442 (v4846 : BitVec 32) : Prop :=
  (∀ a, (k0_off442 v4846) a + S1x64.size a ≤ S2048x64.size a)
theorem k0_off442_inb : ∀ (v4846 : BitVec 32) (k0_hw442 : k0_chk442 v4846), ∀ a, (k0_off442 v4846) a + S1x64.size a ≤ S2048x64.size a := fun v4846 k0_hw442 => k0_hw442

def k0_off443 (v4857 : BitVec 32) : Fin 2 → Nat :=
  let c0_i32_3985 : BitVec 32 := 0#32
  let v4859 : BitVec 32 := Scalar.maxsi v4857 c0_i32_3985
  let v4860 : Index := Scalar.indexCast v4859
  let c0_3986 : Index := 0#32
  ![v4860.toNat, 0]

def k0_chk443 (v4857 : BitVec 32) : Prop :=
  (∀ a, (k0_off443 v4857) a + S1x64.size a ≤ S2048x64.size a)
theorem k0_off443_inb : ∀ (v4857 : BitVec 32) (k0_hw443 : k0_chk443 v4857), ∀ a, (k0_off443 v4857) a + S1x64.size a ≤ S2048x64.size a := fun v4857 k0_hw443 => k0_hw443

def k0_off444 (v4868 : BitVec 32) : Fin 2 → Nat :=
  let c0_i32_3994 : BitVec 32 := 0#32
  let v4870 : BitVec 32 := Scalar.maxsi v4868 c0_i32_3994
  let v4871 : Index := Scalar.indexCast v4870
  let c0_3995 : Index := 0#32
  ![v4871.toNat, 0]

def k0_chk444 (v4868 : BitVec 32) : Prop :=
  (∀ a, (k0_off444 v4868) a + S1x64.size a ≤ S2048x64.size a)
theorem k0_off444_inb : ∀ (v4868 : BitVec 32) (k0_hw444 : k0_chk444 v4868), ∀ a, (k0_off444 v4868) a + S1x64.size a ≤ S2048x64.size a := fun v4868 k0_hw444 => k0_hw444

def k0_off445 (v4879 : BitVec 32) : Fin 2 → Nat :=
  let c0_i32_4003 : BitVec 32 := 0#32
  let v4881 : BitVec 32 := Scalar.maxsi v4879 c0_i32_4003
  let v4882 : Index := Scalar.indexCast v4881
  let c0_4004 : Index := 0#32
  ![v4882.toNat, 0]

def k0_chk445 (v4879 : BitVec 32) : Prop :=
  (∀ a, (k0_off445 v4879) a + S1x64.size a ≤ S2048x64.size a)
theorem k0_off445_inb : ∀ (v4879 : BitVec 32) (k0_hw445 : k0_chk445 v4879), ∀ a, (k0_off445 v4879) a + S1x64.size a ≤ S2048x64.size a := fun v4879 k0_hw445 => k0_hw445

def k0_off446 (v4890 : BitVec 32) : Fin 2 → Nat :=
  let c0_i32_4012 : BitVec 32 := 0#32
  let v4892 : BitVec 32 := Scalar.maxsi v4890 c0_i32_4012
  let v4893 : Index := Scalar.indexCast v4892
  let c0_4013 : Index := 0#32
  ![v4893.toNat, 0]

def k0_chk446 (v4890 : BitVec 32) : Prop :=
  (∀ a, (k0_off446 v4890) a + S1x64.size a ≤ S2048x64.size a)
theorem k0_off446_inb : ∀ (v4890 : BitVec 32) (k0_hw446 : k0_chk446 v4890), ∀ a, (k0_off446 v4890) a + S1x64.size a ≤ S2048x64.size a := fun v4890 k0_hw446 => k0_hw446

def k0_off447 (v4901 : BitVec 32) : Fin 2 → Nat :=
  let c0_i32_4021 : BitVec 32 := 0#32
  let v4903 : BitVec 32 := Scalar.maxsi v4901 c0_i32_4021
  let v4904 : Index := Scalar.indexCast v4903
  let c0_4022 : Index := 0#32
  ![v4904.toNat, 0]

def k0_chk447 (v4901 : BitVec 32) : Prop :=
  (∀ a, (k0_off447 v4901) a + S1x64.size a ≤ S2048x64.size a)
theorem k0_off447_inb : ∀ (v4901 : BitVec 32) (k0_hw447 : k0_chk447 v4901), ∀ a, (k0_off447 v4901) a + S1x64.size a ≤ S2048x64.size a := fun v4901 k0_hw447 => k0_hw447

def k0_off448 (v4912 : BitVec 32) : Fin 2 → Nat :=
  let c0_i32_4030 : BitVec 32 := 0#32
  let v4914 : BitVec 32 := Scalar.maxsi v4912 c0_i32_4030
  let v4915 : Index := Scalar.indexCast v4914
  let c0_4031 : Index := 0#32
  ![v4915.toNat, 0]

def k0_chk448 (v4912 : BitVec 32) : Prop :=
  (∀ a, (k0_off448 v4912) a + S1x64.size a ≤ S2048x64.size a)
theorem k0_off448_inb : ∀ (v4912 : BitVec 32) (k0_hw448 : k0_chk448 v4912), ∀ a, (k0_off448 v4912) a + S1x64.size a ≤ S2048x64.size a := fun v4912 k0_hw448 => k0_hw448

def k0_off449 (v4923 : BitVec 32) : Fin 2 → Nat :=
  let c0_i32_4039 : BitVec 32 := 0#32
  let v4925 : BitVec 32 := Scalar.maxsi v4923 c0_i32_4039
  let v4926 : Index := Scalar.indexCast v4925
  let c0_4040 : Index := 0#32
  ![v4926.toNat, 0]

def k0_chk449 (v4923 : BitVec 32) : Prop :=
  (∀ a, (k0_off449 v4923) a + S1x64.size a ≤ S2048x64.size a)
theorem k0_off449_inb : ∀ (v4923 : BitVec 32) (k0_hw449 : k0_chk449 v4923), ∀ a, (k0_off449 v4923) a + S1x64.size a ≤ S2048x64.size a := fun v4923 k0_hw449 => k0_hw449

def k0_off450 (v4934 : BitVec 32) : Fin 2 → Nat :=
  let c0_i32_4048 : BitVec 32 := 0#32
  let v4936 : BitVec 32 := Scalar.maxsi v4934 c0_i32_4048
  let v4937 : Index := Scalar.indexCast v4936
  let c0_4049 : Index := 0#32
  ![v4937.toNat, 0]

def k0_chk450 (v4934 : BitVec 32) : Prop :=
  (∀ a, (k0_off450 v4934) a + S1x64.size a ≤ S2048x64.size a)
theorem k0_off450_inb : ∀ (v4934 : BitVec 32) (k0_hw450 : k0_chk450 v4934), ∀ a, (k0_off450 v4934) a + S1x64.size a ≤ S2048x64.size a := fun v4934 k0_hw450 => k0_hw450

def k0_off451 (v4945 : BitVec 32) : Fin 2 → Nat :=
  let c0_i32_4057 : BitVec 32 := 0#32
  let v4947 : BitVec 32 := Scalar.maxsi v4945 c0_i32_4057
  let v4948 : Index := Scalar.indexCast v4947
  let c0_4058 : Index := 0#32
  ![v4948.toNat, 0]

def k0_chk451 (v4945 : BitVec 32) : Prop :=
  (∀ a, (k0_off451 v4945) a + S1x64.size a ≤ S2048x64.size a)
theorem k0_off451_inb : ∀ (v4945 : BitVec 32) (k0_hw451 : k0_chk451 v4945), ∀ a, (k0_off451 v4945) a + S1x64.size a ≤ S2048x64.size a := fun v4945 k0_hw451 => k0_hw451

def k0_off452 (v4956 : BitVec 32) : Fin 2 → Nat :=
  let c0_i32_4066 : BitVec 32 := 0#32
  let v4958 : BitVec 32 := Scalar.maxsi v4956 c0_i32_4066
  let v4959 : Index := Scalar.indexCast v4958
  let c0_4067 : Index := 0#32
  ![v4959.toNat, 0]

def k0_chk452 (v4956 : BitVec 32) : Prop :=
  (∀ a, (k0_off452 v4956) a + S1x64.size a ≤ S2048x64.size a)
theorem k0_off452_inb : ∀ (v4956 : BitVec 32) (k0_hw452 : k0_chk452 v4956), ∀ a, (k0_off452 v4956) a + S1x64.size a ≤ S2048x64.size a := fun v4956 k0_hw452 => k0_hw452

def k0_off453 (v4967 : BitVec 32) : Fin 2 → Nat :=
  let c0_i32_4075 : BitVec 32 := 0#32
  let v4969 : BitVec 32 := Scalar.maxsi v4967 c0_i32_4075
  let v4970 : Index := Scalar.indexCast v4969
  let c0_4076 : Index := 0#32
  ![v4970.toNat, 0]

def k0_chk453 (v4967 : BitVec 32) : Prop :=
  (∀ a, (k0_off453 v4967) a + S1x64.size a ≤ S2048x64.size a)
theorem k0_off453_inb : ∀ (v4967 : BitVec 32) (k0_hw453 : k0_chk453 v4967), ∀ a, (k0_off453 v4967) a + S1x64.size a ≤ S2048x64.size a := fun v4967 k0_hw453 => k0_hw453

def k0_off454 (v4978 : BitVec 32) : Fin 2 → Nat :=
  let c0_i32_4084 : BitVec 32 := 0#32
  let v4980 : BitVec 32 := Scalar.maxsi v4978 c0_i32_4084
  let v4981 : Index := Scalar.indexCast v4980
  let c0_4085 : Index := 0#32
  ![v4981.toNat, 0]

def k0_chk454 (v4978 : BitVec 32) : Prop :=
  (∀ a, (k0_off454 v4978) a + S1x64.size a ≤ S2048x64.size a)
theorem k0_off454_inb : ∀ (v4978 : BitVec 32) (k0_hw454 : k0_chk454 v4978), ∀ a, (k0_off454 v4978) a + S1x64.size a ≤ S2048x64.size a := fun v4978 k0_hw454 => k0_hw454

def k0_off455 (v4989 : BitVec 32) : Fin 2 → Nat :=
  let c0_i32_4093 : BitVec 32 := 0#32
  let v4991 : BitVec 32 := Scalar.maxsi v4989 c0_i32_4093
  let v4992 : Index := Scalar.indexCast v4991
  let c0_4094 : Index := 0#32
  ![v4992.toNat, 0]

def k0_chk455 (v4989 : BitVec 32) : Prop :=
  (∀ a, (k0_off455 v4989) a + S1x64.size a ≤ S2048x64.size a)
theorem k0_off455_inb : ∀ (v4989 : BitVec 32) (k0_hw455 : k0_chk455 v4989), ∀ a, (k0_off455 v4989) a + S1x64.size a ≤ S2048x64.size a := fun v4989 k0_hw455 => k0_hw455

def k0_off456 (v5000 : BitVec 32) : Fin 2 → Nat :=
  let c0_i32_4102 : BitVec 32 := 0#32
  let v5002 : BitVec 32 := Scalar.maxsi v5000 c0_i32_4102
  let v5003 : Index := Scalar.indexCast v5002
  let c0_4103 : Index := 0#32
  ![v5003.toNat, 0]

def k0_chk456 (v5000 : BitVec 32) : Prop :=
  (∀ a, (k0_off456 v5000) a + S1x64.size a ≤ S2048x64.size a)
theorem k0_off456_inb : ∀ (v5000 : BitVec 32) (k0_hw456 : k0_chk456 v5000), ∀ a, (k0_off456 v5000) a + S1x64.size a ≤ S2048x64.size a := fun v5000 k0_hw456 => k0_hw456

def k0_off457 (v5011 : BitVec 32) : Fin 2 → Nat :=
  let c0_i32_4111 : BitVec 32 := 0#32
  let v5013 : BitVec 32 := Scalar.maxsi v5011 c0_i32_4111
  let v5014 : Index := Scalar.indexCast v5013
  let c0_4112 : Index := 0#32
  ![v5014.toNat, 0]

def k0_chk457 (v5011 : BitVec 32) : Prop :=
  (∀ a, (k0_off457 v5011) a + S1x64.size a ≤ S2048x64.size a)
theorem k0_off457_inb : ∀ (v5011 : BitVec 32) (k0_hw457 : k0_chk457 v5011), ∀ a, (k0_off457 v5011) a + S1x64.size a ≤ S2048x64.size a := fun v5011 k0_hw457 => k0_hw457

def k0_off458 (v5022 : BitVec 32) : Fin 2 → Nat :=
  let c0_i32_4120 : BitVec 32 := 0#32
  let v5024 : BitVec 32 := Scalar.maxsi v5022 c0_i32_4120
  let v5025 : Index := Scalar.indexCast v5024
  let c0_4121 : Index := 0#32
  ![v5025.toNat, 0]

def k0_chk458 (v5022 : BitVec 32) : Prop :=
  (∀ a, (k0_off458 v5022) a + S1x64.size a ≤ S2048x64.size a)
theorem k0_off458_inb : ∀ (v5022 : BitVec 32) (k0_hw458 : k0_chk458 v5022), ∀ a, (k0_off458 v5022) a + S1x64.size a ≤ S2048x64.size a := fun v5022 k0_hw458 => k0_hw458

def k0_off459 (v5033 : BitVec 32) : Fin 2 → Nat :=
  let c0_i32_4129 : BitVec 32 := 0#32
  let v5035 : BitVec 32 := Scalar.maxsi v5033 c0_i32_4129
  let v5036 : Index := Scalar.indexCast v5035
  let c0_4130 : Index := 0#32
  ![v5036.toNat, 0]

def k0_chk459 (v5033 : BitVec 32) : Prop :=
  (∀ a, (k0_off459 v5033) a + S1x64.size a ≤ S2048x64.size a)
theorem k0_off459_inb : ∀ (v5033 : BitVec 32) (k0_hw459 : k0_chk459 v5033), ∀ a, (k0_off459 v5033) a + S1x64.size a ≤ S2048x64.size a := fun v5033 k0_hw459 => k0_hw459

def k0_off460 (v5044 : BitVec 32) : Fin 2 → Nat :=
  let c0_i32_4138 : BitVec 32 := 0#32
  let v5046 : BitVec 32 := Scalar.maxsi v5044 c0_i32_4138
  let v5047 : Index := Scalar.indexCast v5046
  let c0_4139 : Index := 0#32
  ![v5047.toNat, 0]

def k0_chk460 (v5044 : BitVec 32) : Prop :=
  (∀ a, (k0_off460 v5044) a + S1x64.size a ≤ S2048x64.size a)
theorem k0_off460_inb : ∀ (v5044 : BitVec 32) (k0_hw460 : k0_chk460 v5044), ∀ a, (k0_off460 v5044) a + S1x64.size a ≤ S2048x64.size a := fun v5044 k0_hw460 => k0_hw460

def k0_off461 (v5055 : BitVec 32) : Fin 2 → Nat :=
  let c0_i32_4147 : BitVec 32 := 0#32
  let v5057 : BitVec 32 := Scalar.maxsi v5055 c0_i32_4147
  let v5058 : Index := Scalar.indexCast v5057
  let c0_4148 : Index := 0#32
  ![v5058.toNat, 0]

def k0_chk461 (v5055 : BitVec 32) : Prop :=
  (∀ a, (k0_off461 v5055) a + S1x64.size a ≤ S2048x64.size a)
theorem k0_off461_inb : ∀ (v5055 : BitVec 32) (k0_hw461 : k0_chk461 v5055), ∀ a, (k0_off461 v5055) a + S1x64.size a ≤ S2048x64.size a := fun v5055 k0_hw461 => k0_hw461

def k0_off462 (v5066 : BitVec 32) : Fin 2 → Nat :=
  let c0_i32_4156 : BitVec 32 := 0#32
  let v5068 : BitVec 32 := Scalar.maxsi v5066 c0_i32_4156
  let v5069 : Index := Scalar.indexCast v5068
  let c0_4157 : Index := 0#32
  ![v5069.toNat, 0]

def k0_chk462 (v5066 : BitVec 32) : Prop :=
  (∀ a, (k0_off462 v5066) a + S1x64.size a ≤ S2048x64.size a)
theorem k0_off462_inb : ∀ (v5066 : BitVec 32) (k0_hw462 : k0_chk462 v5066), ∀ a, (k0_off462 v5066) a + S1x64.size a ≤ S2048x64.size a := fun v5066 k0_hw462 => k0_hw462

def k0_off463 (v5077 : BitVec 32) : Fin 2 → Nat :=
  let c0_i32_4165 : BitVec 32 := 0#32
  let v5079 : BitVec 32 := Scalar.maxsi v5077 c0_i32_4165
  let v5080 : Index := Scalar.indexCast v5079
  let c0_4166 : Index := 0#32
  ![v5080.toNat, 0]

def k0_chk463 (v5077 : BitVec 32) : Prop :=
  (∀ a, (k0_off463 v5077) a + S1x64.size a ≤ S2048x64.size a)
theorem k0_off463_inb : ∀ (v5077 : BitVec 32) (k0_hw463 : k0_chk463 v5077), ∀ a, (k0_off463 v5077) a + S1x64.size a ≤ S2048x64.size a := fun v5077 k0_hw463 => k0_hw463

def k0_off464 (v5088 : BitVec 32) : Fin 2 → Nat :=
  let c0_i32_4174 : BitVec 32 := 0#32
  let v5090 : BitVec 32 := Scalar.maxsi v5088 c0_i32_4174
  let v5091 : Index := Scalar.indexCast v5090
  let c0_4175 : Index := 0#32
  ![v5091.toNat, 0]

def k0_chk464 (v5088 : BitVec 32) : Prop :=
  (∀ a, (k0_off464 v5088) a + S1x64.size a ≤ S2048x64.size a)
theorem k0_off464_inb : ∀ (v5088 : BitVec 32) (k0_hw464 : k0_chk464 v5088), ∀ a, (k0_off464 v5088) a + S1x64.size a ≤ S2048x64.size a := fun v5088 k0_hw464 => k0_hw464

def k0_off465 (v5099 : BitVec 32) : Fin 2 → Nat :=
  let c0_i32_4183 : BitVec 32 := 0#32
  let v5101 : BitVec 32 := Scalar.maxsi v5099 c0_i32_4183
  let v5102 : Index := Scalar.indexCast v5101
  let c0_4184 : Index := 0#32
  ![v5102.toNat, 0]

def k0_chk465 (v5099 : BitVec 32) : Prop :=
  (∀ a, (k0_off465 v5099) a + S1x64.size a ≤ S2048x64.size a)
theorem k0_off465_inb : ∀ (v5099 : BitVec 32) (k0_hw465 : k0_chk465 v5099), ∀ a, (k0_off465 v5099) a + S1x64.size a ≤ S2048x64.size a := fun v5099 k0_hw465 => k0_hw465

def k0_off466 (v5110 : BitVec 32) : Fin 2 → Nat :=
  let c0_i32_4192 : BitVec 32 := 0#32
  let v5112 : BitVec 32 := Scalar.maxsi v5110 c0_i32_4192
  let v5113 : Index := Scalar.indexCast v5112
  let c0_4193 : Index := 0#32
  ![v5113.toNat, 0]

def k0_chk466 (v5110 : BitVec 32) : Prop :=
  (∀ a, (k0_off466 v5110) a + S1x64.size a ≤ S2048x64.size a)
theorem k0_off466_inb : ∀ (v5110 : BitVec 32) (k0_hw466 : k0_chk466 v5110), ∀ a, (k0_off466 v5110) a + S1x64.size a ≤ S2048x64.size a := fun v5110 k0_hw466 => k0_hw466

def k0_off467 (v5121 : BitVec 32) : Fin 2 → Nat :=
  let c0_i32_4201 : BitVec 32 := 0#32
  let v5123 : BitVec 32 := Scalar.maxsi v5121 c0_i32_4201
  let v5124 : Index := Scalar.indexCast v5123
  let c0_4202 : Index := 0#32
  ![v5124.toNat, 0]

def k0_chk467 (v5121 : BitVec 32) : Prop :=
  (∀ a, (k0_off467 v5121) a + S1x64.size a ≤ S2048x64.size a)
theorem k0_off467_inb : ∀ (v5121 : BitVec 32) (k0_hw467 : k0_chk467 v5121), ∀ a, (k0_off467 v5121) a + S1x64.size a ≤ S2048x64.size a := fun v5121 k0_hw467 => k0_hw467

def k0_off468 (v5132 : BitVec 32) : Fin 2 → Nat :=
  let c0_i32_4210 : BitVec 32 := 0#32
  let v5134 : BitVec 32 := Scalar.maxsi v5132 c0_i32_4210
  let v5135 : Index := Scalar.indexCast v5134
  let c0_4211 : Index := 0#32
  ![v5135.toNat, 0]

def k0_chk468 (v5132 : BitVec 32) : Prop :=
  (∀ a, (k0_off468 v5132) a + S1x64.size a ≤ S2048x64.size a)
theorem k0_off468_inb : ∀ (v5132 : BitVec 32) (k0_hw468 : k0_chk468 v5132), ∀ a, (k0_off468 v5132) a + S1x64.size a ≤ S2048x64.size a := fun v5132 k0_hw468 => k0_hw468

def k0_off469 (v5143 : BitVec 32) : Fin 2 → Nat :=
  let c0_i32_4219 : BitVec 32 := 0#32
  let v5145 : BitVec 32 := Scalar.maxsi v5143 c0_i32_4219
  let v5146 : Index := Scalar.indexCast v5145
  let c0_4220 : Index := 0#32
  ![v5146.toNat, 0]

def k0_chk469 (v5143 : BitVec 32) : Prop :=
  (∀ a, (k0_off469 v5143) a + S1x64.size a ≤ S2048x64.size a)
theorem k0_off469_inb : ∀ (v5143 : BitVec 32) (k0_hw469 : k0_chk469 v5143), ∀ a, (k0_off469 v5143) a + S1x64.size a ≤ S2048x64.size a := fun v5143 k0_hw469 => k0_hw469

def k0_off470 (v5154 : BitVec 32) : Fin 2 → Nat :=
  let c0_i32_4228 : BitVec 32 := 0#32
  let v5156 : BitVec 32 := Scalar.maxsi v5154 c0_i32_4228
  let v5157 : Index := Scalar.indexCast v5156
  let c0_4229 : Index := 0#32
  ![v5157.toNat, 0]

def k0_chk470 (v5154 : BitVec 32) : Prop :=
  (∀ a, (k0_off470 v5154) a + S1x64.size a ≤ S2048x64.size a)
theorem k0_off470_inb : ∀ (v5154 : BitVec 32) (k0_hw470 : k0_chk470 v5154), ∀ a, (k0_off470 v5154) a + S1x64.size a ≤ S2048x64.size a := fun v5154 k0_hw470 => k0_hw470

def k0_off471 (v5165 : BitVec 32) : Fin 2 → Nat :=
  let c0_i32_4237 : BitVec 32 := 0#32
  let v5167 : BitVec 32 := Scalar.maxsi v5165 c0_i32_4237
  let v5168 : Index := Scalar.indexCast v5167
  let c0_4238 : Index := 0#32
  ![v5168.toNat, 0]

def k0_chk471 (v5165 : BitVec 32) : Prop :=
  (∀ a, (k0_off471 v5165) a + S1x64.size a ≤ S2048x64.size a)
theorem k0_off471_inb : ∀ (v5165 : BitVec 32) (k0_hw471 : k0_chk471 v5165), ∀ a, (k0_off471 v5165) a + S1x64.size a ≤ S2048x64.size a := fun v5165 k0_hw471 => k0_hw471

def k0_off472 (v5176 : BitVec 32) : Fin 2 → Nat :=
  let c0_i32_4246 : BitVec 32 := 0#32
  let v5178 : BitVec 32 := Scalar.maxsi v5176 c0_i32_4246
  let v5179 : Index := Scalar.indexCast v5178
  let c0_4247 : Index := 0#32
  ![v5179.toNat, 0]

def k0_chk472 (v5176 : BitVec 32) : Prop :=
  (∀ a, (k0_off472 v5176) a + S1x64.size a ≤ S2048x64.size a)
theorem k0_off472_inb : ∀ (v5176 : BitVec 32) (k0_hw472 : k0_chk472 v5176), ∀ a, (k0_off472 v5176) a + S1x64.size a ≤ S2048x64.size a := fun v5176 k0_hw472 => k0_hw472

def k0_off473 (v5187 : BitVec 32) : Fin 2 → Nat :=
  let c0_i32_4255 : BitVec 32 := 0#32
  let v5189 : BitVec 32 := Scalar.maxsi v5187 c0_i32_4255
  let v5190 : Index := Scalar.indexCast v5189
  let c0_4256 : Index := 0#32
  ![v5190.toNat, 0]

def k0_chk473 (v5187 : BitVec 32) : Prop :=
  (∀ a, (k0_off473 v5187) a + S1x64.size a ≤ S2048x64.size a)
theorem k0_off473_inb : ∀ (v5187 : BitVec 32) (k0_hw473 : k0_chk473 v5187), ∀ a, (k0_off473 v5187) a + S1x64.size a ≤ S2048x64.size a := fun v5187 k0_hw473 => k0_hw473

def k0_off474 (v5198 : BitVec 32) : Fin 2 → Nat :=
  let c0_i32_4264 : BitVec 32 := 0#32
  let v5200 : BitVec 32 := Scalar.maxsi v5198 c0_i32_4264
  let v5201 : Index := Scalar.indexCast v5200
  let c0_4265 : Index := 0#32
  ![v5201.toNat, 0]

def k0_chk474 (v5198 : BitVec 32) : Prop :=
  (∀ a, (k0_off474 v5198) a + S1x64.size a ≤ S2048x64.size a)
theorem k0_off474_inb : ∀ (v5198 : BitVec 32) (k0_hw474 : k0_chk474 v5198), ∀ a, (k0_off474 v5198) a + S1x64.size a ≤ S2048x64.size a := fun v5198 k0_hw474 => k0_hw474

def k0_off475 (v5209 : BitVec 32) : Fin 2 → Nat :=
  let c0_i32_4273 : BitVec 32 := 0#32
  let v5211 : BitVec 32 := Scalar.maxsi v5209 c0_i32_4273
  let v5212 : Index := Scalar.indexCast v5211
  let c0_4274 : Index := 0#32
  ![v5212.toNat, 0]

def k0_chk475 (v5209 : BitVec 32) : Prop :=
  (∀ a, (k0_off475 v5209) a + S1x64.size a ≤ S2048x64.size a)
theorem k0_off475_inb : ∀ (v5209 : BitVec 32) (k0_hw475 : k0_chk475 v5209), ∀ a, (k0_off475 v5209) a + S1x64.size a ≤ S2048x64.size a := fun v5209 k0_hw475 => k0_hw475

def k0_off476 (v5220 : BitVec 32) : Fin 2 → Nat :=
  let c0_i32_4282 : BitVec 32 := 0#32
  let v5222 : BitVec 32 := Scalar.maxsi v5220 c0_i32_4282
  let v5223 : Index := Scalar.indexCast v5222
  let c0_4283 : Index := 0#32
  ![v5223.toNat, 0]

def k0_chk476 (v5220 : BitVec 32) : Prop :=
  (∀ a, (k0_off476 v5220) a + S1x64.size a ≤ S2048x64.size a)
theorem k0_off476_inb : ∀ (v5220 : BitVec 32) (k0_hw476 : k0_chk476 v5220), ∀ a, (k0_off476 v5220) a + S1x64.size a ≤ S2048x64.size a := fun v5220 k0_hw476 => k0_hw476

def k0_off477 (v5231 : BitVec 32) : Fin 2 → Nat :=
  let c0_i32_4291 : BitVec 32 := 0#32
  let v5233 : BitVec 32 := Scalar.maxsi v5231 c0_i32_4291
  let v5234 : Index := Scalar.indexCast v5233
  let c0_4292 : Index := 0#32
  ![v5234.toNat, 0]

def k0_chk477 (v5231 : BitVec 32) : Prop :=
  (∀ a, (k0_off477 v5231) a + S1x64.size a ≤ S2048x64.size a)
theorem k0_off477_inb : ∀ (v5231 : BitVec 32) (k0_hw477 : k0_chk477 v5231), ∀ a, (k0_off477 v5231) a + S1x64.size a ≤ S2048x64.size a := fun v5231 k0_hw477 => k0_hw477

def k0_off478 (v5242 : BitVec 32) : Fin 2 → Nat :=
  let c0_i32_4300 : BitVec 32 := 0#32
  let v5244 : BitVec 32 := Scalar.maxsi v5242 c0_i32_4300
  let v5245 : Index := Scalar.indexCast v5244
  let c0_4301 : Index := 0#32
  ![v5245.toNat, 0]

def k0_chk478 (v5242 : BitVec 32) : Prop :=
  (∀ a, (k0_off478 v5242) a + S1x64.size a ≤ S2048x64.size a)
theorem k0_off478_inb : ∀ (v5242 : BitVec 32) (k0_hw478 : k0_chk478 v5242), ∀ a, (k0_off478 v5242) a + S1x64.size a ≤ S2048x64.size a := fun v5242 k0_hw478 => k0_hw478

def k0_off479 (v5253 : BitVec 32) : Fin 2 → Nat :=
  let c0_i32_4309 : BitVec 32 := 0#32
  let v5255 : BitVec 32 := Scalar.maxsi v5253 c0_i32_4309
  let v5256 : Index := Scalar.indexCast v5255
  let c0_4310 : Index := 0#32
  ![v5256.toNat, 0]

def k0_chk479 (v5253 : BitVec 32) : Prop :=
  (∀ a, (k0_off479 v5253) a + S1x64.size a ≤ S2048x64.size a)
theorem k0_off479_inb : ∀ (v5253 : BitVec 32) (k0_hw479 : k0_chk479 v5253), ∀ a, (k0_off479 v5253) a + S1x64.size a ≤ S2048x64.size a := fun v5253 k0_hw479 => k0_hw479

def k0_off480 (v5264 : BitVec 32) : Fin 2 → Nat :=
  let c0_i32_4318 : BitVec 32 := 0#32
  let v5266 : BitVec 32 := Scalar.maxsi v5264 c0_i32_4318
  let v5267 : Index := Scalar.indexCast v5266
  let c0_4319 : Index := 0#32
  ![v5267.toNat, 0]

def k0_chk480 (v5264 : BitVec 32) : Prop :=
  (∀ a, (k0_off480 v5264) a + S1x64.size a ≤ S2048x64.size a)
theorem k0_off480_inb : ∀ (v5264 : BitVec 32) (k0_hw480 : k0_chk480 v5264), ∀ a, (k0_off480 v5264) a + S1x64.size a ≤ S2048x64.size a := fun v5264 k0_hw480 => k0_hw480

def k0_off481 (v5275 : BitVec 32) : Fin 2 → Nat :=
  let c0_i32_4327 : BitVec 32 := 0#32
  let v5277 : BitVec 32 := Scalar.maxsi v5275 c0_i32_4327
  let v5278 : Index := Scalar.indexCast v5277
  let c0_4328 : Index := 0#32
  ![v5278.toNat, 0]

def k0_chk481 (v5275 : BitVec 32) : Prop :=
  (∀ a, (k0_off481 v5275) a + S1x64.size a ≤ S2048x64.size a)
theorem k0_off481_inb : ∀ (v5275 : BitVec 32) (k0_hw481 : k0_chk481 v5275), ∀ a, (k0_off481 v5275) a + S1x64.size a ≤ S2048x64.size a := fun v5275 k0_hw481 => k0_hw481

def k0_off482 (v5286 : BitVec 32) : Fin 2 → Nat :=
  let c0_i32_4336 : BitVec 32 := 0#32
  let v5288 : BitVec 32 := Scalar.maxsi v5286 c0_i32_4336
  let v5289 : Index := Scalar.indexCast v5288
  let c0_4337 : Index := 0#32
  ![v5289.toNat, 0]

def k0_chk482 (v5286 : BitVec 32) : Prop :=
  (∀ a, (k0_off482 v5286) a + S1x64.size a ≤ S2048x64.size a)
theorem k0_off482_inb : ∀ (v5286 : BitVec 32) (k0_hw482 : k0_chk482 v5286), ∀ a, (k0_off482 v5286) a + S1x64.size a ≤ S2048x64.size a := fun v5286 k0_hw482 => k0_hw482

def k0_off483 (v5297 : BitVec 32) : Fin 2 → Nat :=
  let c0_i32_4345 : BitVec 32 := 0#32
  let v5299 : BitVec 32 := Scalar.maxsi v5297 c0_i32_4345
  let v5300 : Index := Scalar.indexCast v5299
  let c0_4346 : Index := 0#32
  ![v5300.toNat, 0]

def k0_chk483 (v5297 : BitVec 32) : Prop :=
  (∀ a, (k0_off483 v5297) a + S1x64.size a ≤ S2048x64.size a)
theorem k0_off483_inb : ∀ (v5297 : BitVec 32) (k0_hw483 : k0_chk483 v5297), ∀ a, (k0_off483 v5297) a + S1x64.size a ≤ S2048x64.size a := fun v5297 k0_hw483 => k0_hw483

def k0_off484 (v5308 : BitVec 32) : Fin 2 → Nat :=
  let c0_i32_4354 : BitVec 32 := 0#32
  let v5310 : BitVec 32 := Scalar.maxsi v5308 c0_i32_4354
  let v5311 : Index := Scalar.indexCast v5310
  let c0_4355 : Index := 0#32
  ![v5311.toNat, 0]

def k0_chk484 (v5308 : BitVec 32) : Prop :=
  (∀ a, (k0_off484 v5308) a + S1x64.size a ≤ S2048x64.size a)
theorem k0_off484_inb : ∀ (v5308 : BitVec 32) (k0_hw484 : k0_chk484 v5308), ∀ a, (k0_off484 v5308) a + S1x64.size a ≤ S2048x64.size a := fun v5308 k0_hw484 => k0_hw484

def k0_off485 (v5319 : BitVec 32) : Fin 2 → Nat :=
  let c0_i32_4363 : BitVec 32 := 0#32
  let v5321 : BitVec 32 := Scalar.maxsi v5319 c0_i32_4363
  let v5322 : Index := Scalar.indexCast v5321
  let c0_4364 : Index := 0#32
  ![v5322.toNat, 0]

def k0_chk485 (v5319 : BitVec 32) : Prop :=
  (∀ a, (k0_off485 v5319) a + S1x64.size a ≤ S2048x64.size a)
theorem k0_off485_inb : ∀ (v5319 : BitVec 32) (k0_hw485 : k0_chk485 v5319), ∀ a, (k0_off485 v5319) a + S1x64.size a ≤ S2048x64.size a := fun v5319 k0_hw485 => k0_hw485

def k0_off486 (v5330 : BitVec 32) : Fin 2 → Nat :=
  let c0_i32_4372 : BitVec 32 := 0#32
  let v5332 : BitVec 32 := Scalar.maxsi v5330 c0_i32_4372
  let v5333 : Index := Scalar.indexCast v5332
  let c0_4373 : Index := 0#32
  ![v5333.toNat, 0]

def k0_chk486 (v5330 : BitVec 32) : Prop :=
  (∀ a, (k0_off486 v5330) a + S1x64.size a ≤ S2048x64.size a)
theorem k0_off486_inb : ∀ (v5330 : BitVec 32) (k0_hw486 : k0_chk486 v5330), ∀ a, (k0_off486 v5330) a + S1x64.size a ≤ S2048x64.size a := fun v5330 k0_hw486 => k0_hw486

def k0_off487 (v5341 : BitVec 32) : Fin 2 → Nat :=
  let c0_i32_4381 : BitVec 32 := 0#32
  let v5343 : BitVec 32 := Scalar.maxsi v5341 c0_i32_4381
  let v5344 : Index := Scalar.indexCast v5343
  let c0_4382 : Index := 0#32
  ![v5344.toNat, 0]

def k0_chk487 (v5341 : BitVec 32) : Prop :=
  (∀ a, (k0_off487 v5341) a + S1x64.size a ≤ S2048x64.size a)
theorem k0_off487_inb : ∀ (v5341 : BitVec 32) (k0_hw487 : k0_chk487 v5341), ∀ a, (k0_off487 v5341) a + S1x64.size a ≤ S2048x64.size a := fun v5341 k0_hw487 => k0_hw487

def k0_off488 (v5352 : BitVec 32) : Fin 2 → Nat :=
  let c0_i32_4390 : BitVec 32 := 0#32
  let v5354 : BitVec 32 := Scalar.maxsi v5352 c0_i32_4390
  let v5355 : Index := Scalar.indexCast v5354
  let c0_4391 : Index := 0#32
  ![v5355.toNat, 0]

def k0_chk488 (v5352 : BitVec 32) : Prop :=
  (∀ a, (k0_off488 v5352) a + S1x64.size a ≤ S2048x64.size a)
theorem k0_off488_inb : ∀ (v5352 : BitVec 32) (k0_hw488 : k0_chk488 v5352), ∀ a, (k0_off488 v5352) a + S1x64.size a ≤ S2048x64.size a := fun v5352 k0_hw488 => k0_hw488

def k0_off489 (v5363 : BitVec 32) : Fin 2 → Nat :=
  let c0_i32_4399 : BitVec 32 := 0#32
  let v5365 : BitVec 32 := Scalar.maxsi v5363 c0_i32_4399
  let v5366 : Index := Scalar.indexCast v5365
  let c0_4400 : Index := 0#32
  ![v5366.toNat, 0]

def k0_chk489 (v5363 : BitVec 32) : Prop :=
  (∀ a, (k0_off489 v5363) a + S1x64.size a ≤ S2048x64.size a)
theorem k0_off489_inb : ∀ (v5363 : BitVec 32) (k0_hw489 : k0_chk489 v5363), ∀ a, (k0_off489 v5363) a + S1x64.size a ≤ S2048x64.size a := fun v5363 k0_hw489 => k0_hw489

def k0_off490 (v5374 : BitVec 32) : Fin 2 → Nat :=
  let c0_i32_4408 : BitVec 32 := 0#32
  let v5376 : BitVec 32 := Scalar.maxsi v5374 c0_i32_4408
  let v5377 : Index := Scalar.indexCast v5376
  let c0_4409 : Index := 0#32
  ![v5377.toNat, 0]

def k0_chk490 (v5374 : BitVec 32) : Prop :=
  (∀ a, (k0_off490 v5374) a + S1x64.size a ≤ S2048x64.size a)
theorem k0_off490_inb : ∀ (v5374 : BitVec 32) (k0_hw490 : k0_chk490 v5374), ∀ a, (k0_off490 v5374) a + S1x64.size a ≤ S2048x64.size a := fun v5374 k0_hw490 => k0_hw490

def k0_off491 (v5385 : BitVec 32) : Fin 2 → Nat :=
  let c0_i32_4417 : BitVec 32 := 0#32
  let v5387 : BitVec 32 := Scalar.maxsi v5385 c0_i32_4417
  let v5388 : Index := Scalar.indexCast v5387
  let c0_4418 : Index := 0#32
  ![v5388.toNat, 0]

def k0_chk491 (v5385 : BitVec 32) : Prop :=
  (∀ a, (k0_off491 v5385) a + S1x64.size a ≤ S2048x64.size a)
theorem k0_off491_inb : ∀ (v5385 : BitVec 32) (k0_hw491 : k0_chk491 v5385), ∀ a, (k0_off491 v5385) a + S1x64.size a ≤ S2048x64.size a := fun v5385 k0_hw491 => k0_hw491

def k0_off492 (v5396 : BitVec 32) : Fin 2 → Nat :=
  let c0_i32_4426 : BitVec 32 := 0#32
  let v5398 : BitVec 32 := Scalar.maxsi v5396 c0_i32_4426
  let v5399 : Index := Scalar.indexCast v5398
  let c0_4427 : Index := 0#32
  ![v5399.toNat, 0]

def k0_chk492 (v5396 : BitVec 32) : Prop :=
  (∀ a, (k0_off492 v5396) a + S1x64.size a ≤ S2048x64.size a)
theorem k0_off492_inb : ∀ (v5396 : BitVec 32) (k0_hw492 : k0_chk492 v5396), ∀ a, (k0_off492 v5396) a + S1x64.size a ≤ S2048x64.size a := fun v5396 k0_hw492 => k0_hw492

def k0_off493 (v5407 : BitVec 32) : Fin 2 → Nat :=
  let c0_i32_4435 : BitVec 32 := 0#32
  let v5409 : BitVec 32 := Scalar.maxsi v5407 c0_i32_4435
  let v5410 : Index := Scalar.indexCast v5409
  let c0_4436 : Index := 0#32
  ![v5410.toNat, 0]

def k0_chk493 (v5407 : BitVec 32) : Prop :=
  (∀ a, (k0_off493 v5407) a + S1x64.size a ≤ S2048x64.size a)
theorem k0_off493_inb : ∀ (v5407 : BitVec 32) (k0_hw493 : k0_chk493 v5407), ∀ a, (k0_off493 v5407) a + S1x64.size a ≤ S2048x64.size a := fun v5407 k0_hw493 => k0_hw493

def k0_off494 (v5418 : BitVec 32) : Fin 2 → Nat :=
  let c0_i32_4444 : BitVec 32 := 0#32
  let v5420 : BitVec 32 := Scalar.maxsi v5418 c0_i32_4444
  let v5421 : Index := Scalar.indexCast v5420
  let c0_4445 : Index := 0#32
  ![v5421.toNat, 0]

def k0_chk494 (v5418 : BitVec 32) : Prop :=
  (∀ a, (k0_off494 v5418) a + S1x64.size a ≤ S2048x64.size a)
theorem k0_off494_inb : ∀ (v5418 : BitVec 32) (k0_hw494 : k0_chk494 v5418), ∀ a, (k0_off494 v5418) a + S1x64.size a ≤ S2048x64.size a := fun v5418 k0_hw494 => k0_hw494

def k0_off495 (v5429 : BitVec 32) : Fin 2 → Nat :=
  let c0_i32_4453 : BitVec 32 := 0#32
  let v5431 : BitVec 32 := Scalar.maxsi v5429 c0_i32_4453
  let v5432 : Index := Scalar.indexCast v5431
  let c0_4454 : Index := 0#32
  ![v5432.toNat, 0]

def k0_chk495 (v5429 : BitVec 32) : Prop :=
  (∀ a, (k0_off495 v5429) a + S1x64.size a ≤ S2048x64.size a)
theorem k0_off495_inb : ∀ (v5429 : BitVec 32) (k0_hw495 : k0_chk495 v5429), ∀ a, (k0_off495 v5429) a + S1x64.size a ≤ S2048x64.size a := fun v5429 k0_hw495 => k0_hw495

def k0_off496 (v5440 : BitVec 32) : Fin 2 → Nat :=
  let c0_i32_4462 : BitVec 32 := 0#32
  let v5442 : BitVec 32 := Scalar.maxsi v5440 c0_i32_4462
  let v5443 : Index := Scalar.indexCast v5442
  let c0_4463 : Index := 0#32
  ![v5443.toNat, 0]

def k0_chk496 (v5440 : BitVec 32) : Prop :=
  (∀ a, (k0_off496 v5440) a + S1x64.size a ≤ S2048x64.size a)
theorem k0_off496_inb : ∀ (v5440 : BitVec 32) (k0_hw496 : k0_chk496 v5440), ∀ a, (k0_off496 v5440) a + S1x64.size a ≤ S2048x64.size a := fun v5440 k0_hw496 => k0_hw496

def k0_off497 (v5451 : BitVec 32) : Fin 2 → Nat :=
  let c0_i32_4471 : BitVec 32 := 0#32
  let v5453 : BitVec 32 := Scalar.maxsi v5451 c0_i32_4471
  let v5454 : Index := Scalar.indexCast v5453
  let c0_4472 : Index := 0#32
  ![v5454.toNat, 0]

def k0_chk497 (v5451 : BitVec 32) : Prop :=
  (∀ a, (k0_off497 v5451) a + S1x64.size a ≤ S2048x64.size a)
theorem k0_off497_inb : ∀ (v5451 : BitVec 32) (k0_hw497 : k0_chk497 v5451), ∀ a, (k0_off497 v5451) a + S1x64.size a ≤ S2048x64.size a := fun v5451 k0_hw497 => k0_hw497

def k0_off498 (v5462 : BitVec 32) : Fin 2 → Nat :=
  let c0_i32_4480 : BitVec 32 := 0#32
  let v5464 : BitVec 32 := Scalar.maxsi v5462 c0_i32_4480
  let v5465 : Index := Scalar.indexCast v5464
  let c0_4481 : Index := 0#32
  ![v5465.toNat, 0]

def k0_chk498 (v5462 : BitVec 32) : Prop :=
  (∀ a, (k0_off498 v5462) a + S1x64.size a ≤ S2048x64.size a)
theorem k0_off498_inb : ∀ (v5462 : BitVec 32) (k0_hw498 : k0_chk498 v5462), ∀ a, (k0_off498 v5462) a + S1x64.size a ≤ S2048x64.size a := fun v5462 k0_hw498 => k0_hw498

def k0_off499 (v5473 : BitVec 32) : Fin 2 → Nat :=
  let c0_i32_4489 : BitVec 32 := 0#32
  let v5475 : BitVec 32 := Scalar.maxsi v5473 c0_i32_4489
  let v5476 : Index := Scalar.indexCast v5475
  let c0_4490 : Index := 0#32
  ![v5476.toNat, 0]

def k0_chk499 (v5473 : BitVec 32) : Prop :=
  (∀ a, (k0_off499 v5473) a + S1x64.size a ≤ S2048x64.size a)
theorem k0_off499_inb : ∀ (v5473 : BitVec 32) (k0_hw499 : k0_chk499 v5473), ∀ a, (k0_off499 v5473) a + S1x64.size a ≤ S2048x64.size a := fun v5473 k0_hw499 => k0_hw499

def k0_off500 (v5484 : BitVec 32) : Fin 2 → Nat :=
  let c0_i32_4498 : BitVec 32 := 0#32
  let v5486 : BitVec 32 := Scalar.maxsi v5484 c0_i32_4498
  let v5487 : Index := Scalar.indexCast v5486
  let c0_4499 : Index := 0#32
  ![v5487.toNat, 0]

def k0_chk500 (v5484 : BitVec 32) : Prop :=
  (∀ a, (k0_off500 v5484) a + S1x64.size a ≤ S2048x64.size a)
theorem k0_off500_inb : ∀ (v5484 : BitVec 32) (k0_hw500 : k0_chk500 v5484), ∀ a, (k0_off500 v5484) a + S1x64.size a ≤ S2048x64.size a := fun v5484 k0_hw500 => k0_hw500

def k0_off501 (v5495 : BitVec 32) : Fin 2 → Nat :=
  let c0_i32_4507 : BitVec 32 := 0#32
  let v5497 : BitVec 32 := Scalar.maxsi v5495 c0_i32_4507
  let v5498 : Index := Scalar.indexCast v5497
  let c0_4508 : Index := 0#32
  ![v5498.toNat, 0]

def k0_chk501 (v5495 : BitVec 32) : Prop :=
  (∀ a, (k0_off501 v5495) a + S1x64.size a ≤ S2048x64.size a)
theorem k0_off501_inb : ∀ (v5495 : BitVec 32) (k0_hw501 : k0_chk501 v5495), ∀ a, (k0_off501 v5495) a + S1x64.size a ≤ S2048x64.size a := fun v5495 k0_hw501 => k0_hw501

def k0_off502 (v5506 : BitVec 32) : Fin 2 → Nat :=
  let c0_i32_4516 : BitVec 32 := 0#32
  let v5508 : BitVec 32 := Scalar.maxsi v5506 c0_i32_4516
  let v5509 : Index := Scalar.indexCast v5508
  let c0_4517 : Index := 0#32
  ![v5509.toNat, 0]

def k0_chk502 (v5506 : BitVec 32) : Prop :=
  (∀ a, (k0_off502 v5506) a + S1x64.size a ≤ S2048x64.size a)
theorem k0_off502_inb : ∀ (v5506 : BitVec 32) (k0_hw502 : k0_chk502 v5506), ∀ a, (k0_off502 v5506) a + S1x64.size a ≤ S2048x64.size a := fun v5506 k0_hw502 => k0_hw502

def k0_off503 (v5517 : BitVec 32) : Fin 2 → Nat :=
  let c0_i32_4525 : BitVec 32 := 0#32
  let v5519 : BitVec 32 := Scalar.maxsi v5517 c0_i32_4525
  let v5520 : Index := Scalar.indexCast v5519
  let c0_4526 : Index := 0#32
  ![v5520.toNat, 0]

def k0_chk503 (v5517 : BitVec 32) : Prop :=
  (∀ a, (k0_off503 v5517) a + S1x64.size a ≤ S2048x64.size a)
theorem k0_off503_inb : ∀ (v5517 : BitVec 32) (k0_hw503 : k0_chk503 v5517), ∀ a, (k0_off503 v5517) a + S1x64.size a ≤ S2048x64.size a := fun v5517 k0_hw503 => k0_hw503

def k0_off504 (v5528 : BitVec 32) : Fin 2 → Nat :=
  let c0_i32_4534 : BitVec 32 := 0#32
  let v5530 : BitVec 32 := Scalar.maxsi v5528 c0_i32_4534
  let v5531 : Index := Scalar.indexCast v5530
  let c0_4535 : Index := 0#32
  ![v5531.toNat, 0]

def k0_chk504 (v5528 : BitVec 32) : Prop :=
  (∀ a, (k0_off504 v5528) a + S1x64.size a ≤ S2048x64.size a)
theorem k0_off504_inb : ∀ (v5528 : BitVec 32) (k0_hw504 : k0_chk504 v5528), ∀ a, (k0_off504 v5528) a + S1x64.size a ≤ S2048x64.size a := fun v5528 k0_hw504 => k0_hw504

def k0_off505 (v5539 : BitVec 32) : Fin 2 → Nat :=
  let c0_i32_4543 : BitVec 32 := 0#32
  let v5541 : BitVec 32 := Scalar.maxsi v5539 c0_i32_4543
  let v5542 : Index := Scalar.indexCast v5541
  let c0_4544 : Index := 0#32
  ![v5542.toNat, 0]

def k0_chk505 (v5539 : BitVec 32) : Prop :=
  (∀ a, (k0_off505 v5539) a + S1x64.size a ≤ S2048x64.size a)
theorem k0_off505_inb : ∀ (v5539 : BitVec 32) (k0_hw505 : k0_chk505 v5539), ∀ a, (k0_off505 v5539) a + S1x64.size a ≤ S2048x64.size a := fun v5539 k0_hw505 => k0_hw505

def k0_off506 (v5550 : BitVec 32) : Fin 2 → Nat :=
  let c0_i32_4552 : BitVec 32 := 0#32
  let v5552 : BitVec 32 := Scalar.maxsi v5550 c0_i32_4552
  let v5553 : Index := Scalar.indexCast v5552
  let c0_4553 : Index := 0#32
  ![v5553.toNat, 0]

def k0_chk506 (v5550 : BitVec 32) : Prop :=
  (∀ a, (k0_off506 v5550) a + S1x64.size a ≤ S2048x64.size a)
theorem k0_off506_inb : ∀ (v5550 : BitVec 32) (k0_hw506 : k0_chk506 v5550), ∀ a, (k0_off506 v5550) a + S1x64.size a ≤ S2048x64.size a := fun v5550 k0_hw506 => k0_hw506

def k0_off507 (v5561 : BitVec 32) : Fin 2 → Nat :=
  let c0_i32_4561 : BitVec 32 := 0#32
  let v5563 : BitVec 32 := Scalar.maxsi v5561 c0_i32_4561
  let v5564 : Index := Scalar.indexCast v5563
  let c0_4562 : Index := 0#32
  ![v5564.toNat, 0]

def k0_chk507 (v5561 : BitVec 32) : Prop :=
  (∀ a, (k0_off507 v5561) a + S1x64.size a ≤ S2048x64.size a)
theorem k0_off507_inb : ∀ (v5561 : BitVec 32) (k0_hw507 : k0_chk507 v5561), ∀ a, (k0_off507 v5561) a + S1x64.size a ≤ S2048x64.size a := fun v5561 k0_hw507 => k0_hw507

def k0_off508 (v5572 : BitVec 32) : Fin 2 → Nat :=
  let c0_i32_4570 : BitVec 32 := 0#32
  let v5574 : BitVec 32 := Scalar.maxsi v5572 c0_i32_4570
  let v5575 : Index := Scalar.indexCast v5574
  let c0_4571 : Index := 0#32
  ![v5575.toNat, 0]

def k0_chk508 (v5572 : BitVec 32) : Prop :=
  (∀ a, (k0_off508 v5572) a + S1x64.size a ≤ S2048x64.size a)
theorem k0_off508_inb : ∀ (v5572 : BitVec 32) (k0_hw508 : k0_chk508 v5572), ∀ a, (k0_off508 v5572) a + S1x64.size a ≤ S2048x64.size a := fun v5572 k0_hw508 => k0_hw508

def k0_off509 (v5583 : BitVec 32) : Fin 2 → Nat :=
  let c0_i32_4579 : BitVec 32 := 0#32
  let v5585 : BitVec 32 := Scalar.maxsi v5583 c0_i32_4579
  let v5586 : Index := Scalar.indexCast v5585
  let c0_4580 : Index := 0#32
  ![v5586.toNat, 0]

def k0_chk509 (v5583 : BitVec 32) : Prop :=
  (∀ a, (k0_off509 v5583) a + S1x64.size a ≤ S2048x64.size a)
theorem k0_off509_inb : ∀ (v5583 : BitVec 32) (k0_hw509 : k0_chk509 v5583), ∀ a, (k0_off509 v5583) a + S1x64.size a ≤ S2048x64.size a := fun v5583 k0_hw509 => k0_hw509

def k0_off510 (v5594 : BitVec 32) : Fin 2 → Nat :=
  let c0_i32_4588 : BitVec 32 := 0#32
  let v5596 : BitVec 32 := Scalar.maxsi v5594 c0_i32_4588
  let v5597 : Index := Scalar.indexCast v5596
  let c0_4589 : Index := 0#32
  ![v5597.toNat, 0]

def k0_chk510 (v5594 : BitVec 32) : Prop :=
  (∀ a, (k0_off510 v5594) a + S1x64.size a ≤ S2048x64.size a)
theorem k0_off510_inb : ∀ (v5594 : BitVec 32) (k0_hw510 : k0_chk510 v5594), ∀ a, (k0_off510 v5594) a + S1x64.size a ≤ S2048x64.size a := fun v5594 k0_hw510 => k0_hw510

def k0_off511 (v5605 : BitVec 32) : Fin 2 → Nat :=
  let c0_i32_4597 : BitVec 32 := 0#32
  let v5607 : BitVec 32 := Scalar.maxsi v5605 c0_i32_4597
  let v5608 : Index := Scalar.indexCast v5607
  let c0_4598 : Index := 0#32
  ![v5608.toNat, 0]

def k0_chk511 (v5605 : BitVec 32) : Prop :=
  (∀ a, (k0_off511 v5605) a + S1x64.size a ≤ S2048x64.size a)
theorem k0_off511_inb : ∀ (v5605 : BitVec 32) (k0_hw511 : k0_chk511 v5605), ∀ a, (k0_off511 v5605) a + S1x64.size a ≤ S2048x64.size a := fun v5605 k0_hw511 => k0_hw511

def k0_off512 (v5616 : BitVec 32) : Fin 2 → Nat :=
  let c0_i32_4606 : BitVec 32 := 0#32
  let v5618 : BitVec 32 := Scalar.maxsi v5616 c0_i32_4606
  let v5619 : Index := Scalar.indexCast v5618
  let c0_4607 : Index := 0#32
  ![v5619.toNat, 0]

def k0_chk512 (v5616 : BitVec 32) : Prop :=
  (∀ a, (k0_off512 v5616) a + S1x64.size a ≤ S2048x64.size a)
theorem k0_off512_inb : ∀ (v5616 : BitVec 32) (k0_hw512 : k0_chk512 v5616), ∀ a, (k0_off512 v5616) a + S1x64.size a ≤ S2048x64.size a := fun v5616 k0_hw512 => k0_hw512

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x256 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![16, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x1x64 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S16x2048x64 : Shape := ⟨3, ![16, 2048, 64]⟩
abbrev S16x1024 : Shape := ⟨2, ![16, 1024]⟩
abbrev S16x512 : Shape := ⟨2, ![16, 512]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16x512x64 : Shape := ⟨3, ![16, 512, 64]⟩
abbrev S16 : Shape := ⟨1, ![16]⟩
abbrev S16x64 : Shape := ⟨2, ![16, 64]⟩
abbrev S16x1 : Shape := ⟨2, ![16, 1]⟩
abbrev S16x2048 : Shape := ⟨2, ![16, 2048]⟩
abbrev S16x256 : Shape := ⟨2, ![16, 256]⟩
abbrev S16x256x1 : Shape := ⟨3, ![16, 256, 1]⟩
abbrev S1x1x2048 : Shape := ⟨3, ![1, 1, 2048]⟩
abbrev S16x256x2048 : Shape := ⟨3, ![16, 256, 2048]⟩
abbrev S16x64x1 : Shape := ⟨3, ![16, 64, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x1024, .i32⟩
  | .hbm, ⟨3, _⟩ => ⟨S16x512, .i32⟩
  | .hbm, ⟨4, _⟩ => ⟨S_, .i32⟩
  | .hbm, ⟨5, _⟩ => ⟨S16x512, .i32⟩
  | .hbm, ⟨6, _⟩ => ⟨S16x512, .i1⟩
  | .hbm, ⟨7, _⟩ => ⟨S16x512, .i32⟩
  | .hbm, ⟨8, _⟩ => ⟨S_, .i32⟩
  | .hbm, ⟨9, _⟩ => ⟨S_, .i32⟩
  | .hbm, ⟨10, _⟩ => ⟨S16x512, .i32⟩
  | .hbm, ⟨11, _⟩ => ⟨S16x512, .i32⟩
  | .hbm, ⟨12, _⟩ => ⟨S16x512x1, .i32⟩
  | .hbm, ⟨13, _⟩ => ⟨S_, .i32⟩
  | .hbm, ⟨14, _⟩ => ⟨S16x512x1, .i32⟩
  | .hbm, ⟨15, _⟩ => ⟨S16x512x1, .i1⟩
  | .hbm, ⟨16, _⟩ => ⟨S_, .i32⟩
  | .hbm, ⟨17, _⟩ => ⟨S16x512x1, .i32⟩
  | .hbm, ⟨18, _⟩ => ⟨S16x512x1, .i32⟩
  | .hbm, ⟨19, _⟩ => ⟨S16x512x1, .i32⟩
  | .hbm, ⟨20, _⟩ => ⟨S1, .i32⟩
  | .hbm, ⟨21, _⟩ => ⟨S_, .i32⟩
  | .hbm, ⟨22, _⟩ => ⟨S16x512x1, .i32⟩
  | .hbm, ⟨23, _⟩ => ⟨S16x512x1, .i1⟩
  | .hbm, ⟨24, _⟩ => ⟨S1x1x1, .i32⟩
  | .hbm, ⟨25, _⟩ => ⟨S16x512x1, .i32⟩
  | .hbm, ⟨26, _⟩ => ⟨S16x512x1, .i1⟩
  | .hbm, ⟨27, _⟩ => ⟨S16x512x1, .i1⟩
  | .hbm, ⟨28, _⟩ => ⟨S_, .i1⟩
  | .hbm, ⟨29, _⟩ => ⟨S16x512, .i1⟩
  | .hbm, ⟨30, _⟩ => ⟨S16x512x64, .f32⟩
  | .hbm, ⟨31, _⟩ => ⟨S16x512x64, .i1⟩
  | .hbm, ⟨32, _⟩ => ⟨S_, .f32⟩
  | .hbm, ⟨33, _⟩ => ⟨S16x512x64, .f32⟩
  | .hbm, ⟨34, _⟩ => ⟨S16x512x64, .f32⟩
  | .hbm, ⟨35, _⟩ => ⟨S16x512x1, .i1⟩
  | .hbm, ⟨36, _⟩ => ⟨S16x512x1, .f32⟩
  | .hbm, ⟨37, _⟩ => ⟨S16x512x64, .f32⟩
  | .hbm, ⟨38, _⟩ => ⟨S16x512x64, .f32⟩
  | .hbm, ⟨39, _⟩ => ⟨S16x512, .i32⟩
  | .hbm, ⟨40, _⟩ => ⟨S_, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .f32⟩
  | .hbm, ⟨46, _⟩ => ⟨S_, .f32⟩
  | .hbm, ⟨47, _⟩ => ⟨S16x64, .f32⟩
  | .hbm, ⟨48, _⟩ => ⟨S16x1, .f32⟩
  | .hbm, ⟨49, _⟩ => ⟨S16x64, .f32⟩
  | .hbm, ⟨50, _⟩ => ⟨S16x64, .f32⟩
  | .hbm, ⟨51, _⟩ => ⟨S16x2048x64, .f32⟩
  | .hbm, ⟨52, _⟩ => ⟨S_, .f32⟩
  | .hbm, ⟨53, _⟩ => ⟨S16x2048, .f32⟩
  | .hbm, ⟨54, _⟩ => ⟨S16x2048, .f32⟩
  | .hbm, ⟨55, _⟩ => ⟨S_, .f32⟩
  | .hbm, ⟨56, _⟩ => ⟨S16x2048, .f32⟩
  | .hbm, ⟨57, _⟩ => ⟨S16x2048, .f32⟩
  | .hbm, ⟨58, _⟩ => ⟨S16x64, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16x2048, .f32⟩
  | .hbm, ⟨66, _⟩ => ⟨S16x1, .f32⟩
  | .hbm, ⟨67, _⟩ => ⟨S16x2048, .f32⟩
  | .hbm, ⟨68, _⟩ => ⟨S16x2048, .f32⟩
  | .hbm, ⟨69, _⟩ => ⟨S16x2048, .f32⟩
  | .hbm, ⟨70, _⟩ => ⟨S_, .f32⟩
  | .hbm, ⟨71, _⟩ => ⟨S16x2048, .f32⟩
  | .hbm, ⟨72, _⟩ => ⟨S16x2048, .f32⟩
  | .hbm, ⟨73, _⟩ => ⟨S_, .f32⟩
  | .hbm, ⟨74, _⟩ => ⟨S16x2048, .f32⟩
  | .hbm, ⟨75, _⟩ => ⟨S16x2048, .f32⟩
  | .hbm, ⟨76, _⟩ => ⟨S_, .i32⟩
  | .hbm, ⟨77, _⟩ => ⟨S16, .i32⟩
  | .hbm, ⟨78, _⟩ => ⟨S16, .i1⟩
  | .hbm, ⟨79, _⟩ => ⟨S16, .f32⟩
  | .hbm, ⟨80, _⟩ => ⟨S16x1, .f32⟩
  | .hbm, ⟨81, _⟩ => ⟨S16x2048, .f32⟩
  | .hbm, ⟨82, _⟩ => ⟨S16x2048, .f32⟩
  | .hbm, ⟨83, _⟩ => ⟨S16x256, .f32⟩
  | .hbm, ⟨84, _⟩ => ⟨S16x256, .i32⟩
  | .hbm, ⟨85, _⟩ => ⟨S16x256x1, .i32⟩
  | .hbm, ⟨86, _⟩ => ⟨S1x1x2048, .i32⟩
  | .hbm, ⟨87, _⟩ => ⟨S16x256x2048, .i32⟩
  | .hbm, ⟨88, _⟩ => ⟨S16x256x2048, .i32⟩
  | .hbm, ⟨89, _⟩ => ⟨S16x256x2048, .i1⟩
  | .hbm, ⟨90, _⟩ => ⟨S16x256x2048, .f32⟩
  | .hbm, ⟨91, _⟩ => ⟨S16x256x1, .f32⟩
  | .hbm, ⟨92, _⟩ => ⟨S16x256x2048, .f32⟩
  | .hbm, ⟨93, _⟩ => ⟨S16x256x2048, .f32⟩
  | .hbm, ⟨94, _⟩ => ⟨S_, .f32⟩
  | .hbm, ⟨95, _⟩ => ⟨S16x256x2048, .f32⟩
  | .hbm, ⟨96, _⟩ => ⟨S16x256x2048, .i1⟩
  | .hbm, ⟨97, _⟩ => ⟨S16x256x2048, .f32⟩
  | .hbm, ⟨98, _⟩ => ⟨S16x256x2048, .f32⟩
  | .hbm, ⟨99, _⟩ => ⟨S16x256x2048, .f32⟩
  | .hbm, ⟨100, _⟩ => ⟨S16x64x1, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_c_2 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_call3_v0 : Ref sig .tc := ⟨.hbm, 58, rfl⟩
abbrev main_call3_cst : Ref sig .tc := ⟨.hbm, 59, rfl⟩
abbrev main_call3_v1 : Ref sig .tc := ⟨.hbm, 60, rfl⟩
abbrev main_v23 : Ref sig .tc := ⟨.hbm, 61, rfl⟩
abbrev main_cst_4 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_v34 : Ref sig .tc := ⟨.hbm, 75, rfl⟩
abbrev main_c_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_values : Ref sig .tc := ⟨.hbm, 83, rfl⟩
abbrev main_indices : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩

abbrev nD : Nat := 1
abbrev τ : Topo := Topo.v7x

variable {F : FTy → Type} [FloatOps F]
-- ==== Proof.ScoreProg.lean ====
/-
  The score kernel's body as a loop: the five hundred and twelve row reads the printed body lists one by one are one
  recursion (`reads`), and what the body computes from the rows read is stated once (`countOf`, `rowsSum`, ...).
-/
module

public import proofs.«01_k».proof.Proof.Gen.KernelIdeal.Skeleton
public import Idealize.ShloMosaic.Lib.Tactic
public import Idealize.ShloMosaic.Lib.Pipeline.Regions

@[expose] public section

noncomputable section

namespace Cert.KernelIdeal.Score

open Cert.KernelIdeal Cert.KernelIdeal.Gen
open Idealize.ShloMosaic
open Idealize.ShloMosaic.TcCoe
open Idealize.SL Idealize.SL.Sem

variable {F : FTy → Type} [FloatOps F]

/-- A program of one core. -/
abbrev Pr (F : FTy → Type) (α : Type) : Type _ := Prog (TpuEff nD τ sig (Elt F) Λ₀ .tc) α

/-- The function `f` with its value at `j` replaced by `v`. -/
def upd {α : Type} (f : ℕ → α) (j : ℕ) (v : α) : ℕ → α := fun i => cond (Nat.beq i j) v (f i)

/-- The one-word rectangle at position `j` of the table of row numbers lies inside it. -/
theorem word_inb {j : ℕ} (h : j < 512) : ∀ a, (![0, 0, j] : Fin 3 → ℕ) a + S1x1x1.size a ≤ S1x1x512.size a := by
  intro a; fin_cases a
  · show 0 + 1 ≤ 1; omega
  · show 0 + 1 ≤ 1; omega
  · show j + 1 ≤ 512; omega

set_option maxHeartbeats 4000000 in
/-- Read row number `j` of the table, then the row of the scratch array it names. -/
def read1 (arg1 : Memref sig .tc .smem S1x1x512 .i32) (arg6 : Memref sig .tc .vmem S2048x64 .f32)
    (j : ℕ) (h : ∀ a, (![0, 0, j] : Fin 3 → ℕ) a + S1x1x1.size a ≤ S1x1x512.size a)
    (k : Elt F .i32 → Vec F S1x64 .f32 → Prog (TpuEff nD τ sig (Elt F) Λ₀ .tc) PUnit) :
    Prog (TpuEff nD τ sig (Elt F) Λ₀ .tc) PUnit := do
  let v : Elt F .i32 ← smemLoad arg1 (Rect.unit (s := S1x1x512) ![0, 0, j] S1x1x1.size h) numel1_S1x1x1 rfl
  have hw : k0_chk1 v := (← Prog.lift (TpuEff.assume (k0_chk1 v) (k0_chk1.dec v))).down
  let r : Vec F S1x64 .f32 ← Prog.lift (.load arg6 (Rect.unit (s := S2048x64) (k0_off1 v) S1x64.size (k0_off1_inb v hw)).toLoadRect (View.loadsAt_vmem h_S1x64))
  k v r

/-- Read `n` rows from position `j` on, collecting the row numbers and the rows. -/
def reads (arg1 : Memref sig .tc .smem S1x1x512 .i32) (arg6 : Memref sig .tc .vmem S2048x64 .f32)
    (k : (ℕ → Elt F .i32) → (ℕ → Vec F S1x64 .f32) → Pr F PUnit) :
    (n j : ℕ) → (h : j + n ≤ 512) → (ℕ → Elt F .i32) → (ℕ → Vec F S1x64 .f32) → Pr F PUnit
  | 0, _, _, ws, rs => k ws rs
  | n + 1, j, h, ws, rs => read1 arg1 arg6 j (word_inb (by omega)) fun v r =>
      reads arg1 arg6 k n (j + 1) (by omega) (upd ws j v) (upd rs j r)

/-- One, if the row number is not negative, else zero. -/
def valid (w : Elt F .i32) : F .f32 :=
  Scalar.select (Scalar.cmpi .sge w 0#32) (Scalar.ofBits .f32 0x3F800000#32) (Scalar.ofBits .f32 0x00000000#32)

/-- The number of row numbers among the first `n` that are not negative. -/
def countOf (ws : ℕ → Elt F .i32) : ℕ → F .f32
  | 0 => Scalar.ofBits .f32 0x00000000#32
  | n + 1 => Scalar.addf (countOf ws n) (valid (ws n))

/-- Row `j`, or zeros if its number is negative. -/
def rowOf (ws : ℕ → Elt F .i32) (rs : ℕ → Vec F S1x64 .f32) (j : ℕ) : FVec F S1x64 .f32 :=
  mulf (rs j) (broadcast S1x64 (valid (ws j)))

/-- The sum of rows `b`, `b + 8`, ..., `b + 8 n`. -/
def strand (f : ℕ → FVec F S1x64 .f32) (b : ℕ) : ℕ → FVec F S1x64 .f32
  | 0 => f b
  | n + 1 => addf (strand f b n) (f (b + 8 * (n + 1)))

/-- The sum of the 128 rows from `b` on, by eight strands. -/
def window (f : ℕ → FVec F S1x64 .f32) (b : ℕ) : FVec F S1x64 .f32 :=
  addf (addf (addf (strand f b 15) (strand f (b + 4) 15)) (addf (strand f (b + 2) 15) (strand f (b + 6) 15)))
    (addf (addf (strand f (b + 1) 15) (strand f (b + 5) 15)) (addf (strand f (b + 3) 15) (strand f (b + 7) 15)))

/-- The sum of all 512 rows. -/
def rowsSum (f : ℕ → FVec F S1x64 .f32) : FVec F S1x64 .f32 :=
  addf (addf (addf (window f 0) (window f 128)) (window f 256)) (window f 384)

/-- The divisor of the mean row: the count, or one if the count is smaller. -/
def denOf (cnt : F .f32) : FVec F S1x64 .f32 :=
  broadcast S1x64 (Scalar.maximumf cnt (Scalar.ofBits .f32 0x3F800000#32))

/-- What the body stores of the scores, from the count, the sum of the rows and the transposed second array. -/
def scoreVal (cnt : F .f32) (sum : FVec F S1x64 .f32) (x : Vec F S1x64x2048 .f32) : FVec F S1x1x2048 .f32 :=
  k0_pay1 cnt (k0_pay767 sum (denOf cnt)) (k0_pay769 sum (denOf cnt)) (k0_pay770 x) (k0_pay772 x) (k0_pay773 x)

set_option maxHeartbeats 4000000 in
/-- The body after the row reads: the mean row stored, then the scores. -/
def tail (arg3 : Memref sig .tc .vmem S1x64x2048 .f32) (arg4 : Memref sig .tc .vmem S1x1x2048 .f32)
    (arg5 : Memref sig .tc .vmem S1x1x64 .f32) (cnt : F .f32) (sum : FVec F S1x64 .f32) :
    Prog (TpuEff nD τ sig (Elt F) Λ₀ .tc) PUnit := do
  let _ : Vec F S1x1x64 .f32 ← Prog.lift (.load arg5 (Rect.unit (s := S1x1x64) ![0, 0, 0] S1x1x64.size inb_S1x1x64_S1x1x64_0_0_0).toLoadRect (View.loadsAt_vmem h_S1x1x64))
  Prog.lift (.store arg5 (Rect.unit (s := S1x1x64) ![0, 0, 0] S1x1x64.size inb_S1x1x64_S1x1x64_0_0_0) (k0_pay768 sum (denOf cnt)) Finset.univ (View.stores_vmem_bits_univ h_S1x1x64 rfl) (.inl rfl))
  let x : Vec F S1x64x2048 .f32 ← Prog.lift (.load arg3 (Rect.unit (s := S1x64x2048) ![0, 0, 0] S1x64x2048.size inb_S1x64x2048_S1x64x2048_0_0_0).toLoadRect (View.loadsAt_vmem h_S1x64x2048))
  let _ : Vec F S1x1x2048 .f32 ← Prog.lift (.load arg4 (Rect.unit (s := S1x1x2048) ![0, 0, 0] S1x1x2048.size inb_S1x1x2048_S1x1x2048_0_0_0).toLoadRect (View.loadsAt_vmem h_S1x1x2048))
  Prog.lift (.store arg4 (Rect.unit (s := S1x1x2048) ![0, 0, 0] S1x1x2048.size inb_S1x1x2048_S1x1x2048_0_0_0) (scoreVal cnt sum x) Finset.univ (View.stores_vmem_bits_univ h_S1x1x2048 rfl) (.inl rfl))
  pure ⟨⟩

set_option maxHeartbeats 4000000 in
/-- The body, its row reads a recursion. -/
def prog (arg1 : Memref sig .tc .smem S1x1x512 .i32) (arg2 : Memref sig .tc .vmem S1x64x2048 .f32)
    (arg3 : Memref sig .tc .vmem S1x64x2048 .f32) (arg4 : Memref sig .tc .vmem S1x1x2048 .f32)
    (arg5 : Memref sig .tc .vmem S1x1x64 .f32) (arg6 : Memref sig .tc .vmem S2048x64 .f32) :
    Prog (TpuEff nD τ sig (Elt F) Λ₀ .tc) PUnit := do
  let v0 : Vec F S1x64x2048 .f32 ← Prog.lift (.load arg2 (Rect.unit (s := S1x64x2048) ![0, 0, 0] S1x64x2048.size inb_S1x64x2048_S1x64x2048_0_0_0).toLoadRect (View.loadsAt_vmem h_S1x64x2048))
  let _ : Vec F S2048x64 .f32 ← Prog.lift (.load arg6 (Rect.unit (s := S2048x64) ![0, 0] S2048x64.size inb_S2048x64_S2048x64_0_0).toLoadRect (View.loadsAt_vmem h_S2048x64))
  Prog.lift (.store arg6 (Rect.unit (s := S2048x64) ![0, 0] S2048x64.size inb_S2048x64_S2048x64_0_0) (k0_pay2 v0) Finset.univ (View.stores_vmem_bits_univ h_S2048x64 rfl) (.inl rfl))
  reads arg1 arg6 (fun ws rs => tail arg3 arg4 arg5 (countOf ws 512) (rowsSum (rowOf ws rs))) 512 0 (by omega) (fun _ => 0#32) (fun _ => broadcast S1x64 (Scalar.ofBits .f32 0x00000000#32))

/-- The printed body is the body with its row reads a recursion. -/
theorem body_eq (i : grid0.Coords) (arg1 : Memref sig .tc .smem S1x1x512 .i32) (harg1 : arg1.IsWhole) (arg2 : Memref sig .tc .vmem S1x64x2048 .f32) (harg2 : arg2.IsWhole)
    (arg3 : Memref sig .tc .vmem S1x64x2048 .f32) (harg3 : arg3.IsWhole) (arg4 : Memref sig .tc .vmem S1x1x2048 .f32) (harg4 : arg4.IsWhole)
    (arg5 : Memref sig .tc .vmem S1x1x64 .f32) (harg5 : arg5.IsWhole) (arg6 : Memref sig .tc .vmem S2048x64 .f32) (harg6 : arg6.IsWhole) :
    cc0__score_body (F := F) i arg1 harg1 arg2 harg2 arg3 harg3 arg4 harg4 arg5 harg5 arg6 harg6 = prog arg1 arg2 arg3 arg4 arg5 arg6 := by
  chain_rfl

end Cert.KernelIdeal.Score

end
-- ==== Proof.ScoreRun.lean ====
/-
  What the score call's body leaves: the rows gathered into registers, read back from the row numbers, and the two output
  blocks as functions of the three input blocks.
-/
module

public import proofs.«01_k».proof.Proof.ScoreProg
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WordCmp
public import Idealize.ShloMosaic.Lib.Pipeline.ValueKit.Acc

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The position `j` of the table of row numbers. -/
def at512 (j : ℕ) : S1x1x512.Idx :=
  fun a => ⟨(![0, 0, j % 512] : Fin 3 → ℕ) a, by
    fin_cases a
    · exact Nat.one_pos
    · exact Nat.one_pos
    · exact Nat.mod_lt _ (by decide)⟩

/-- Entry `i` of row `n` of the scratch array. -/
def atRow (n : ℕ) (i : S1x64.Idx) : S2048x64.Idx :=
  fun a => ⟨(![n % 2048, (i 1).val] : Fin 2 → ℕ) a, by
    fin_cases a
    · exact Nat.mod_lt _ (by decide)
    · exact (i 1).isLt⟩

/-- Row number `j` of the table. -/
def wordN (x : Vec F S1x1x512 .i32) (j : ℕ) : Elt F .i32 := x (at512 j)

/-- The row a row number names: the first row if the number is negative. -/
def rowN (y : Vec F S2048x64 .f32) (w : Elt F .i32) : Vec F S1x64 .f32 :=
  fun i => y (atRow (k0_off1 w 0) i)

theorem wordN_eq (x : Vec F S1x1x512 .i32) {j : ℕ} (hj : j < 512) (h : ∀ a, (![0, 0, j] : Fin 3 → ℕ) a + S1x1x1.size a ≤ S1x1x512.size a)
    (z : (Rect.unit (s := S1x1x512) ![0, 0, j] S1x1x1.size h).shape.Idx) :
    x ((Rect.unit (s := S1x1x512) ![0, 0, j] S1x1x1.size h).emb z) = wordN x j := by
  unfold wordN
  congr 1
  funext a
  apply Fin.ext
  have hz : (z a).val = 0 := by
    have := (z a).isLt
    fin_cases a <;> exact Nat.lt_one_iff.mp this
  show (![0, 0, j] : Fin 3 → ℕ) a + 1 * (z a).val = (![0, 0, j % 512] : Fin 3 → ℕ) a
  rw [hz, Nat.mod_eq_of_lt hj]; rfl

theorem rowN_eq (y : Vec F S2048x64 .f32) (w : Elt F .i32) (h : k0_chk1 w) :
    View.ld y (Rect.unit (s := S2048x64) (k0_off1 w) S1x64.size (k0_off1_inb w h)) = rowN y w := by
  funext z
  unfold rowN
  show y _ = y _
  congr 1
  funext a
  apply Fin.ext
  have h0 : k0_off1 w 0 + 1 ≤ 2048 := h 0
  show k0_off1 w a + 1 * (z a).val = (![k0_off1 w 0 % 2048, (z 1).val] : Fin 2 → ℕ) a
  fin_cases a
  · have hz : (z 0).val < 1 := (z 0).isLt
    show k0_off1 w 0 + 1 * (z 0).val = k0_off1 w 0 % 2048
    rw [Nat.mod_eq_of_lt (by omega)]; omega
  · show 0 + 1 * (z 1).val = (z 1).val
    omega

/-- One row read: the row number of the table, the row of the scratch array it names, both arrays kept. -/
theorem wp_read1 (c : Dev nD) (E : Set ℕ) (arg1 : Memref sig .tc .smem S1x1x512 .i32) (arg6 : Memref sig .tc .vmem S2048x64 .f32)
    (f1 f6) {j : ℕ} (hj : j < 512) (h : ∀ a, (![0, 0, j] : Fin 3 → ℕ) a + S1x1x1.size a ≤ S1x1x512.size a)
    (hc : k0_chk1 (wordN (arg1.view.read (Elt F) f1) j))
    (k : Elt F .i32 → Vec F S1x64 .f32 → Prog (TpuEff nD τ sig (Elt F) Λ₀ .tc) PUnit) (K : PUnit → sProp 𝕄) :
    iprop((arg1.view.loc (c : Thread nD τ) ↦[arg1.view.set]{fullShare} f1) ∗ (arg6.view.loc (c : Thread nD τ) ↦[arg6.view.set]{fullShare} f6)
        ∗ (iprop((arg1.view.loc (c : Thread nD τ) ↦[arg1.view.set]{fullShare} f1) ∗ (arg6.view.loc (c : Thread nD τ) ↦[arg6.view.set]{fullShare} f6))
          -∗ wp frame (wpE (defs₀ (F := F)) Variants.none c none) E
            (k (wordN (arg1.view.read (Elt F) f1) j) (rowN (arg6.view.read (Elt F) f6) (wordN (arg1.view.read (Elt F) f1) j))) K))
      ⊢ wp frame (wpE (defs₀ (F := F)) Variants.none c none) E (read1 arg1 arg6 j h k) K := by
  have hw := wordN_eq (arg1.view.read (Elt F) f1) hj h
  have hc' : ∀ w, w = wordN (arg1.view.read (Elt F) f1) j → k0_chk1 w := fun w e => e ▸ hc
  unfold read1
  iintro ⟨H1, H6, Hk⟩
  sl_exec (disch := exact hc' _ (hw _))
  have e1 : wp_read1.sl.r arg1 f1 h = wordN (arg1.view.read (Elt F) f1) j := hw _
  have e2 : ∀ w (e : w = wordN (arg1.view.read (Elt F) f1) j) (h' : k0_chk1 w),
      View.readAt (Elt F) arg6.view (Rect.unit (s := S2048x64) (k0_off1 w) S1x64.size (k0_off1_inb w h')).toLoadRect f6
        = rowN (arg6.view.read (Elt F) f6) (wordN (arg1.view.read (Elt F) f1) j) := by
    rintro _ rfl h'
    exact rowN_eq _ _ h'
  have e3 : wp_read1.sl.r_1 c arg1 arg6 f1 f6 h hw hc' = rowN (arg6.view.read (Elt F) f6) (wordN (arg1.view.read (Elt F) f1) j) := e2 _ e1 (hc' _ e1)
  rw [e3, e1]
  iapply Hk
  isplitl [H1] <;> iassumption

/-- `f` on the positions from `j` to `j + n`, `g` elsewhere, as the reads collect it. -/
def fill {α : Type} (f : ℕ → α) : (n j : ℕ) → (ℕ → α) → (ℕ → α)
  | 0, _, g => g
  | n + 1, j, g => fill f n (j + 1) (upd g j (f j))

theorem upd_apply {α : Type} (g : ℕ → α) (j : ℕ) (v : α) (i : ℕ) : upd g j v i = if i = j then v else g i := by
  unfold upd
  by_cases h : i = j
  · subst h; simp
  · rw [if_neg h, show Nat.beq i j = false from by cases e : Nat.beq i j <;> [rfl; exact absurd (Nat.eq_of_beq_eq_true e) h]]; rfl

theorem fill_apply {α : Type} (f : ℕ → α) (n j : ℕ) (g : ℕ → α) (i : ℕ) :
    fill f n j g i = if j ≤ i ∧ i < j + n then f i else g i := by
  induction n generalizing j g with
  | zero => rw [fill, if_neg (by omega)]
  | succ n ih =>
    rw [fill, ih, upd_apply]
    by_cases h : i = j
    · subst h; rw [if_neg (by omega), if_pos rfl, if_pos (by omega)]
    · rw [if_neg h]
      by_cases h' : j ≤ i ∧ i < j + (n + 1)
      · rw [if_pos h', if_pos (by omega)]
      · rw [if_neg h', if_neg (by omega)]

/-- All the row reads: the two arrays kept, every row number and every row collected. -/
theorem wp_reads (c : Dev nD) (E : Set ℕ) (arg1 : Memref sig .tc .smem S1x1x512 .i32) (arg6 : Memref sig .tc .vmem S2048x64 .f32)
    (f1 f6) (hc : ∀ j, j < 512 → k0_chk1 (wordN (arg1.view.read (Elt F) f1) j))
    (k : (ℕ → Elt F .i32) → (ℕ → Vec F S1x64 .f32) → Pr F PUnit) (K : PUnit → sProp 𝕄) (n j : ℕ) (h : j + n ≤ 512) (ws rs) :
    iprop((arg1.view.loc (c : Thread nD τ) ↦[arg1.view.set]{fullShare} f1) ∗ (arg6.view.loc (c : Thread nD τ) ↦[arg6.view.set]{fullShare} f6)
        ∗ (iprop((arg1.view.loc (c : Thread nD τ) ↦[arg1.view.set]{fullShare} f1) ∗ (arg6.view.loc (c : Thread nD τ) ↦[arg6.view.set]{fullShare} f6))
          -∗ wp frame (wpE (defs₀ (F := F)) Variants.none c none) E
            (k (fill (wordN (arg1.view.read (Elt F) f1)) n j ws)
              (fill (fun i => rowN (arg6.view.read (Elt F) f6) (wordN (arg1.view.read (Elt F) f1) i)) n j rs)) K))
      ⊢ wp frame (wpE (defs₀ (F := F)) Variants.none c none) E (reads arg1 arg6 k n j h ws rs) K := by
  induction n generalizing j ws rs with
  | zero =>
    unfold reads fill
    iintro ⟨H1, H6, Hk⟩
    iapply Hk
    isplitl [H1] <;> iassumption
  | succ n ih =>
    unfold reads fill
    iintro ⟨H1, H6, Hk⟩
    iapply (wp_read1 c E arg1 arg6 f1 f6 (j := j) (by omega) _ (hc j (by omega)) _ K)
    isplitl [H1]; · iexact H1
    isplitl [H6]; · iexact H6
    iintro ⟨H1, H6⟩
    iapply (ih (j + 1) _ _ _)
    isplitl [H1]; · iexact H1
    isplitl [H6]; · iexact H6
    iexact Hk

/-- Zero offsets, at two and at three axes. -/
theorem zero2 : ∀ a, (![0, 0] : Fin 2 → ℕ) a = 0 := by decide
theorem zero3 : ∀ a, (![0, 0, 0] : Fin 3 → ℕ) a = 0 := by decide

/-- The row numbers and the rows the body has read. -/
def wordsGot (x1 : Vec F S1x1x512 .i32) : ℕ → Elt F .i32 := fill (wordN x1) 512 0 fun _ => 0#32
def rowsGot (x1 : Vec F S1x1x512 .i32) (x2 : Vec F S1x64x2048 .f32) : ℕ → Vec F S1x64 .f32 :=
  fill (fun i => rowN (k0_pay2 x2) (wordN x1 i)) 512 0 fun _ => broadcast S1x64 (Scalar.ofBits .f32 0x00000000#32)
/-- Their count and their sum. -/
def cntOf (x1 : Vec F S1x1x512 .i32) : F .f32 := countOf (wordsGot x1) 512
def sumOf (x1 : Vec F S1x1x512 .i32) (x2 : Vec F S1x64x2048 .f32) : FVec F S1x64 .f32 := rowsSum (rowOf (wordsGot x1) (rowsGot x1 x2))
/-- What the body leaves in its two output blocks. -/
def out0_3 (x1 : Vec F S1x1x512 .i32) (x2 x3 : Vec F S1x64x2048 .f32) : Vec F S1x1x2048 .f32 := scoreVal (cntOf x1) (sumOf x1 x2) x3
def out0_4 (x1 : Vec F S1x1x512 .i32) (x2 : Vec F S1x64x2048 .f32) : Vec F S1x1x64 .f32 := k0_pay768 (sumOf x1 x2) (denOf (cntOf x1))

/-- One store over a whole buffer leaves the value stored. -/
theorem read_store {κ : Kind} {sp : Space} {s : Shape} {e : EltTy} (v : View sig κ sp s e) (f : v.ty.Contents (Elt F))
    (off : Fin s.rank → ℕ) (h0 : ∀ a, off a = 0) (inb : ∀ a, off a + s.size a ≤ s.size a) (p : s.Idx → Elt F e) :
    v.read (Elt F) (v.writes (Elt F) f [⟨Rect.unit off s.size inb, p⟩]) = p :=
  (View.read_writes_eq_canon v f [⟨Rect.unit off s.size inb, p⟩] (fun y => ⟨_, List.mem_singleton_self _, by
    have h := (Rect.unit off s.size inb).idx_mem y
    have e : (Rect.unit off s.size inb).idx y = y := funext fun a => Fin.ext (by
      show off a + 1 * (y a).val = (y a).val
      rw [h0 a]; omega)
    exact e ▸ h⟩)).trans (View.canon_cons_unit_lit inb p [] h0)

set_option maxHeartbeats 1000000 in
theorem wp_tail (c : Dev nD) (E : Set ℕ) (arg3 : Memref sig .tc .vmem S1x64x2048 .f32) (arg4 : Memref sig .tc .vmem S1x1x2048 .f32)
    (arg5 : Memref sig .tc .vmem S1x1x64 .f32) (cnt : F .f32) (sum : FVec F S1x64 .f32) (x3 : Vec F S1x64x2048 .f32) (K : PUnit → sProp 𝕄) :
    iprop(owns (c : Thread nD τ) arg3 fullShare x3 ∗ (∃ d, owns (c : Thread nD τ) arg4 fullShare d) ∗ (∃ d, owns (c : Thread nD τ) arg5 fullShare d)
        ∗ (iprop(owns (c : Thread nD τ) arg3 fullShare x3 ∗ owns (c : Thread nD τ) arg4 fullShare (scoreVal cnt sum x3) ∗ owns (c : Thread nD τ) arg5 fullShare (k0_pay768 sum (denOf cnt))) -∗ K ⟨⟩))
      ⊢ wp frame (wpE (defs₀ (F := F)) Variants.none c none) E (tail arg3 arg4 arg5 cnt sum) K := by
  unfold tail owns
  iintro ⟨⟨%f3, %hf3, H3⟩, ⟨%d4, %f4, -, H4⟩, ⟨%d5, %f5, -, H5⟩, Hk⟩
  subst hf3
  sl_exec
  sl_step
  iapply Hk
  isplitl [H3]
  · iexists f3; isplitr; · ipureintro; rfl
    iexact H3
  isplitl [H4]
  · iexists _; isplitr
    swap; · iexact H4
    ipureintro
    refine (read_store _ _ _ zero3 _ _).trans ?_
    exact congrArg (scoreVal cnt sum) (View.ld_unit_lit _ _ zero3)
  iexists _; isplitr
  swap; · iexact H5
  ipureintro
  exact read_store _ _ _ zero3 _ _

end Cert.KernelIdeal.Score
end
-- ==== Proof.ScoreRegion.lean ====
/-
  The score call's region: its body at every grid point, on the blocks the pipeline brings.
-/
module

public import proofs.«01_k».proof.Proof.ScoreRun
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.Score

/-- The body's first three operations: the scratch array ends at the block's transpose, and the rest runs on. -/
theorem wp_head (c : Dev nD) (E : Set ℕ) (arg2 : Memref sig .tc .vmem S1x64x2048 .f32) (arg6 : Memref sig .tc .vmem S2048x64 .f32)
    (f2 f6) (k : Pr F PUnit) (K : PUnit → sProp 𝕄) :
    iprop((arg2.view.loc (c : Thread nD τ) ↦[arg2.view.set]{fullShare} f2) ∗ (arg6.view.loc (c : Thread nD τ) ↦[arg6.view.set]{fullShare} f6)
        ∗ (iprop((arg2.view.loc (c : Thread nD τ) ↦[arg2.view.set]{fullShare} f2)
            ∗ (∃ f, ⌜arg6.view.read (Elt F) f = k0_pay2 (arg2.view.read (Elt F) f2)⌝ ∗ (arg6.view.loc (c : Thread nD τ) ↦[arg6.view.set]{fullShare} f)))
          -∗ wp frame (wpE (defs₀ (F := F)) Variants.none c none) E k K))
      ⊢ wp frame (wpE (defs₀ (F := F)) Variants.none c none) E (do
        let v0 : Vec F S1x64x2048 .f32 ← Prog.lift (.load arg2 (Rect.unit (s := S1x64x2048) ![0, 0, 0] S1x64x2048.size inb_S1x64x2048_S1x64x2048_0_0_0).toLoadRect (View.loadsAt_vmem h_S1x64x2048))
        let _ : Vec F S2048x64 .f32 ← Prog.lift (.load arg6 (Rect.unit (s := S2048x64) ![0, 0] S2048x64.size inb_S2048x64_S2048x64_0_0).toLoadRect (View.loadsAt_vmem h_S2048x64))
        Prog.lift (.store arg6 (Rect.unit (s := S2048x64) ![0, 0] S2048x64.size inb_S2048x64_S2048x64_0_0) (k0_pay2 v0) Finset.univ (View.stores_vmem_bits_univ h_S2048x64 rfl) (.inl rfl))
        k) K := by
  iintro ⟨H2, H6, Hk⟩
  sl_exec
  iapply Hk
  isplitl [H2]; · iexact H2
  iexists _; isplitr
  swap; · iexact H6
  ipureintro
  exact (read_store arg6.view f6 ![0, 0] (by decide) _ _).trans (congrArg k0_pay2 ((View.readAt_eq_ld _ _ _).trans (View.ld_unit_lit _ _ (by decide))))

/-- The body on whole buffers: the three inputs kept, the two outputs at `out0_3` and `out0_4` of them, the scratch array at
    something. The row numbers must name rows of the scratch array. -/
theorem sound_kernel0 (c : Dev nD) (E : Set ℕ) (i : grid0.Coords) (arg1 : Memref sig .tc .smem S1x1x512 .i32) (harg1 : arg1.IsWhole) (arg2 : Memref sig .tc .vmem S1x64x2048 .f32) (harg2 : arg2.IsWhole)
    (arg3 : Memref sig .tc .vmem S1x64x2048 .f32) (harg3 : arg3.IsWhole) (arg4 : Memref sig .tc .vmem S1x1x2048 .f32) (harg4 : arg4.IsWhole)
    (arg5 : Memref sig .tc .vmem S1x1x64 .f32) (harg5 : arg5.IsWhole) (arg6 : Memref sig .tc .vmem S2048x64 .f32) (harg6 : arg6.IsWhole)
    (x1 : Vec F S1x1x512 .i32) (x2 x3 : Vec F S1x64x2048 .f32) (hc : ∀ j, j < 512 → k0_chk1 (wordN x1 j)) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out0_3 x1 x2 x3) ∗ owns (c : Thread nD τ) arg5 fullShare (out0_4 x1 x2) ∗ (∃ d, owns (c : Thread nD τ) arg6 fullShare d)) -∗ K ⟨⟩))
      ⊢ wp frame (wpE (defs₀ (F := F)) Variants.none c none) E (cc0__score_body i arg1 harg1 arg2 harg2 arg3 harg3 arg4 harg4 arg5 harg5 arg6 harg6) K := by
  rw [Score.body_eq]
  have ht := wp_tail (F := F) c E arg3 arg4 arg5 (cntOf x1) (sumOf x1 x2) x3 K
  unfold prog
  unfold owns
  unfold owns at ht
  iintro ⟨⟨%f1, %hf1, H1⟩, ⟨%f2, %hf2, H2⟩, H3, H4, H5, ⟨%d6, %f6, -, H6⟩, Hk⟩
  iapply (wp_head c E arg2 arg6 f2 f6 _ K)
  isplitl [H2]; · iexact H2
  isplitl [H6]; · iexact H6
  iintro ⟨H2, ⟨%g6, %hg6, H6⟩⟩
  iapply (wp_reads c E arg1 arg6 f1 g6 (by rw [hf1]; exact hc) _ K 512 0 _ _ _)
  isplitl [H1]; · iexact H1
  isplitl [H6]; · iexact H6
  iintro ⟨H1, H6⟩
  rw [hg6, hf1, hf2]
  iapply ht
  isplitl [H3]; · iexact H3
  isplitl [H4]; · iexact H4
  isplitl [H5]; · iexact H5
  iintro ⟨H3, H4, H5⟩
  iapply Hk
  isplitl [H1]
  · iexists f1; isplitr; · ipureintro; exact hf1
    iexact H1
  isplitl [H2]
  · iexists f2; isplitr; · ipureintro; exact hf2
    iexact H2
  isplitl [H3]; · iexact H3
  isplitl [H4]; · iexact H4
  isplitl [H5]; · iexact H5
  iexists _, g6; isplitr; · ipureintro; rfl
  iexact H6

/-- Window `w`'s block of the region's array at a grid point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The region's proof data: the arrays as entered, each input's buffer at its block and each output's at what the body
    leaves of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at a grid point, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- A whole buffer owned is its points-to. -/
theorem whole_out (c : Dev nD) (b : Ref sig .tc) (g) :
    owns (c : Thread nD τ) (Memref.whole b) fullShare g ⊢ (iprop(∃ f, ((c : Thread nD τ).loc b) ↦{fullShare} f) : sProp 𝕄) := by
  rw [owns_whole_eq]
  iintro ⟨%f, -, H⟩
  iexists f; iexact H

/-- The body at any grid point, its scratch array out of the region's class invariant and back. -/
theorem sound_body0 (c : Dev nD) (t : Fin cfg0.N) (hV : ∀ t j, j < 512 → k0_chk1 (wordN (iblk0 V c 0 t) j)) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4,
    show (dat0 V c).Φ t.castSucc = Pipeline.ΦA spec0 c from rfl]
  unfold Pipeline.ΦA
  rw [scopedRest0_eq]
  iintro ⟨⟨⟨⟨%fs, Hs⟩, Hrest⟩, Hp⟩, Ho, ⟨%d0, H0⟩, ⟨%d1, H1⟩, ⟨%d2, H2⟩, ⟨%d3, H3⟩, ⟨%d4, H4⟩⟩
  iapply (sound_kernel0 c Set.univ _ _ _ _ _ _ _ _ _ _ _ _ _ (iblk0 V c 0 t) (iblk0 V c 1 t) (iblk0 V c 2 t) (hV t) _)
  isplitl [H0]; · iexact H0
  isplitl [H1]; · iexact H1
  isplitl [H2]; · iexact H2
  isplitl [H3]; · iexists _; iexact H3
  isplitl [H4]; · iexists _; iexact H4
  isplitl [Hs]
  · iexists fs
    rw [owns_whole_eq]
    iexists fs; isplitr; · ipureintro; rfl
    iexact Hs
  iintro ⟨H0, H1, H2, H3, H4, ⟨%g, Hs⟩⟩
  ihave Hs := (whole_out c cc0_scratch0 g) $$ Hs
  icases Hs with ⟨%g', Hs⟩
  isplitl [Hs Hrest Hp]
  · isplitl [Hs Hrest]
    · isplitl [Hs]; · iexists g'; iexact Hs
      iexact Hrest
    iexact Hp
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The body's obligation at every grid point. -/
theorem body_obligation0 (c : Dev nD) (hV : ∀ t j, j < 512 → k0_chk1 (wordN (iblk0 V c 0 t) j)) : BodyObligation (dat0 (F := F) V c) (defs₀ (F := F)) Variants.none () Set.univ := fun t => by
  rw [bigSep_W0, bigSep_W0, defs₀_row0]
  exact triple_restated (sound_body0 V c t hV) rfl .rfl fun _ => .rfl

end Cert.KernelIdeal.Run

end
-- ==== Proof.TopkProg.lean ====
/-
  The selection kernel's body as a sorting network: the sixty-six compare-exchange passes the printed body lists one by
  one are one function (`pass`) folded over the list of passes.
-/
module

public import proofs.«01_k».proof.Proof.Gen.KernelIdeal.Skeleton
public import Idealize.ShloMosaic.Lib.Tactic
public import Idealize.ShloMosaic.Lib.Pipeline.Regions

@[expose] public section

set_option maxRecDepth 100000

noncomputable section

namespace Cert.KernelIdeal.Topk

open Cert.KernelIdeal Cert.KernelIdeal.Gen
open Idealize.ShloMosaic
open Idealize.ShloMosaic.TcCoe
open Idealize.SL Idealize.SL.Sem

variable {F : FTy → Type} [FloatOps F]

/-- The lane number, the row number and the group (lane over sixteen) of each entry of the square. -/
def lane : IVec S256x128 32 := iota .tc S256x128 32 [1] iota_S256x128_d1_w32
def row : IVec S256x128 32 := iota .tc S256x128 32 [0] iota_S256x128_d0_w32
def grp : IVec S256x128 32 := shrsi lane (broadcast S256x128 4#32)

/-- The mask "bit `j` of the position is set": a row bit below eight, a group bit from eight on. -/
def bit (j : ℕ) : IVec S256x128 1 :=
  cond (Nat.blt j 8)
    (cmpi .ne (andi row (broadcast S256x128 (BitVec.ofNat 32 (2 ^ j)))) (broadcast S256x128 0#32))
    (cmpi .ne (andi grp (broadcast S256x128 (BitVec.ofNat 32 (2 ^ (j - 8))))) (broadcast S256x128 0#32))

/-- The shape of `n` rows. -/
abbrev rows (n : ℕ) : Shape := ⟨2, ![n, 128]⟩

/-- A block of `n` rows of the square from row `b` on. -/
theorem rows_slices {n b : ℕ} (h : b + n ≤ 256) : S256x128.Slices ![b, 0] (rows n) :=
  ⟨rfl, fun a => by fin_cases a <;> [exact h; exact Nat.le_refl 128]⟩

theorem swap_le {n i : ℕ} (j : ℕ) (hn : 2 ^ j * (2 * n) = 256) (hi : i < 2 * n) : 2 ^ j * (i ^^^ 1) + 2 ^ j ≤ 256 := by
  have h : (i ^^^ 1) / 2 = i / 2 := by rw [Nat.xor_div_two]; exact Nat.xor_zero _
  have h : i ^^^ 1 < 2 * n := by omega
  rw [← hn, ← Nat.mul_succ]
  exact Nat.mul_le_mul_left _ h

/-- The blocks of `2 ^ j` rows, neighbours exchanged. -/
abbrev blocks {α : Type} (j n : ℕ) (hn : 2 ^ j * (2 * n) = 256) (x : S256x128.Idx → α) : List ((s : Shape) × (s.Idx → α)) :=
  List.ofFn fun i : Fin (2 * n) => ⟨rows (2 ^ j), extractStridedSlice (rows (2 ^ j)) ![2 ^ j * (i.val ^^^ 1), 0] x (rows_slices (swap_le j hn i.isLt))⟩

theorem blocks_cat {α : Type} (j n : ℕ) (hn : 2 ^ j * (2 * n) = 256) (x : S256x128.Idx → α) :
    Shape.Concatenates ((blocks j n hn x).map (·.1)) S256x128 0 := by
  have e : (blocks j n hn x).map (·.1) = List.replicate (2 * n) (rows (2 ^ j)) := by
    rw [blocks, List.map_ofFn]; exact List.ofFn_const _ _
  rw [e]
  refine ⟨?_, fun s hs => ?_, ?_⟩
  · rw [List.length_replicate]
    rcases n with _ | n
    · simp at hn
    · omega
  · obtain rfl := List.eq_of_mem_replicate hs
    exact ⟨rfl, fun b hb => by fin_cases b <;> [exact absurd rfl hb; rfl]⟩
  · rw [List.map_replicate, List.sum_replicate, smul_eq_mul, dif_pos rfl]
    show 2 * n * 2 ^ j = 256
    rw [← hn, Nat.mul_comm]

/-- The square with neighbouring blocks of `2 ^ j` rows exchanged. -/
def swapped {α : Type} (j n : ℕ) (hn : 2 ^ j * (2 * n) = 256) (x : S256x128.Idx → α) : S256x128.Idx → α :=
  concatenate S256x128 0 (blocks j n hn x) (blocks_cat j n hn x)

/-- Each entry's partner at distance `2 ^ j`. -/
def partner {α : Type} (x : S256x128.Idx → α) : ℕ → (S256x128.Idx → α)
  | 0 => select (bit 0) (dynamicRotate 0 1#32 none x rotates_S256x128_d0) (dynamicRotate 0 255#32 none x rotates_S256x128_d0)
  | 1 => select (bit 1) (dynamicRotate 0 2#32 none x rotates_S256x128_d0) (dynamicRotate 0 254#32 none x rotates_S256x128_d0)
  | 2 => select (bit 2) (dynamicRotate 0 4#32 none x rotates_S256x128_d0) (dynamicRotate 0 252#32 none x rotates_S256x128_d0)
  | 3 => swapped 3 16 rfl x
  | 4 => swapped 4 8 rfl x
  | 5 => swapped 5 4 rfl x
  | 6 => swapped 6 2 rfl x
  | 7 => swapped 7 1 rfl x
  | j + 8 =>
    select (cmpi .ne (andi lane (broadcast S256x128 (BitVec.ofNat 32 (2 ^ (j + 4))))) (broadcast S256x128 0#32))
      (dynamicRotate 1 (BitVec.ofNat 32 (2 ^ (j + 4))) none x rotates_S256x128_d1)
      (dynamicRotate 1 (BitVec.ofNat 32 (128 - 2 ^ (j + 4))) none x rotates_S256x128_d1)

/-- One pass over distance `2 ^ j` inside blocks of `2 ^ (l + 1)`. -/
def pass (l j : ℕ) (X : FVec F S256x128 .f32 × IVec S256x128 32) : FVec F S256x128 .f32 × IVec S256x128 32 :=
  let A := X.1
  let I := X.2
  let pv := partner A j
  let pi := partner I j
  let take := xori (xori (ori (cmpf .ogt A pv) (andi (cmpf .oeq A pv) (cmpi .slt I pi))) (bit j)) (bit (l + 1))
  (select take A pv, select take I pi)

/-- The passes inside blocks of `2 ^ (l + 1)`, from distance `2 ^ (j - 1)` down to one. -/
def merge (l : ℕ) : ℕ → FVec F S256x128 .f32 × IVec S256x128 32 → FVec F S256x128 .f32 × IVec S256x128 32
  | 0, X => X
  | j + 1, X => merge l j (pass l j X)

/-- The merges of blocks of growing size. -/
def merges : ℕ → FVec F S256x128 .f32 × IVec S256x128 32 → FVec F S256x128 .f32 × IVec S256x128 32
  | 0, X => X
  | n + 1, X => merge n (n + 1) (merges n X)

/-- The square the scores are laid out in, and the positions beside them. -/
def square (x : Vec F S16x2048 .f32) : FVec F S256x128 .f32 :=
  shapeCast S256x128 (transpose S256x8x16 [2, 1, 0] (shapeCast S16x8x256 (shapeCast S16x2048 x shapeCasts_S16x2048_S16x2048)
    shapeCasts_S16x2048_S16x8x256) transposes_S16x8x256_p2_1_0_S256x8x16) shapeCasts_S256x8x16_S256x128
def places : IVec S256x128 32 := addi (muli grp (broadcast S256x128 256#32)) row

/-- The sorted square and the positions its entries come from. -/
def sorted (x : Vec F S16x2048 .f32) : FVec F S256x128 .f32 × IVec S256x128 32 := merges 11 (square x, places)

/-- The first sixteen lanes, turned. -/
def top {α : Type} (x : S256x128.Idx → α) : S16x256.Idx → α :=
  transpose S16x256 [1, 0] (extractStridedSlice S256x16 ![0, 0] x slices_S256x128_o0_0_S256x16) transposes_S256x16_p1_0_S16x256

set_option maxHeartbeats 4000000 in
/-- The body: the scores read, the two outputs written. -/
def prog (arg0 : Memref sig .tc .vmem S16x2048 .f32) (arg1 : Memref sig .tc .vmem S16x256 .f32) (arg2 : Memref sig .tc .vmem S16x256 .i32) :
    Prog (TpuEff nD τ sig (Elt F) Λ₀ .tc) PUnit := do
  let v0 : Vec F S16x2048 .f32 ← Prog.lift (.load arg0 (Rect.unit (s := S16x2048) ![0, 0] S16x2048.size inb_S16x2048_S16x2048_0_0).toLoadRect (View.loadsAt_vmem h_S16x2048))
  let _ : Vec F S16x256 .f32 ← Prog.lift (.load arg1 (Rect.unit (s := S16x256) ![0, 0] S16x256.size inb_S16x256_S16x256_0_0).toLoadRect (View.loadsAt_vmem h_S16x256))
  Prog.lift (.store arg1 (Rect.unit (s := S16x256) ![0, 0] S16x256.size inb_S16x256_S16x256_0_0) (top (sorted v0).1) Finset.univ (View.stores_vmem_bits_univ h_S16x256 rfl) (.inl rfl))
  let _ : Vec F S16x256 .i32 ← Prog.lift (.load arg2 (Rect.unit (s := S16x256) ![0, 0] S16x256.size inb_S16x256_S16x256_0_0).toLoadRect (View.loadsAt_vmem h_S16x256))
  Prog.lift (.store arg2 (Rect.unit (s := S16x256) ![0, 0] S16x256.size inb_S16x256_S16x256_0_0) (top (sorted v0).2) Finset.univ (View.stores_vmem_bits_univ h_S16x256 rfl) (.inl rfl))
  pure ⟨⟩

/-- The printed body is the sorting network. -/
theorem body_eq (arg0 : Memref sig .tc .vmem S16x2048 .f32) (harg0 : arg0.IsWhole) (arg1 : Memref sig .tc .vmem S16x256 .f32) (harg1 : arg1.IsWhole)
    (arg2 : Memref sig .tc .vmem S16x256 .i32) (harg2 : arg2.IsWhole) :
    cc1__topk_body (F := F) arg0 harg0 arg1 harg1 arg2 harg2 = prog arg0 arg1 arg2 := by
  chain_rfl

end Cert.KernelIdeal.Topk

end
-- ==== Proof.TopkRegion.lean ====
/-
  The selection call's region: its body on the whole arrays.
-/
module

public import proofs.«01_k».proof.Proof.TopkProg
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets at two axes. -/
theorem off2 : ∀ a, (![0, 0] : Fin 2 → ℕ) a = 0 := by decide

/-- What the body leaves in its two outputs. -/
def out1_1 (x0 : Vec F S16x2048 .f32) : Vec F S16x256 .f32 := View.canon [⟨Rect.unit (s := S16x256) ![0, 0] S16x256.size inb_S16x256_S16x256_0_0, Topk.top (Topk.sorted (View.ld x0 (Rect.unit (s := S16x2048) ![0, 0] S16x2048.size inb_S16x2048_S16x2048_0_0))).1⟩]
def out1_2 (x0 : Vec F S16x2048 .f32) : Vec F S16x256 .i32 := View.canon [⟨Rect.unit (s := S16x256) ![0, 0] S16x256.size inb_S16x256_S16x256_0_0, Topk.top (Topk.sorted (View.ld x0 (Rect.unit (s := S16x2048) ![0, 0] S16x2048.size inb_S16x2048_S16x2048_0_0))).2⟩]

theorem out1_1_eq (x0 : Vec F S16x2048 .f32) : out1_1 x0 = Topk.top (Topk.sorted x0).1 :=
  (View.canon_cons_unit_lit _ _ [] off2).trans (congrArg (fun x => Topk.top (Topk.sorted x).1) (View.ld_unit_lit _ x0 off2))
theorem out1_2_eq (x0 : Vec F S16x2048 .f32) : out1_2 x0 = Topk.top (Topk.sorted x0).2 :=
  (View.canon_cons_unit_lit _ _ [] off2).trans (congrArg (fun x => Topk.top (Topk.sorted x).2) (View.ld_unit_lit _ x0 off2))

theorem cover1 {e : EltTy} (p0 : Vec F S16x256 e) (y : S16x256.Idx) :
    ∃ pc ∈ ([⟨Rect.unit (s := S16x256) ![0, 0] S16x256.size inb_S16x256_S16x256_0_0, p0⟩] : List (View.Piece (Elt F) S16x256 e)), y ∈ pc.1.set :=
  View.cover_of_tiled _ S16x256.size (by rfl) y

set_option maxHeartbeats 1000000 in
/-- The body on whole buffers: the input kept, the outputs at `out1_1` and `out1_2` of it. -/
theorem sound_kernel1 (c : Dev nD) (E : Set ℕ) (arg0 : Memref sig .tc .vmem S16x2048 .f32) (harg0 : arg0.IsWhole) (arg1 : Memref sig .tc .vmem S16x256 .f32) (harg1 : arg1.IsWhole) (arg2 : Memref sig .tc .vmem S16x256 .i32) (harg2 : arg2.IsWhole)
    (x0 : Vec F S16x2048 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out1_1 x0) ∗ owns (c : Thread nD τ) arg2 fullShare (out1_2 x0)) -∗ K ⟨⟩))
      ⊢ wp frame (wpE (defs₀ (F := F)) Variants.none c none) E (cc1__topk_body arg0 harg0 arg1 harg1 arg2 harg2) K := by
  rw [Topk.body_eq]
  unfold Topk.prog owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  iexists _; isplitr
  swap; · iexact H2
  ipureintro
  exact View.read_writes_eq_canon _ _ _ (cover1 _)

/-- Window `w`'s block of the region's array at a grid point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The region's proof data: the arrays as entered, each input's buffer at its block and each output's at what the body
    leaves of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at a grid point, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

/-- The body's obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.OnehotRegion.lean ====
/-
  The one-hot call's region: its body at every grid point, on the blocks the pipeline brings.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r2_0 : Rect S1x1x1x64 := Rect.unit (s := S1x1x1x64) ![0, 0, 0, 0] S1x1x1x64.size inb_S1x1x1x64_S1x1x1x64_0_0_0_0
abbrev r2_1 : Rect S1x64x2048 := Rect.unit (s := S1x64x2048) ![0, 0, 0] S1x64x2048.size inb_S1x64x2048_S1x64x2048_0_0_0

/-- What the body leaves in its output block. -/
def out2_2 (x0 : Vec F S1x1x1x64 .i32) (x1 : Vec F S1x1x1x64 .f32) : Vec F S1x64x2048 .f32 :=
  View.canon [⟨r2_1, k2_pay1 (View.ld x0 r2_0) (View.ld x1 r2_0)⟩]

theorem out2_2_eq (x0 : Vec F S1x1x1x64 .i32) (x1 : Vec F S1x1x1x64 .f32) : out2_2 x0 x1 = k2_pay1 x0 x1 :=
  (View.canon_cons_unit_lit _ _ [] (by decide)).trans
    (congrArg₂ k2_pay1 (View.ld_unit_lit _ x0 (by decide)) (View.ld_unit_lit _ x1 (by decide)))

theorem cover2 (p0 : Vec F S1x64x2048 .f32) (y : S1x64x2048.Idx) :
    ∃ pc ∈ ([⟨r2_1, p0⟩] : List (View.Piece (Elt F) S1x64x2048 .f32)), y ∈ pc.1.set :=
  View.cover_of_tiled [⟨r2_1, p0⟩] S1x64x2048.size (by rfl) y

set_option maxHeartbeats 1000000 in
/-- The body on whole buffers: the inputs kept, the output at `out2_2` of them. -/
theorem sound_kernel2 (c : Dev nD) (E : Set ℕ) (i : grid2.Coords) (arg2 : Memref sig .tc .vmem S1x1x1x64 .i32) (harg2 : arg2.IsWhole) (arg3 : Memref sig .tc .vmem S1x1x1x64 .f32) (harg3 : arg3.IsWhole) (arg4 : Memref sig .tc .vmem S1x64x2048 .f32) (harg4 : arg4.IsWhole)
    (x0 : Vec F S1x1x1x64 .i32) (x1 : Vec F S1x1x1x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__onehot_body i arg2 harg2 arg3 harg3 arg4 harg4) K := by
  simp only [cc2__onehot_body_eq_skeleton]; unfold cc2__onehot_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- Window `w`'s block of the region's array at a grid point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block whenever the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The region's proof data: the arrays as entered, each input's buffer at its block and each output's at what the body
    leaves of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at a grid point, and what it returns. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

/-- The body's obligation at every grid point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Run.lean ====
/-
  The whole run: the buffer contents at each boundary between the host's stretches and the three calls, and the execution of
  the main function from any memory whose row numbers are in range — it ends with every buffer at the last boundary's contents
  and every semaphore counter at zero.
-/
module

public import proofs.«01_k».proof.Proof.ScoreRegion
public import proofs.«01_k».proof.Proof.TopkRegion
public import proofs.«01_k».proof.Proof.OnehotRegion
public import proofs.«01_k».proof.Proof.Gen.KernelIdeal.Regions
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- At the launch. -/
abbrev W0 : Dev nD → Valuation τ sig (Elt F) := fun c b => m ((c : Dev nD), b)
/-- A boundary's contents at the core's references. -/
abbrev at_ (W : Dev nD → Valuation τ sig (Elt F)) : (c : Dev nD) → (b : Ref sig .tc) → Buf (Elt F) ((c : Thread nD τ).loc b) := fun c b => W c b

/-- After the host stretch `hostOps0`: what region 0 is entered from. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
/-- After region 0: its arrays at what the pipeline leaves, every other buffer as entered. -/
def W2 (c : Dev nD) : Valuation τ sig (Elt F) :=
  Pipeline.withArrays spec0 c (W1 m c) fun w => (dat0 (at_ (W1 m)) c).arrAt w cfg0.N
theorem W2_arr (c : Dev nD) (w : Fin cfg0.W) :
    W2 m c (Proc.devRef .tc (Pipeline.arrRef spec0 w)) = (dat0 (at_ (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of the region's output arrays keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (at_ (W1 m)) c).arrAt_in w (h w rfl) _).trans (A_eq0 (at_ (W1 m)) c w))
  · exact W2_of_ne m c r fun w e => hw ⟨w, e⟩
theorem hF0 (c : Dev nD) (w : Fin cfg0.W) : (dat0 (at_ (W1 m)) c).arrAt w cfg0.N = at_ (W2 m) c (Pipeline.arrRef spec0 w) :=
  (W2_arr m c w).symm
theorem hrest0 (c : Dev nD) : ∀ b, b ∉ Finset.univ.image (Pipeline.arrRef spec0) → at_ (W2 m) c b = at_ (W1 m) c b :=
  fun b hb => W2_of_ne m c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
/-- After region 1: its arrays at what the pipeline leaves, every other buffer as entered. -/
def W4 (c : Dev nD) : Valuation τ sig (Elt F) :=
  Pipeline.withArrays spec1 c (W3 m c) fun w => (dat1 (at_ (W3 m)) c).arrAt w cfg1.N
theorem W4_arr (c : Dev nD) (w : Fin cfg1.W) :
    W4 m c (Proc.devRef .tc (Pipeline.arrRef spec1 w)) = (dat1 (at_ (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- A reference that is none of the region's output arrays keeps its contents across it. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (at_ (W3 m)) c).arrAt_in w (h w rfl) _).trans (A_eq1 (at_ (W3 m)) c w))
  · exact W4_of_ne m c r fun w e => hw ⟨w, e⟩
theorem hF1 (c : Dev nD) (w : Fin cfg1.W) : (dat1 (at_ (W3 m)) c).arrAt w cfg1.N = at_ (W4 m) c (Pipeline.arrRef spec1 w) :=
  (W4_arr m c w).symm
theorem hrest1 (c : Dev nD) : ∀ b, b ∉ Finset.univ.image (Pipeline.arrRef spec1) → at_ (W4 m) c b = at_ (W3 m) c b :=
  fun b hb => W4_of_ne m c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m c)
theorem W5_of (c : Dev nD) (r : Ref sig .tc) (h : r ∉ hostOps2_W) : W5 m c (Proc.devRef .tc r) = W4 m c (Proc.devRef .tc r) :=
  StableHlo.after_of_writes_sub hostOps2 _ hostOps2_writes h
/-- After region 2: its arrays at what the pipeline leaves, every other buffer as entered. -/
def W6 (c : Dev nD) : Valuation τ sig (Elt F) :=
  Pipeline.withArrays spec2 c (W5 m c) fun w => (dat2 (at_ (W5 m)) c).arrAt w cfg2.N
theorem W6_arr (c : Dev nD) (w : Fin cfg2.W) :
    W6 m c (Proc.devRef .tc (Pipeline.arrRef spec2 w)) = (dat2 (at_ (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- A reference that is none of the region's output arrays keeps its contents across it. -/
theorem W6_of (c : Dev nD) (r : Ref sig .tc) (h : ∀ w : Fin cfg2.W, Pipeline.arrRef spec2 w = r → (cfg2.win w).isOut = false) :
    W6 m c (Proc.devRef .tc r) = W5 m c (Proc.devRef .tc r) := by
  by_cases hw : ∃ w : Fin cfg2.W, Pipeline.arrRef spec2 w = r
  · obtain ⟨w, rfl⟩ := hw
    exact (W6_arr m c w).trans (((dat2 (at_ (W5 m)) c).arrAt_in w (h w rfl) _).trans (A_eq2 (at_ (W5 m)) c w))
  · exact W6_of_ne m c r fun w e => hw ⟨w, e⟩
theorem hF2 (c : Dev nD) (w : Fin cfg2.W) : (dat2 (at_ (W5 m)) c).arrAt w cfg2.N = at_ (W6 m) c (Pipeline.arrRef spec2 w) :=
  (W6_arr m c w).symm
theorem hrest2 (c : Dev nD) : ∀ b, b ∉ Finset.univ.image (Pipeline.arrRef spec2) → at_ (W6 m) c b = at_ (W5 m) c b :=
  fun b hb => W6_of_ne m c b fun w e => hb (Finset.mem_image.mpr ⟨w, Finset.mem_univ _, e⟩)

/-- At the end. -/
abbrev W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ hostOps3_writes h

/-- Main's argument arrays. -/
abbrev argRefs : List (Ref sig .tc) := [main_arg0, main_arg1, main_arg2]
/-- They end as launched: no host stretch writes one, no region has one among its output arrays. -/
theorem W7_args (c : Dev nD) : ∀ a ∈ argRefs, W7 m c (Proc.devRef .tc a) = m ((c : Thread nD τ).loc a) := fun a ha =>
  (W7_of m c a ((ListAll.forall_mem_of_all_decide (by decide +kernel) : ∀ a ∈ argRefs, a ∉ hostOps3_W) a ha)).trans <|
  (W6_of m c a ((ListAll.forall_mem_of_all_decide (by decide +kernel) : ∀ a ∈ argRefs, ∀ w : Fin cfg2.W, Pipeline.arrRef spec2 w = a → (cfg2.win w).isOut = false) a ha)).trans <|
  (W5_of m c a ((ListAll.forall_mem_of_all_decide (by decide +kernel) : ∀ a ∈ argRefs, a ∉ hostOps2_W) a ha)).trans <|
  (W4_of m c a ((ListAll.forall_mem_of_all_decide (by decide +kernel) : ∀ a ∈ argRefs, ∀ w : Fin cfg1.W, Pipeline.arrRef spec1 w = a → (cfg1.win w).isOut = false) a ha)).trans <|
  (W3_of m c a ((ListAll.forall_mem_of_all_decide (by decide +kernel) : ∀ a ∈ argRefs, a ∉ hostOps1_W) a ha)).trans <|
  (W2_of m c a ((ListAll.forall_mem_of_all_decide (by decide +kernel) : ∀ a ∈ argRefs, ∀ w : Fin cfg0.W, Pipeline.arrRef spec0 w = a → (cfg0.win w).isOut = false) a ha)).trans <|
  (W1_of m c a ((ListAll.forall_mem_of_all_decide (by decide +kernel) : ∀ a ∈ argRefs, a ∉ hostOps0_W) a ha))

/-- The row numbers name rows of the scratch array, at every grid point of the score call. -/
def InRange : Prop := ∀ (c : Dev nD) (t : Fin cfg0.N) (j : ℕ), j < 512 → k0_chk1 (Score.wordN (iblk0 (at_ (W1 m)) c 0 t) j)

/-! ## The proof data and the thread state -/

/-- Every call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (at_ (W1 m)) c
  | ⟨1, _⟩ => fun c => dat1 (at_ (W3 m)) c
  | ⟨2, _⟩ => fun c => dat2 (at_ (W5 m)) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0, entered from `W1` and left at `W2`. -/
def reg0 (hok : InRange m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at_ (W1 m)) c (hok c)).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (at_ (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (at_ (W1 m) c) (A_eq0 (at_ (W1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at_ (W1 m) c) (at_ (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from `W3` and left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at_ (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (at_ (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (at_ (W3 m) c) (A_eq1 (at_ (W3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at_ (W3 m) c) (at_ (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, entered from `W5` and left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (at_ (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (at_ (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (at_ (W5 m) c) (A_eq2 (at_ (W5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at_ (W5 m) c) (at_ (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Main as segments, and the run -/

/-- Main's segments in order. -/
abbrev segs (hok : InRange m) : List (Pipeline.Seg (pcfgs (F := F)) adm (pdats m) () defs₀ 𝒱₀ L lv) :=
  [ .host (hseg hostOps0 hostOps0_sub hostOps0_fresh (W0 m)), .region (reg0 m hok),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)) ]
theorem main_run (hok : InRange m) (c : Dev nD) : main (F := F) c = Pipeline.Seg.run (segs m hok) := (main_chain c).trans (by chain_rfl)

set_option backward.isDefEq.respectTransparency.types false in
/-- Every execution ends, faulting nowhere, with every unscoped buffer at `W7` and every semaphore counter at zero. -/
theorem run (hok : InRange m) : θ_run defs (onTc (τ := τ) (main (F := F))) ⟨m, fun _ => 0, ρ⟩ (fun r =>
      (∀ (c : Dev nD) (b : Ref sig .tc), ¬ (Proc.devRef .tc b : DevRef τ sig).isScoped → r.2.mem ((c.tc : Thread nD τ).loc b) = W7 m c (Proc.devRef .tc b))
      ∧ r.2.sem = fun _ => 0) :=
  Pipeline.θ_run_regions_kit_sems (pcfgs (F := F)) adm (pdats m) () cellOf_inj emb₁ defs₀ 𝒱₀ L lv m ρ main (segs m hok)
    (fun c Q => by rw [main_run m hok c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨fun c b hb => h c _ (mem_uc b hb), funext fun g => hz g (.inr (regions_no_unscoped g.2))⟩)

end Cert.KernelIdeal.Run

end
-- ==== Proof.Arrays.lean ====
/-
  What the three calls leave in their result arrays, as functions of the arguments: each array's final contents read off
  the run, block by block, and the row numbers' range read off the third argument.
-/
module

public import proofs.«01_k».proof.Proof.Run
public import Idealize.ShloMosaic.Lib.Pipeline.ValueKit.Geometry
public import Idealize.ShloMosaic.Lib.Claim
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The blocks of the arguments -/

/-- Row `b`'s row numbers, as the score call's first block. -/
def idsB (ix : Vec F S16x1024 .i32) (b : Fin 16) : Vec F S1x1x512 .i32 := fun j => ix (ix2 b ⟨(j 2).val, lt_trans (j 2).isLt (by decide)⟩)
/-- Row `b` of an array with its last two axes exchanged, as the score call's second and third block. -/
def rowB (x : Vec F S16x2048x64 .f32) (b : Fin 16) : Vec F S1x64x2048 .f32 := fun j => x (ix3 b (j 2) (j 1))

/-- The scores' array after the score call. -/
def scoreArr (bx sx : Vec F S16x2048x64 .f32) (ix : Vec F S16x1024 .i32) : Vec F S16x1x2048 .f32 := fun i =>
  Score.out0_3 (idsB ix (i 0)) (rowB bx (i 0)) (rowB sx (i 0)) (ix3 0 0 (i 2))
/-- The mean rows' array after the score call. -/
def meanArr (bx : Vec F S16x2048x64 .f32) (ix : Vec F S16x1024 .i32) : Vec F S16x1x64 .f32 := fun i =>
  Score.out0_4 (idsB ix (i 0)) (rowB bx (i 0)) (ix3 0 0 (i 2))

variable (m : (ℓ : Loc nD τ sig) → Buf (Elt F) ℓ)

theorem W1_v1 (c : Dev nD) : (W1 m c main_v1 : Vec F S16x1x512 .i32)
    = shapeCast S16x1x512 (extractStridedSlice S16x512 ![0, 0] (m ((c : Thread nD τ).loc main_arg2)) slices_S16x1024_S16x512_0_0) shapeCasts_S16x512_S16x1x512 := by
  after_results
  rfl
theorem W1_v2 (c : Dev nD) : (W1 m c main_v2 : Vec F S16x64x2048 .f32)
    = transpose S16x64x2048 [0, 2, 1] (m ((c : Thread nD τ).loc main_arg0)) transposes_S16x2048x64_S16x64x2048_0_2_1 := by
  after_results
theorem W1_v3 (c : Dev nD) : (W1 m c main_v3 : Vec F S16x64x2048 .f32)
    = transpose S16x64x2048 [0, 2, 1] (m ((c : Thread nD τ).loc main_arg1)) transposes_S16x2048x64_S16x64x2048_0_2_1 := by
  after_results

theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] :=
  (by decide +kernel : ∀ t : Fin grid0.N, _)

theorem iblk0_0 (c : Dev nD) (t : Fin cfg0.N) : iblk0 (at_ (W1 m)) c 0 t = idsB (m ((c : Thread nD τ).loc main_arg2)) t := by
  funext y
  obtain ⟨e0, -⟩ := idx0 t
  idx_bounds y
  have h0 : ((win0_0.blk t).view.emb y 0).val = t.val := by blk_simp [e0]
  have h1 : ((win0_0.blk t).view.emb y 1).val = 0 := by blk_simp [e0]
  have h2 : ((win0_0.blk t).view.emb y 2).val = (y 2).val := by blk_simp [e0]
  refine (congrFun (W1_v1 m c) _).trans ((shapeCast_apply _ _ _ (ix2 (t : Fin 16) ⟨(y 2).val, (y 2).isLt⟩ : S16x512.Idx) ?_).trans
    (extractStridedSlice_apply _ _ _ _ (ix2 (t : Fin 16) ⟨(y 2).val, by omega⟩ : S16x1024.Idx) ?_))
  · rw [Shape.rowMajor_val_three, Shape.rowMajor_val_two]
    show t.val * 512 + (y 2).val = (((win0_0.blk t).view.emb y 0).val * 1 + ((win0_0.blk t).view.emb y 1).val) * 512 + ((win0_0.blk t).view.emb y 2).val
    rw [h0, h1, h2]; omega
  · exact fun a => match a with | ⟨0, _⟩ => (Nat.zero_add _).symm | ⟨1, _⟩ => (Nat.zero_add _).symm

theorem iblk0_1 (c : Dev nD) (t : Fin cfg0.N) : iblk0 (at_ (W1 m)) c 1 t = rowB (m ((c : Thread nD τ).loc main_arg0)) t := by
  funext y
  obtain ⟨-, e1, -⟩ := idx0 t
  idx_bounds y
  have h0 : ((win0_1.blk t).view.emb y 0).val = t.val := by blk_simp [e1]
  have h1 : ((win0_1.blk t).view.emb y 1).val = (y 1).val := by blk_simp [e1]
  have h2 : ((win0_1.blk t).view.emb y 2).val = (y 2).val := by blk_simp [e1]
  refine (congrFun (W1_v2 m c) _).trans (transpose_apply _ _ _ _ (ix3 (t : Fin 16) (y 2 : Fin 2048) (y 1 : Fin 64) : S16x2048x64.Idx) ?_)
  exact fun a => match a with | ⟨0, _⟩ => h0.symm | ⟨1, _⟩ => h1.symm | ⟨2, _⟩ => h2.symm

theorem iblk0_2 (c : Dev nD) (t : Fin cfg0.N) : iblk0 (at_ (W1 m)) c 2 t = rowB (m ((c : Thread nD τ).loc main_arg1)) t := by
  funext y
  obtain ⟨-, -, e1, -⟩ := idx0 t
  idx_bounds y
  have h0 : ((win0_2.blk t).view.emb y 0).val = t.val := by blk_simp [e1]
  have h1 : ((win0_2.blk t).view.emb y 1).val = (y 1).val := by blk_simp [e1]
  have h2 : ((win0_2.blk t).view.emb y 2).val = (y 2).val := by blk_simp [e1]
  refine (congrFun (W1_v3 m c) _).trans (transpose_apply _ _ _ _ (ix3 (t : Fin 16) (y 2 : Fin 2048) (y 1 : Fin 64) : S16x2048x64.Idx) ?_)
  exact fun a => match a with | ⟨0, _⟩ => h0.symm | ⟨1, _⟩ => h1.symm | ⟨2, _⟩ => h2.symm

/-! ## What the score call leaves -/

/-- An index of a block whose two leading axes have one entry each. -/
theorem at_lead2 {n : ℕ} (y : (⟨3, ![1, 1, n]⟩ : Shape).Idx) : y = ix3 0 0 (y 2) :=
  funext fun a => match a with
    | ⟨0, _⟩ => Subsingleton.elim (α := Fin 1) _ _ | ⟨1, _⟩ => Subsingleton.elim (α := Fin 1) _ _ | ⟨2, _⟩ => rfl

theorem arr0_3 (c : Dev nD) : (dat0 (at_ (W1 m)) c).arrAt 3 cfg0.N
    = scoreArr (m ((c : Thread nD τ).loc main_arg0)) (m ((c : Thread nD τ).loc main_arg1)) (m ((c : Thread nD τ).loc main_arg2)) := by
  refine (dat0 (at_ (W1 m)) c).arrAt_eq_of_covers 3 _ (by decide +kernel) fun t hf y => ?_
  obtain ⟨-, -, -, e, -⟩ := idx0 t
  idx_bounds y
  have h0 : ((win0_3.blk t).view.emb y 0) = t := Fin.ext (by blk_simp [e])
  have h2 : ((win0_3.blk t).view.emb y 2) = y 2 := Fin.ext (by blk_simp [e])
  blk_simp
  rw [after0_3, iblk0_0, iblk0_1, iblk0_2]
  show _ = Score.out0_3 (idsB _ ((win0_3.blk t).view.emb y 0)) (rowB _ ((win0_3.blk t).view.emb y 0)) (rowB _ ((win0_3.blk t).view.emb y 0)) (ix3 0 0 ((win0_3.blk t).view.emb y 2))
  rw [h0, h2]
  exact congrArg _ (at_lead2 y)

theorem arr0_4 (c : Dev nD) : (dat0 (at_ (W1 m)) c).arrAt 4 cfg0.N
    = meanArr (m ((c : Thread nD τ).loc main_arg0)) (m ((c : Thread nD τ).loc main_arg2)) := by
  refine (dat0 (at_ (W1 m)) c).arrAt_eq_of_covers 4 _ (by decide +kernel) fun t hf y => ?_
  obtain ⟨-, -, -, -, e⟩ := idx0 t
  idx_bounds y
  have h0 : ((win0_4.blk t).view.emb y 0) = t := Fin.ext (by blk_simp [e])
  have h2 : ((win0_4.blk t).view.emb y 2) = y 2 := Fin.ext (by blk_simp [e])
  blk_simp
  rw [after0_4, iblk0_0, iblk0_1]
  show _ = Score.out0_4 (idsB _ ((win0_4.blk t).view.emb y 0)) (rowB _ ((win0_4.blk t).view.emb y 0)) (ix3 0 0 ((win0_4.blk t).view.emb y 2))
  rw [h0, h2]
  exact congrArg _ (at_lead2 y)

/-! ## The row numbers stay in range -/

/-- The row numbers' range, from the third argument's. -/
theorem inRange_of (h : ∀ c : Dev nD, ∀ i, ((m ((c : Thread nD τ).loc main_arg2) : Vec F S16x1024 .i32) i).toInt < 2048) : InRange m := by
  intro c t j hj a
  rw [iblk0_0]
  have h' := h c (ix2 (t : Fin 16) ⟨((Score.at512 j) 2).val, lt_trans ((Score.at512 j) 2).isLt (by decide)⟩)
  have e : Score.wordN (idsB (m ((c : Thread nD τ).loc main_arg2)) t) j = (m ((c : Thread nD τ).loc main_arg2) : Vec F S16x1024 .i32) (ix2 (t : Fin 16) ⟨((Score.at512 j) 2).val, lt_trans ((Score.at512 j) 2).isLt (by decide)⟩) := rfl
  rw [e]
  generalize (m ((c : Thread nD τ).loc main_arg2) : Vec F S16x1024 .i32) (ix2 (t : Fin 16) ⟨((Score.at512 j) 2).val, lt_trans ((Score.at512 j) 2).isLt (by decide)⟩) = w at h'
  match a with
  | ⟨0, _⟩ =>
    show (Scalar.indexCast (Scalar.maxsi w 0#32)).toNat + 1 ≤ 2048
    show (if (0#32).slt w then w else 0#32).toNat + 1 ≤ 2048
    by_cases hp : (0#32).slt w = true
    · rw [if_pos hp]
      have hp' : 0 < BitVec.toInt w := by simpa using BitVec.slt_iff_toInt_lt.mp hp
      have := BitVec.toInt_eq_toNat_cond w
      split at this <;> omega
    · rw [if_neg hp]; decide
  | ⟨1, _⟩ => show 0 + 64 ≤ 64; omega

/-! ## What the sorting call leaves -/

theorem W3_v5 (c : Dev nD) : (W3 m c main_v5 : Vec F S16x2048 .f32)
    = shapeCast S16x2048 (W2 m c main_v4_0 : Vec F S16x1x2048 .f32) shapeCasts_S16x1x2048_S16x2048 := by
  after_results
  rfl
theorem W3_v6 (c : Dev nD) : (W3 m c main_v6 : Vec F S16x64 .f32)
    = shapeCast S16x64 (W2 m c main_v4_1 : Vec F S16x1x64 .f32) shapeCasts_S16x1x64_S16x64 := by
  after_results
  rfl

theorem iblk1_0 (c : Dev nD) (t : Fin cfg1.N) : iblk1 (at_ (W3 m)) c 0 t = W3 m c main_v5 := by
  funext y
  have e : win1_0.index t = ![0, 0] := (by decide +kernel : ∀ t : Fin grid1.N, win1_0.index t = ![0, 0]) t
  blk_simp [iblk1]
  show W3 m c main_v5 _ = _
  congr 1
  blk_ext [e]

theorem arr1_1 (c : Dev nD) : (dat1 (at_ (W3 m)) c).arrAt 1 cfg1.N = Topk.top (Topk.sorted (W3 m c main_v5 : Vec F S16x2048 .f32)).1 := by
  refine (dat1 (at_ (W3 m)) c).arrAt_eq_of_after_last 1 ⟨0, by decide⟩ (by decide +kernel) _ fun j => ?_
  rw [after1_1, iblk1_0, out1_1_eq]
  rfl
theorem arr1_2 (c : Dev nD) : (dat1 (at_ (W3 m)) c).arrAt 2 cfg1.N = Topk.top (Topk.sorted (W3 m c main_v5 : Vec F S16x2048 .f32)).2 := by
  refine (dat1 (at_ (W3 m)) c).arrAt_eq_of_after_last 2 ⟨0, by decide⟩ (by decide +kernel) _ fun j => ?_
  rw [after1_2, iblk1_0, out1_2_eq]
  rfl

/-! ## What the one-hot call leaves -/

theorem W5_v8 (c : Dev nD) : (W5 m c main_v8 : Vec F S16x4x1x64 .i32)
    = shapeCast S16x4x1x64 (W4 m c main_v7_1 : Vec F S16x256 .i32) shapeCasts_S16x256_S16x4x1x64 := by
  after_results
  rfl
theorem W5_v9 (c : Dev nD) : (W5 m c main_v9 : Vec F S16x4x1x64 .f32)
    = shapeCast S16x4x1x64 (W4 m c main_v7_0 : Vec F S16x256 .f32) shapeCasts_S16x256_S16x4x1x64 := by
  after_results
  rfl

/-- The row and the group of 64 that a point of the one-hot call works on. -/
theorem idx2 : ∀ t : Fin cfg2.N, win2_0.index t = ![t.val / 4, t.val % 4, 0, 0] ∧ win2_1.index t = ![t.val / 4, t.val % 4, 0, 0]
    ∧ win2_2.index t = ![t.val / 4, t.val % 4, 0] :=
  (by decide +kernel : ∀ t : Fin grid2.N, _)

/-- Row `b`'s group `q` of 64, as the one-hot call's blocks. -/
def grpB {e : EltTy} (x : Vec F S16x256 e) (b : Fin 16) (q : Fin 4) : Vec F S1x1x1x64 e := fun j =>
  x (ix2 b ⟨q.val * 64 + (j 3).val, by have := q.isLt; have : (j 3).val < 64 := (j 3).isLt; omega⟩)

/-- The one-hot array: entry `k` of row `b`'s one-hot row. -/
def onehotArr (ix : Vec F S16x256 .i32) (v : Vec F S16x256 .f32) : Vec F S16x256x2048 .f32 := fun i =>
  k2_pay1 (grpB ix (i 0) ⟨(i 1).val / 64, by have : (i 1).val < 256 := (i 1).isLt; omega⟩)
    (grpB v (i 0) ⟨(i 1).val / 64, by have : (i 1).val < 256 := (i 1).isLt; omega⟩) (ix3 0 ⟨(i 1).val % 64, Nat.mod_lt _ (by decide)⟩ (i 2))

theorem iblk2_0 (c : Dev nD) (t : Fin cfg2.N) : iblk2 (at_ (W5 m)) c 0 t
    = grpB (W4 m c main_v7_1 : Vec F S16x256 .i32) ⟨t.val / 4, by have : t.val < 64 := t.isLt; omega⟩ ⟨t.val % 4, Nat.mod_lt _ (by decide)⟩ := by
  funext y
  have ht : t.val < 64 := t.isLt
  obtain ⟨e, -⟩ := idx2 t
  idx_bounds y
  have h0 : ((win2_0.blk t).view.emb y 0).val = t.val / 4 := by blk_simp [e]
  have h1 : ((win2_0.blk t).view.emb y 1).val = t.val % 4 := by blk_simp [e]
  have h2 : ((win2_0.blk t).view.emb y 2).val = 0 := by blk_simp [e]
  have h3 : ((win2_0.blk t).view.emb y 3).val = (y 3).val := by blk_simp [e]
  refine (congrFun (W5_v8 m c) _).trans (shapeCast_apply _ _ _ (ix2 (⟨t.val / 4, by omega⟩ : Fin 16) ⟨t.val % 4 * 64 + (y 3).val, by omega⟩ : S16x256.Idx) ?_)
  rw [Shape.rowMajor_val_four, Shape.rowMajor_val_two]
  show t.val / 4 * 256 + (t.val % 4 * 64 + (y 3).val) = ((((win2_0.blk t).view.emb y 0).val * 4 + ((win2_0.blk t).view.emb y 1).val) * 1 + ((win2_0.blk t).view.emb y 2).val) * 64 + ((win2_0.blk t).view.emb y 3).val
  rw [h0, h1, h2, h3]; omega

theorem iblk2_1 (c : Dev nD) (t : Fin cfg2.N) : iblk2 (at_ (W5 m)) c 1 t
    = grpB (W4 m c main_v7_0 : Vec F S16x256 .f32) ⟨t.val / 4, by have : t.val < 64 := t.isLt; omega⟩ ⟨t.val % 4, Nat.mod_lt _ (by decide)⟩ := by
  funext y
  have ht : t.val < 64 := t.isLt
  obtain ⟨-, e, -⟩ := idx2 t
  idx_bounds y
  have h0 : ((win2_1.blk t).view.emb y 0).val = t.val / 4 := by blk_simp [e]
  have h1 : ((win2_1.blk t).view.emb y 1).val = t.val % 4 := by blk_simp [e]
  have h2 : ((win2_1.blk t).view.emb y 2).val = 0 := by blk_simp [e]
  have h3 : ((win2_1.blk t).view.emb y 3).val = (y 3).val := by blk_simp [e]
  refine (congrFun (W5_v9 m c) _).trans (shapeCast_apply _ _ _ (ix2 (⟨t.val / 4, by omega⟩ : Fin 16) ⟨t.val % 4 * 64 + (y 3).val, by omega⟩ : S16x256.Idx) ?_)
  rw [Shape.rowMajor_val_four, Shape.rowMajor_val_two]
  show t.val / 4 * 256 + (t.val % 4 * 64 + (y 3).val) = ((((win2_1.blk t).view.emb y 0).val * 4 + ((win2_1.blk t).view.emb y 1).val) * 1 + ((win2_1.blk t).view.emb y 2).val) * 64 + ((win2_1.blk t).view.emb y 3).val
  rw [h0, h1, h2, h3]; omega

theorem arr2_2 (c : Dev nD) : (dat2 (at_ (W5 m)) c).arrAt 2 cfg2.N
    = onehotArr (W4 m c main_v7_1 : Vec F S16x256 .i32) (W4 m c main_v7_0 : Vec F S16x256 .f32) := by
  refine (dat2 (at_ (W5 m)) c).arrAt_eq_of_covers 2 _ (by decide +kernel) fun t hf y => ?_
  have ht : t.val < 64 := t.isLt
  obtain ⟨-, -, e⟩ := idx2 t
  idx_bounds y
  have h0 : ((win2_2.blk t).view.emb y 0).val = t.val / 4 := by blk_simp [e]
  have h1 : ((win2_2.blk t).view.emb y 1).val = t.val % 4 * 64 + (y 1).val := by blk_simp [e]
  have h2 : ((win2_2.blk t).view.emb y 2) = y 2 := Fin.ext (by blk_simp [e])
  blk_simp
  rw [after2_2, iblk2_0, iblk2_1, out2_2_eq]
  have e0 : (win2_2.blk t).view.emb y 0 = (⟨t.val / 4, by omega⟩ : Fin 16) := Fin.ext h0
  have e1 : (⟨((win2_2.blk t).view.emb y 1).val / 64, by omega⟩ : Fin 4) = ⟨t.val % 4, by omega⟩ := Fin.ext (by show ((win2_2.blk t).view.emb y 1).val / 64 = t.val % 4; omega)
  have e2 : (⟨((win2_2.blk t).view.emb y 1).val % 64, by omega⟩ : Fin 64) = ⟨(y 1).val, by omega⟩ := Fin.ext (by show ((win2_2.blk t).view.emb y 1).val % 64 = (y 1).val; omega)
  show _ = k2_pay1 (grpB _ ((win2_2.blk t).view.emb y 0) ⟨((win2_2.blk t).view.emb y 1).val / 64, _⟩)
    (grpB _ ((win2_2.blk t).view.emb y 0) ⟨((win2_2.blk t).view.emb y 1).val / 64, _⟩) (ix3 0 ⟨((win2_2.blk t).view.emb y 1).val % 64, _⟩ ((win2_2.blk t).view.emb y 2))
  rw [h2, e2, e1, e0]
  congr 1
  exact funext fun a => match a with
    | ⟨0, _⟩ => Subsingleton.elim (α := Fin 1) _ _ | ⟨1, _⟩ => rfl | ⟨2, _⟩ => rfl

/-! ## The results at the end -/

variable (bx sx : Vec F S16x2048x64 .f32) (ix : Vec F S16x1024 .i32)

/-- The mean rows, one row of 64 per batch row. -/
def means : Vec F S16x64 .f32 := shapeCast S16x64 (meanArr bx ix) shapeCasts_S16x1x64_S16x64
/-- The scores, one row of 2048 per batch row. -/
def scores : Vec F S16x2048 .f32 := shapeCast S16x2048 (scoreArr bx sx ix) shapeCasts_S16x1x2048_S16x2048
/-- The 256 largest scores of each row, and their positions. -/
def topVals : Vec F S16x256 .f32 := Topk.top (Topk.sorted (scores bx sx ix)).1
/-- The positions of the 256 largest scores of each row. -/
def topIdx : Vec F S16x256 .i32 := Topk.top (Topk.sorted (scores bx sx ix)).2

theorem W3_scores (c : Dev nD) : (W3 m c main_v5 : Vec F S16x2048 .f32)
    = scores (m ((c : Thread nD τ).loc main_arg0)) (m ((c : Thread nD τ).loc main_arg1)) (m ((c : Thread nD τ).loc main_arg2)) :=
  (W3_v5 m c).trans (congrArg (shapeCast S16x2048 · shapeCasts_S16x1x2048_S16x2048) ((W2_arr m c 3).trans (arr0_3 m c)))

theorem W4_vals (c : Dev nD) : (W4 m c main_v7_0 : Vec F S16x256 .f32)
    = topVals (m ((c : Thread nD τ).loc main_arg0)) (m ((c : Thread nD τ).loc main_arg1)) (m ((c : Thread nD τ).loc main_arg2)) :=
  (W4_arr m c 1).trans ((arr1_1 m c).trans (by rw [W3_scores]; rfl))
theorem W4_idx (c : Dev nD) : (W4 m c main_v7_1 : Vec F S16x256 .i32)
    = topIdx (m ((c : Thread nD τ).loc main_arg0)) (m ((c : Thread nD τ).loc main_arg1)) (m ((c : Thread nD τ).loc main_arg2)) :=
  (W4_arr m c 2).trans ((arr1_2 m c).trans (by rw [W3_scores]; rfl))

theorem W7_v10 (c : Dev nD) : (W7 m c main_v10 : Vec F S16x256x2048 .f32)
    = onehotArr (topIdx (m ((c : Thread nD τ).loc main_arg0)) (m ((c : Thread nD τ).loc main_arg1)) (m ((c : Thread nD τ).loc main_arg2)))
      (topVals (m ((c : Thread nD τ).loc main_arg0)) (m ((c : Thread nD τ).loc main_arg1)) (m ((c : Thread nD τ).loc main_arg2))) :=
  (W7_of m c main_v10 (by decide +kernel)).trans ((W6_arr m c 2).trans ((arr2_2 m c).trans (by rw [W4_idx, W4_vals])))

theorem W7_idx (c : Dev nD) : (W7 m c main_v7_1 : Vec F S16x256 .i32)
    = topIdx (m ((c : Thread nD τ).loc main_arg0)) (m ((c : Thread nD τ).loc main_arg1)) (m ((c : Thread nD τ).loc main_arg2)) :=
  (W7_of m c main_v7_1 (by decide +kernel)).trans ((W6_of m c main_v7_1 (by decide +kernel)).trans ((W5_of m c main_v7_1 (by decide +kernel)).trans (W4_idx m c)))

theorem W7_scores (c : Dev nD) : (W7 m c main_v5 : Vec F S16x2048 .f32)
    = scores (m ((c : Thread nD τ).loc main_arg0)) (m ((c : Thread nD τ).loc main_arg1)) (m ((c : Thread nD τ).loc main_arg2)) :=
  (W7_of m c main_v5 (by decide +kernel)).trans ((W6_of m c main_v5 (by decide +kernel)).trans ((W5_of m c main_v5 (by decide +kernel)).trans
    ((W4_of m c main_v5 (by decide +kernel)).trans (W3_scores m c))))

theorem W6_means (c : Dev nD) : (W6 m c main_v6 : Vec F S16x64 .f32) = means (m ((c : Thread nD τ).loc main_arg0)) (m ((c : Thread nD τ).loc main_arg2)) :=
  (W6_of m c main_v6 (by decide +kernel)).trans ((W5_of m c main_v6 (by decide +kernel)).trans ((W4_of m c main_v6 (by decide +kernel)).trans
    ((W3_v6 m c).trans (congrArg (shapeCast S16x64 · shapeCasts_S16x1x64_S16x64) ((W2_arr m c 4).trans (arr0_4 m c))))))

theorem W7_v11 (c : Dev nD) : (W7 m c main_v11 : Vec F S16x64x1 .f32)
    = broadcastInDim S16x64x1 ![0, 1] bcast_S16x64_S16x64x1_0_1 (means (m ((c : Thread nD τ).loc main_arg0)) (m ((c : Thread nD τ).loc main_arg2))) := by
  rw [← W6_means]
  after_results

end Cert.KernelIdeal.Run

end
-- ==== Proof.Frames.lean ====
/-
  The precondition read entry by entry, and the frames: the arguments kept and every semaphore at zero, for the kernel
  over bit patterns and over extended reals.
-/
module

public import proofs.«01_k».proof.Defs
public import proofs.«01_k».proof.Proof.Gen.Kernel
public import proofs.«01_k».proof.Proof.Arrays
public import Idealize.ShloMosaic.Lib.ReduceAll
public import Idealize.ShloMosaic.Lib.WordCmp

@[expose] public section

set_option maxRecDepth 16384

noncomputable section

namespace Cert.Pre_pre

open Idealize.ShloMosaic

/-- The side conditions of the precondition's operations. -/
theorem facts : Facts where
  bcast_S_S16x1024 := by decide
  reducesTo_S16x1024_S_d0_1 := by decide
  h_S_ := by decide

variable {F : FTy → Type} [FloatOps F]

attribute [local instance] facts in
/-- What the precondition says of each row number. -/
theorem entries {bx sx : FVec F S16x2048x64 .f32} {ix : IVec S16x1024 32} (h : fn (F := F) bx sx ix = fun _ => 1#1) :
    ∀ i, (ix i).toInt < 2048 := fun i =>
  IntOp.cmpi_slt.1 (Host.reduce_andi_all _ _ _ _ _ (congrFun h (fun a => a.elim0)) i)

end Cert.Pre_pre

namespace Cert.KernelIdeal.Run

open Cert.KernelIdeal Cert.KernelIdeal.Gen
open Idealize.ShloMosaic Idealize.ShloMosaic.TcCoe Idealize.ShloMosaic.Tactic
open Idealize.SL Idealize.SL.Sem

attribute [local instance] Cert.Pre_pre.facts

/-- The frame of the kernel's text in any arithmetic: under the precondition every run ends, the arguments kept and
    every semaphore at zero. -/
def FrameAt (F : FTy → Type) [FloatOps F] : Prop :=
  ∀ (m : (ℓ : Loc nD τ sig) → Buf (Elt F) ℓ) (g : Dev nD → PrngReg),
    (∀ c : Dev nD, Cert.Pre_pre.fn (F := F) (m (c.tc.loc main_arg0)) (m (c.tc.loc main_arg1)) (m (c.tc.loc main_arg2)) = fun _ => 1#1) →
    θ_run (defs (F := F)) (onTc main) ⟨m, fun _ => 0, g⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0)

theorem frameAt (F : FTy → Type) [FloatOps F] : FrameAt F := fun m g hpre =>
  θ_run_mono (run m g (inRange_of m fun c => Cert.Pre_pre.entries (hpre c))) fun r h =>
    ⟨fun c => ⟨(h.1 c main_arg0 (by decide)).trans (W7_args m c main_arg0 (by decide)), (h.1 c main_arg1 (by decide)).trans (W7_args m c main_arg1 (by decide)),
      (h.1 c main_arg2 (by decide)).trans (W7_args m c main_arg2 (by decide))⟩, h.2⟩

end Cert.KernelIdeal.Run

end
-- ==== Proof.Quiet.lean ====
/-
  The three frames of the certificate. The kernel over bit patterns is the same text as the kernel over extended reals,
  so its frame is the generic one read at bit patterns.
-/
module

public import proofs.«01_k».proof.Defs
public import proofs.«01_k».proof.Proof.Gen.Kernel
public import proofs.«01_k».proof.Proof.Frames
public import proofs.«01_k».proof.Proof.Gen.ReferenceIdeal.Run
public import Idealize.ShloMosaic.Lib.Pipeline.Regions
public import Idealize.ShloMosaic.Lib.Claim

@[expose] public section

set_option maxRecDepth 16384

noncomputable section

namespace Cert

open Idealize.ShloMosaic Idealize.ShloMosaic.TcCoe Idealize.ShloMosaic.Tactic
open Idealize.SL.Sem

/-- The frame over bit patterns is the generic frame at bit patterns: the two printed programs unfold to one. -/
theorem quiescent_Kernel_eq : quiescent_Kernel (hKernel := Cert.Kernel.Gen.facts) (hPre_pre := Cert.Pre_pre.facts) = KernelIdeal.Run.FrameAt Bits := by
  chain_rfl

theorem quietKernel : quiescent_Kernel (hKernel := Cert.Kernel.Gen.facts) (hPre_pre := Cert.Pre_pre.facts) :=
  quiescent_Kernel_eq.mpr (KernelIdeal.Run.frameAt Bits)

theorem quietKernelIdeal : quiescent_KernelIdeal (hKernelIdeal := Cert.KernelIdeal.Gen.facts) (hPre_pre := Cert.Pre_pre.facts) :=
  KernelIdeal.Run.frameAt Ideal

theorem quietReferenceIdeal : quiescent_ReferenceIdeal (hReferenceIdeal := Cert.ReferenceIdeal.Gen.facts) (hPre_pre := Cert.Pre_pre.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

end Cert

end
-- ==== Proof.ScoreSums.lean ====
/-
  Sums and counts at the extended reals: the score kernel's strands, windows and lane folds are plain sums over all
  entries, and its running count is the number of row numbers that are not negative.
-/
module

public import proofs.«01_k».proof.Proof.ScoreProg
public import Idealize.ShloMosaic.PureOps.Ideal.Laws

@[expose] public section

noncomputable section

namespace Cert.KernelIdeal.Score

open Cert.KernelIdeal Cert.KernelIdeal.Gen
open Idealize.ShloMosaic

/-! ## Eight strands folded in a tree -/

section Fold
variable {M : Type} [AddCommMonoid M]

/-- Eight values added four and four, two and two, one and one. -/
def fold8 (a : ℕ → M) : M := ((a 0 + a 4) + (a 2 + a 6)) + ((a 1 + a 5) + (a 3 + a 7))

theorem sum_blocks (g : ℕ → M) (n : ℕ) :
    ∑ k ∈ Finset.range (8 * n), g k = ∑ q ∈ Finset.range n, ∑ r ∈ Finset.range 8, g (8 * q + r) := by
  induction n with
  | zero => rfl
  | succ n ih => rw [Nat.mul_succ, Finset.sum_range_add, ih, Finset.sum_range_succ _ n]

/-- The tree over eight strided sums is the sum. -/
theorem fold8_sum (g : ℕ → M) (n : ℕ) :
    fold8 (fun r => ∑ q ∈ Finset.range n, g (8 * q + r)) = ∑ k ∈ Finset.range (8 * n), g k := by
  rw [sum_blocks, Finset.sum_comm]
  unfold fold8
  simp only [Finset.sum_range_succ (n := 7), Finset.sum_range_succ (n := 6), Finset.sum_range_succ (n := 5),
    Finset.sum_range_succ (n := 4), Finset.sum_range_succ (n := 3), Finset.sum_range_succ (n := 2),
    Finset.sum_range_succ (n := 1), Finset.sum_range_succ (n := 0), Finset.sum_range_zero, zero_add]
  generalize ∑ q ∈ Finset.range n, g (8 * q + 0) = a0
  generalize ∑ q ∈ Finset.range n, g (8 * q + 1) = a1
  generalize ∑ q ∈ Finset.range n, g (8 * q + 2) = a2
  generalize ∑ q ∈ Finset.range n, g (8 * q + 3) = a3
  generalize ∑ q ∈ Finset.range n, g (8 * q + 4) = a4
  generalize ∑ q ∈ Finset.range n, g (8 * q + 5) = a5
  generalize ∑ q ∈ Finset.range n, g (8 * q + 6) = a6
  generalize ∑ q ∈ Finset.range n, g (8 * q + 7) = a7
  abel

/-- Eight lanes, each the left-to-right sum of eight entries eight apart, folded in a tree: the sum of the 64 entries. -/
theorem fold64 (g : ℕ → M) :
    fold8 (fun r => g r + g (8 + r) + g (16 + r) + g (24 + r) + g (32 + r) + g (40 + r) + g (48 + r) + g (56 + r))
      = ∑ k : Fin 64, g k.val := by
  rw [Fin.sum_univ_eq_sum_range (fun k => g k) 64, ← fold8_sum g 8]
  congr 1
  funext r
  simp only [Finset.sum_range_succ, Finset.sum_range_zero, zero_add, Nat.mul_zero]

end Fold

/-! ## The rows' sum -/

variable (f : ℕ → FVec Ideal S1x64 .f32) (i : S1x64.Idx)

theorem strand_at (b n : ℕ) : strand f b n i = ∑ q ∈ Finset.range (n + 1), (f (b + 8 * q) i : EReal) := by
  induction n with
  | zero => rw [Finset.sum_range_succ, Finset.sum_range_zero, zero_add]; rfl
  | succ n ih => rw [Finset.sum_range_succ, ← ih]; rfl

theorem window_at (b : ℕ) : window f b i = ∑ k ∈ Finset.range 128, (f (b + k) i : EReal) := by
  rw [← fold8_sum (fun k => (f (b + k) i : EReal)) 16]
  have h : ∀ r, strand f (b + r) 15 i = ∑ q ∈ Finset.range 16, (f (b + (8 * q + r)) i : EReal) := fun r => by
    rw [strand_at]
    exact Finset.sum_congr rfl fun q _ => by rw [show b + r + 8 * q = b + (8 * q + r) by omega]
  show ((strand f (b + 0) 15 i + strand f (b + 4) 15 i) + (strand f (b + 2) 15 i + strand f (b + 6) 15 i) : EReal)
    + ((strand f (b + 1) 15 i + strand f (b + 5) 15 i) + (strand f (b + 3) 15 i + strand f (b + 7) 15 i)) = _
  simp only [h]
  rfl

/-- The rows' sum, entry by entry. -/
theorem rowsSum_at : rowsSum f i = ∑ j : Fin 512, (f j.val i : EReal) := by
  rw [Fin.sum_univ_eq_sum_range (fun j => (f j i : EReal)) 512, show 512 = 0 + 128 + 128 + 128 + 128 from rfl,
    Finset.sum_range_add, Finset.sum_range_add, Finset.sum_range_add, Finset.sum_range_add]
  show ((window f 0 i + window f 128 i) + window f 256 i) + window f 384 i = (_ : EReal)
  simp only [window_at, Finset.range_zero, Finset.sum_empty, zero_add]

/-! ## The count -/

/-- One for a row number that is not negative. -/
def one (w : BitVec 32) : ℕ := if 0 ≤ w.toInt then 1 else 0

theorem ofBits_one : Ideal.ofBits .f32 0x3F800000#32 = 1 := by
  simp [Ideal.ofBits, Ideal.ieee, -EReal.coe_mul]
  norm_num

theorem sge_zero (w : BitVec 32) : IntOp.cmpi .sge w 0#32 = BitVec.ofBool (decide (0 ≤ w.toInt)) := by
  show BitVec.ofBool ((0#32).sle w) = _
  congr 1

theorem valid_eq (w : BitVec 32) : (valid (F := Ideal) w : EReal) = ((one w : ℕ) : EReal) := by
  show (Scalar.select (IntOp.cmpi .sge w 0#32) (Ideal.ofBits .f32 0x3F800000#32) (Ideal.ofBits .f32 0x00000000#32) : EReal) = _
  rw [sge_zero, ofBits_one, Ideal.ofBits_zero_f32]
  unfold one
  by_cases h : 0 ≤ w.toInt
  · rw [if_pos h, decide_eq_true h, Nat.cast_one]; rfl
  · rw [if_neg h, decide_eq_false h, Nat.cast_zero]; rfl

/-- The number of row numbers among the first `n` that are not negative. -/
def number (ws : ℕ → BitVec 32) (n : ℕ) : ℕ := ∑ j ∈ Finset.range n, one (ws j)

theorem number_le (ws : ℕ → BitVec 32) (n : ℕ) : number ws n ≤ n := by
  refine (Finset.sum_le_card_nsmul _ _ 1 fun j _ => ?_).trans (by simp)
  unfold one
  split <;> decide

theorem countOf_eq (ws : ℕ → BitVec 32) (n : ℕ) : (countOf (F := Ideal) ws n : EReal) = ((number ws n : ℕ) : EReal) := by
  induction n with
  | zero => exact Ideal.ofBits_zero_f32.trans Nat.cast_zero.symm
  | succ n ih =>
    show (countOf (F := Ideal) ws n + valid (F := Ideal) (ws n) : EReal) = _
    rw [ih, valid_eq, number, number, Finset.sum_range_succ, Nat.cast_add]

/-- A count as a word: its larger with one, and whether it is positive. -/
theorem word_max (n : ℕ) (h : n ≤ 512) : (IntOp.maxsi (BitVec.ofNat 32 n) 1#32).toInt = (max n 1 : ℕ) :=
  (by decide +kernel : ∀ n : Fin 513, (IntOp.maxsi (BitVec.ofNat 32 n.val) 1#32).toInt = (max n.val 1 : ℕ)) ⟨n, by omega⟩
theorem word_pos (n : ℕ) (h : n ≤ 512) : IntOp.cmpi .sgt (BitVec.ofNat 32 n) 0#32 = BitVec.ofBool (decide (0 < n)) :=
  (by decide +kernel : ∀ n : Fin 513, IntOp.cmpi .sgt (BitVec.ofNat 32 n.val) 0#32 = BitVec.ofBool (decide (0 < n.val))) ⟨n, by omega⟩

end Cert.KernelIdeal.Score

end
-- ==== Proof.ScoreRef.lean ====
/-
  The reference's mean rows read at an index: which row of the first array each row number takes, how many row numbers
  are not negative, and what the rows taken add up to.
-/
module

public import proofs.«01_k».proof.Proof.ScoreSums
public import proofs.«01_k».proof.Proof.Gen.ReferenceIdeal.Read
public import Idealize.ShloMosaic.Lib.ValueIdxCore

@[expose] public section

set_option maxRecDepth 100000

noncomputable section

namespace Cert.ReferenceIdeal.Read

open Cert.ReferenceIdeal Cert.ReferenceIdeal.Gen
open Cert.KernelIdeal.Score (one sge_zero number number_le word_max word_pos)
open Idealize.ShloMosaic
open Idealize.ShloMosaic.ValueIdx

variable (bx sx : Vec Ideal S16x2048x64 .f32) (ix : Vec Ideal S16x1024 .i32)

/-- Row number `j` of batch row `b`. -/
def word (b : Fin 16) (j : Fin 512) : BitVec 32 := ix (ix2 b ⟨j.val, lt_trans j.isLt (by decide)⟩)

/-- The row a row number takes: the first row if the number is negative. -/
def rowNo (w : BitVec 32) : Fin 2048 := ⟨w.toInt.toNat % 2048, Nat.mod_lt _ (by decide)⟩

theorem word_v0 (b : Fin 16) (j : Fin 512) : val_main_v0 (F := Ideal) ix (ix2 b j) = word ix b j :=
  (val_main_v0_apply ix _).trans (congrArg ix (funext fun a => match a with | ⟨0, _⟩ => rfl | ⟨1, _⟩ => rfl))

theorem mask (b : Fin 16) (j : Fin 512) : val_main_v2 (F := Ideal) ix (ix2 b j) = BitVec.ofBool (decide (0 ≤ (word ix b j).toInt)) := by
  rw [val_main_v2_apply, word_v0, val_main_v1_apply, val_main_c_apply, sge_zero]

theorem word_v4 (b : Fin 16) (j : Fin 512) : val_main_v4 (F := Ideal) ix (ix2 b j) = if 0 ≤ (word ix b j).toInt then word ix b j else 0#32 := by
  rw [val_main_v4_apply, mask, show val_main_v3 (F := Ideal) ix (ix2 b j) = word ix b j from word_v0 ix b j, val_main_call0_v1_apply]
  by_cases h : 0 ≤ (word ix b j).toInt
  · rw [if_pos h, decide_eq_true h]; rfl
  · rw [if_neg h, decide_eq_false h]; rfl

theorem word_v4_nonneg (b : Fin 16) (j : Fin 512) : (val_main_v4 (F := Ideal) ix (ix2 b j)).toInt = (word ix b j).toInt.toNat := by
  rw [word_v4]
  split
  · omega
  · rw [show (0#32).toInt = 0 from rfl]; omega

theorem word_v5 (b : Fin 16) (j : Fin 512) : val_main_v5 (F := Ideal) ix (ix3 b j 0) = val_main_v4 (F := Ideal) ix (ix2 b j) :=
  (val_main_v5_apply ix _).trans (congrArg _ (funext fun a => match a with | ⟨0, _⟩ => rfl | ⟨1, _⟩ => rfl))

theorem start_eq (b : Fin 16) (j : Fin 512) : val_main_call1_v4 (F := Ideal) ix (ix3 b j 0) = val_main_v4 (F := Ideal) ix (ix2 b j) := by
  rw [val_main_call1_v4_apply, val_main_call1_v1_apply, word_v5, val_main_call1_v0_apply, val_main_call1_c_apply,
    show IntOp.cmpi .slt (val_main_v4 (F := Ideal) ix (ix2 b j)) 0#32 = 0#1 from ?_]
  · rfl
  · show BitVec.ofBool ((val_main_v4 (F := Ideal) ix (ix2 b j)).slt 0#32) = 0#1
    rw [show (val_main_v4 (F := Ideal) ix (ix2 b j)).slt 0#32 = false from ?_]; · rfl
    rw [Bool.eq_false_iff, Ne, BitVec.slt_iff_toInt_lt, word_v4_nonneg, show (0#32).toInt = 0 from rfl]
    omega

instance : Std.Commutative (IntOp.andi (w := 1)) := ⟨BitVec.and_comm⟩
instance : Std.Associative (IntOp.andi (w := 1)) := ⟨BitVec.and_assoc⟩
instance : Std.Commutative (IntOp.addi (w := 32)) := ⟨BitVec.add_comm⟩
instance : Std.Associative (IntOp.addi (w := 32)) := ⟨BitVec.add_assoc⟩

variable (hix : ∀ i, (ix i).toInt < 2048)
include hix

theorem inBounds (b : Fin 16) (j : Fin 512) : val_main_call1_v11 (F := Ideal) ix (ix2 b j) = 1#1 := by
  have hw := hix (ix2 b ⟨j.val, lt_trans j.isLt (by decide)⟩)
  have hv : val_main_call1_v10 (F := Ideal) ix (ix3 b j 0) = 1#1 := by
    rw [val_main_call1_v10_apply, val_main_call1_v6_apply, val_main_call1_v9_apply, start_eq, val_main_call1_v5_apply,
      val_main_call1_c_2_apply, val_main_call1_v8_apply, val_main_call1_v7_apply, val_main_call1_c_1_apply, sge_zero, word_v4_nonneg]
    rw [show IntOp.cmpi .sle (val_main_v4 (F := Ideal) ix (ix2 b j)) 2047#32 = 1#1 from ?_, decide_eq_true (by omega)]; · rfl
    show BitVec.ofBool ((val_main_v4 (F := Ideal) ix (ix2 b j)).sle 2047#32) = 1#1
    rw [show (val_main_v4 (F := Ideal) ix (ix2 b j)).sle 2047#32 = true from ?_]; · rfl
    rw [BitVec.sle_iff_toInt_le, word_v4_nonneg, show (2047#32).toInt = 2047 from rfl]
    change (word ix b j).toInt < 2048 at hw
    omega
  unfold val_main_call1_v11
  have h : S16x512x1.Reduces [2] S16x512 := by decide
  have hf : ∀ f : Fin 1 → BitVec 1, f 0 = 1#1 → (Finset.univ : Finset (Fin 1)).fold IntOp.andi 1#1 f = 1#1 := fun f h0 => by
    rw [show (Finset.univ : Finset (Fin 1)) = {0} from rfl, Finset.fold_singleton, h0]; rfl
  refine (Host.reduce_eq_fold_single _ _ _ reducesTo_S16x512x1_S16x512_d2 h _ _).trans (hf _ (Eq.trans ?_ hv))
  exact congrArg (val_main_call1_v10 (F := Ideal) ix) (funext fun a => match a with | ⟨0, _⟩ => rfl | ⟨1, _⟩ => rfl | ⟨2, _⟩ => rfl)

theorem gathered (b : Fin 16) (j : Fin 512) (d : Fin 64) :
    val_main_call1_v12 (F := Ideal) bx ix (ix3 b j d) = bx (ix3 b (rowNo (word ix b j)) d) := by
  have hw := hix (ix2 b ⟨j.val, lt_trans j.isLt (by decide)⟩)
  change (word ix b j).toInt < 2048 at hw
  unfold val_main_call1_v12 Host.gather
  refine congrArg bx (funext fun a => Fin.ext ?_)
  have hs : ∀ c, gather_S16x2048x64_S16x512x1_S16x512x64_2_1_0_0_1_2_1164.siIdx (ix3 b j d) c = ix3 b j 0 := fun c =>
    funext fun a => match a with
      | ⟨0, _⟩ => rfl | ⟨1, _⟩ => rfl | ⟨2, _⟩ => Subsingleton.elim (α := Fin 1) _ _
  match a with
  | ⟨0, _⟩ => show 0 + b.val + 0 = b.val; omega
  | ⟨1, _⟩ =>
    show min (val_main_call1_v4 (F := Ideal) ix (gather_S16x2048x64_S16x512x1_S16x512x64_2_1_0_0_1_2_1164.siIdx (ix3 b j d) _)).toInt.toNat (2048 - 1) + 0 + 0 = (word ix b j).toInt.toNat % 2048
    rw [hs, start_eq, word_v4_nonneg]
    omega
  | ⟨2, _⟩ => show 0 + 0 + d.val = d.val; omega

/-- One term of the reference's sum of rows. -/
theorem term (b : Fin 16) (j : Fin 512) (d : Fin 64) :
    (val_main_v10 (F := Ideal) bx ix (ix3 b j d) : EReal) = bx (ix3 b (rowNo (word ix b j)) d) * ((one (word ix b j) : ℕ) : EReal) := by
  rw [val_main_v10_apply, val_main_v6_apply, val_main_call1_v13_apply, gathered bx ix hix, val_main_v9_apply, val_main_v8_apply, val_main_v7_apply]
  rw [show idx_main_call1_v13 (ix3 b j d) = ix2 b j from funext fun a => match a with | ⟨0, _⟩ => rfl | ⟨1, _⟩ => rfl, inBounds ix hix]
  rw [show idx_main_v7 (idx_main_v9 (ix3 b j d)) = ix2 b j from funext fun a => match a with | ⟨0, _⟩ => rfl | ⟨1, _⟩ => rfl, mask]
  show (bx (ix3 b (rowNo (word ix b j)) d) : EReal) * (((BitVec.ofBool (decide (0 ≤ (word ix b j).toInt))).toNat : ℝ) : EReal) = _
  unfold one
  congr 1
  by_cases h : 0 ≤ (word ix b j).toInt
  · rw [if_pos h, decide_eq_true h]; simp
  · rw [if_neg h, decide_eq_false h]; simp

omit hix

/-- How many of batch row `b`'s row numbers are not negative. -/
def count (b : Fin 16) : ℕ := ∑ j : Fin 512, one (word ix b j)

theorem fold_words (S : Finset (Fin 512)) (c : Fin 512 → ℕ) :
    S.fold IntOp.addi 0#32 (fun j => BitVec.ofNat 32 (c j)) = BitVec.ofNat 32 (∑ j ∈ S, c j) := by
  induction S using Finset.induction_on with
  | empty => rfl
  | insert a S ha ih =>
    rw [Finset.fold_insert ha, ih, Finset.sum_insert ha]
    exact (BitVec.ofNat_add _ _).symm

theorem count_word (b : Fin 16) : val_main_v12 (F := Ideal) ix (ix1 b) = BitVec.ofNat 32 (count ix b) := by
  unfold val_main_v12
  have h : S16x512.Reduces [1] S16 := by decide
  have hj : ∀ j : Fin 512, val_main_v11 (F := Ideal) ix (ix2 b j) = BitVec.ofNat 32 (one (word ix b j)) := fun j => by
    rw [val_main_v11_apply, mask]
    unfold one
    by_cases h : 0 ≤ (word ix b j).toInt
    · rw [if_pos h, decide_eq_true h]; rfl
    · rw [if_neg h, decide_eq_false h]; rfl
  refine (Host.reduce_eq_fold_single _ _ _ reducesTo_S16x512_S16_d1 h _ _).trans ?_
  refine Eq.trans (congrArg (Finset.fold IntOp.addi 0#32 · (Finset.univ : Finset (Fin 512))) (funext fun j => ?_)) (fold_words Finset.univ fun j => one (word ix b j))
  refine Eq.trans (congrArg (val_main_v11 (F := Ideal) ix) ?_) (hj j)
  exact funext fun a => match a with | ⟨0, _⟩ => rfl | ⟨1, _⟩ => rfl

theorem count_le (b : Fin 16) : count ix b ≤ 512 := by
  refine (Finset.sum_le_card_nsmul _ _ 1 fun j _ => ?_).trans (by simp)
  unfold one
  split <;> decide

/-- The reference's divisor. -/
theorem divisor (b : Fin 16) (d : Fin 64) : (val_main_v18 (F := Ideal) ix (ix2 b d) : EReal) = max ((count ix b : ℕ) : EReal) 1 := by
  rw [val_main_v18_apply, val_main_v17_apply, val_main_v15_apply, val_main_v14_apply,
    show idx_main_v17 (idx_main_v18 (ix2 b d)) = ix1 b from funext fun a => match a with | ⟨0, _⟩ => rfl, count_word, val_main_v13_apply, val_main_c_2_apply]
  show (((IntOp.maxsi (BitVec.ofNat 32 (count ix b)) 1#32).toInt : ℝ) : EReal) = _
  rw [word_max _ (count_le ix b)]
  generalize count ix b = n
  rw [Int.cast_natCast, EReal.coe_natCast]
  rcases Nat.eq_zero_or_pos n with h | h
  · rw [h, Nat.cast_zero, max_eq_right (zero_le_one (α := EReal)), Nat.max_eq_right (Nat.zero_le 1), Nat.cast_one]
  · rw [Nat.max_eq_left h, max_eq_left]
    rw [← Nat.cast_one]
    exact Nat.cast_le.mpr h

/-- Whether any row number is not negative, as a number. -/
theorem anyValid (b : Fin 16) (k : Fin 2048) : (val_main_v39 (F := Ideal) ix (ix2 b k) : EReal) = if 0 < count ix b then 1 else 0 := by
  rw [val_main_v39_apply, val_main_v38_apply, val_main_v37_apply, val_main_v36_apply,
    show idx_main_v38 (idx_main_v39 (ix2 b k)) = ix1 b from funext fun a => match a with | ⟨0, _⟩ => rfl, count_word, val_main_v35_apply, val_main_c_7_apply,
    word_pos _ (count_le ix _)]
  show (((BitVec.ofBool (decide (0 < count ix b))).toNat : ℝ) : EReal) = _
  by_cases h : 0 < count ix b
  · rw [if_pos h, decide_eq_true h]; simp
  · rw [if_neg h, decide_eq_false h]; simp

include hix in
/-- The reference's mean rows. -/
theorem mean_at (b : Fin 16) (d : Fin 64) : (val_main_v19 (F := Ideal) bx ix (ix2 b d) : EReal)
    = Ideal.div (∑ j : Fin 512, bx (ix3 b (rowNo (word ix b j)) d) * ((one (word ix b j) : ℕ) : EReal)) (max ((count ix b : ℕ) : EReal) 1) := by
  rw [val_main_v19_apply, Ideal.hostDivf_def, divisor, val_main_v16_apply, val_main_cst_apply, Ideal.ofBits_def, Ideal.ofBits_zero_f32, zero_add]
  refine congrArg (fun s : EReal => Ideal.div s _) (Finset.sum_congr rfl fun j _ => ?_)
  rw [show idx_main_v16 (ix2 b d) j = ix3 b j d from funext fun a => match a with | ⟨0, _⟩ => rfl | ⟨1, _⟩ => rfl | ⟨2, _⟩ => rfl, term bx ix hix]

end Cert.ReferenceIdeal.Read

end
-- ==== Proof.ScoreParts.lean ====
/-
  One score of the score kernel at the extended reals, as a function of the mean row and of the score block: the two
  lengths are square roots of sums of 64 squares, and the product of the two is a sum of 64 products.
-/
module

public import proofs.«01_k».proof.Proof.ScoreSums
public import proofs.«01_k».proof.Proof.ScoreRun
public import Idealize.ShloMosaic.Lib.ValueIdxCore
public import Idealize.ShloMosaic.Lib.MatmulPlain

@[expose] public section

set_option maxRecDepth 100000

noncomputable section

namespace Cert.KernelIdeal.Score

open Cert.KernelIdeal Cert.KernelIdeal.Gen
open Idealize.ShloMosaic Idealize.ShloMosaic.ValueIdx

/-- The least length a row is divided by. -/
def eps : EReal := Ideal.ofBits .f32 0x322BCC77#32

/-- A score from the product of two rows, the sums of their squares, and the factor at the end. -/
def scoreOf (xm xx mm f : EReal) : EReal :=
  Ideal.div (Ideal.div xm (max (Ideal.sqrt xx) eps * max (Ideal.sqrt mm) eps) + Ideal.ofBits .f32 0x3F800000#32)
    (Ideal.ofBits .f32 0x40000000#32) * f

/-- A slice of a two-axis array at an index. -/
theorem slice2 {A B C D o p : ℕ} (x : (⟨2, ![A, B]⟩ : Shape).Idx → EReal)
    (h : Shape.Slices (⟨2, ![A, B]⟩ : Shape) ![o, p] ⟨2, ![C, D]⟩) (r : Fin C) (c : Fin D) (r' : Fin A) (c' : Fin B)
    (hr : r'.val = o + r.val) (hc : c'.val = p + c.val) :
    extractStridedSlice ⟨2, ![C, D]⟩ ![o, p] x h (ix2 r c) = x (ix2 r' c') :=
  extractStridedSlice_apply _ _ _ _ _ fun a => match a with | ⟨0, _⟩ => hr | ⟨1, _⟩ => hc

theorem add_congr {a b c d : EReal} (h : a = c) (h' : b = d) : a + b = c + d := congrArg₂ (· + ·) h h'

/-! ## The mean row's length -/

/-- Entry `k` of a row of 64. -/
def rowAt (y : FVec Ideal S1x64 .f32) (k : ℕ) : EReal := y (ix2 0 ⟨k % 64, Nat.mod_lt _ (by decide)⟩)

/-- The eight lanes of a row of 64. -/
def lanesRow (y : FVec Ideal S1x64 .f32) : FVec Ideal S1x8 .f32 :=
  addf (addf (addf (addf (addf (addf (addf (extractStridedSlice S1x8 ![0, 0] y slices_S1x64_o0_0_S1x8)
    (extractStridedSlice S1x8 ![0, 8] y slices_S1x64_o0_8_S1x8)) (extractStridedSlice S1x8 ![0, 16] y slices_S1x64_o0_16_S1x8))
    (extractStridedSlice S1x8 ![0, 24] y slices_S1x64_o0_24_S1x8)) (extractStridedSlice S1x8 ![0, 32] y slices_S1x64_o0_32_S1x8))
    (extractStridedSlice S1x8 ![0, 40] y slices_S1x64_o0_40_S1x8)) (extractStridedSlice S1x8 ![0, 48] y slices_S1x64_o0_48_S1x8))
    (extractStridedSlice S1x8 ![0, 56] y slices_S1x64_o0_56_S1x8)

theorem lanesRow_at (y : FVec Ideal S1x64 .f32) (r : Fin 8) :
    (lanesRow y (ix2 0 r) : EReal) = rowAt y r.val + rowAt y (8 + r.val) + rowAt y (16 + r.val) + rowAt y (24 + r.val)
      + rowAt y (32 + r.val) + rowAt y (40 + r.val) + rowAt y (48 + r.val) + rowAt y (56 + r.val) := by
  have hr := r.isLt
  refine add_congr (add_congr (add_congr (add_congr (add_congr (add_congr (add_congr ?_ ?_) ?_) ?_) ?_) ?_) ?_) ?_ <;>
  · refine slice2 _ _ _ _ _ _ rfl ?_
    simp only
    omega

/-- Four and four, two and two, one and one of eight lanes. -/
def treeRow (z : FVec Ideal S1x8 .f32) : FVec Ideal S1x1 .f32 :=
  let a : FVec Ideal S1x4 .f32 := addf (extractStridedSlice S1x4 ![0, 0] z slices_S1x8_o0_0_S1x4) (extractStridedSlice S1x4 ![0, 4] z slices_S1x8_o0_4_S1x4)
  let b : FVec Ideal S1x2 .f32 := addf (extractStridedSlice S1x2 ![0, 0] a slices_S1x4_o0_0_S1x2) (extractStridedSlice S1x2 ![0, 2] a slices_S1x4_o0_2_S1x2)
  addf (extractStridedSlice S1x1 ![0, 0] b slices_S1x2_o0_0_S1x1) (extractStridedSlice S1x1 ![0, 1] b slices_S1x2_o0_1_S1x1)

theorem treeRow_at (z : FVec Ideal S1x8 .f32) :
    (treeRow z (ix2 0 0) : EReal) = ((z (ix2 0 0) + z (ix2 0 4)) + (z (ix2 0 2) + z (ix2 0 6))) + ((z (ix2 0 1) + z (ix2 0 5)) + (z (ix2 0 3) + z (ix2 0 7)) : EReal) := by
  have s4 : ∀ (c : Fin 4) (d e : Fin 8), d.val = 0 + c.val → e.val = 4 + c.val →
      (addf (extractStridedSlice S1x4 ![0, 0] z slices_S1x8_o0_0_S1x4) (extractStridedSlice S1x4 ![0, 4] z slices_S1x8_o0_4_S1x4) (ix2 0 c) : EReal)
        = z (ix2 0 d) + z (ix2 0 e) := fun c d e h h' => add_congr (slice2 z _ _ _ _ _ rfl h) (slice2 z _ _ _ _ _ rfl h')
  unfold treeRow
  refine add_congr ((slice2 _ _ _ _ 0 0 rfl rfl).trans ?_) ((slice2 _ _ _ _ 0 1 rfl rfl).trans ?_)
  · exact add_congr ((slice2 _ _ _ _ 0 0 rfl rfl).trans (s4 _ _ _ rfl rfl)) ((slice2 _ _ _ _ 0 2 rfl rfl).trans (s4 _ _ _ rfl rfl))
  · exact add_congr ((slice2 _ _ _ _ 0 1 rfl rfl).trans (s4 _ _ _ rfl rfl)) ((slice2 _ _ _ _ 0 3 rfl rfl).trans (s4 _ _ _ rfl rfl))

theorem normRow (y : FVec Ideal S1x64 .f32) : (treeRow (lanesRow y) (ix2 0 0) : EReal) = ∑ k : Fin 64, y (ix2 0 k) := by
  rw [treeRow_at]
  simp only [lanesRow_at]
  refine (fold64 (rowAt y)).trans (Finset.sum_congr rfl fun k _ => ?_)
  exact congrArg (fun c : Fin 64 => y (ix2 0 c)) (Fin.ext (Nat.mod_eq_of_lt k.isLt))

theorem pay769_at (s d : FVec Ideal S1x64 .f32) :
    (k0_pay769 s d (ix2 0 0) : EReal) = max (Ideal.sqrt (∑ k : Fin 64, (k0_pay767 s d (ix2 0 k) * k0_pay767 s d (ix2 0 k) : EReal))) eps :=
  (show (k0_pay769 s d (ix2 0 0) : EReal)
    = max (Ideal.sqrt (treeRow (lanesRow (mulf (k0_pay767 s d) (k0_pay767 s d))) (ix2 0 0))) eps from rfl).trans (by rw [normRow]; rfl)

/-! ## The score rows' lengths -/

/-- Entry `k` of column `n`. -/
def colAt (y : FVec Ideal S64x2048 .f32) (n : Fin 2048) (k : ℕ) : EReal := y (ix2 ⟨k % 64, Nat.mod_lt _ (by decide)⟩ n)

/-- The block with its leading axis dropped. -/
theorem pay770_at (x : Vec Ideal S1x64x2048 .f32) (k : Fin 64) (n : Fin 2048) : k0_pay770 x (ix2 k n) = x (ix3 0 k n) := by
  unfold k0_pay770
  refine shapeCast_apply _ _ _ (ix3 0 k n : S1x64x2048.Idx) ?_
  rw [Shape.rowMajor_val_two, Shape.rowMajor_val_three]
  show (0 * 64 + k.val) * 2048 + n.val = k.val * 2048 + n.val
  omega

theorem pay771_at (x : Vec Ideal S1x64x2048 .f32) (r : Fin 8) (n : Fin 2048) :
    (k0_pay771 x (ix2 r n) : EReal) = (fun g : ℕ → EReal => g r.val + g (8 + r.val) + g (16 + r.val) + g (24 + r.val)
      + g (32 + r.val) + g (40 + r.val) + g (48 + r.val) + g (56 + r.val)) (colAt (mulf (k0_pay770 x) (k0_pay770 x)) n) := by
  have hr := r.isLt
  unfold k0_pay771
  refine add_congr (add_congr (add_congr (add_congr (add_congr (add_congr (add_congr ?_ ?_) ?_) ?_) ?_) ?_) ?_) ?_ <;>
  · refine slice2 (mulf (k0_pay770 x) (k0_pay770 x)) _ _ _ _ _ ?_ (Nat.zero_add _).symm
    simp only
    omega

/-- Two and two, one and one of four rows. -/
def treeCol (a : FVec Ideal S4x2048 .f32) : FVec Ideal S1x2048 .f32 :=
  let b : FVec Ideal S2x2048 .f32 := addf (extractStridedSlice S2x2048 ![0, 0] a slices_S4x2048_o0_0_S2x2048) (extractStridedSlice S2x2048 ![2, 0] a slices_S4x2048_o2_0_S2x2048)
  addf (extractStridedSlice S1x2048 ![0, 0] b slices_S2x2048_o0_0_S1x2048) (extractStridedSlice S1x2048 ![1, 0] b slices_S2x2048_o1_0_S1x2048)

theorem treeCol_at (a : FVec Ideal S4x2048 .f32) (n : Fin 2048) :
    (treeCol a (ix2 0 n) : EReal) = (a (ix2 0 n) + a (ix2 2 n)) + (a (ix2 1 n) + a (ix2 3 n) : EReal) := by
  have z := (Nat.zero_add n.val).symm
  unfold treeCol
  exact add_congr ((slice2 _ _ _ _ 0 n rfl z).trans (add_congr (slice2 a _ _ _ _ _ rfl z) (slice2 a _ _ _ _ _ rfl z)))
    ((slice2 _ _ _ _ 1 n rfl z).trans (add_congr (slice2 a _ _ _ _ _ rfl z) (slice2 a _ _ _ _ _ rfl z)))

theorem normCol (x : Vec Ideal S1x64x2048 .f32) (n : Fin 2048) :
    (treeCol (addf (k0_pay772 x) (k0_pay773 x)) (ix2 0 n) : EReal) = ∑ k : Fin 64, (x (ix3 0 k n) * x (ix3 0 k n) : EReal) := by
  have z := (Nat.zero_add n.val).symm
  have h : ∀ (c : Fin 4) (d e : Fin 8), d.val = 0 + c.val → e.val = 4 + c.val →
      (addf (k0_pay772 x) (k0_pay773 x) (ix2 c n) : EReal) = k0_pay771 x (ix2 d n) + k0_pay771 x (ix2 e n) := fun c d e h h' =>
    add_congr (slice2 (k0_pay771 x) slices_S8x2048_o0_0_S4x2048 _ _ _ _ h z) (slice2 (k0_pay771 x) slices_S8x2048_o4_0_S4x2048 _ _ _ _ h' z)
  rw [treeCol_at, h 0 0 4 rfl rfl, h 1 1 5 rfl rfl, h 2 2 6 rfl rfl, h 3 3 7 rfl rfl]
  simp only [pay771_at]
  refine (fold64 (colAt (mulf (k0_pay770 x) (k0_pay770 x)) n)).trans (Finset.sum_congr rfl fun k _ => ?_)
  have e : (⟨k.val % 64, Nat.mod_lt _ (by decide)⟩ : Fin 64) = k := Fin.ext (Nat.mod_eq_of_lt k.isLt)
  show (k0_pay770 x (ix2 _ n) * k0_pay770 x (ix2 _ n) : EReal) = _
  rw [e, pay770_at]

/-! ## The product of the two rows -/

/-- The kernel's product of the mean row, padded to eight rows, with the block. -/
def dotRows (mean : FVec Ideal S1x64 .f32) (x : FVec Ideal S64x2048 .f32) : FVec Ideal S8x2048 .f32 :=
  matmul dot_S8x64_S64x2048_S8x2048_1_0_0_1_n_n none
    (truncf .bf16 (concatenate S8x64 0 [⟨S1x64, mean⟩, ⟨S7x64, broadcast S7x64 (Scalar.ofBits (F := Ideal) .f32 0x00000000#32)⟩] concatenates_S1x64_S7x64_S8x64_d0) bitsLt_bf16_f32)
    (truncf .bf16 x bitsLt_bf16_f32) (constant S8x2048 .f32 0x00000000#32)

theorem dotRows_at (mean : FVec Ideal S1x64 .f32) (x : FVec Ideal S64x2048 .f32) (n : Fin 2048) :
    (dotRows mean x (ix2 0 n) : EReal) = ∑ k : Fin 64, (mean (ix2 0 k) * x (ix2 k n) : EReal) := by
  refine (Ideal.matmul_plain_apply _ _ _ _ _ _).trans ?_
  refine (congrArg (· + _) Ideal.ofBits_zero_f32).trans ((zero_add _).trans (Finset.sum_congr rfl fun k _ => ?_))
  refine congrArg (· * (x (ix2 k n) : EReal)) ?_
  exact concatenate_pair_apply_left (t := S8x64) 0 mean (broadcast S7x64 (Scalar.ofBits (F := Ideal) .f32 0x00000000#32)) concatenates_S1x64_S7x64_S8x64_d0 (ix2 0 k) rfl (ix2 0 k : S1x64.Idx) fun b => match b with | ⟨0, _⟩ => rfl | ⟨1, _⟩ => rfl

/-! ## The score -/

/-- The kernel's factor: one if the count is positive, else zero. -/
def factor (cnt : Ideal .f32) : EReal := Scalar.sitofp (F := Ideal) .f32 (Scalar.extui (Scalar.cmpf .ogt cnt (Scalar.ofBits .f32 0x00000000#32)) : BitVec 32)

theorem factor_eq (n : ℕ) (cnt : Ideal .f32) (h : (cnt : EReal) = ((n : ℕ) : EReal)) : factor cnt = if 0 < n then 1 else 0 := by
  have e : (Scalar.cmpf .ogt cnt (Scalar.ofBits .f32 0x00000000#32) : BitVec 1) = BitVec.ofBool (decide (0 < n)) := by
    show BitVec.ofBool (decide (Ideal.ofBits .f32 0x00000000#32 < (cnt : EReal))) = _
    rw [Ideal.ofBits_zero_f32, h]
    have hp : (0 : EReal) < (n : EReal) ↔ 0 < n := by
      rw [show (0 : EReal) = ((0 : ℕ) : EReal) from Nat.cast_zero.symm]
      exact EReal.natCast_lt_iff
    exact congrArg BitVec.ofBool (decide_eq_decide.mpr hp)
  unfold factor
  rw [e]
  show (((BitVec.setWidth 32 (BitVec.ofBool (decide (0 < n)))).toInt : ℝ) : EReal) = _
  by_cases hn : 0 < n
  · rw [if_pos hn, decide_eq_true hn, show (BitVec.setWidth 32 (BitVec.ofBool true)).toInt = 1 from rfl]; simp
  · rw [if_neg hn, decide_eq_false hn, show (BitVec.setWidth 32 (BitVec.ofBool false)).toInt = 0 from rfl]; simp

theorem scoreVal_at (cnt : Ideal .f32) (sum : FVec Ideal S1x64 .f32) (x : Vec Ideal S1x64x2048 .f32) (n : Fin 2048) :
    (scoreVal cnt sum x (ix3 0 0 n) : EReal)
      = scoreOf (∑ k : Fin 64, (k0_pay767 sum (denOf cnt) (ix2 0 k) * x (ix3 0 k n) : EReal)) (∑ k : Fin 64, (x (ix3 0 k n) * x (ix3 0 k n) : EReal))
        (∑ k : Fin 64, (k0_pay767 sum (denOf cnt) (ix2 0 k) * k0_pay767 sum (denOf cnt) (ix2 0 k) : EReal)) (factor cnt) := by
  have z := (Nat.zero_add n.val).symm
  unfold scoreVal k0_pay1
  refine (shapeCast_apply _ _ _ (ix2 0 n : S1x2048.Idx) ?_).trans ?_
  · rw [Shape.rowMajor_val_two, Shape.rowMajor_val_three]
    rfl
  have hd := (slice2 (dotRows (k0_pay767 sum (denOf cnt)) (k0_pay770 x)) slices_S8x2048_o0_0_S1x2048 (0 : Fin 1) n 0 n rfl z).trans (dotRows_at _ _ n)
  simp only [pay770_at] at hd
  have hb : broadcastTo S1x2048 (k0_pay769 sum (denOf cnt)) broadcasts_S1x1_S1x2048 (ix2 0 n) = k0_pay769 sum (denOf cnt) (ix2 0 0) :=
    broadcastTo_apply _ _ _ (ix2 0 0 : S1x1.Idx) fun a => match a with | ⟨0, _⟩ => rfl | ⟨1, _⟩ => rfl
  unfold scoreOf
  rw [← hd, ← normCol, ← pay769_at, ← hb]
  rfl

end Cert.KernelIdeal.Score
-- ==== Proof.ScoreValue.lean ====
/-
  The score kernel at the extended reals: its mean rows and its scores are the reference's.
-/
module

public import proofs.«01_k».proof.Proof.Arrays
public import proofs.«01_k».proof.Proof.ScoreRef
public import proofs.«01_k».proof.Proof.ScoreParts

@[expose] public section

set_option maxRecDepth 100000

noncomputable section

namespace Cert.KernelIdeal.Run

open Cert.KernelIdeal Cert.KernelIdeal.Gen
open Cert.KernelIdeal.Score
open Cert.ReferenceIdeal.Read (word rowNo)
open Idealize.ShloMosaic Idealize.ShloMosaic.ValueIdx

variable (bx sx : Vec Ideal S16x2048x64 .f32) (ix : Vec Ideal S16x1024 .i32)

attribute [local irreducible] fill countOf rowsSum

/-! ## What the row reads collect -/

theorem wordN_at (b : Fin 16) (j : Fin 512) : wordN (F := Ideal) (idsB ix b) j.val = word ix b j := by
  have hj := j.isLt
  refine congrArg ix (funext fun a => match a with | ⟨0, _⟩ => rfl | ⟨1, _⟩ => Fin.ext ?_)
  show j.val % 512 = j.val
  omega

theorem wordsGot_at (b : Fin 16) (j : Fin 512) : wordsGot (F := Ideal) (idsB ix b) j.val = word ix b j := by
  have hj := j.isLt
  unfold wordsGot
  rw [fill_apply, if_pos ⟨Nat.zero_le _, by omega⟩, wordN_at]

/-- The transposed block at a row and a column. -/
theorem pay2_at (x : Vec Ideal S1x64x2048 .f32) (n : Fin 2048) (d : Fin 64) : k0_pay2 x (ix2 n d) = x (ix3 0 d n) := by
  unfold k0_pay2
  refine (shapeCast_apply _ _ _ (ix2 n d : S2048x64.Idx) rfl).trans ((transpose_apply _ _ _ _ (ix2 d n : S64x2048.Idx) ?_).trans
    (shapeCast_apply _ _ _ (ix3 0 d n : S1x64x2048.Idx) ?_))
  · exact fun a => match a with | ⟨0, _⟩ => rfl | ⟨1, _⟩ => rfl
  · rw [Shape.rowMajor_val_two, Shape.rowMajor_val_three]
    show (0 * 64 + d.val) * 2048 + n.val = d.val * 2048 + n.val
    omega

/-- The row number the kernel computes from a word. -/
theorem off1_eq (w : BitVec 32) (hw : w.toInt < 2048) : k0_off1 w 0 % 2048 = w.toInt.toNat % 2048 := by
  show (if (0#32).slt w then w else 0#32).toNat % 2048 = _
  by_cases hp : (0#32).slt w = true
  · rw [if_pos hp]
    have hp' : 0 < BitVec.toInt w := by simpa using BitVec.slt_iff_toInt_lt.mp hp
    have := BitVec.toInt_eq_toNat_cond w
    split at this <;> omega
  · rw [if_neg hp]
    have hp' : ¬ 0 < BitVec.toInt w := fun h => hp (by rw [BitVec.slt_iff_toInt_lt]; exact h)
    show 0 % 2048 = _
    omega

theorem rowN_at (y : Vec Ideal S2048x64 .f32) (w : BitVec 32) (hw : w.toInt < 2048) (d : Fin 64) :
    rowN y w (ix2 0 d) = y (ix2 (rowNo w) d) := by
  refine congrArg y (funext fun a => match a with | ⟨0, _⟩ => Fin.ext ?_ | ⟨1, _⟩ => rfl)
  exact off1_eq w hw

theorem rowsGot_at (hix : ∀ i, (ix i).toInt < 2048) (b : Fin 16) (j : Fin 512) (d : Fin 64) :
    rowsGot (F := Ideal) (idsB ix b) (rowB bx b) j.val (ix2 0 d) = bx (ix3 b (rowNo (word ix b j)) d) := by
  have hj := j.isLt
  unfold rowsGot
  rw [fill_apply, if_pos ⟨Nat.zero_le _, by omega⟩, wordN_at]
  refine (rowN_at _ (word ix b j) (hix _) d).trans ((pay2_at _ _ _).trans rfl)

theorem number_eq (b : Fin 16) : number (wordsGot (F := Ideal) (idsB ix b)) 512 = Cert.ReferenceIdeal.Read.count ix b := by
  unfold number Cert.ReferenceIdeal.Read.count
  rw [← Fin.sum_univ_eq_sum_range (fun j => one (wordsGot (F := Ideal) (idsB ix b) j)) 512]
  exact Finset.sum_congr rfl fun j _ => by rw [wordsGot_at]

theorem cntOf_eq (b : Fin 16) : (cntOf (F := Ideal) (idsB ix b) : EReal) = ((Cert.ReferenceIdeal.Read.count ix b : ℕ) : EReal) := by
  unfold cntOf
  rw [countOf_eq, number_eq]

theorem sumOf_at (hix : ∀ i, (ix i).toInt < 2048) (b : Fin 16) (d : Fin 64) :
    (sumOf (F := Ideal) (idsB ix b) (rowB bx b) (ix2 0 d) : EReal)
      = ∑ j : Fin 512, bx (ix3 b (rowNo (word ix b j)) d) * ((one (word ix b j) : ℕ) : EReal) := by
  unfold sumOf
  rw [rowsSum_at]
  refine Finset.sum_congr rfl fun j _ => ?_
  refine congrArg₂ (fun x y : EReal => x * y) (rowsGot_at bx ix hix b j d) ((valid_eq _).trans ?_)
  rw [wordsGot_at]

/-- The mean row of batch row `b`. -/
def meanB (b : Fin 16) : FVec Ideal S1x64 .f32 := k0_pay767 (sumOf (idsB ix b) (rowB bx b)) (denOf (cntOf (idsB ix b)))

theorem meanB_at (hix : ∀ i, (ix i).toInt < 2048) (b : Fin 16) (d : Fin 64) :
    (meanB bx ix b (ix2 0 d) : EReal) = Cert.ReferenceIdeal.Read.val_main_v19 (F := Ideal) bx ix (ix2 b d) := by
  rw [Cert.ReferenceIdeal.Read.mean_at bx ix hix]
  show Ideal.div (sumOf (F := Ideal) (idsB ix b) (rowB bx b) (ix2 0 d)) (max (cntOf (F := Ideal) (idsB ix b)) (Ideal.ofBits .f32 0x3F800000#32)) = _
  rw [sumOf_at bx ix hix, cntOf_eq, ofBits_one]

theorem at_two {A B : ℕ} (i : (⟨2, ![A, B]⟩ : Shape).Idx) : ∃ (b : Fin A) (d : Fin B), i = ix2 b d :=
  ⟨i 0, i 1, funext fun a => match a with | ⟨0, _⟩ => rfl | ⟨1, _⟩ => rfl⟩

/-- The mean rows are the reference's. -/
theorem means_eq (hix : ∀ i, (ix i).toInt < 2048) : means bx ix = Cert.ReferenceIdeal.Read.val_main_v19 (F := Ideal) bx ix := by
  funext i
  obtain ⟨b, d, rfl⟩ := at_two i
  refine Eq.trans ?_ (meanB_at bx ix hix b d)
  have h : meanArr bx ix (ix3 b 0 d : S16x1x64.Idx) = meanB bx ix b (ix2 0 d) := by
    show k0_pay768 (sumOf (idsB ix b) (rowB bx b)) (denOf (cntOf (idsB ix b))) (ix3 0 0 d) = _
    unfold k0_pay768
    refine shapeCast_apply _ _ _ (ix2 0 d : S1x64.Idx) ?_
    rw [Shape.rowMajor_val_two, Shape.rowMajor_val_three]
    show 0 * 64 + d.val = (0 * 1 + 0) * 64 + d.val
    omega
  refine (shapeCast_apply _ _ _ (ix3 b 0 d : S16x1x64.Idx) ?_).trans h
  rw [Shape.rowMajor_val_two, Shape.rowMajor_val_three]
  show (b.val * 1 + 0) * 64 + d.val = b.val * 64 + d.val
  omega

/-! ## The scores -/

/-- The length of the reference's row `n`. -/
theorem ref_norm (b : Fin 16) (n : Fin 2048) : (Cert.ReferenceIdeal.Read.val_main_v22 (F := Ideal) sx (ix2 b n) : EReal)
    = max (Ideal.sqrt (∑ k : Fin 64, (sx (ix3 b n k) * sx (ix3 b n k) : EReal))) eps := by
  rw [Cert.ReferenceIdeal.Read.val_main_v22_apply, Cert.ReferenceIdeal.Read.val_main_v20_apply, Cert.ReferenceIdeal.Read.val_main_call2_v1_apply,
    Cert.ReferenceIdeal.Read.val_main_call2_cst_apply, Cert.ReferenceIdeal.Read.val_main_v21_apply, Cert.ReferenceIdeal.Read.val_main_cst_3_apply]
  refine congrArg₂ (fun x y : EReal => max (Ideal.sqrt x) y) ?_ rfl
  refine (congrArg (· + _) Ideal.ofBits_zero_f32).trans ((zero_add _).trans (Finset.sum_congr rfl fun k _ => ?_))
  have e : Cert.ReferenceIdeal.Read.idx_main_call2_v1 (ix2 b n) k = ix3 b n k := funext fun a => match a with | ⟨0, _⟩ => rfl | ⟨1, _⟩ => rfl | ⟨2, _⟩ => rfl
  rw [e, Cert.ReferenceIdeal.Read.val_main_call2_v0_apply]
  rfl

/-- The length of the reference's mean row. -/
theorem ref_mean_norm (b : Fin 16) (n : Fin 2048) : (Cert.ReferenceIdeal.Read.val_main_v28 (F := Ideal) bx ix (ix2 b n) : EReal)
    = max (Ideal.sqrt (∑ k : Fin 64, (Cert.ReferenceIdeal.Read.val_main_v19 (F := Ideal) bx ix (ix2 b k) * Cert.ReferenceIdeal.Read.val_main_v19 (F := Ideal) bx ix (ix2 b k) : EReal))) eps := by
  rw [Cert.ReferenceIdeal.Read.val_main_v28_apply, Cert.ReferenceIdeal.Read.val_main_v27_apply, Cert.ReferenceIdeal.Read.val_main_v25_apply,
    Cert.ReferenceIdeal.Read.val_main_v23_apply, Cert.ReferenceIdeal.Read.val_main_call3_v1_apply, Cert.ReferenceIdeal.Read.val_main_call3_cst_apply,
    Cert.ReferenceIdeal.Read.val_main_v24_apply, Cert.ReferenceIdeal.Read.val_main_cst_4_apply]
  refine congrArg₂ (fun x y : EReal => max (Ideal.sqrt x) y) ?_ rfl
  refine (congrArg (· + _) Ideal.ofBits_zero_f32).trans ((zero_add _).trans (Finset.sum_congr rfl fun k _ => ?_))
  have e : Cert.ReferenceIdeal.Read.idx_main_call3_v1 (Cert.ReferenceIdeal.Read.idx_main_v27 (Cert.ReferenceIdeal.Read.idx_main_v28 (ix2 b n))) k = ix2 b k :=
    funext fun a => match a with | ⟨0, _⟩ => rfl | ⟨1, _⟩ => rfl
  rw [e, Cert.ReferenceIdeal.Read.val_main_call3_v0_apply]
  rfl

/-- The reference's product of row `n` with the mean row. -/
theorem ref_dot (b : Fin 16) (n : Fin 2048) : (Cert.ReferenceIdeal.Read.val_main_v26 (F := Ideal) bx sx ix (ix2 b n) : EReal)
    = ∑ k : Fin 64, (Cert.ReferenceIdeal.Read.val_main_v19 (F := Ideal) bx ix (ix2 b k) * sx (ix3 b n k) : EReal) := by
  rw [Cert.ReferenceIdeal.Read.val_main_v26_apply]
  refine Finset.sum_congr rfl fun k _ => ?_
  have e : Cert.ReferenceIdeal.Read.lidx_main_v26 (ix2 b n) k = ix3 b n k := funext fun a => match a with | ⟨0, _⟩ => rfl | ⟨1, _⟩ => rfl | ⟨2, _⟩ => rfl
  have e' : Cert.ReferenceIdeal.Read.ridx_main_v26 (ix2 b n) k = ix2 b k := funext fun a => match a with | ⟨0, _⟩ => rfl | ⟨1, _⟩ => rfl
  rw [e, e']
  exact mul_comm (G := EReal) _ _

/-- The reference's score. -/
theorem ref_score (b : Fin 16) (n : Fin 2048) : (Cert.ReferenceIdeal.Read.val_main_v40 (F := Ideal) bx sx ix (ix2 b n) : EReal)
    = scoreOf (∑ k : Fin 64, (Cert.ReferenceIdeal.Read.val_main_v19 (F := Ideal) bx ix (ix2 b k) * sx (ix3 b n k) : EReal))
      (∑ k : Fin 64, (sx (ix3 b n k) * sx (ix3 b n k) : EReal))
      (∑ k : Fin 64, (Cert.ReferenceIdeal.Read.val_main_v19 (F := Ideal) bx ix (ix2 b k) * Cert.ReferenceIdeal.Read.val_main_v19 (F := Ideal) bx ix (ix2 b k) : EReal))
      (if 0 < Cert.ReferenceIdeal.Read.count ix b then 1 else 0) := by
  unfold scoreOf
  rw [← ref_dot, ← ref_norm, ← ref_mean_norm bx ix b n, ← Cert.ReferenceIdeal.Read.anyValid ix b n]
  rw [Cert.ReferenceIdeal.Read.val_main_v40_apply, Cert.ReferenceIdeal.Read.val_main_v34_apply, Cert.ReferenceIdeal.Read.val_main_v32_apply,
    Cert.ReferenceIdeal.Read.val_main_v30_apply, Cert.ReferenceIdeal.Read.val_main_v29_apply, Cert.ReferenceIdeal.Read.val_main_v31_apply,
    Cert.ReferenceIdeal.Read.val_main_cst_5_apply, Cert.ReferenceIdeal.Read.val_main_v33_apply, Cert.ReferenceIdeal.Read.val_main_cst_6_apply]
  rfl

/-- The scores are the reference's. -/
theorem scores_eq (hix : ∀ i, (ix i).toInt < 2048) : scores bx sx ix = Cert.ReferenceIdeal.Read.val_main_v40 (F := Ideal) bx sx ix := by
  funext i
  obtain ⟨b, n, rfl⟩ := at_two i
  refine Eq.trans ?_ (ref_score bx sx ix b n).symm
  refine (shapeCast_apply _ _ _ (ix3 b 0 n : S16x1x2048.Idx) ?_).trans ?_
  · rw [Shape.rowMajor_val_two, Shape.rowMajor_val_three]
    show (b.val * 1 + 0) * 2048 + n.val = b.val * 2048 + n.val
    omega
  have hm := meanB_at bx ix hix b
  unfold meanB at hm
  refine (scoreVal_at (cntOf (idsB ix b)) (sumOf (idsB ix b) (rowB bx b)) (rowB sx b) n).trans ?_
  rw [factor_eq _ _ (cntOf_eq ix b)]
  simp only [hm]
  rfl

end Cert.KernelIdeal.Run

end
-- ==== Proof.ScoreFinite.lean ====
/-
  The reference's scores are real numbers, whatever the arrays hold: if a row has an infinite entry then its length is
  infinite and the quotient is zero, and otherwise every divisor is a real number above zero.
-/
module

public import proofs.«01_k».proof.Proof.ScoreValue

@[expose] public section

set_option maxRecDepth 100000

noncomputable section

namespace Cert.KernelIdeal.Run

open Cert.KernelIdeal Cert.KernelIdeal.Gen
open Cert.KernelIdeal.Score
open Idealize.ShloMosaic Idealize.ShloMosaic.ValueIdx

/-- A real number among the extended reals. -/
def Finite (x : EReal) : Prop := ∃ r : ℝ, x = (r : EReal)
/-- A real number above zero. -/
def Positive (x : EReal) : Prop := ∃ r : ℝ, 0 < r ∧ x = (r : EReal)

theorem Finite.add {x y : EReal} : Finite x → Finite y → Finite (x + y) := fun ⟨a, ha⟩ ⟨b, hb⟩ => ⟨a + b, by rw [ha, hb, EReal.coe_add]⟩
theorem Finite.mul {x y : EReal} : Finite x → Finite y → Finite (x * y) := fun ⟨a, ha⟩ ⟨b, hb⟩ => ⟨a * b, by rw [ha, hb, EReal.coe_mul]⟩
theorem Finite.div {x y : EReal} : Finite x → Positive y → Finite (Ideal.div x y) := fun ⟨a, ha⟩ ⟨b, hb, h⟩ =>
  ⟨a * (1 / b), by rw [ha, h, Ideal.div_coe (ne_of_gt hb), EReal.coe_mul]⟩
theorem Finite.sum {n : ℕ} (f : Fin n → EReal) (h : ∀ k, Finite (f k)) : Finite (∑ k, f k) := by
  choose g hg using h
  exact ⟨∑ k, g k, by
    rw [Finset.sum_congr rfl fun k _ => hg k]
    exact (map_sum (⟨⟨fun r : ℝ => (r : EReal), EReal.coe_zero⟩, EReal.coe_add⟩ : ℝ →+ EReal) g Finset.univ).symm⟩
theorem Positive.mul {x y : EReal} : Positive x → Positive y → Positive (x * y) := fun ⟨a, ha, h⟩ ⟨b, hb, h'⟩ =>
  ⟨a * b, mul_pos ha hb, by rw [h, h', EReal.coe_mul]⟩

/-- The larger of anything below infinity and a positive number is a positive number. -/
theorem Positive.larger {x y : EReal} (hx : x ≠ ⊤) (hy : Positive y) : Positive (max x y) := by
  obtain ⟨b, hb, rfl⟩ := hy
  induction x with
  | bot => exact ⟨b, hb, max_eq_right bot_le⟩
  | top => exact absurd rfl hx
  | coe a => exact ⟨max a b, lt_max_of_lt_right hb, (EReal.coe_strictMono.monotone.map_max).symm⟩

theorem sqrt_ne_top {x : EReal} : Finite x → Ideal.sqrt x ≠ ⊤ := by
  rintro ⟨r, rfl⟩
  show (if r < 0 then (⊥ : EReal) else (Real.sqrt r : EReal)) ≠ ⊤
  split
  · exact bot_ne_top
  · exact EReal.coe_ne_top _

theorem eps_pos : Positive eps := by
  unfold eps
  simp [Ideal.ofBits, Ideal.ieee, -EReal.coe_mul]
  exact ⟨_, by positivity, rfl⟩

theorem two_pos' : Positive (Ideal.ofBits .f32 0x40000000#32) := by
  simp [Ideal.ofBits, Ideal.ieee, -EReal.coe_mul]
  exact ⟨_, by positivity, rfl⟩

theorem one_finite : Finite (Ideal.ofBits .f32 0x3F800000#32) := ⟨1, by rw [ofBits_one, EReal.coe_one]⟩

theorem square_nonneg (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

/-- Either every entry of a row is a real number, or the sum of its squares is infinite. -/
theorem finite_or_top {n : ℕ} (x : Fin n → EReal) : (∀ k, Finite (x k)) ∨ ∑ k, x k * x k = ⊤ := by
  by_cases h : ∀ k, Finite (x k)
  · exact .inl h
  obtain ⟨k, hk⟩ := not_forall.mp h
  have hs : x k * x k = ⊤ := by
    generalize x k = y at hk
    induction y with
    | bot => exact EReal.bot_mul_bot
    | top => exact EReal.top_mul_top
    | coe a => exact absurd ⟨a, rfl⟩ hk
  exact .inr (top_le_iff.mp (hs ▸ Finset.single_le_sum (f := fun k => x k * x k) (fun k _ => square_nonneg (x k)) (Finset.mem_univ k)))

theorem length_pos (x : EReal) : 0 < max (Ideal.sqrt x) eps := by
  obtain ⟨r, hr, h⟩ := eps_pos
  exact lt_max_of_lt_right (by rw [h]; exact EReal.coe_pos.mpr hr)

theorem length_top : max (Ideal.sqrt ⊤) eps = ⊤ := max_eq_left le_top

theorem div_top (x : EReal) : Finite (Ideal.div x ⊤) :=
  ⟨0, by rw [Ideal.div, if_neg EReal.top_ne_zero, EReal.inv_top, mul_zero, EReal.coe_zero]⟩

/-- The quotient of two rows' product by their lengths is a real number. -/
theorem quotient_finite {n : ℕ} (m x : Fin n → EReal) :
    Finite (Ideal.div (∑ k, m k * x k) (max (Ideal.sqrt (∑ k, x k * x k)) eps * max (Ideal.sqrt (∑ k, m k * m k)) eps)) := by
  rcases finite_or_top x with hx | hx
  · rcases finite_or_top m with hm | hm
    · have pos : ∀ y : Fin n → EReal, (∀ k, Finite (y k)) → Positive (max (Ideal.sqrt (∑ k, y k * y k)) eps) := fun y hy =>
        Positive.larger (sqrt_ne_top (Finite.sum _ fun k => (hy k).mul (hy k))) eps_pos
      exact (Finite.sum _ fun k => (hm k).mul (hx k)).div ((pos x hx).mul (pos m hm))
    · rw [hm, length_top, EReal.mul_top_of_pos (length_pos _)]
      exact div_top _
  · rw [hx, length_top, EReal.top_mul_of_pos (length_pos _)]
    exact div_top _

variable (bx sx : Vec Ideal S16x2048x64 .f32) (ix : Vec Ideal S16x1024 .i32)

/-- The reference's scores are real numbers. -/
theorem score_finite (b : Fin 16) (n : Fin 2048) : Finite (Cert.ReferenceIdeal.Read.val_main_v40 (F := Ideal) bx sx ix (ix2 b n)) := by
  rw [ref_score]
  refine (((quotient_finite (fun k : Fin 64 => Cert.ReferenceIdeal.Read.val_main_v19 (F := Ideal) bx ix (ix2 b k)) fun k => sx (ix3 b n k)).add
    one_finite).div two_pos').mul ?_
  split
  · exact ⟨1, EReal.coe_one.symm⟩
  · exact ⟨0, EReal.coe_zero.symm⟩

end Cert.KernelIdeal.Run
-- ==== Proof.TopkBits.lean ====
/-
  Facts about the bits of a position among 2048, split as the selection kernel splits it: a row below 256 and a group
  below eight, the group sharing the lane number with the batch row.
-/
module

public import Idealize.ShloMosaic.PureOps.ShapeOps
public import Mathlib.Data.Nat.Bitwise

@[expose] public section

namespace Cert.KernelIdeal.Topk

open Idealize.ShloMosaic

theorem low_bits : ∀ s < 8, ∀ j < 2048, (j % 256 &&& 2 ^ s = 0 ↔ j &&& 2 ^ s = 0) ∧ (j ^^^ 2 ^ s) % 256 = j % 256 ^^^ 2 ^ s ∧ (j ^^^ 2 ^ s) / 256 = j / 256 := by
  intro s hs j _
  have hlt : 2 ^ s < 2 ^ 8 := Nat.pow_lt_pow_right (by decide) hs
  refine ⟨?_, ?_, ?_⟩
  · rw [Nat.and_two_pow, Nat.and_two_pow, show 256 = 2 ^ 8 from rfl, Nat.testBit_mod_two_pow, decide_eq_true hs, Bool.true_and]
  · rw [show 256 = 2 ^ 8 from rfl, Nat.xor_mod_two_pow, Nat.mod_eq_of_lt hlt]
  · rw [show 256 = 2 ^ 8 from rfl, Nat.xor_div_two_pow, Nat.div_eq_of_lt hlt, Nat.xor_zero]

theorem high_bits : ∀ s < 3, ∀ j < 2048, (j ^^^ 2 ^ (s + 8)) % 256 = j % 256 ∧ (j ^^^ 2 ^ (s + 8)) / 256 = j / 256 ^^^ 2 ^ s := by
  intro s _ j _
  refine ⟨?_, ?_⟩
  · rw [show 256 = 2 ^ 8 from rfl, Nat.xor_mod_two_pow, Nat.pow_add, Nat.mul_mod_left, Nat.xor_zero]
  · rw [show 256 = 2 ^ 8 from rfl, Nat.xor_div_two_pow, Nat.pow_add, Nat.mul_div_cancel _ (Nat.two_pow_pos 8)]

theorem group_bits : ∀ s < 4, ∀ j < 2048, (j / 256 &&& 2 ^ s = 0 ↔ j &&& 2 ^ (s + 8) = 0) := by
  intro s _ j _
  rw [Nat.and_two_pow, Nat.and_two_pow, show 256 = 2 ^ 8 from rfl, Nat.testBit_div_two_pow]
  have h1 := Nat.two_pow_pos s
  have h2 := Nat.two_pow_pos (s + 8)
  simp only [Nat.mul_eq_zero]
  constructor <;> rintro (h | h) <;> first | exact Or.inl h | omega

theorem lane_bits : ∀ s < 3, ∀ c < 8, ∀ b < 16, (c * 16 + b) ^^^ 2 ^ (s + 4) = (c ^^^ 2 ^ s) * 16 + b := by
  decide +kernel
theorem grp_word : ∀ L < 128, IntOp.shrsi .vector (BitVec.ofNat 32 L) 4#32 = BitVec.ofNat 32 (L / 16) := by
  decide +kernel
theorem place_word : ∀ c < 8, ∀ r < 256, IntOp.addi (IntOp.muli (BitVec.ofNat 32 c) 256#32) (BitVec.ofNat 32 r) = BitVec.ofNat 32 (c * 256 + r) := by
  decide +kernel

theorem block_bits : ∀ s < 8, ∀ r < 256, 2 ^ s * (r / 2 ^ s ^^^ 1) + r % 2 ^ s = r ^^^ 2 ^ s := by decide +kernel

end Cert.KernelIdeal.Topk
-- ==== Proof.TopkValue.lean ====
/-
  The selection kernel at the extended reals: read along the 2048 positions of one batch row, its sixty-six passes are the
  stages of Batcher's bitonic sort of the pairs "score, then lower position", so its first sixteen lanes hold what a stable
  sort by descending score puts first: the reference's top-k.
-/
module

public import proofs.«01_k».proof.Proof.TopkProg
public import proofs.«01_k».proof.Proof.TopkBits
public import Idealize.ShloMosaic.Lib.SortNet.Printed
public import Idealize.ShloMosaic.Lib.SortNet.Sorts
public import Idealize.ShloMosaic.Lib.PlanTiles.StableSort
public import Idealize.ShloMosaic.Lib.Pipeline.Value
public import Idealize.ShloMosaic.Lib.ValueIdxCore
public import Idealize.ShloMosaic.Lib.SortNet.Positions

@[expose] public section

set_option maxRecDepth 100000

noncomputable section

namespace Cert.KernelIdeal.Topk

open Cert.KernelIdeal Cert.KernelIdeal.Gen
open Idealize.ShloMosaic hiding ix2 ix3
open Idealize.ShloMosaic.ValueIdx
open Idealize.ShloMosaic.SortNet (Column)

/-! ## Positions of one batch row in the square -/

/-- The row of position `j`, and its lane for batch row `b`. -/
def rowNo (j : Fin (2 ^ 11)) : Fin 256 := ⟨j.val % 256, Nat.mod_lt _ (by decide)⟩
def laneNo (b : Fin 16) (j : Fin (2 ^ 11)) : Fin 128 := ⟨j.val / 256 * 16 + b.val, by have := j.isLt; have := b.isLt; omega⟩

/-- Where position `j` of batch row `b` sits in the square. -/
def at_ (b : Fin 16) (j : Fin (2 ^ 11)) : S256x128.Idx := ix2 (rowNo j) (laneNo b j)

/-- The rows of one lane. -/
def rowCol (L : Fin 128) : Column S256x128 0 8 where
  col i := ix2 (i : Fin 256) L
  size_eq := rfl
  coord _ := rfl
  other i i' b hb := by fin_cases b <;> [exact absurd rfl hb; rfl]

/-- The lanes of one row. -/
def laneCol (r : Fin 256) : Column S256x128 1 7 where
  col i := ix2 r (i : Fin 128)
  size_eq := rfl
  coord _ := rfl
  other i i' b hb := by fin_cases b <;> [rfl; exact absurd rfl hb]

theorem at_partner_low {s : ℕ} (hs : s < 8) (b : Fin 16) (j : Fin (2 ^ 11)) :
    at_ b (SortNet.partner 11 s j) = ix2 (SortNet.partner 8 s (rowNo j) : Fin 256) (laneNo b j) := by
  obtain ⟨-, h1, h2⟩ := low_bits s hs j.val j.isLt
  funext a
  fin_cases a <;> apply Fin.ext
  · show (SortNet.partner 11 s j).val % 256 = (SortNet.partner 8 s _).val
    rw [SortNet.partner_val (by omega), SortNet.partner_val hs]; exact h1
  · show (SortNet.partner 11 s j).val / 256 * 16 + b.val = j.val / 256 * 16 + b.val
    rw [SortNet.partner_val (by omega), h2]

theorem at_partner_high {s : ℕ} (hs : s < 3) (b : Fin 16) (j : Fin (2 ^ 11)) :
    at_ b (SortNet.partner 11 (s + 8) j) = ix2 (rowNo j) (SortNet.partner 7 (s + 4) (laneNo b j) : Fin 128) := by
  obtain ⟨h1, h2⟩ := high_bits s hs j.val j.isLt
  funext a
  fin_cases a <;> apply Fin.ext
  · show (SortNet.partner 11 (s + 8) j).val % 256 = j.val % 256
    rw [SortNet.partner_val (by omega)]; exact h1
  · show (SortNet.partner 11 (s + 8) j).val / 256 * 16 + b.val = (SortNet.partner 7 (s + 4) (laneNo b j)).val
    rw [SortNet.partner_val (by omega), SortNet.partner_val (by omega), h2]
    exact (lane_bits s hs (j.val / 256) (by have := j.isLt; omega) b.val b.isLt).symm

theorem row_at (L : Fin 128) (i : Fin 256) : row (ix2 i L) = BitVec.ofNat 32 i.val := (rowCol L).iota_apply .tc _ i
theorem lane_at (r : Fin 256) (i : Fin 128) : lane (ix2 r i) = BitVec.ofNat 32 i.val := (laneCol r).iota_apply .tc _ i
theorem grp_at (r : Fin 256) (i : Fin 128) : grp (ix2 r i) = BitVec.ofNat 32 (i.val / 16) := by
  show IntOp.shrsi .vector (lane (ix2 r i)) 4#32 = _
  rw [lane_at]; exact grp_word i.val i.isLt

theorem bit_row {j : ℕ} (hj : j < 8) (L : Fin 128) (i : Fin (2 ^ 8)) :
    bit j (ix2 (i : Fin 256) L) = BitVec.ofBool (decide (i.val &&& 2 ^ j ≠ 0)) := by
  have e : Nat.blt j 8 = true := by simpa using hj
  rw [bit, e]
  refine SortNet.upper_apply (rowCol L) (by decide) row (row_at L) _ ?_ i
  rw [BitVec.toNat_ofNat, Nat.mod_eq_of_lt]
  exact Nat.pow_lt_pow_right (by decide) (by omega)

theorem bit_grp {j : ℕ} (hj : j < 4) (r : Fin 256) (i : Fin 128) :
    bit (j + 8) (ix2 r i) = BitVec.ofBool (decide (i.val / 16 &&& 2 ^ j ≠ 0)) := by
  have e : Nat.blt (j + 8) 8 = false := by
    exact Bool.eq_false_iff.mpr fun h => by have := Nat.blt_eq.mp h; omega
  rw [bit, e]
  show BitVec.ofBool (IntOp.andi (grp (ix2 r i)) (BitVec.ofNat 32 (2 ^ (j + 8 - 8))) != 0#32) = _
  rw [grp_at, Nat.add_sub_cancel]
  congr 1
  rw [Bool.eq_iff_iff, bne_iff_ne, decide_eq_true_eq, Ne, SortNet.and_distance_eq_zero_iff (by have := i.isLt; omega)]
  rw [BitVec.toNat_ofNat, Nat.mod_eq_of_lt]
  exact Nat.pow_lt_pow_right (by decide) (by omega)

/-- The mask of bit `j` along a batch row. -/
theorem bit_at {j : ℕ} (hj : j < 12) (b : Fin 16) (i : Fin (2 ^ 11)) :
    bit j (at_ b i) = BitVec.ofBool (decide (i.val &&& 2 ^ j ≠ 0)) := by
  by_cases h : j < 8
  · refine (bit_row h _ _).trans ?_
    congr 1
    exact decide_eq_decide.mpr (not_congr (low_bits j h i.val i.isLt).1)
  · obtain ⟨k, rfl⟩ : ∃ k, j = k + 8 := ⟨j - 8, by omega⟩
    refine (bit_grp (by omega) _ _).trans ?_
    congr 1
    refine decide_eq_decide.mpr (not_congr ?_)
    have e : (i.val / 256 * 16 + b.val) / 16 = i.val / 256 := by have := b.isLt; omega
    show (i.val / 256 * 16 + b.val) / 16 &&& 2 ^ k = 0 ↔ _
    rw [e]
    exact group_bits k (by omega) i.val i.isLt

/-- The number of batch row `b`'s position, as the kernel makes it. -/
theorem places_at (b : Fin 16) (j : Fin (2 ^ 11)) : places (at_ b j) = BitVec.ofNat 32 j.val := by
  show IntOp.addi (IntOp.muli (grp (at_ b j)) 256#32) (row (at_ b j)) = _
  have e : (j.val / 256 * 16 + b.val) / 16 = j.val / 256 := by have := b.isLt; omega
  have h1 : grp (at_ b j) = BitVec.ofNat 32 (j.val / 256) := (grp_at _ _).trans (congrArg (BitVec.ofNat 32) e)
  have h2 : row (at_ b j) = BitVec.ofNat 32 (j.val % 256) := row_at _ _
  rw [h1, h2, place_word _ (by have := j.isLt; omega) _ (Nat.mod_lt _ (by decide)), Nat.div_add_mod']

/-! ## The partner's entry -/

section partner
variable {α : Type} (x : S256x128.Idx → α)

/-- Two rotates along the rows and a select on the row's bit. -/
theorem rotated_rows {s : ℕ} (hs : s < 8) (n n' : BitVec 32) (hn : n.toNat = 2 ^ s) (hn' : n'.toNat = 2 ^ 8 - 2 ^ s)
    (r : Fin 256) (L : Fin 128) :
    select (bit s) (dynamicRotate 0 n none x rotates_S256x128_d0) (dynamicRotate 0 n' none x rotates_S256x128_d0) (ix2 r L)
      = x (ix2 (SortNet.partner 8 s r : Fin 256) L) := by
  show Scalar.select (bit s (ix2 r L)) _ _ = _
  rw [bit_row hs, SortNet.select_ofBool]
  split
  · next h => exact (rowCol L).rotate_of_set hs n hn x _ r (by simpa using h)
  · next h => exact (rowCol L).rotate_of_clear hs n' hn' x _ r (by simpa using h)

/-- Two rotates along the lanes and a select on the lane's bit. -/
theorem rotated_lanes {s : ℕ} (hs : s < 7) (r : Fin 256) (L : Fin 128) :
    select (cmpi .ne (andi lane (broadcast S256x128 (BitVec.ofNat 32 (2 ^ s)))) (broadcast S256x128 0#32))
      (dynamicRotate 1 (BitVec.ofNat 32 (2 ^ s)) none x rotates_S256x128_d1)
      (dynamicRotate 1 (BitVec.ofNat 32 (128 - 2 ^ s)) none x rotates_S256x128_d1) (ix2 r L)
      = x (ix2 r (SortNet.partner 7 s L : Fin 128)) := by
  have hlt : 2 ^ s < 2 ^ 7 := Nat.pow_lt_pow_right (by decide) hs
  have hpos := Nat.two_pow_pos s
  have h1 : (BitVec.ofNat 32 (2 ^ s)).toNat = 2 ^ s := by
    rw [BitVec.toNat_ofNat, Nat.mod_eq_of_lt (by omega)]
  have h2 : (BitVec.ofNat 32 (128 - 2 ^ s)).toNat = 2 ^ 7 - 2 ^ s := by
    rw [BitVec.toNat_ofNat, Nat.mod_eq_of_lt (by omega)]; rfl
  show Scalar.select ((cmpi .ne (andi lane (broadcast S256x128 (BitVec.ofNat 32 (2 ^ s)))) (broadcast S256x128 0#32)) ((laneCol r).col L)) _ _ = _
  rw [SortNet.upper_apply (laneCol r) (by decide) lane (lane_at r) _ h1, SortNet.select_ofBool]
  split
  · next h => exact (laneCol r).rotate_of_set hs _ h1 x _ L (by simpa using h)
  · next h => exact (laneCol r).rotate_of_clear hs _ h2 x _ L (by simpa using h)

/-- Neighbouring blocks of rows exchanged. -/
theorem swapped_rows {s : ℕ} (hs : s < 8) (n : ℕ) (hn : 2 ^ s * (2 * n) = 256) (r : Fin 256) (L : Fin 128) :
    swapped s n hn x (ix2 r L) = x (ix2 (SortNet.partner 8 s r : Fin 256) L) := by
  have hq : r.val / 2 ^ s < 2 * n := Nat.div_lt_of_lt_mul (by rw [hn]; exact r.isLt)
  unfold swapped
  refine (concatenate_ofFn_apply (s₁ := rows (2 ^ s)) (t := S256x128) 0 _ (blocks_cat s n hn x) rfl (2 ^ s) rfl (ix2 r L)
    ⟨r.val / 2 ^ s, hq⟩ rfl (ix2 (⟨r.val % 2 ^ s, Nat.mod_lt _ (Nat.two_pow_pos s)⟩ : Fin (2 ^ s)) L) rfl ?_).trans ?_
  · intro b hb
    fin_cases b <;> [exact absurd rfl hb; rfl]
  · refine extractStridedSlice_apply _ x _ _ _ fun a => ?_
    fin_cases a
    · show (SortNet.partner 8 s r).val = 2 ^ s * (r.val / 2 ^ s ^^^ 1) + r.val % 2 ^ s
      rw [SortNet.partner_val hs, block_bits s hs r.val r.isLt]
    · exact (Nat.zero_add _).symm

/-- The partner at distance `2 ^ s` along a batch row. -/
theorem partner_at {s : ℕ} (hs : s < 11) (b : Fin 16) (j : Fin (2 ^ 11)) :
    partner x s (at_ b j) = x (at_ b (SortNet.partner 11 s j)) := by
  by_cases h : s < 8
  · rw [at_partner_low h]
    have hsplit : s = 0 ∨ s = 1 ∨ s = 2 ∨ s = 3 ∨ s = 4 ∨ s = 5 ∨ s = 6 ∨ s = 7 := by omega
    rcases hsplit with rfl | rfl | rfl | rfl | rfl | rfl | rfl | rfl
    · exact rotated_rows x (by decide) 1#32 255#32 rfl rfl _ _
    · exact rotated_rows x (by decide) 2#32 254#32 rfl rfl _ _
    · exact rotated_rows x (by decide) 4#32 252#32 rfl rfl _ _
    · exact swapped_rows x (by decide) 16 rfl _ _
    · exact swapped_rows x (by decide) 8 rfl _ _
    · exact swapped_rows x (by decide) 4 rfl _ _
    · exact swapped_rows x (by decide) 2 rfl _ _
    · exact swapped_rows x (by decide) 1 rfl _ _
  · obtain ⟨k, rfl⟩ : ∃ k, s = k + 8 := ⟨s - 8, by omega⟩
    rw [at_partner_high (by omega)]
    exact rotated_lanes x (by omega) _ _

end partner

/-! ## The passes are the network's stages -/

/-- A score and the position it came from, ordered by the score and then the lower position. -/
def ent (a : EReal) (i : BitVec 32) : EReal ×ₗ ℕᵒᵈ := toLex (a, OrderDual.toDual i.toNat)

theorem ent_lt (a a' : EReal) (i i' : BitVec 32) : ent a' i' < ent a i ↔ a' < a ∨ (a' = a ∧ i.toNat < i'.toNat) := by
  unfold ent
  rw [Prod.Lex.toLex_lt_toLex]
  rfl

/-- The pairs a batch row holds. -/
def ents (X : FVec Ideal S256x128 .f32 × IVec S256x128 32) (b : Fin 16) (j : Fin (2 ^ 11)) : EReal ×ₗ ℕᵒᵈ :=
  ent (X.1 (at_ b j)) (X.2 (at_ b j))

/-- Every position a batch row holds is one of its 2048. -/
def Small (X : FVec Ideal S256x128 .f32 × IVec S256x128 32) (b : Fin 16) : Prop := ∀ j, (X.2 (at_ b j)).toNat < 2048

theorem slt_iff {i i' : BitVec 32} (h : i.toNat < 2048) (h' : i'.toNat < 2048) :
    IntOp.cmpi .slt i i' = BitVec.ofBool (decide (i.toNat < i'.toNat)) := by
  show BitVec.ofBool (i.slt i') = _
  congr 1
  rw [BitVec.slt_eq_decide, BitVec.toInt_eq_toNat_of_lt (by omega), BitVec.toInt_eq_toNat_of_lt (by omega)]
  exact decide_eq_decide.mpr Int.ofNat_lt

theorem before_word (a a' : EReal) {i i' : BitVec 32} (h : i.toNat < 2048) (h' : i'.toNat < 2048) :
    IntOp.ori (Ideal.cmp .ogt a a') (IntOp.andi (Ideal.cmp .oeq a a') (IntOp.cmpi .slt i i'))
      = BitVec.ofBool (decide (ent a' i' < ent a i)) := by
  rw [slt_iff h h']
  have e : decide (ent a' i' < ent a i) = (decide (a' < a) || (decide (a = a') && decide (i.toNat < i'.toNat))) := by
    rw [Bool.eq_iff_iff]
    simp only [decide_eq_true_eq, Bool.or_eq_true, Bool.and_eq_true, ent_lt]
    rw [eq_comm (a := a')]
  rw [e]
  show IntOp.ori (BitVec.ofBool (decide (a' < a))) (IntOp.andi (BitVec.ofBool (decide (a = a'))) _) = _
  generalize decide (a' < a) = p
  generalize decide (a = a') = q
  generalize decide (i.toNat < i'.toNat) = t
  revert p q t
  decide

/-- Whether the winner of a pass inside blocks of `2 ^ (l + 1)` goes to the lower position. -/
abbrev down (l : ℕ) (i : Fin (2 ^ 11)) : Bool := decide (i.val &&& 2 ^ (l + 1) = 0)

theorem pass_at {l j : ℕ} (hl : l < 11) (hj : j ≤ l) (X : FVec Ideal S256x128 .f32 × IVec S256x128 32) (b : Fin 16) (hX : Small X b)
    (i : Fin (2 ^ 11)) :
    ((pass l j X).1 (at_ b i), (pass l j X).2 (at_ b i))
      = if decide (ents X b (SortNet.partner 11 j i) < ents X b i) = SortNet.upperXor j (down l) i
        then (X.1 (at_ b i), X.2 (at_ b i))
        else (X.1 (at_ b (SortNet.partner 11 j i)), X.2 (at_ b (SortNet.partner 11 j i))) := by
  have hp1 := partner_at X.1 (show j < 11 by omega) b i
  have hp2 := partner_at X.2 (show j < 11 by omega) b i
  show (Scalar.select (IntOp.xori (IntOp.xori (IntOp.ori (Ideal.cmp .ogt (X.1 (at_ b i)) (partner X.1 j (at_ b i)))
        (IntOp.andi (Ideal.cmp .oeq (X.1 (at_ b i)) (partner X.1 j (at_ b i))) (IntOp.cmpi .slt (X.2 (at_ b i)) (partner X.2 j (at_ b i)))))
        (bit j (at_ b i))) (bit (l + 1) (at_ b i))) (X.1 (at_ b i)) (partner X.1 j (at_ b i)),
      Scalar.select (IntOp.xori (IntOp.xori (IntOp.ori (Ideal.cmp .ogt (X.1 (at_ b i)) (partner X.1 j (at_ b i)))
        (IntOp.andi (Ideal.cmp .oeq (X.1 (at_ b i)) (partner X.1 j (at_ b i))) (IntOp.cmpi .slt (X.2 (at_ b i)) (partner X.2 j (at_ b i)))))
        (bit j (at_ b i))) (bit (l + 1) (at_ b i))) (X.2 (at_ b i)) (partner X.2 j (at_ b i))) = _
  rw [hp1, hp2, before_word _ _ (hX i) (hX _), bit_at (by omega), bit_at (by omega), SortNet.ofBool_xor, SortNet.ofBool_xor,
    SortNet.select_ofBool, SortNet.select_ofBool]
  have e : (decide (ent (X.1 (at_ b (SortNet.partner 11 j i))) (X.2 (at_ b (SortNet.partner 11 j i))) < ent (X.1 (at_ b i)) (X.2 (at_ b i)))
      ^^ decide (i.val &&& 2 ^ j ≠ 0) ^^ decide (i.val &&& 2 ^ (l + 1) ≠ 0)) = true
      ↔ decide (ents X b (SortNet.partner 11 j i) < ents X b i) = SortNet.upperXor j (down l) i := by
    unfold SortNet.upperXor down ents
    rw [show decide (i.val &&& 2 ^ (l + 1) ≠ 0) = !decide (i.val &&& 2 ^ (l + 1) = 0) from decide_not]
    generalize decide (ent _ _ < ent _ _) = p
    generalize decide (i.val &&& 2 ^ j ≠ 0) = q
    generalize decide (i.val &&& 2 ^ (l + 1) = 0) = t
    revert p q t
    decide
  by_cases h : decide (ents X b (SortNet.partner 11 j i) < ents X b i) = SortNet.upperXor j (down l) i
  · rw [if_pos h, if_pos (e.mpr h), if_pos (e.mpr h)]
  · rw [if_neg h, if_neg (fun h' => h (e.mp h')), if_neg (fun h' => h (e.mp h'))]

theorem pass_small {l j : ℕ} (hl : l < 11) (hj : j ≤ l) (X : FVec Ideal S256x128 .f32 × IVec S256x128 32) (b : Fin 16) (hX : Small X b) :
    Small (pass l j X) b := fun i => by
  have h := congrArg Prod.snd (pass_at hl hj X b hX i)
  rw [show (pass l j X).2 (at_ b i) = _ from h]
  split
  · exact hX _
  · exact hX _

/-- One pass is one stage of the network. -/
theorem pass_ents {l j : ℕ} (hl : l < 11) (hj : j ≤ l) (X : FVec Ideal S256x128 .f32 × IVec S256x128 32) (b : Fin 16) (hX : Small X b) :
    ents (pass l j X) b = SortNet.Network.apply (SortNet.stage 11 j (down l)) (ents X b) := by
  funext i
  have hd : ∀ k, down l (SortNet.partner 11 j k) = down l k := fun k => by
    have h := SortNet.sizeClear_partner (show j < 11 by omega) hj true k
    rwa [beq_true, beq_true] at h
  rw [← SortNet.stage_upperXor, SortNet.apply_stage_select (by omega) _
    (fun k => SortNet.upperXor_partner (by omega) _ k (hd k))]
  have h := pass_at hl hj X b hX i
  show ent ((pass l j X).1 (at_ b i), (pass l j X).2 (at_ b i)).1 ((pass l j X).1 (at_ b i), (pass l j X).2 (at_ b i)).2 = _
  rw [h]
  split <;> rfl

theorem merge_ents {l : ℕ} (hl : l < 11) (b : Fin 16) : ∀ (n : ℕ) (_ : n ≤ l + 1) (X : FVec Ideal S256x128 .f32 × IVec S256x128 32), Small X b →
    Small (merge l n X) b ∧ ents (merge l n X) b
      = SortNet.Network.apply ((List.range n).reverse.flatMap fun s => SortNet.stage 11 s (down l)) (ents X b)
  | 0, _, X, hX => ⟨hX, rfl⟩
  | n + 1, hn, X, hX => by
    have h := merge_ents hl b n (by omega) (pass l n X) (pass_small hl (by omega) X b hX)
    refine ⟨h.1, h.2.trans ?_⟩
    rw [pass_ents hl (by omega) X b hX, List.range_succ, List.reverse_append, List.reverse_singleton, List.singleton_append,
      List.flatMap_cons, SortNet.Network.apply_append]

theorem merges_ents (b : Fin 16) : ∀ (n : ℕ) (_ : n ≤ 11) (X : FVec Ideal S256x128 .f32 × IVec S256x128 32), Small X b →
    Small (merges n X) b ∧ ents (merges n X) b
      = SortNet.Network.apply ((List.range n).flatMap fun l => (List.range (l + 1)).reverse.flatMap fun s => SortNet.stage 11 s (down l)) (ents X b)
  | 0, _, X, hX => ⟨hX, rfl⟩
  | n + 1, hn, X, hX => by
    have h := merges_ents b n (by omega) X hX
    have h' := merge_ents (show n < 11 by omega) b (n + 1) (Nat.le_refl _) (merges n X) h.1
    refine ⟨h'.1, h'.2.trans ?_⟩
    rw [h.2]
    conv_rhs => rw [List.range_succ, List.flatMap_append, List.flatMap_singleton, SortNet.Network.apply_append]

/-- The square at a position of a batch row. -/
theorem square_at (x : Vec Ideal S16x2048 .f32) (b : Fin 16) (j : Fin (2 ^ 11)) : square x (at_ b j) = x (ix2 b (j : Fin 2048)) := by
  have hj := j.isLt
  have hb := b.isLt
  unfold square
  refine (shapeCast_apply _ _ _ (ix3 (⟨j.val % 256, Nat.mod_lt _ (by decide)⟩ : Fin 256) (⟨j.val / 256, by omega⟩ : Fin 8) b) ?_).trans ?_
  · rw [Shape.rowMajor_val_three, Shape.rowMajor_val_two]
    show (j.val % 256 * 8 + j.val / 256) * 16 + b.val = j.val % 256 * 128 + (j.val / 256 * 16 + b.val)
    omega
  refine (transpose_apply _ _ _ _ (ix3 b (⟨j.val / 256, by omega⟩ : Fin 8) (⟨j.val % 256, Nat.mod_lt _ (by decide)⟩ : Fin 256)) ?_).trans ?_
  · intro a; fin_cases a <;> rfl
  refine (shapeCast_apply _ _ _ (ix2 b (j : Fin 2048)) ?_).trans ?_
  · rw [Shape.rowMajor_val_three, Shape.rowMajor_val_two]
    show b.val * 2048 + j.val = (b.val * 8 + j.val / 256) * 256 + j.val % 256
    omega
  exact shapeCast_apply _ _ _ _ rfl

/-! ## The stable sort on the other side -/

/-- A batch row's scores with their positions. -/
def start (x : Vec Ideal S16x2048 .f32) (b : Fin 16) (j : Fin (2 ^ 11)) : EReal ×ₗ ℕᵒᵈ := ent (x (ix2 b (j : Fin 2048))) (BitVec.ofNat 32 j.val)

theorem sorted_ents (x : Vec Ideal S16x2048 .f32) (b : Fin 16) :
    ents (sorted x) b = SortNet.Network.apply (SortNet.sortNet 11 true) (start x b) := by
  have h0 : Small (square x, places) b := fun j => by
    show (places (at_ b j)).toNat < 2048
    rw [places_at, BitVec.toNat_ofNat]
    exact lt_of_le_of_lt (Nat.mod_le _ _) j.isLt
  have e0 : ents (square x, places) b = start x b := funext fun j => by
    show ent (square x (at_ b j)) (places (at_ b j)) = _
    rw [square_at, places_at]; rfl
  have h := (merges_ents b 11 (Nat.le_refl _) _ h0).2
  rw [e0] at h
  refine h.trans ?_
  unfold SortNet.sortNet
  simp only [beq_true]

/-- How many scores lie below one: a number ordered as the scores are. -/
def rank {n : ℕ} (f : Fin n → EReal) (k : Fin n) : ℕ := (Finset.univ.filter fun k' => f k' < f k).card

theorem rank_lt {n : ℕ} (f : Fin n → EReal) (k k' : Fin n) : rank f k < rank f k' ↔ f k < f k' := by
  have hle : ∀ k k', f k ≤ f k' → rank f k ≤ rank f k' := fun k k' h =>
    Finset.card_le_card fun a ha => by
      simp only [Finset.mem_filter, Finset.mem_univ, true_and] at ha ⊢
      exact lt_of_lt_of_le ha h
  constructor
  · intro h
    by_contra h'
    exact absurd (hle k' k (not_lt.mp h')) (by omega)
  · intro h
    refine Finset.card_lt_card ⟨fun a ha => ?_, fun hs => ?_⟩
    · simp only [Finset.mem_filter, Finset.mem_univ, true_and] at ha ⊢
      exact ha.trans h
    · have := hs (show k ∈ _ by simpa using h)
      simp at this

/-- The positions of a stable sort by descending score. -/
def from_ (x : Vec Ideal S16x2048 .f32) (b : Fin 16) (k : Fin (2 ^ 11)) : Fin (2 ^ 11) :=
  sortedFrom (fun k k' : Fin (2 ^ 11) => decide (x (ix2 b (k' : Fin 2048)) < x (ix2 b (k : Fin 2048)))) k

/-- A stable sort by descending score keeps the order of equals. -/
theorem stable_order {n : ℕ} (f : Fin n → EReal) (i k : Fin n) (hik : i < k) :
    f (sortedFrom (fun k k' => decide (f k' < f k)) k) < f (sortedFrom (fun k k' => decide (f k' < f k)) i) ∨
    (f (sortedFrom (fun k k' => decide (f k' < f k)) k) = f (sortedFrom (fun k k' => decide (f k' < f k)) i) ∧
      sortedFrom (fun k k' => decide (f k' < f k)) i < sortedFrom (fun k k' => decide (f k' < f k)) k) := by
  have h := PlanTiles.pairwise_stableSort_lex (rank f) (· < ·) (List.finRange n) (List.pairwise_lt_finRange n)
  simp only [rank_lt] at h
  have h' := List.pairwise_iff_get.mp h (i.cast (length_sortPositions _ _).symm) (k.cast (length_sortPositions _ _).symm) hik
  rcases h' with h' | ⟨he, hp⟩
  · exact Or.inl ((rank_lt _ _ _).mp h')
  · refine Or.inr ⟨le_antisymm (not_lt.mp fun hlt => ?_) (not_lt.mp fun hlt => ?_), hp⟩
    · exact absurd ((rank_lt f _ _).mpr hlt) (Nat.not_lt.mpr (le_of_eq he.symm))
    · exact absurd ((rank_lt f _ _).mpr hlt) (Nat.not_lt.mpr (le_of_eq he))

theorem place_toNat (q : Fin (2 ^ 11)) : (BitVec.ofNat 32 q.val).toNat = q.val := by
  rw [BitVec.toNat_ofNat, Nat.mod_eq_of_lt (lt_trans q.isLt (by decide))]

theorem from_antitone (x : Vec Ideal S16x2048 .f32) (b : Fin 16) : Antitone (start x b ∘ from_ x b) := fun i k hik => by
  rcases eq_or_lt_of_le hik with rfl | hlt
  · exact le_rfl
  refine le_of_lt ((ent_lt _ _ _ _).mpr ?_)
  rw [place_toNat, place_toNat]
  exact stable_order (fun k : Fin (2 ^ 11) => x (ix2 b (k : Fin 2048))) i k hlt

/-- Two descending rearrangements of one family are equal. -/
theorem descending_unique {α : Type} [LinearOrder α] {n : ℕ} (v : Fin n → α) (σ τ : Fin n → Fin n) (hσ : Function.Injective σ)
    (hτ : Function.Injective τ) (h1 : Antitone (v ∘ σ)) (h2 : Antitone (v ∘ τ)) : v ∘ σ = v ∘ τ := by
  have hp : ∀ ρ : Fin n → Fin n, Function.Injective ρ → (List.ofFn (v ∘ ρ)).Perm (List.ofFn v) := fun ρ hρ => by
    rw [List.ofFn_eq_map, List.ofFn_eq_map, ← List.map_map]
    refine List.Perm.map v ((List.perm_ext_iff_of_nodup ((List.nodup_finRange n).map hρ) (List.nodup_finRange n)).mpr fun a => ?_)
    simp only [List.mem_map, List.mem_finRange, true_and, iff_true]
    exact Finite.injective_iff_surjective.mp hρ a
  have hd : ∀ f : Fin n → α, Antitone f → (List.ofFn f).Pairwise (· ≥ ·) := fun f hf =>
    List.pairwise_ofFn.mpr fun i j hij => hf (le_of_lt hij)
  exact List.ofFn_injective (SortNet.eq_of_perm_of_descending ((hp σ hσ).trans (hp τ hτ).symm) (hd _ h1) (hd _ h2))

/-- The network's result is the stable sort's. -/
theorem sorted_eq (x : Vec Ideal S16x2048 .f32) (b : Fin 16) : ents (sorted x) b = start x b ∘ from_ x b := by
  have h1 := SortNet.sortNet_apply_antitone 11 (start x b)
  obtain ⟨σ, hσ⟩ := SortNet.Network.exists_perm (SortNet.sortNet 11 true) (start x b)
  rw [sorted_ents, hσ]
  rw [hσ] at h1
  exact descending_unique _ _ _ σ.injective (sortedFrom_injective _) h1 (from_antitone x b)

theorem sorted_at (x : Vec Ideal S16x2048 .f32) (b : Fin 16) (k : Fin (2 ^ 11)) :
    (sorted x).1 (at_ b k) = x (ix2 b (from_ x b k : Fin 2048)) ∧ (sorted x).2 (at_ b k) = BitVec.ofNat 32 (from_ x b k).val := by
  have h : ent _ _ = ent _ _ := congrFun (sorted_eq x b) k
  have h := toLex.injective h
  exact ⟨congrArg Prod.fst h, BitVec.eq_of_toNat_eq (OrderDual.toDual.injective (congrArg Prod.snd h))⟩

/-- The first sixteen lanes, turned, at an index. -/
theorem top_at {α : Type} (y : S256x128.Idx → α) (b : Fin 16) (k : Fin 256) :
    top y (ix2 b k) = y (at_ b ⟨k.val, lt_trans k.isLt (by decide)⟩) := by
  have hk := k.isLt
  unfold top
  refine (transpose_apply _ _ _ _ (ix2 k b) ?_).trans ?_
  · intro a; fin_cases a <;> rfl
  refine extractStridedSlice_apply _ _ _ _ _ fun a => ?_
  fin_cases a
  · show k.val % 256 = 0 + k.val
    omega
  · show k.val / 256 * 16 + b.val = 0 + b.val
    omega

theorem along_at (j : S16x2048.Idx) (h : 1 < S16x2048.rank) (q : Fin 2048) : j.along ⟨1, h⟩ q = (ix2 (j 0 : Fin 16) q : S16x2048.Idx) := by
  funext a; fin_cases a <;> rfl

/-- A sort along the batch rows by descending score, read at an index. -/
theorem sort_rows {β : Type} (x : Vec Ideal S16x2048 .f32) (y : S16x2048.Idx → β) :
    Host.sort2 (α := Ideal .f32) S16x2048 1 (fun l r => FloatOps.cmpfTotal .gt l.1 r.1) x y
      = (fun j => x (ix2 (j 0 : Fin 16) (from_ x (j 0) (j 1) : Fin 2048)), fun j => y (ix2 (j 0 : Fin 16) (from_ x (j 0) (j 1) : Fin 2048))) := by
  have h1 : 1 < S16x2048.rank := by decide
  have hB : ∀ j : S16x2048.Idx, sortedFrom (fun k k' : Fin 2048 =>
      (FloatOps.cmpfTotal (F := Ideal) (φ := .f32) .gt (x (j.along ⟨1, h1⟩ k)) (x (j.along ⟨1, h1⟩ k')) == 1#1)) (j 1)
      = (from_ x (j 0) (j 1) : Fin 2048) := fun j => by
    unfold from_
    refine congrArg (fun B => sortedFrom B (j 1 : Fin 2048)) (funext fun k => funext fun k' => ?_)
    rw [along_at, along_at]
    exact (by decide : ∀ d : Bool, (BitVec.ofBool d == 1#1) = d) _
  unfold Host.sort2
  rw [dif_pos h1]
  refine Prod.ext (funext fun j => congrArg x ?_) (funext fun j => congrArg y ?_)
  · exact (along_at j _ _).trans (congrArg (ix2 (j 0 : Fin 16)) (hB j))
  · exact (along_at j _ _).trans (congrArg (ix2 (j 0 : Fin 16)) (hB j))

/-- The reference's top-k at an index. -/
theorem topK_at (x : Vec Ideal S16x2048 .f32) (h : S16x2048.Slices (fun _ => 0) S16x256) (b : Fin 16) (k : Fin 256) :
    (Host.topK (s := S16x2048) (α := Ideal .f32) S16x256 1 (FloatOps.cmpfTotal .gt) x h).1 (ix2 b k) = x (ix2 b (from_ x b ⟨k.val, lt_trans k.isLt (by decide)⟩ : Fin 2048)) ∧
    (Host.topK (s := S16x2048) (α := Ideal .f32) S16x256 1 (FloatOps.cmpfTotal .gt) x h).2 (ix2 b k) = BitVec.ofNat 32 (from_ x b ⟨k.val, lt_trans k.isLt (by decide)⟩).val := by
  have hk : k.val < 2048 := lt_trans k.isLt (by decide)
  have hs : ∀ (α : Type) (y : S16x2048.Idx → α), extractStridedSlice S16x256 (fun _ => 0) y h (ix2 b k) = y (ix2 b (⟨k.val, hk⟩ : Fin 2048)) :=
    fun α y => extractStridedSlice_apply _ _ _ _ _ fun a => by fin_cases a <;> exact (Nat.zero_add _).symm
  unfold Host.topK
  simp only [sort_rows, hs]
  exact ⟨trivial, rfl⟩

theorem top_values (x : Vec Ideal S16x2048 .f32) (h : S16x2048.Slices (fun _ => 0) S16x256) :
    top (sorted x).1 = (Host.topK (s := S16x2048) (α := Ideal .f32) S16x256 1 (FloatOps.cmpfTotal .gt) x h).1 := by
  funext i
  have e : i = ix2 (i 0) (i 1) := by funext a; fin_cases a <;> rfl
  rw [e]
  exact (top_at _ _ _).trans ((sorted_at x _ _).1.trans (topK_at x h (i 0) (i 1)).1.symm)

theorem top_positions (x : Vec Ideal S16x2048 .f32) (h : S16x2048.Slices (fun _ => 0) S16x256) :
    top (sorted x).2 = (Host.topK (s := S16x2048) (α := Ideal .f32) S16x256 1 (FloatOps.cmpfTotal .gt) x h).2 := by
  funext i
  have e : i = ix2 (i 0) (i 1) := by funext a; fin_cases a <;> rfl
  rw [e]
  exact (top_at _ _ _).trans ((sorted_at x _ _).2.trans (topK_at x h (i 0) (i 1)).2.symm)

/-- The positions kept are positions. -/
theorem top_positions_lt (x : Vec Ideal S16x2048 .f32) (i : S16x256.Idx) : (top (sorted x).2 i).toNat < 2048 := by
  have e : i = ix2 (i 0) (i 1) := by funext a; fin_cases a <;> rfl
  rw [e]
  refine lt_of_eq_of_lt (congrArg BitVec.toNat ((top_at _ (i 0) (i 1)).trans (sorted_at x _ _).2)) ?_
  rw [BitVec.toNat_ofNat]
  exact lt_of_le_of_lt (Nat.mod_le _ _) (Fin.isLt _)

end Cert.KernelIdeal.Topk

end
-- ==== Proof.OnehotValue.lean ====
/-
  The one-hot kernel at the extended reals: its rows are the reference's, whose straight-through sum adds a score, a real
  number, to a difference from it.
-/
module

public import proofs.«01_k».proof.Proof.ScoreFinite
public import proofs.«01_k».proof.Proof.TopkValue

@[expose] public section

set_option maxRecDepth 100000

noncomputable section

namespace Cert.KernelIdeal.Run

open Cert.KernelIdeal Cert.KernelIdeal.Gen
open Idealize.ShloMosaic hiding ix2 ix3
open Idealize.ShloMosaic.ValueIdx

/-- An index of four axes. -/
def lane4 (r : Fin 64) : S1x1x1x64.Idx := fun a => match a with | ⟨0, _⟩ => (0 : Fin 1) | ⟨1, _⟩ => (0 : Fin 1) | ⟨2, _⟩ => (0 : Fin 1) | ⟨3, _⟩ => r

/-- A row of 64 as a column. -/
theorem column_at {α : Type} (x : S1x1x1x64.Idx → α) (r : Fin 64) :
    shapeCast S64x1 (shapeCast S1x64 x shapeCasts_S1x1x1x64_S1x64) shapeCasts_S1x64_S64x1 (ix2 r 0) = x (lane4 r) := by
  refine (shapeCast_apply _ _ _ (ix2 0 r : S1x64.Idx) ?_).trans (shapeCast_apply _ _ _ (lane4 r) ?_)
  · rw [Shape.rowMajor_val_two, Shape.rowMajor_val_two]
    show 0 * 64 + r.val = r.val * 1 + 0
    omega
  · rw [Shape.rowMajor_val_two, Shape.rowMajor_val_four]
    show ((0 * 1 + 0) * 1 + 0) * 64 + r.val = 0 * 64 + r.val
    omega

/-- A bit as an extended real. -/
def bit (p : Prop) [Decidable p] : EReal := if p then 1 else 0

theorem bit_signed (c d : Bool) : (((BitVec.setWidth 32 (BitVec.ofBool c &&& BitVec.ofBool d)).toInt : ℝ) : EReal) = bit (c = true ∧ d = true) := by
  cases c <;> cases d <;> simp [bit]
theorem bit_unsigned (c : Bool) : (((BitVec.ofBool c).toNat : ℝ) : EReal) = bit (c = true) := by
  cases c <;> simp [bit]

/-- The one-hot kernel's entry. -/
theorem k2_at (v0 : Vec Ideal S1x1x1x64 .i32) (v2 : Vec Ideal S1x1x1x64 .f32) (r : Fin 64) (n : Fin 2048) :
    (k2_pay1 v0 v2 (ix3 0 r n) : EReal) = bit ((BitVec.ofNat 32 n.val == v0 (lane4 r)) = true ∧ decide ((0 : EReal) < v2 (lane4 r)) = true) := by
  rw [← bit_signed]
  unfold k2_pay1
  refine (shapeCast_apply _ _ _ (ix2 r n : S64x2048.Idx) ?_).trans ?_
  · rw [Shape.rowMajor_val_two, Shape.rowMajor_val_three]
    show r.val * 2048 + n.val = (0 * 64 + r.val) * 2048 + n.val
    omega
  have hc : ∀ {α : Type} (y : S64x1.Idx → α), broadcastTo S64x2048 y broadcasts_S64x1_S64x2048 (ix2 r n) = y (ix2 r 0) := fun y =>
    broadcastTo_apply _ _ _ (ix2 r 0 : S64x1.Idx) fun a => match a with | ⟨0, _⟩ => rfl | ⟨1, _⟩ => rfl
  have h1 : cmpi .eq (iota .tc S64x2048 32 [1] iota_S64x2048_d1_w32) (broadcastTo S64x2048 (shapeCast S64x1 (shapeCast S1x64 v0 shapeCasts_S1x1x1x64_S1x64) shapeCasts_S1x64_S64x1) broadcasts_S64x1_S64x2048) (ix2 r n)
      = BitVec.ofBool (BitVec.ofNat 32 n.val == v0 (lane4 r)) := by
    refine congrArg₂ (fun x y : BitVec 32 => BitVec.ofBool (x == y)) ?_ ((hc _).trans (column_at _ _))
    exact congrArg (BitVec.ofNat 32) (Nat.zero_add n.val)
  have h2 : broadcastTo S64x2048 (cmpf .ogt (shapeCast S64x1 (shapeCast S1x64 v2 shapeCasts_S1x1x1x64_S1x64) shapeCasts_S1x64_S64x1) (broadcast S64x1 (Scalar.ofBits (F := Ideal) .f32 0x00000000#32))) broadcasts_S64x1_S64x2048 (ix2 r n)
      = BitVec.ofBool (decide ((0 : EReal) < v2 (lane4 r))) := by
    refine (hc _).trans ?_
    show BitVec.ofBool (decide ((Ideal.ofBits .f32 0x00000000#32 : EReal) < shapeCast S64x1 (shapeCast S1x64 v2 shapeCasts_S1x1x1x64_S1x64) shapeCasts_S1x64_S64x1 (ix2 r 0))) = _
    rw [column_at, Ideal.ofBits_zero_f32]
  rw [← h1, ← h2]
  rfl

variable (bx sx : Vec Ideal S16x2048x64 .f32) (ix : Vec Ideal S16x1024 .i32)

theorem onehotArr_at (jx : Vec Ideal S16x256 .i32) (v : Vec Ideal S16x256 .f32) (b : Fin 16) (k : Fin 256) (n : Fin 2048) :
    (onehotArr jx v (ix3 b k n) : EReal) = bit ((BitVec.ofNat 32 n.val == jx (ix2 b k)) = true ∧ decide ((0 : EReal) < v (ix2 b k)) = true) := by
  have hk := k.isLt
  have e : ∀ {t : EltTy} (x : Vec Ideal S16x256 t), grpB x b ⟨k.val / 64, by omega⟩ (lane4 ⟨k.val % 64, Nat.mod_lt _ (by decide)⟩) = x (ix2 b k) := fun x => by
    refine congrArg x (funext fun a => match a with | ⟨0, _⟩ => rfl | ⟨1, _⟩ => Fin.ext ?_)
    show k.val / 64 * 64 + k.val % 64 = k.val
    omega
  refine (k2_at _ _ _ _).trans ?_
  rw [e, e]

/-- A real number and the difference from it add up. -/
theorem add_sub_self {s t : EReal} (h : Finite s) : s + (t - s) = t := by
  obtain ⟨r, rfl⟩ := h
  rw [add_comm, EReal.sub_add_cancel]

theorem ref_onehot (hv : ∀ b k, Finite (Cert.ReferenceIdeal.Read.val_main_values (F := Ideal) bx sx ix (ix2 b k))) (b : Fin 16) (k : Fin 256) (n : Fin 2048) :
    (Cert.ReferenceIdeal.Read.val_main_v49 (F := Ideal) bx sx ix (ix3 b k n) : EReal)
      = bit ((BitVec.ofNat 32 n.val == Cert.ReferenceIdeal.Read.val_main_indices (F := Ideal) bx sx ix (ix2 b k)) = true
        ∧ decide ((0 : EReal) < Cert.ReferenceIdeal.Read.val_main_values (F := Ideal) bx sx ix (ix2 b k)) = true) := by
  have h43 : Cert.ReferenceIdeal.Read.val_main_v43 (F := Ideal) bx sx ix (ix3 b k n) = Cert.ReferenceIdeal.Read.val_main_values (F := Ideal) bx sx ix (ix2 b k) := by
    rw [Cert.ReferenceIdeal.Read.val_main_v43_apply, Cert.ReferenceIdeal.Read.val_main_v42_apply]
    exact congrArg _ (funext fun a => match a with | ⟨0, _⟩ => rfl | ⟨1, _⟩ => rfl)
  have h2 : Cert.ReferenceIdeal.Read.val_main_call4_v2 (F := Ideal) bx sx ix (ix3 b k n) = Cert.ReferenceIdeal.Read.val_main_indices (F := Ideal) bx sx ix (ix2 b k) := by
    rw [Cert.ReferenceIdeal.Read.val_main_call4_v2_apply, Cert.ReferenceIdeal.Read.val_main_call4_v0_apply]
    exact congrArg _ (funext fun a => match a with | ⟨0, _⟩ => rfl | ⟨1, _⟩ => rfl)
  have h3 : Cert.ReferenceIdeal.Read.val_main_call4_v3 (F := Ideal) (ix3 b k n) = BitVec.ofNat 32 n.val := by
    rw [Cert.ReferenceIdeal.Read.val_main_call4_v3_apply, Cert.ReferenceIdeal.Read.val_main_call4_v1_apply]
  have h41 : (Cert.ReferenceIdeal.Read.val_main_v41 (F := Ideal) bx sx ix (ix3 b k n) : EReal)
      = bit ((BitVec.ofNat 32 n.val == Cert.ReferenceIdeal.Read.val_main_indices (F := Ideal) bx sx ix (ix2 b k)) = true) := by
    rw [← bit_unsigned, Cert.ReferenceIdeal.Read.val_main_v41_apply, Cert.ReferenceIdeal.Read.val_main_call4_v4_apply, h2, h3]
    generalize Cert.ReferenceIdeal.Read.val_main_indices (F := Ideal) bx sx ix (ix2 b k) = w
    show (((BitVec.ofBool (w == BitVec.ofNat 32 n.val)).toNat : ℝ) : EReal) = _
    rw [Bool.beq_comm]
  have h44 : (Cert.ReferenceIdeal.Read.val_main_v44 (F := Ideal) bx sx ix (ix3 b k n) : EReal)
      = Cert.ReferenceIdeal.Read.val_main_values (F := Ideal) bx sx ix (ix2 b k)
        * bit ((BitVec.ofNat 32 n.val == Cert.ReferenceIdeal.Read.val_main_indices (F := Ideal) bx sx ix (ix2 b k)) = true) := by
    rw [Cert.ReferenceIdeal.Read.val_main_v44_apply]
    exact congrArg₂ (fun x y : EReal => x * y) h43 h41
  have h47 : (Cert.ReferenceIdeal.Read.val_main_v47 (F := Ideal) bx sx ix (ix3 b k n) : EReal)
      = bit (decide ((0 : EReal) < Cert.ReferenceIdeal.Read.val_main_v44 (F := Ideal) bx sx ix (ix3 b k n)) = true) := by
    rw [← bit_unsigned, Cert.ReferenceIdeal.Read.val_main_v47_apply, Cert.ReferenceIdeal.Read.val_main_v46_apply, Cert.ReferenceIdeal.Read.val_main_v45_apply,
      Cert.ReferenceIdeal.Read.val_main_cst_8_apply]
    generalize Cert.ReferenceIdeal.Read.val_main_v44 (F := Ideal) bx sx ix (ix3 b k n) = w
    show (((BitVec.ofBool (decide ((Ideal.ofBits .f32 0x00000000#32 : EReal) < (w : EReal)))).toNat : ℝ) : EReal) = _
    rw [Ideal.ofBits_zero_f32]
  have hf := hv b k
  have hfs : Finite (Cert.ReferenceIdeal.Read.val_main_v44 (F := Ideal) bx sx ix (ix3 b k n)) := by
    rw [h44]
    refine hf.mul ?_
    unfold bit
    split
    · exact ⟨1, EReal.coe_one.symm⟩
    · exact ⟨0, EReal.coe_zero.symm⟩
  rw [Cert.ReferenceIdeal.Read.val_main_v49_apply, Cert.ReferenceIdeal.Read.val_main_v48_apply]
  refine (add_sub_self hfs).trans (h47.trans ?_)
  rw [h44]
  generalize (BitVec.ofNat 32 n.val == Cert.ReferenceIdeal.Read.val_main_indices (F := Ideal) bx sx ix (ix2 b k)) = c
  cases c
  · simp [bit]
  · simp [bit]

/-- The values and the positions the selection keeps are the reference's. -/
theorem topVals_eq (hix : ∀ i, (ix i).toInt < 2048) : topVals bx sx ix = Cert.ReferenceIdeal.Read.val_main_values (F := Ideal) bx sx ix := by
  unfold topVals
  rw [scores_eq bx sx ix hix]
  exact Topk.top_values _ _
theorem topIdx_eq (hix : ∀ i, (ix i).toInt < 2048) : topIdx bx sx ix = Cert.ReferenceIdeal.Read.val_main_indices (F := Ideal) bx sx ix := by
  unfold topIdx
  rw [scores_eq bx sx ix hix]
  exact Topk.top_positions _ _

/-- The one-hot rows are the reference's. -/
theorem onehot_eq (hix : ∀ i, (ix i).toInt < 2048) :
    onehotArr (topIdx bx sx ix) (topVals bx sx ix) = Cert.ReferenceIdeal.Read.val_main_v49 (F := Ideal) bx sx ix := by
  funext i
  obtain ⟨b, k, n, rfl⟩ : ∃ (b : Fin 16) (k : Fin 256) (n : Fin 2048), i = ix3 b k n :=
    ⟨i 0, i 1, i 2, funext fun a => match a with | ⟨0, _⟩ => rfl | ⟨1, _⟩ => rfl | ⟨2, _⟩ => rfl⟩
  rw [topVals_eq bx sx ix hix, topIdx_eq bx sx ix hix]
  refine (onehotArr_at _ _ b k n).trans (ref_onehot bx sx ix (fun b k => ?_) b k n).symm
  unfold Cert.ReferenceIdeal.Read.val_main_values
  rw [(Topk.topK_at _ _ b k).1]
  exact score_finite bx sx ix b _

end Cert.KernelIdeal.Run
-- ==== Proof.Algebraic.lean ====
/-
  The kernel and the reference over the extended reals: from equal arguments they end with the same five results.
-/
module

public import proofs.«01_k».proof.Defs
public import proofs.«01_k».proof.Proof.Frames
public import proofs.«01_k».proof.Proof.OnehotValue
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert

open Idealize.ShloMosaic Idealize.ShloMosaic.TcCoe
open Idealize.SL.Sem
open Cert.KernelIdeal.Run

/-- The kernel's five results are the reference's: each is the same function of the three arguments. -/
theorem algebraic : algebraic_KernelIdeal_ReferenceIdeal (hKernelIdeal := Cert.KernelIdeal.Gen.facts)
    (hReferenceIdeal := Cert.ReferenceIdeal.Gen.facts) (hPre_pre := Cert.Pre_pre.facts) := by
  intro m g m' g' hpre hagree
  have hix := fun c => Cert.Pre_pre.entries (hpre c)
  refine ⟨_, _, _, _, _, (θ_run Cert.KernelIdeal.defs _ _).mono (fun r h c =>
      ⟨(h.1 c KernelIdeal.main_v10 (by decide)).trans (W7_v10 m c), (h.1 c KernelIdeal.main_v7_1 (by decide)).trans (W7_idx m c),
        (h.1 c KernelIdeal.main_v5 (by decide)).trans (W7_scores m c), (h.1 c KernelIdeal.main_arg1 (by decide)).trans (W7_args m c KernelIdeal.main_arg1 (by decide)),
        (h.1 c KernelIdeal.main_v11 (by decide)).trans (W7_v11 m c),
        (h.1 c KernelIdeal.main_arg0 (by decide)).trans (W7_args m c KernelIdeal.main_arg0 (by decide)),
        (h.1 c KernelIdeal.main_arg1 (by decide)).trans (W7_args m c KernelIdeal.main_arg1 (by decide)),
        (h.1 c KernelIdeal.main_arg2 (by decide)).trans (W7_args m c KernelIdeal.main_arg2 (by decide))⟩)
    (Cert.KernelIdeal.Run.run (F := Ideal) m g (inRange_of m hix)), ?_⟩
  refine (θ_run Cert.ReferenceIdeal.defs _ _).mono (fun r h c => ?_) (Cert.ReferenceIdeal.Value.run (F := Ideal) m' g')
  obtain ⟨h0, h1, h2, h3, h4, h5⟩ := h c
  obtain ⟨e0, e1, e2⟩ := hagree c
  have hi := hix c
  refine ⟨h0.trans ?_, h1.trans ?_, h2.trans ?_, h3.trans ?_, h4.trans ?_, h5⟩
  · rw [Cert.ReferenceIdeal.Read.val_main_v49_eq, StableHlo.launchContents_devRef, StableHlo.launchContents_devRef, StableHlo.launchContents_devRef, e0, e1, e2]
    exact (onehot_eq _ _ _ hi).symm
  · rw [Cert.ReferenceIdeal.Read.val_main_indices_eq, StableHlo.launchContents_devRef, StableHlo.launchContents_devRef, StableHlo.launchContents_devRef, e0, e1, e2]
    exact (topIdx_eq _ _ _ hi).symm
  · rw [Cert.ReferenceIdeal.Read.val_main_v40_eq, StableHlo.launchContents_devRef, StableHlo.launchContents_devRef, StableHlo.launchContents_devRef, e0, e1, e2]
    exact (scores_eq _ _ _ hi).symm
  · rw [StableHlo.launchContents_devRef, e1]
  · rw [Cert.ReferenceIdeal.Read.val_main_v50_eq, StableHlo.launchContents_devRef, StableHlo.launchContents_devRef, e0, e2]
    exact congrArg (broadcastInDim _ _ _) (means_eq _ _ hi).symm

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Quiet
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_pre.facts,
    Cert.quietKernel, Cert.quietKernelIdeal, Cert.quietReferenceIdeal, trivial, Cert.algebraic⟩

end Cert.Proof

end
